-- ==== Defs.lean ====
def Pre_Kernel [hPre_sampled_clouds : Cert.Pre_sampled_clouds.Facts] (m : (ℓ : Loc Cert.Kernel.nD Cert.Kernel.τ Cert.Kernel.sig) → Buf (Elt Bits) ℓ) : Prop :=
  ∀ c : Dev Cert.Kernel.nD,
    (Cert.Pre_sampled_clouds.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_sampled_clouds : Cert.Pre_sampled_clouds.Facts] (m : (ℓ : Loc Cert.KernelIdeal.nD Cert.KernelIdeal.τ Cert.KernelIdeal.sig) → Buf (Elt Ideal) ℓ) : Prop :=
  ∀ c : Dev Cert.KernelIdeal.nD,
    (Cert.Pre_sampled_clouds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_Reference [hPre_sampled_clouds : Cert.Pre_sampled_clouds.Facts] (m : (ℓ : Loc Cert.Reference.nD Cert.Reference.τ Cert.Reference.sig) → Buf (Elt Bits) ℓ) : Prop :=
  ∀ c : Dev Cert.Reference.nD,
    (Cert.Pre_sampled_clouds.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_ReferenceIdeal [hPre_sampled_clouds : Cert.Pre_sampled_clouds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sampled_clouds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Sampler (m : (ℓ : Loc Cert.Sampler.nD Cert.Sampler.τ Cert.Sampler.sig) → Buf (Elt Bits) ℓ) : Prop :=
  True

def Pre_SamplerIdeal (m : (ℓ : Loc Cert.SamplerIdeal.nD Cert.SamplerIdeal.τ Cert.SamplerIdeal.sig) → Buf (Elt Ideal) ℓ) : Prop :=
  True

def Pre_Selection (m : (ℓ : Loc Cert.Selection.nD Cert.Selection.τ Cert.Selection.sig) → Buf (Elt Bits) ℓ) : Prop :=
  True

def Pre_SelectionIdeal (m : (ℓ : Loc Cert.SelectionIdeal.nD Cert.SelectionIdeal.τ Cert.SelectionIdeal.sig) → Buf (Elt Ideal) ℓ) : Prop :=
  True

def Pre_WholeIdeal [hPre_one_batch : Cert.Pre_one_batch.Facts] (m : (ℓ : Loc Cert.WholeIdeal.nD Cert.WholeIdeal.τ Cert.WholeIdeal.sig) → Buf (Elt Ideal) ℓ) : Prop :=
  ∀ c : Dev Cert.WholeIdeal.nD,
    (Cert.Pre_one_batch.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2))) = (fun _ => 1#1)

def Pre_SampledIdeal [hPre_one_batch : Cert.Pre_one_batch.Facts] (m : (ℓ : Loc Cert.SampledIdeal.nD Cert.SampledIdeal.τ Cert.SampledIdeal.sig) → Buf (Elt Ideal) ℓ) : Prop :=
  ∀ c : Dev Cert.SampledIdeal.nD,
    (Cert.Pre_one_batch.fn (F := Ideal) (m ((c.tc : Thread Cert.SampledIdeal.nD Cert.SampledIdeal.τ).loc Cert.SampledIdeal.main_arg0)) (m ((c.tc : Thread Cert.SampledIdeal.nD Cert.SampledIdeal.τ).loc Cert.SampledIdeal.main_arg1)) (m ((c.tc : Thread Cert.SampledIdeal.nD Cert.SampledIdeal.τ).loc Cert.SampledIdeal.main_arg2))) = (fun _ => 1#1)

def quiescent_Kernel [hKernel : Cert.Kernel.Facts] [hPre_sampled_clouds : Cert.Pre_sampled_clouds.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_sampled_clouds : Cert.Pre_sampled_clouds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Reference [hReference : Cert.Reference.Facts] [hPre_sampled_clouds : Cert.Pre_sampled_clouds.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_ReferenceIdeal [hReferenceIdeal : Cert.ReferenceIdeal.Facts] [hPre_sampled_clouds : Cert.Pre_sampled_clouds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Sampler [hSampler : Cert.Sampler.Facts] : Prop :=
  ∀ (m : (ℓ : Loc Cert.Sampler.nD Cert.Sampler.τ Cert.Sampler.sig) → Buf (Elt Bits) ℓ) (g : Dev Cert.Sampler.nD → PrngReg), Pre_Sampler m →
    θ_run (Cert.Sampler.defs (F := Bits)) (onTc (τ := Cert.Sampler.τ) (Cert.Sampler.main (F := Bits))) ⟨m, fun _ => 0, g⟩ (fun r => (∀ c : Dev Cert.Sampler.nD,
      r.2.mem ((c.tc : Thread Cert.Sampler.nD Cert.Sampler.τ).loc Cert.Sampler.main_arg0) = m ((c.tc : Thread Cert.Sampler.nD Cert.Sampler.τ).loc Cert.Sampler.main_arg0))
      ∧ r.2.sem = fun _ => 0)

def quiescent_SamplerIdeal [hSamplerIdeal : Cert.SamplerIdeal.Facts] : Prop :=
  ∀ (m : (ℓ : Loc Cert.SamplerIdeal.nD Cert.SamplerIdeal.τ Cert.SamplerIdeal.sig) → Buf (Elt Ideal) ℓ) (g : Dev Cert.SamplerIdeal.nD → PrngReg), Pre_SamplerIdeal m →
    θ_run (Cert.SamplerIdeal.defs (F := Ideal)) (onTc (τ := Cert.SamplerIdeal.τ) (Cert.SamplerIdeal.main (F := Ideal))) ⟨m, fun _ => 0, g⟩ (fun r => (∀ c : Dev Cert.SamplerIdeal.nD,
      r.2.mem ((c.tc : Thread Cert.SamplerIdeal.nD Cert.SamplerIdeal.τ).loc Cert.SamplerIdeal.main_arg0) = m ((c.tc : Thread Cert.SamplerIdeal.nD Cert.SamplerIdeal.τ).loc Cert.SamplerIdeal.main_arg0))
      ∧ r.2.sem = fun _ => 0)

def quiescent_Selection [hSelection : Cert.Selection.Facts] : Prop :=
  ∀ (m : (ℓ : Loc Cert.Selection.nD Cert.Selection.τ Cert.Selection.sig) → Buf (Elt Bits) ℓ) (g : Dev Cert.Selection.nD → PrngReg), Pre_Selection m →
    θ_run (Cert.Selection.defs (F := Bits)) (onTc (τ := Cert.Selection.τ) (Cert.Selection.main (F := Bits))) ⟨m, fun _ => 0, g⟩ (fun r => (∀ c : Dev Cert.Selection.nD,
      r.2.mem ((c.tc : Thread Cert.Selection.nD Cert.Selection.τ).loc Cert.Selection.main_arg0) = m ((c.tc : Thread Cert.Selection.nD Cert.Selection.τ).loc Cert.Selection.main_arg0))
      ∧ r.2.sem = fun _ => 0)

def quiescent_SelectionIdeal [hSelectionIdeal : Cert.SelectionIdeal.Facts] : Prop :=
  ∀ (m : (ℓ : Loc Cert.SelectionIdeal.nD Cert.SelectionIdeal.τ Cert.SelectionIdeal.sig) → Buf (Elt Ideal) ℓ) (g : Dev Cert.SelectionIdeal.nD → PrngReg), Pre_SelectionIdeal m →
    θ_run (Cert.SelectionIdeal.defs (F := Ideal)) (onTc (τ := Cert.SelectionIdeal.τ) (Cert.SelectionIdeal.main (F := Ideal))) ⟨m, fun _ => 0, g⟩ (fun r => (∀ c : Dev Cert.SelectionIdeal.nD,
      r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0))
      ∧ r.2.sem = fun _ => 0)

def quiescent_WholeIdeal [hWholeIdeal : Cert.WholeIdeal.Facts] [hPre_one_batch : Cert.Pre_one_batch.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_SampledIdeal [hSampledIdeal : Cert.SampledIdeal.Facts] [hPre_one_batch : Cert.Pre_one_batch.Facts] : Prop :=
  ∀ (m : (ℓ : Loc Cert.SampledIdeal.nD Cert.SampledIdeal.τ Cert.SampledIdeal.sig) → Buf (Elt Ideal) ℓ) (g : Dev Cert.SampledIdeal.nD → PrngReg), Pre_SampledIdeal m →
    θ_run (Cert.SampledIdeal.defs (F := Ideal)) (onTc (τ := Cert.SampledIdeal.τ) (Cert.SampledIdeal.main (F := Ideal))) ⟨m, fun _ => 0, g⟩ (fun r => (∀ c : Dev Cert.SampledIdeal.nD,
      r.2.mem ((c.tc : Thread Cert.SampledIdeal.nD Cert.SampledIdeal.τ).loc Cert.SampledIdeal.main_arg0) = m ((c.tc : Thread Cert.SampledIdeal.nD Cert.SampledIdeal.τ).loc Cert.SampledIdeal.main_arg0)
      ∧ r.2.mem ((c.tc : Thread Cert.SampledIdeal.nD Cert.SampledIdeal.τ).loc Cert.SampledIdeal.main_arg1) = m ((c.tc : Thread Cert.SampledIdeal.nD Cert.SampledIdeal.τ).loc Cert.SampledIdeal.main_arg1)
      ∧ r.2.mem ((c.tc : Thread Cert.SampledIdeal.nD Cert.SampledIdeal.τ).loc Cert.SampledIdeal.main_arg2) = m ((c.tc : Thread Cert.SampledIdeal.nD Cert.SampledIdeal.τ).loc Cert.SampledIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sampled_clouds : Cert.Pre_sampled_clouds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_sampled_clouds : Cert.Pre_sampled_clouds.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v1)) (v1 : (c : Dev Cert.Kernel.nD) → Buf (Elt Bits) ((c.tc : Thread Cert.Kernel.nD Cert.Kernel.τ).loc Cert.Kernel.main_v4)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_v4) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_v3) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Sampler_SamplerIdeal : Prop :=
  True

def algebraic_SamplerIdeal_SelectionIdeal [hSamplerIdeal : Cert.SamplerIdeal.Facts] [hSelectionIdeal : Cert.SelectionIdeal.Facts] : Prop :=
  ∀ (m : (ℓ : Loc Cert.SamplerIdeal.nD Cert.SamplerIdeal.τ Cert.SamplerIdeal.sig) → Buf (Elt Ideal) ℓ) (g : Dev Cert.SamplerIdeal.nD → PrngReg)
    (m' : (ℓ : Loc Cert.SelectionIdeal.nD Cert.SelectionIdeal.τ Cert.SelectionIdeal.sig) → Buf (Elt Ideal) ℓ) (g' : Dev Cert.SelectionIdeal.nD → PrngReg), Pre_SamplerIdeal m →
    (∀ c : Dev Cert.SamplerIdeal.nD,
      m' ((c.tc : Thread Cert.SelectionIdeal.nD Cert.SelectionIdeal.τ).loc Cert.SelectionIdeal.main_arg0) = m ((c.tc : Thread Cert.SamplerIdeal.nD Cert.SamplerIdeal.τ).loc Cert.SamplerIdeal.main_arg0)) →
    ∃ (v0 : (c : Dev Cert.SamplerIdeal.nD) → Buf (Elt Ideal) ((c.tc : Thread Cert.SamplerIdeal.nD Cert.SamplerIdeal.τ).loc Cert.SamplerIdeal.main_v2_0)) (v1 : (c : Dev Cert.SamplerIdeal.nD) → Buf (Elt Ideal) ((c.tc : Thread Cert.SamplerIdeal.nD Cert.SamplerIdeal.τ).loc Cert.SamplerIdeal.main_v2_1)) (v2 : (c : Dev Cert.SamplerIdeal.nD) → Buf (Elt Ideal) ((c.tc : Thread Cert.SamplerIdeal.nD Cert.SamplerIdeal.τ).loc Cert.SamplerIdeal.main_v2_2)) (v3 : (c : Dev Cert.SamplerIdeal.nD) → Buf (Elt Ideal) ((c.tc : Thread Cert.SamplerIdeal.nD Cert.SamplerIdeal.τ).loc Cert.SamplerIdeal.main_v2_3)),
      θ_run (Cert.SamplerIdeal.defs (F := Ideal)) (onTc (τ := Cert.SamplerIdeal.τ) (Cert.SamplerIdeal.main (F := Ideal))) ⟨m, fun _ => 0, g⟩ (fun r => ∀ c : Dev Cert.SamplerIdeal.nD,
          r.2.mem ((c.tc : Thread Cert.SamplerIdeal.nD Cert.SamplerIdeal.τ).loc Cert.SamplerIdeal.main_v2_0) = v0 c
          ∧ r.2.mem ((c.tc : Thread Cert.SamplerIdeal.nD Cert.SamplerIdeal.τ).loc Cert.SamplerIdeal.main_v2_1) = v1 c
          ∧ r.2.mem ((c.tc : Thread Cert.SamplerIdeal.nD Cert.SamplerIdeal.τ).loc Cert.SamplerIdeal.main_v2_2) = v2 c
          ∧ r.2.mem ((c.tc : Thread Cert.SamplerIdeal.nD Cert.SamplerIdeal.τ).loc Cert.SamplerIdeal.main_v2_3) = v3 c
          ∧ r.2.mem ((c.tc : Thread Cert.SamplerIdeal.nD Cert.SamplerIdeal.τ).loc Cert.SamplerIdeal.main_arg0) = m ((c.tc : Thread Cert.SamplerIdeal.nD Cert.SamplerIdeal.τ).loc Cert.SamplerIdeal.main_arg0))
      ∧ θ_run (Cert.SelectionIdeal.defs (F := Ideal)) (onTc (τ := Cert.SelectionIdeal.τ) (Cert.SelectionIdeal.main (F := Ideal))) ⟨m', fun _ => 0, g'⟩ (fun r => ∀ c : Dev Cert.SelectionIdeal.nD,
          r.2.mem ((c.tc : Thread Cert.SelectionIdeal.nD Cert.SelectionIdeal.τ).loc Cert.SelectionIdeal.main_v7_7) = v0 c
          ∧ r.2.mem ((c.tc : Thread Cert.SelectionIdeal.nD Cert.SelectionIdeal.τ).loc Cert.SelectionIdeal.main_v12) = v1 c
          ∧ r.2.mem ((c.tc : Thread Cert.SelectionIdeal.nD Cert.SelectionIdeal.τ).loc Cert.SelectionIdeal.main_v14) = v2 c
          ∧ r.2.mem ((c.tc : Thread Cert.SelectionIdeal.nD Cert.SelectionIdeal.τ).loc Cert.SelectionIdeal.main_v16) = v3 c
          ∧ r.2.mem ((c.tc : Thread Cert.SelectionIdeal.nD Cert.SelectionIdeal.τ).loc Cert.SelectionIdeal.main_arg0) = m' ((c.tc : Thread Cert.SelectionIdeal.nD Cert.SelectionIdeal.τ).loc Cert.SelectionIdeal.main_arg0))

def algebraic_WholeIdeal_SampledIdeal [hWholeIdeal : Cert.WholeIdeal.Facts] [hSampledIdeal : Cert.SampledIdeal.Facts] [hPre_one_batch : Cert.Pre_one_batch.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.SampledIdeal.nD Cert.SampledIdeal.τ Cert.SampledIdeal.sig) → Buf (Elt Ideal) ℓ) (g' : Dev Cert.SampledIdeal.nD → PrngReg), Pre_WholeIdeal m →
    (∀ c : Dev Cert.WholeIdeal.nD,
      m' ((c.tc : Thread Cert.SampledIdeal.nD Cert.SampledIdeal.τ).loc Cert.SampledIdeal.main_arg0) = m ((c.tc : Thread Cert.WholeIdeal.nD Cert.WholeIdeal.τ).loc Cert.WholeIdeal.main_arg0)
      ∧ m' ((c.tc : Thread Cert.SampledIdeal.nD Cert.SampledIdeal.τ).loc Cert.SampledIdeal.main_arg1) = m ((c.tc : Thread Cert.WholeIdeal.nD Cert.WholeIdeal.τ).loc Cert.WholeIdeal.main_arg1)
      ∧ m' ((c.tc : Thread Cert.SampledIdeal.nD Cert.SampledIdeal.τ).loc Cert.SampledIdeal.main_arg2) = m ((c.tc : Thread Cert.WholeIdeal.nD Cert.WholeIdeal.τ).loc Cert.WholeIdeal.main_arg2)) →
    ∃ (v0 : (c : Dev Cert.WholeIdeal.nD) → Buf (Elt Ideal) ((c.tc : Thread Cert.WholeIdeal.nD Cert.WholeIdeal.τ).loc Cert.WholeIdeal.main_v4)) (v1 : (c : Dev Cert.WholeIdeal.nD) → Buf (Elt Ideal) ((c.tc : Thread Cert.WholeIdeal.nD Cert.WholeIdeal.τ).loc Cert.WholeIdeal.main_v9)) (v2 : (c : Dev Cert.WholeIdeal.nD) → Buf (Elt Ideal) ((c.tc : Thread Cert.WholeIdeal.nD Cert.WholeIdeal.τ).loc Cert.WholeIdeal.main_v12)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v4) = v0 c
          ∧ r.2.mem ((c.tc : Thread Cert.WholeIdeal.nD Cert.WholeIdeal.τ).loc Cert.WholeIdeal.main_v9) = v1 c
          ∧ r.2.mem ((c.tc : Thread Cert.WholeIdeal.nD Cert.WholeIdeal.τ).loc Cert.WholeIdeal.main_v12) = v2 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ θ_run (Cert.SampledIdeal.defs (F := Ideal)) (onTc (τ := Cert.SampledIdeal.τ) (Cert.SampledIdeal.main (F := Ideal))) ⟨m', fun _ => 0, g'⟩ (fun r => ∀ c : Dev Cert.SampledIdeal.nD,
          r.2.mem ((c.tc : Thread Cert.SampledIdeal.nD Cert.SampledIdeal.τ).loc Cert.SampledIdeal.main_v9) = v0 c
          ∧ r.2.mem ((c.tc : Thread Cert.SampledIdeal.nD Cert.SampledIdeal.τ).loc Cert.SampledIdeal.main_v10) = v1 c
          ∧ r.2.mem ((c.tc : Thread Cert.SampledIdeal.nD Cert.SampledIdeal.τ).loc Cert.SampledIdeal.main_v11) = v2 c
          ∧ r.2.mem ((c.tc : Thread Cert.SampledIdeal.nD Cert.SampledIdeal.τ).loc Cert.SampledIdeal.main_arg0) = m' ((c.tc : Thread Cert.SampledIdeal.nD Cert.SampledIdeal.τ).loc Cert.SampledIdeal.main_arg0)
          ∧ r.2.mem ((c.tc : Thread Cert.SampledIdeal.nD Cert.SampledIdeal.τ).loc Cert.SampledIdeal.main_arg1) = m' ((c.tc : Thread Cert.SampledIdeal.nD Cert.SampledIdeal.τ).loc Cert.SampledIdeal.main_arg1)
          ∧ r.2.mem ((c.tc : Thread Cert.SampledIdeal.nD Cert.SampledIdeal.τ).loc Cert.SampledIdeal.main_arg2) = m' ((c.tc : Thread Cert.SampledIdeal.nD Cert.SampledIdeal.τ).loc Cert.SampledIdeal.main_arg2))

def Claim : Prop :=
  ∃ (hKernel : Cert.Kernel.Facts) (hKernelIdeal : Cert.KernelIdeal.Facts) (hReference : Cert.Reference.Facts) (hReferenceIdeal : Cert.ReferenceIdeal.Facts) (hSampler : Cert.Sampler.Facts) (hSamplerIdeal : Cert.SamplerIdeal.Facts) (hSelection : Cert.Selection.Facts) (hSelectionIdeal : Cert.SelectionIdeal.Facts) (hWholeIdeal : Cert.WholeIdeal.Facts) (hSampledIdeal : Cert.SampledIdeal.Facts) (hPre_sampled_clouds : Cert.Pre_sampled_clouds.Facts) (hPre_one_batch : Cert.Pre_one_batch.Facts),
    quiescent_Kernel (hKernel := hKernel) (hPre_sampled_clouds := hPre_sampled_clouds)
    ∧ quiescent_KernelIdeal (hKernelIdeal := hKernelIdeal) (hPre_sampled_clouds := hPre_sampled_clouds)
    ∧ quiescent_Reference (hReference := hReference) (hPre_sampled_clouds := hPre_sampled_clouds)
    ∧ quiescent_ReferenceIdeal (hReferenceIdeal := hReferenceIdeal) (hPre_sampled_clouds := hPre_sampled_clouds)
    ∧ quiescent_Sampler (hSampler := hSampler)
    ∧ quiescent_SamplerIdeal (hSamplerIdeal := hSamplerIdeal)
    ∧ quiescent_Selection (hSelection := hSelection)
    ∧ quiescent_SelectionIdeal (hSelectionIdeal := hSelectionIdeal)
    ∧ quiescent_WholeIdeal (hWholeIdeal := hWholeIdeal) (hPre_one_batch := hPre_one_batch)
    ∧ quiescent_SampledIdeal (hSampledIdeal := hSampledIdeal) (hPre_one_batch := hPre_one_batch)
    ∧ preserves_Kernel_KernelIdeal
    ∧ algebraic_KernelIdeal_ReferenceIdeal (hKernelIdeal := hKernelIdeal) (hReferenceIdeal := hReferenceIdeal) (hPre_sampled_clouds := hPre_sampled_clouds)
    ∧ bitexact_Kernel_Reference (hKernel := hKernel) (hReference := hReference) (hPre_sampled_clouds := hPre_sampled_clouds)
    ∧ preserves_Sampler_SamplerIdeal
    ∧ algebraic_SamplerIdeal_SelectionIdeal (hSamplerIdeal := hSamplerIdeal) (hSelectionIdeal := hSelectionIdeal)
    ∧ algebraic_WholeIdeal_SampledIdeal (hWholeIdeal := hWholeIdeal) (hSampledIdeal := hSampledIdeal) (hPre_one_batch := hPre_one_batch)
-- ==== Pre_one_batch.lean ====
abbrev S65536x3 : Shape := ⟨2, ![65536, 3]⟩
abbrev S65536x128 : Shape := ⟨2, ![65536, 128]⟩
abbrev S65536 : Shape := ⟨1, ![65536]⟩
abbrev S16x4096 : Shape := ⟨2, ![16, 4096]⟩
abbrev S16x1 : Shape := ⟨2, ![16, 1]⟩
abbrev S_ : Shape := ⟨0, ![]⟩

class Facts : Prop where
  shapeCasts_S65536_S16x4096 : S65536.ShapeCasts S16x4096
  slices_S16x4096_S16x1_0_0 : S16x4096.Slices ![0, 0] S16x1
  bcast_S16x1_S16x4096_0_1 : S16x1.BroadcastsInDim S16x4096 (![0, 1] : Fin 2 → Fin S16x4096.rank)
  reducesTo_S16x4096_S_d0_1 : S16x4096.ReducesTo [0, 1] S_
  h_S_ : 0 < S_.numel

variable [Facts]

def fn {F : FTy → Type} [FloatOps F] (main_arg0 : FVec F S65536x3 .f32) (main_arg1 : FVec F S65536x128 .f32) (main_arg2 : IVec S65536 32) : IVec S_ 1 :=
  let main_v0 : IVec S16x4096 32 := shapeCast S16x4096 main_arg2 shapeCasts_S65536_S16x4096
  let main_v1 : IVec S16x1 32 := (extractStridedSlice S16x1 ![0, 0] · slices_S16x4096_S16x1_0_0) main_v0
  let main_v2 : IVec S16x4096 32 := broadcastInDim S16x4096 ![0, 1] bcast_S16x1_S16x4096_0_1 main_v1
  let main_v3 : IVec S16x4096 1 := cmpi .eq main_v0 main_v2
  let main_c : IVec S_ 1 := constantI S_ 1 1#1
  let main_v4 : IVec S_ 1 := (fun x v => Host.reduce IntOp.andi x v reducesTo_S16x4096_S_d0_1 h_S_) main_v3 main_c
  main_v4
-- ==== Pre_sampled_clouds.lean ====
abbrev S65536x128 : Shape := ⟨2, ![65536, 128]⟩
abbrev S65536 : Shape := ⟨1, ![65536]⟩
abbrev S16x2048 : Shape := ⟨2, ![16, 2048]⟩
abbrev S_ : Shape := ⟨0, ![]⟩
abbrev S16x4096 : Shape := ⟨2, ![16, 4096]⟩
abbrev S16x1 : Shape := ⟨2, ![16, 1]⟩

class Facts : Prop where
  bcast_S_S16x2048 : S_.BroadcastsInDim S16x2048 (![] : Fin 0 → Fin S16x2048.rank)
  shapeCasts_S65536_S16x4096 : S65536.ShapeCasts S16x4096
  reducesTo_S16x2048_S_d0_1 : S16x2048.ReducesTo [0, 1] S_
  h_S_ : 0 < S_.numel
  slices_S16x4096_S16x1_0_0 : S16x4096.Slices ![0, 0] S16x1
  bcast_S16x1_S16x4096_0_1 : S16x1.BroadcastsInDim S16x4096 (![0, 1] : Fin 2 → Fin S16x4096.rank)
  reducesTo_S16x4096_S_d0_1 : S16x4096.ReducesTo [0, 1] S_

variable [Facts]

def fn {F : FTy → Type} [FloatOps F] (main_arg0 : FVec F S65536x128 .f32) (main_arg1 : IVec S65536 32) (main_arg2 : IVec S16x2048 32) : IVec S_ 1 :=
  let main_v0 : IVec S16x2048 32 := iotaInDim S16x2048 32 0
  let main_c : IVec S_ 32 := constantI S_ 32 4096#32
  let main_v1 : IVec S16x2048 32 := broadcastInDim S16x2048 ![] bcast_S_S16x2048 main_c
  let main_v2 : IVec S16x2048 32 := muli main_v1 main_v0
  let main_v3 : IVec S16x4096 32 := shapeCast S16x4096 main_arg1 shapeCasts_S65536_S16x4096
  let main_v4 : IVec S16x2048 1 := cmpi .sge main_arg2 main_v2
  let main_c_0 : IVec S_ 32 := constantI S_ 32 4096#32
  let main_v5 : IVec S16x2048 32 := broadcastInDim S16x2048 ![] bcast_S_S16x2048 main_c_0
  let main_v6 : IVec S16x2048 32 := addi main_v2 main_v5
  let main_v7 : IVec S16x2048 1 := cmpi .slt main_arg2 main_v6
  let main_v8 : IVec S16x2048 1 := andi main_v4 main_v7
  let main_c_1 : IVec S_ 1 := constantI S_ 1 1#1
  let main_v9 : IVec S_ 1 := (fun x v => Host.reduce IntOp.andi x v reducesTo_S16x2048_S_d0_1 h_S_) main_v8 main_c_1
  let main_v10 : IVec S16x1 32 := (extractStridedSlice S16x1 ![0, 0] · slices_S16x4096_S16x1_0_0) main_v3
  let main_v11 : IVec S16x4096 32 := broadcastInDim S16x4096 ![0, 1] bcast_S16x1_S16x4096_0_1 main_v10
  let main_v12 : IVec S16x4096 1 := cmpi .eq main_v3 main_v11
  let main_c_2 : IVec S_ 1 := constantI S_ 1 1#1
  let main_v13 : IVec S_ 1 := (fun x v => Host.reduce IntOp.andi x v reducesTo_S16x4096_S_d0_1 h_S_) main_v12 main_c_2
  let main_v14 : IVec S_ 1 := andi main_v9 main_v13
  main_v14
-- ==== Kernel.lean ====
abbrev S65536x128 : Shape := ⟨2, ![65536, 128]⟩
abbrev S65536 : Shape := ⟨1, ![65536]⟩
abbrev S16x2048 : Shape := ⟨2, ![16, 2048]⟩
abbrev S1x32768 : Shape := ⟨2, ![1, 32768]⟩
abbrev S32768x128 : Shape := ⟨2, ![32768, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S16x4096 : Shape := ⟨2, ![16, 4096]⟩
abbrev S32768 : Shape := ⟨1, ![32768]⟩

abbrev nBuf : Table → Nat
  | .hbm => 8
  | .local .scVector .vmem => 2
  | _ => 0

abbrev bufTy : (tb : Table) → Fin (nBuf tb) → BufTy
  | .hbm, ⟨0, _⟩ => ⟨S65536x128, .f32⟩
  | .hbm, ⟨1, _⟩ => ⟨S65536, .i32⟩
  | .hbm, ⟨2, _⟩ => ⟨S16x2048, .i32⟩
  | .hbm, ⟨3, _⟩ => ⟨S1x32768, .i32⟩
  | .hbm, ⟨4, _⟩ => ⟨S32768x128, .f32⟩
  | .hbm, ⟨5, _⟩ => ⟨S16x4096, .i32⟩
  | .hbm, ⟨6, _⟩ => ⟨S16x2048, .i32⟩
  | .hbm, ⟨7, _⟩ => ⟨S32768, .i32⟩
  | .local .scVector .vmem, ⟨0, _⟩ => ⟨S2x1x128, .i32⟩
  | .local .scVector .vmem, ⟨1, _⟩ => ⟨S2x128x128, .f32⟩
  | _, _ => ⟨S65536x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg0_scv : Ref sig .scVector := ⟨.hbm, 0, rfl⟩
abbrev main_v0_scv : Ref sig .scVector := ⟨.hbm, 3, rfl⟩
abbrev main_v1_scv : Ref sig .scVector := ⟨.hbm, 4, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S32768x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S32768x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S32768x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S32768x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S32768x128.size a)
theorem k0_off19_inb : ∀ (i : grid0.Coords) (v33_4_r0 : BitVec 32) (k0_hw5 : k0_chk5 i v33_4_r0), ∀ a, (k0_off19 i v33_4_r0) a + S128x128.size a ≤ S32768x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S65536x128 : Shape := ⟨2, ![65536, 128]⟩
abbrev S65536 : Shape := ⟨1, ![65536]⟩
abbrev S16x2048 : Shape := ⟨2, ![16, 2048]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x128 : Shape := ⟨2, ![32768, 128]⟩

abbrev nBuf : Space → Nat
  | .hbm => 50
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S65536, .i32⟩
  | .hbm, ⟨2, _⟩ => ⟨S16x2048, .i32⟩
  | .hbm, ⟨3, _⟩ => ⟨S32768, .i32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S1, .i32⟩
  | .hbm, ⟨13, _⟩ => ⟨S_, .i32⟩
  | .hbm, ⟨14, _⟩ => ⟨S32768x1, .i32⟩
  | .hbm, ⟨15, _⟩ => ⟨S32768x1, .i1⟩
  | .hbm, ⟨16, _⟩ => ⟨S1x1, .i32⟩
  | .hbm, ⟨17, _⟩ => ⟨S32768x1, .i32⟩
  | .hbm, ⟨18, _⟩ => ⟨S32768x1, .i1⟩
  | .hbm, ⟨19, _⟩ => ⟨S32768x1, .i1⟩
  | .hbm, ⟨20, _⟩ => ⟨S_, .i1⟩
  | .hbm, ⟨21, _⟩ => ⟨S32768, .i1⟩
  | .hbm, ⟨22, _⟩ => ⟨S32768x128, .f32⟩
  | .hbm, ⟨23, _⟩ => ⟨S32768x128, .i1⟩
  | .hbm, ⟨24, _⟩ => ⟨S_, .f32⟩
  | .hbm, ⟨25, _⟩ => ⟨S32768x128, .f32⟩
  | .hbm, ⟨26, _⟩ => ⟨S32768x128, .f32⟩
  | .hbm, ⟨27, _⟩ => ⟨S32768, .i32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S1, .i32⟩
  | .hbm, ⟨37, _⟩ => ⟨S_, .i32⟩
  | .hbm, ⟨38, _⟩ => ⟨S32768x1, .i32⟩
  | .hbm, ⟨39, _⟩ => ⟨S32768x1, .i1⟩
  | .hbm, ⟨40, _⟩ => ⟨S1x1, .i32⟩
  | .hbm, ⟨41, _⟩ => ⟨S32768x1, .i32⟩
  | .hbm, ⟨42, _⟩ => ⟨S32768x1, .i1⟩
  | .hbm, ⟨43, _⟩ => ⟨S32768x1, .i1⟩
  | .hbm, ⟨44, _⟩ => ⟨S_, .i1⟩
  | .hbm, ⟨45, _⟩ => ⟨S32768, .i1⟩
  | .hbm, ⟨46, _⟩ => ⟨S32768, .i32⟩
  | .hbm, ⟨47, _⟩ => ⟨S_, .i32⟩
  | .hbm, ⟨48, _⟩ => ⟨S32768, .i32⟩
  | .hbm, ⟨49, _⟩ => ⟨S32768, .i32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_c_4 : Ref sig .tc := ⟨.hbm, 47, rfl⟩
abbrev main_call1_v14 : Ref sig .tc := ⟨.hbm, 48, rfl⟩
abbrev main_v3 : Ref sig .tc := ⟨.hbm, 49, rfl⟩

abbrev nD : Nat := 1
abbrev τ : Topo := Topo.v7x

variable {F : FTy → Type} [FloatOps F]
-- ==== Sampler.lean ====
abbrev S65536x3 : Shape := ⟨2, ![65536, 3]⟩
abbrev S16x4096x3 : Shape := ⟨3, ![16, 4096, 3]⟩
abbrev S3x16x4096 : Shape := ⟨3, ![3, 16, 4096]⟩
abbrev S16x2048 : Shape := ⟨2, ![16, 2048]⟩
abbrev S16x4096 : Shape := ⟨2, ![16, 4096]⟩
abbrev S8x128 : Shape := ⟨2, ![8, 128]⟩
abbrev S8x1 : Shape := ⟨2, ![8, 1]⟩
abbrev S1x8x1 : Shape := ⟨3, ![1, 8, 1]⟩
abbrev S1x8x128 : Shape := ⟨3, ![1, 8, 128]⟩
abbrev S8 : Shape := ⟨1, ![8]⟩

abbrev nBuf : Space → Nat
  | .hbm => 7
  | .vmem => 6
  | .smem => 0
  | _ => 0

abbrev bufTy : (tb : Table) → Fin (tcTables nBuf tb) → BufTy
  | .hbm, ⟨0, _⟩ => ⟨S65536x3, .f32⟩
  | .hbm, ⟨1, _⟩ => ⟨S16x4096x3, .f32⟩
  | .hbm, ⟨2, _⟩ => ⟨S3x16x4096, .f32⟩
  | .hbm, ⟨3, _⟩ => ⟨S16x2048, .i32⟩
  | .hbm, ⟨4, _⟩ => ⟨S16x2048, .f32⟩
  | .hbm, ⟨5, _⟩ => ⟨S16x2048, .f32⟩
  | .hbm, ⟨6, _⟩ => ⟨S16x2048, .f32⟩
  | .local _ .vmem, ⟨0, _⟩ => ⟨S3x16x4096, .f32⟩
  | .local _ .vmem, ⟨1, _⟩ => ⟨S16x2048, .i32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x4096, .f32⟩
  | _, _ => ⟨S65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev main_v2_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c127_i32 : BitVec 32 := 127#32
  let v82 : BitVec 32 := Scalar.addi c1_i32 c127_i32
  let c1_i32_27 : BitVec 32 := 1#32
  ⟨c1_i32, v82, c1_i32_27⟩
@[reducible] def k0_t2_loop : Scf.Loop 32 :=
  let c0_i32_45 : BitVec 32 := 0#32
  let c128_i32 : BitVec 32 := 128#32
  let v92 : BitVec 32 := Scalar.addi c0_i32_45 c128_i32
  let c1_i32_46 : BitVec 32 := 1#32
  ⟨c0_i32_45, v92, c1_i32_46⟩
@[reducible] def k0_t3_loop : Scf.Loop 32 :=
  let c0_i32_63 : BitVec 32 := 0#32
  let c128_i32_64 : BitVec 32 := 128#32
  let v102 : BitVec 32 := Scalar.addi c0_i32_63 c128_i32_64
  let c1_i32_65 : BitVec 32 := 1#32
  ⟨c0_i32_63, v102, c1_i32_65⟩
@[reducible] def k0_t4_loop : Scf.Loop 32 :=
  let c0_i32_82 : BitVec 32 := 0#32
  let c128_i32_83 : BitVec 32 := 128#32
  let v112 : BitVec 32 := Scalar.addi c0_i32_82 c128_i32_83
  let c1_i32_84 : BitVec 32 := 1#32
  ⟨c0_i32_82, v112, c1_i32_84⟩
@[reducible] def k0_t5_loop : Scf.Loop 32 :=
  let c0_i32_101 : BitVec 32 := 0#32
  let c128_i32_102 : BitVec 32 := 128#32
  let v122 : BitVec 32 := Scalar.addi c0_i32_101 c128_i32_102
  let c1_i32_103 : BitVec 32 := 1#32
  ⟨c0_i32_101, v122, c1_i32_103⟩
@[reducible] def k0_t6_loop : Scf.Loop 32 :=
  let c0_i32_120 : BitVec 32 := 0#32
  let c128_i32_121 : BitVec 32 := 128#32
  let v132 : BitVec 32 := Scalar.addi c0_i32_120 c128_i32_121
  let c1_i32_122 : BitVec 32 := 1#32
  ⟨c0_i32_120, v132, c1_i32_122⟩
@[reducible] def k0_t7_loop : Scf.Loop 32 :=
  let c0_i32_139 : BitVec 32 := 0#32
  let c128_i32_140 : BitVec 32 := 128#32
  let v142 : BitVec 32 := Scalar.addi c0_i32_139 c128_i32_140
  let c1_i32_141 : BitVec 32 := 1#32
  ⟨c0_i32_139, v142, c1_i32_141⟩
@[reducible] def k0_t8_loop : Scf.Loop 32 :=
  let c0_i32_158 : BitVec 32 := 0#32
  let c128_i32_159 : BitVec 32 := 128#32
  let v152 : BitVec 32 := Scalar.addi c0_i32_158 c128_i32_159
  let c1_i32_160 : BitVec 32 := 1#32
  ⟨c0_i32_158, v152, c1_i32_160⟩
@[reducible] def k0_t9_loop : Scf.Loop 32 :=
  let c0_i32_177 : BitVec 32 := 0#32
  let c128_i32_178 : BitVec 32 := 128#32
  let v162 : BitVec 32 := Scalar.addi c0_i32_177 c128_i32_178
  let c1_i32_179 : BitVec 32 := 1#32
  ⟨c0_i32_177, v162, c1_i32_179⟩
@[reducible] def k0_t10_loop : Scf.Loop 32 :=
  let c0_i32_196 : BitVec 32 := 0#32
  let c128_i32_197 : BitVec 32 := 128#32
  let v172 : BitVec 32 := Scalar.addi c0_i32_196 c128_i32_197
  let c1_i32_198 : BitVec 32 := 1#32
  ⟨c0_i32_196, v172, c1_i32_198⟩
@[reducible] def k0_t11_loop : Scf.Loop 32 :=
  let c0_i32_215 : BitVec 32 := 0#32
  let c128_i32_216 : BitVec 32 := 128#32
  let v182 : BitVec 32 := Scalar.addi c0_i32_215 c128_i32_216
  let c1_i32_217 : BitVec 32 := 1#32
  ⟨c0_i32_215, v182, c1_i32_217⟩
@[reducible] def k0_t12_loop : Scf.Loop 32 :=
  let c0_i32_234 : BitVec 32 := 0#32
  let c128_i32_235 : BitVec 32 := 128#32
  let v192 : BitVec 32 := Scalar.addi c0_i32_234 c128_i32_235
  let c1_i32_236 : BitVec 32 := 1#32
  ⟨c0_i32_234, v192, c1_i32_236⟩
@[reducible] def k0_t13_loop : Scf.Loop 32 :=
  let c0_i32_253 : BitVec 32 := 0#32
  let c128_i32_254 : BitVec 32 := 128#32
  let v202 : BitVec 32 := Scalar.addi c0_i32_253 c128_i32_254
  let c1_i32_255 : BitVec 32 := 1#32
  ⟨c0_i32_253, v202, c1_i32_255⟩
@[reducible] def k0_t14_loop : Scf.Loop 32 :=
  let c0_i32_272 : BitVec 32 := 0#32
  let c128_i32_273 : BitVec 32 := 128#32
  let v212 : BitVec 32 := Scalar.addi c0_i32_272 c128_i32_273
  let c1_i32_274 : BitVec 32 := 1#32
  ⟨c0_i32_272, v212, c1_i32_274⟩
@[reducible] def k0_t15_loop : Scf.Loop 32 :=
  let c0_i32_291 : BitVec 32 := 0#32
  let c128_i32_292 : BitVec 32 := 128#32
  let v222 : BitVec 32 := Scalar.addi c0_i32_291 c128_i32_292
  let c1_i32_293 : BitVec 32 := 1#32
  ⟨c0_i32_291, v222, c1_i32_293⟩
@[reducible] def k0_t16_loop : Scf.Loop 32 :=
  let c0_i32_310 : BitVec 32 := 0#32
  let c128_i32_311 : BitVec 32 := 128#32
  let v232 : BitVec 32 := Scalar.addi c0_i32_310 c128_i32_311
  let c1_i32_312 : BitVec 32 := 1#32
  ⟨c0_i32_310, v232, c1_i32_312⟩
abbrev stage0_0 : Fin 1 → Memref sig .tc .vmem S3x16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Selection.lean ====
abbrev S65536x3 : Shape := ⟨2, ![65536, 3]⟩
abbrev S16x4096x3 : Shape := ⟨3, ![16, 4096, 3]⟩
abbrev S16 : Shape := ⟨1, ![16]⟩
abbrev S_ : Shape := ⟨0, ![]⟩
abbrev S16x4096 : Shape := ⟨2, ![16, 4096]⟩
abbrev S16x1 : Shape := ⟨2, ![16, 1]⟩
abbrev S16x2048 : Shape := ⟨2, ![16, 2048]⟩
abbrev S1 : Shape := ⟨1, ![1]⟩
abbrev S1x1 : Shape := ⟨2, ![1, 1]⟩
abbrev S16x3 : Shape := ⟨2, ![16, 3]⟩
abbrev S16x1x3 : Shape := ⟨3, ![16, 1, 3]⟩
abbrev S32768 : Shape := ⟨1, ![32768]⟩
abbrev S32768x1 : Shape := ⟨2, ![32768, 1]⟩
abbrev S32768x3 : Shape := ⟨2, ![32768, 3]⟩
abbrev S16x2048x3 : Shape := ⟨3, ![16, 2048, 3]⟩
abbrev S16x2048x1 : Shape := ⟨3, ![16, 2048, 1]⟩

abbrev nBuf : Space → Nat
  | .hbm => 102
  | .vmem => 0
  | .smem => 0
  | _ => 0

abbrev bufTy : (tb : Table) → Fin (tcTables nBuf tb) → BufTy
  | .hbm, ⟨0, _⟩ => ⟨S65536x3, .f32⟩
  | .hbm, ⟨1, _⟩ => ⟨S16x4096x3, .f32⟩
  | .hbm, ⟨2, _⟩ => ⟨S16, .i32⟩
  | .hbm, ⟨3, _⟩ => ⟨S_, .i32⟩
  | .hbm, ⟨4, _⟩ => ⟨S16, .i32⟩
  | .hbm, ⟨5, _⟩ => ⟨S16, .i32⟩
  | .hbm, ⟨6, _⟩ => ⟨S_, .f32⟩
  | .hbm, ⟨7, _⟩ => ⟨S16x4096, .f32⟩
  | .hbm, ⟨8, _⟩ => ⟨S16x1, .i32⟩
  | .hbm, ⟨9, _⟩ => ⟨S16x2048, .i32⟩
  | .hbm, ⟨10, _⟩ => ⟨S_, .i32⟩
  | .hbm, ⟨11, _⟩ => ⟨S_, .i32⟩
  | .hbm, ⟨12, _⟩ => ⟨S65536x3, .f32⟩
  | .hbm, ⟨13, _⟩ => ⟨S16x4096x3, .f32⟩
  | .hbm, ⟨14, _⟩ => ⟨S16, .i32⟩
  | .hbm, ⟨15, _⟩ => ⟨S_, .i32⟩
  | .hbm, ⟨16, _⟩ => ⟨S_, .i32⟩
  | .hbm, ⟨17, _⟩ => ⟨S16x4096, .f32⟩
  | .hbm, ⟨18, _⟩ => ⟨S16, .i32⟩
  | .hbm, ⟨19, _⟩ => ⟨S16x2048, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S16, .i32⟩
  | .hbm, ⟨26, _⟩ => ⟨S16, .i1⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S16, .i32⟩
  | .hbm, ⟨31, _⟩ => ⟨S16x1, .i32⟩
  | .hbm, ⟨32, _⟩ => ⟨S1, .i32⟩
  | .hbm, ⟨33, _⟩ => ⟨S_, .i32⟩
  | .hbm, ⟨34, _⟩ => ⟨S16x1, .i32⟩
  | .hbm, ⟨35, _⟩ => ⟨S16x1, .i1⟩
  | .hbm, ⟨36, _⟩ => ⟨S1x1, .i32⟩
  | .hbm, ⟨37, _⟩ => ⟨S16x1, .i32⟩
  | .hbm, ⟨38, _⟩ => ⟨S16x1, .i1⟩
  | .hbm, ⟨39, _⟩ => ⟨S16x1, .i1⟩
  | .hbm, ⟨40, _⟩ => ⟨S_, .i1⟩
  | .hbm, ⟨41, _⟩ => ⟨S16, .i1⟩
  | .hbm, ⟨42, _⟩ => ⟨S16x3, .f32⟩
  | .hbm, ⟨43, _⟩ => ⟨S16x3, .i1⟩
  | .hbm, ⟨44, _⟩ => ⟨S_, .f32⟩
  | .hbm, ⟨45, _⟩ => ⟨S16x3, .f32⟩
  | .hbm, ⟨46, _⟩ => ⟨S16x3, .f32⟩
  | .hbm, ⟨47, _⟩ => ⟨S16x1x3, .f32⟩
  | .hbm, ⟨48, _⟩ => ⟨S16x4096x3, .f32⟩
  | .hbm, ⟨49, _⟩ => ⟨S16x4096x3, .f32⟩
  | .hbm, ⟨50, _⟩ => ⟨S16x4096x3, .f32⟩
  | .hbm, ⟨51, _⟩ => ⟨S_, .f32⟩
  | .hbm, ⟨52, _⟩ => ⟨S16x4096, .f32⟩
  | .hbm, ⟨53, _⟩ => ⟨S16x4096, .f32⟩
  | .hbm, ⟨54, _⟩ => ⟨S16x4096, .i32⟩
  | .hbm, ⟨55, _⟩ => ⟨S_, .f32⟩
  | .hbm, ⟨56, _⟩ => ⟨S_, .i32⟩
  | .hbm, ⟨57, _⟩ => ⟨S16, .f32⟩
  | .hbm, ⟨58, _⟩ => ⟨S16, .i32⟩
  | .hbm, ⟨59, _⟩ => ⟨S16, .i32⟩
  | .hbm, ⟨60, _⟩ => ⟨S16x1, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S16x2048, .i32⟩
  | .hbm, ⟨69, _⟩ => ⟨S_, .i32⟩
  | .hbm, ⟨70, _⟩ => ⟨S_, .i32⟩
  | .hbm, ⟨71, _⟩ => ⟨S32768, .i32⟩
  | .hbm, ⟨72, _⟩ => ⟨S_, .i32⟩
  | .hbm, ⟨73, _⟩ => ⟨S32768, .i32⟩
  | .hbm, ⟨74, _⟩ => ⟨S32768, .i1⟩
  | .hbm, ⟨75, _⟩ => ⟨S_, .i32⟩
  | .hbm, ⟨76, _⟩ => ⟨S32768, .i32⟩
  | .hbm, ⟨77, _⟩ => ⟨S32768, .i32⟩
  | .hbm, ⟨78, _⟩ => ⟨S32768, .i32⟩
  | .hbm, ⟨79, _⟩ => ⟨S32768x1, .i32⟩
  | .hbm, ⟨80, _⟩ => ⟨S1, .i32⟩
  | .hbm, ⟨81, _⟩ => ⟨S_, .i32⟩
  | .hbm, ⟨82, _⟩ => ⟨S32768x1, .i32⟩
  | .hbm, ⟨83, _⟩ => ⟨S32768x1, .i1⟩
  | .hbm, ⟨84, _⟩ => ⟨S1x1, .i32⟩
  | .hbm, ⟨85, _⟩ => ⟨S32768x1, .i32⟩
  | .hbm, ⟨86, _⟩ => ⟨S32768x1, .i1⟩
  | .hbm, ⟨87, _⟩ => ⟨S32768x1, .i1⟩
  | .hbm, ⟨88, _⟩ => ⟨S_, .i1⟩
  | .hbm, ⟨89, _⟩ => ⟨S32768, .i1⟩
  | .hbm, ⟨90, _⟩ => ⟨S32768x3, .f32⟩
  | .hbm, ⟨91, _⟩ => ⟨S32768x3, .i1⟩
  | .hbm, ⟨92, _⟩ => ⟨S_, .f32⟩
  | .hbm, ⟨93, _⟩ => ⟨S32768x3, .f32⟩
  | .hbm, ⟨94, _⟩ => ⟨S32768x3, .f32⟩
  | .hbm, ⟨95, _⟩ => ⟨S16x2048x3, .f32⟩
  | .hbm, ⟨96, _⟩ => ⟨S16x2048x1, .f32⟩
  | .hbm, ⟨97, _⟩ => ⟨S16x2048, .f32⟩
  | .hbm, ⟨98, _⟩ => ⟨S16x2048x1, .f32⟩
  | .hbm, ⟨99, _⟩ => ⟨S16x2048, .f32⟩
  | .hbm, ⟨100, _⟩ => ⟨S16x2048x1, .f32⟩
  | .hbm, ⟨101, _⟩ => ⟨S16x2048, .f32⟩
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_c_1 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v7_5 : Ref sig .tc := ⟨.hbm, 17, rfl⟩
abbrev main_v7_6 : Ref sig .tc := ⟨.hbm, 18, rfl⟩
abbrev main_v7_7 : Ref sig .tc := ⟨.hbm, 19, rfl⟩
abbrev main_while0c_c_9 : Ref sig .tc := ⟨.hbm, 20, rfl⟩
abbrev main_while0c_v17 : Ref sig .tc := ⟨.hbm, 21, rfl⟩
abbrev main_while0b_c_9 : Ref sig .tc := ⟨.hbm, 22, rfl⟩
abbrev main_while0b_v17 : Ref sig .tc := ⟨.hbm, 23, rfl⟩
abbrev main_while0b_call0_c : Ref sig .tc := ⟨.hbm, 24, rfl⟩
abbrev main_while0b_call0_v0 : Ref sig .tc := ⟨.hbm, 25, rfl⟩
abbrev main_while0b_call0_v1 : Ref sig .tc := ⟨.hbm, 26, rfl⟩
abbrev main_while0b_call0_c_0 : Ref sig .tc := ⟨.hbm, 27, rfl⟩
abbrev main_while0b_call0_v2 : Ref sig .tc := ⟨.hbm, 28, rfl⟩
abbrev main_while0b_call0_v3 : Ref sig .tc := ⟨.hbm, 29, rfl⟩
abbrev main_while0b_call0_v4 : Ref sig .tc := ⟨.hbm, 30, rfl⟩
abbrev main_while0b_call0_v5 : Ref sig .tc := ⟨.hbm, 31, rfl⟩
abbrev main_while0b_call0_c_1 : Ref sig .tc := ⟨.hbm, 32, rfl⟩
abbrev main_while0b_call0_c_2 : Ref sig .tc := ⟨.hbm, 33, rfl⟩
abbrev main_while0b_call0_v6 : Ref sig .tc := ⟨.hbm, 34, rfl⟩
abbrev main_while0b_call0_v7 : Ref sig .tc := ⟨.hbm, 35, rfl⟩
abbrev main_while0b_call0_v8 : Ref sig .tc := ⟨.hbm, 36, rfl⟩
abbrev main_while0b_call0_v9 : Ref sig .tc := ⟨.hbm, 37, rfl⟩
abbrev main_while0b_call0_v10 : Ref sig .tc := ⟨.hbm, 38, rfl⟩
abbrev main_while0b_call0_v11 : Ref sig .tc := ⟨.hbm, 39, rfl⟩
abbrev main_while0b_call0_c_3 : Ref sig .tc := ⟨.hbm, 40, rfl⟩
abbrev main_while0b_call0_v12 : Ref sig .tc := ⟨.hbm, 41, rfl⟩
abbrev main_while0b_call0_v13 : Ref sig .tc := ⟨.hbm, 42, rfl⟩
abbrev main_while0b_call0_v14 : Ref sig .tc := ⟨.hbm, 43, rfl⟩
abbrev main_while0b_call0_cst : Ref sig .tc := ⟨.hbm, 44, rfl⟩
abbrev main_while0b_call0_v15 : Ref sig .tc := ⟨.hbm, 45, rfl⟩
abbrev main_while0b_v18 : Ref sig .tc := ⟨.hbm, 46, rfl⟩
abbrev main_while0b_v19 : Ref sig .tc := ⟨.hbm, 47, rfl⟩
abbrev main_while0b_v20 : Ref sig .tc := ⟨.hbm, 48, rfl⟩
abbrev main_while0b_v21 : Ref sig .tc := ⟨.hbm, 49, rfl⟩
abbrev main_while0b_v22 : Ref sig .tc := ⟨.hbm, 50, rfl⟩
abbrev main_while0b_cst_10 : Ref sig .tc := ⟨.hbm, 51, rfl⟩
abbrev main_while0b_v23 : Ref sig .tc := ⟨.hbm, 52, rfl⟩
abbrev main_while0b_v24 : Ref sig .tc := ⟨.hbm, 53, rfl⟩
abbrev main_while0b_call1_v0 : Ref sig .tc := ⟨.hbm, 54, rfl⟩
abbrev main_while0b_call1_cst : Ref sig .tc := ⟨.hbm, 55, rfl⟩
abbrev main_while0b_call1_c : Ref sig .tc := ⟨.hbm, 56, rfl⟩
abbrev main_while0b_call1_v1_0 : Ref sig .tc := ⟨.hbm, 57, rfl⟩
abbrev main_while0b_v25 : Ref sig .tc := ⟨.hbm, 58, rfl⟩
abbrev main_while0b_v26 : Ref sig .tc := ⟨.hbm, 59, rfl⟩
abbrev main_while0b_v27 : Ref sig .tc := ⟨.hbm, 60, rfl⟩
abbrev main_while0b_c_11 : Ref sig .tc := ⟨.hbm, 61, rfl⟩
abbrev main_while0b_v28 : Ref sig .tc := ⟨.hbm, 62, rfl⟩
abbrev main_while0b_v29 : Ref sig .tc := ⟨.hbm, 63, rfl⟩
abbrev main_while0b_c_12 : Ref sig .tc := ⟨.hbm, 64, rfl⟩
abbrev main_while0b_v30 : Ref sig .tc := ⟨.hbm, 65, rfl⟩
abbrev main_while0b_v31 : Ref sig .tc := ⟨.hbm, 66, rfl⟩
abbrev main_while0b_c_13 : Ref sig .tc := ⟨.hbm, 67, rfl⟩
abbrev main_while0b_v32 : Ref sig .tc := ⟨.hbm, 68, rfl⟩
abbrev main_while0b_c_14 : Ref sig .tc := ⟨.hbm, 69, rfl⟩
abbrev main_while0b_v33 : Ref sig .tc := ⟨.hbm, 70, rfl⟩
abbrev main_v8 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v9 : Ref sig .tc := ⟨.hbm, 94, rfl⟩
abbrev main_v10 : Ref sig .tc := ⟨.hbm, 95, rfl⟩
abbrev main_v11 : Ref sig .tc := ⟨.hbm, 96, rfl⟩
abbrev main_v12 : Ref sig .tc := ⟨.hbm, 97, rfl⟩
abbrev main_v13 : Ref sig .tc := ⟨.hbm, 98, rfl⟩
abbrev main_v14 : Ref sig .tc := ⟨.hbm, 99, rfl⟩
abbrev main_v15 : Ref sig .tc := ⟨.hbm, 100, rfl⟩
abbrev main_v16 : Ref sig .tc := ⟨.hbm, 101, rfl⟩

abbrev nD : Nat := 1
abbrev τ : Topo := Topo.v7x

variable {F : FTy → Type} [FloatOps F]

abbrev main_while0_count : Scf.Loop 32 := ⟨0#32, 2047#32, 1#32⟩
-- ==== WholeIdeal.lean ====
abbrev S65536x3 : Shape := ⟨2, ![65536, 3]⟩
abbrev S65536x128 : Shape := ⟨2, ![65536, 128]⟩
abbrev S65536 : Shape := ⟨1, ![65536]⟩
abbrev S16x4096x3 : Shape := ⟨3, ![16, 4096, 3]⟩
abbrev S3x16x4096 : Shape := ⟨3, ![3, 16, 4096]⟩
abbrev S16x2048 : Shape := ⟨2, ![16, 2048]⟩
abbrev S16x4096 : Shape := ⟨2, ![16, 4096]⟩
abbrev S8x128 : Shape := ⟨2, ![8, 128]⟩
abbrev S8x1 : Shape := ⟨2, ![8, 1]⟩
abbrev S1x8x1 : Shape := ⟨3, ![1, 8, 1]⟩
abbrev S1x8x128 : Shape := ⟨3, ![1, 8, 128]⟩
abbrev S8 : Shape := ⟨1, ![8]⟩
abbrev S1x32768 : Shape := ⟨2, ![1, 32768]⟩
abbrev S32768x128 : Shape := ⟨2, ![32768, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S16x2048x1 : Shape := ⟨3, ![16, 2048, 1]⟩
abbrev S16x2048x3 : Shape := ⟨3, ![16, 2048, 3]⟩
abbrev S32768x3 : Shape := ⟨2, ![32768, 3]⟩
abbrev S32768 : Shape := ⟨1, ![32768]⟩

abbrev nBuf : Table → Nat
  | .hbm => 19
  | .local .tc .vmem => 6
  | .local .scVector .vmem => 2
  | _ => 0

abbrev bufTy : (tb : Table) → Fin (nBuf tb) → BufTy
  | .hbm, ⟨0, _⟩ => ⟨S65536x3, .f32⟩
  | .hbm, ⟨1, _⟩ => ⟨S65536x128, .f32⟩
  | .hbm, ⟨2, _⟩ => ⟨S65536, .i32⟩
  | .hbm, ⟨3, _⟩ => ⟨S16x4096x3, .f32⟩
  | .hbm, ⟨4, _⟩ => ⟨S3x16x4096, .f32⟩
  | .hbm, ⟨5, _⟩ => ⟨S16x2048, .i32⟩
  | .hbm, ⟨6, _⟩ => ⟨S16x2048, .f32⟩
  | .hbm, ⟨7, _⟩ => ⟨S16x2048, .f32⟩
  | .hbm, ⟨8, _⟩ => ⟨S16x2048, .f32⟩
  | .hbm, ⟨9, _⟩ => ⟨S1x32768, .i32⟩
  | .hbm, ⟨10, _⟩ => ⟨S32768x128, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x3, .f32⟩
  | .hbm, ⟨15, _⟩ => ⟨S32768x3, .f32⟩
  | .hbm, ⟨16, _⟩ => ⟨S16x4096, .i32⟩
  | .hbm, ⟨17, _⟩ => ⟨S16x2048, .i32⟩
  | .hbm, ⟨18, _⟩ => ⟨S32768, .i32⟩
  | .local .tc .vmem, ⟨0, _⟩ => ⟨S3x16x4096, .f32⟩
  | .local .tc .vmem, ⟨1, _⟩ => ⟨S16x2048, .i32⟩
  | .local .tc .vmem, ⟨2, _⟩ => ⟨S16x2048, .f32⟩
  | .local .tc .vmem, ⟨3, _⟩ => ⟨S16x2048, .f32⟩
  | .local .tc .vmem, ⟨4, _⟩ => ⟨S16x2048, .f32⟩
  | .local .tc .vmem, ⟨5, _⟩ => ⟨S16x4096, .f32⟩
  | .local .scVector .vmem, ⟨0, _⟩ => ⟨S2x1x128, .i32⟩
  | .local .scVector .vmem, ⟨1, _⟩ => ⟨S2x128x128, .f32⟩
  | _, _ => ⟨S65536x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_arg1_scv : Ref sig .scVector := ⟨.hbm, 1, rfl⟩
abbrev main_v3_scv : Ref sig .scVector := ⟨.hbm, 9, rfl⟩
abbrev main_v4_scv : Ref sig .scVector := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c127_i32 : BitVec 32 := 127#32
  let v82 : BitVec 32 := Scalar.addi c1_i32 c127_i32
  let c1_i32_27 : BitVec 32 := 1#32
  ⟨c1_i32, v82, c1_i32_27⟩
@[reducible] def k0_t2_loop : Scf.Loop 32 :=
  let c0_i32_45 : BitVec 32 := 0#32
  let c128_i32 : BitVec 32 := 128#32
  let v92 : BitVec 32 := Scalar.addi c0_i32_45 c128_i32
  let c1_i32_46 : BitVec 32 := 1#32
  ⟨c0_i32_45, v92, c1_i32_46⟩
@[reducible] def k0_t3_loop : Scf.Loop 32 :=
  let c0_i32_63 : BitVec 32 := 0#32
  let c128_i32_64 : BitVec 32 := 128#32
  let v102 : BitVec 32 := Scalar.addi c0_i32_63 c128_i32_64
  let c1_i32_65 : BitVec 32 := 1#32
  ⟨c0_i32_63, v102, c1_i32_65⟩
@[reducible] def k0_t4_loop : Scf.Loop 32 :=
  let c0_i32_82 : BitVec 32 := 0#32
  let c128_i32_83 : BitVec 32 := 128#32
  let v112 : BitVec 32 := Scalar.addi c0_i32_82 c128_i32_83
  let c1_i32_84 : BitVec 32 := 1#32
  ⟨c0_i32_82, v112, c1_i32_84⟩
@[reducible] def k0_t5_loop : Scf.Loop 32 :=
  let c0_i32_101 : BitVec 32 := 0#32
  let c128_i32_102 : BitVec 32 := 128#32
  let v122 : BitVec 32 := Scalar.addi c0_i32_101 c128_i32_102
  let c1_i32_103 : BitVec 32 := 1#32
  ⟨c0_i32_101, v122, c1_i32_103⟩
@[reducible] def k0_t6_loop : Scf.Loop 32 :=
  let c0_i32_120 : BitVec 32 := 0#32
  let c128_i32_121 : BitVec 32 := 128#32
  let v132 : BitVec 32 := Scalar.addi c0_i32_120 c128_i32_121
  let c1_i32_122 : BitVec 32 := 1#32
  ⟨c0_i32_120, v132, c1_i32_122⟩
@[reducible] def k0_t7_loop : Scf.Loop 32 :=
  let c0_i32_139 : BitVec 32 := 0#32
  let c128_i32_140 : BitVec 32 := 128#32
  let v142 : BitVec 32 := Scalar.addi c0_i32_139 c128_i32_140
  let c1_i32_141 : BitVec 32 := 1#32
  ⟨c0_i32_139, v142, c1_i32_141⟩
@[reducible] def k0_t8_loop : Scf.Loop 32 :=
  let c0_i32_158 : BitVec 32 := 0#32
  let c128_i32_159 : BitVec 32 := 128#32
  let v152 : BitVec 32 := Scalar.addi c0_i32_158 c128_i32_159
  let c1_i32_160 : BitVec 32 := 1#32
  ⟨c0_i32_158, v152, c1_i32_160⟩
@[reducible] def k0_t9_loop : Scf.Loop 32 :=
  let c0_i32_177 : BitVec 32 := 0#32
  let c128_i32_178 : BitVec 32 := 128#32
  let v162 : BitVec 32 := Scalar.addi c0_i32_177 c128_i32_178
  let c1_i32_179 : BitVec 32 := 1#32
  ⟨c0_i32_177, v162, c1_i32_179⟩
@[reducible] def k0_t10_loop : Scf.Loop 32 :=
  let c0_i32_196 : BitVec 32 := 0#32
  let c128_i32_197 : BitVec 32 := 128#32
  let v172 : BitVec 32 := Scalar.addi c0_i32_196 c128_i32_197
  let c1_i32_198 : BitVec 32 := 1#32
  ⟨c0_i32_196, v172, c1_i32_198⟩
@[reducible] def k0_t11_loop : Scf.Loop 32 :=
  let c0_i32_215 : BitVec 32 := 0#32
  let c128_i32_216 : BitVec 32 := 128#32
  let v182 : BitVec 32 := Scalar.addi c0_i32_215 c128_i32_216
  let c1_i32_217 : BitVec 32 := 1#32
  ⟨c0_i32_215, v182, c1_i32_217⟩
@[reducible] def k0_t12_loop : Scf.Loop 32 :=
  let c0_i32_234 : BitVec 32 := 0#32
  let c128_i32_235 : BitVec 32 := 128#32
  let v192 : BitVec 32 := Scalar.addi c0_i32_234 c128_i32_235
  let c1_i32_236 : BitVec 32 := 1#32
  ⟨c0_i32_234, v192, c1_i32_236⟩
@[reducible] def k0_t13_loop : Scf.Loop 32 :=
  let c0_i32_253 : BitVec 32 := 0#32
  let c128_i32_254 : BitVec 32 := 128#32
  let v202 : BitVec 32 := Scalar.addi c0_i32_253 c128_i32_254
  let c1_i32_255 : BitVec 32 := 1#32
  ⟨c0_i32_253, v202, c1_i32_255⟩
@[reducible] def k0_t14_loop : Scf.Loop 32 :=
  let c0_i32_272 : BitVec 32 := 0#32
  let c128_i32_273 : BitVec 32 := 128#32
  let v212 : BitVec 32 := Scalar.addi c0_i32_272 c128_i32_273
  let c1_i32_274 : BitVec 32 := 1#32
  ⟨c0_i32_272, v212, c1_i32_274⟩
@[reducible] def k0_t15_loop : Scf.Loop 32 :=
  let c0_i32_291 : BitVec 32 := 0#32
  let c128_i32_292 : BitVec 32 := 128#32
  let v222 : BitVec 32 := Scalar.addi c0_i32_291 c128_i32_292
  let c1_i32_293 : BitVec 32 := 1#32
  ⟨c0_i32_291, v222, c1_i32_293⟩
@[reducible] def k0_t16_loop : Scf.Loop 32 :=
  let c0_i32_310 : BitVec 32 := 0#32
  let c128_i32_311 : BitVec 32 := 128#32
  let v232 : BitVec 32 := Scalar.addi c0_i32_310 c128_i32_311
  let c1_i32_312 : BitVec 32 := 1#32
  ⟨c0_i32_310, v232, c1_i32_312⟩
abbrev stage0_0 : Fin 1 → Memref sig .tc .vmem S3x16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c8_i32_27_r0 : BitVec 32 := 8#32
  let v32_r0 : BitVec 32 := Scalar.addi c0_i32_26_r0 c8_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_68_r0 : BitVec 32 := 7#32
  let v83_r0 : BitVec 1 := Scalar.cmpi .sge arg5_r0 c7_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c8_i32_62_r0 : BitVec 32 := 8#32
  let v74_r0 : BitVec 1 := Scalar.cmpi .eq v73_r0 c8_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c7_i32_55_r0 : BitVec 32 := 7#32
  let v65_r0 : BitVec 1 := Scalar.cmpi .eq arg5_r0 c7_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c7_i32_59_r0 : BitVec 32 := 7#32
  let v70_r0 : BitVec 32 := Scalar.select v69_r0 c7_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x32768.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x32768.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S32768x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S32768x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x32768.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x32768.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S32768x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S32768x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c7_i32_33_r0 : BitVec 32 := 7#32
  let v37_r0 : BitVec 32 := Scalar.select v36_r0 c7_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 32 := Scalar.muli v3 c8_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S32768x128.size a)
theorem k1_off19_inb : ∀ (i : grid1.Coords) (v33_4_r0 : BitVec 32) (k1_hw5 : k1_chk5 i v33_4_r0), ∀ a, (k1_off19 i v33_4_r0) a + S128x128.size a ≤ S32768x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== SampledIdeal.lean ====
abbrev S65536x3 : Shape := ⟨2, ![65536, 3]⟩
abbrev S65536x128 : Shape := ⟨2, ![65536, 128]⟩
abbrev S65536 : Shape := ⟨1, ![65536]⟩
abbrev S16x4096x3 : Shape := ⟨3, ![16, 4096, 3]⟩
abbrev S16 : Shape := ⟨1, ![16]⟩
abbrev S_ : Shape := ⟨0, ![]⟩
abbrev S16x4096 : Shape := ⟨2, ![16, 4096]⟩
abbrev S16x1 : Shape := ⟨2, ![16, 1]⟩
abbrev S16x2048 : Shape := ⟨2, ![16, 2048]⟩
abbrev S1 : Shape := ⟨1, ![1]⟩
abbrev S1x1 : Shape := ⟨2, ![1, 1]⟩
abbrev S16x3 : Shape := ⟨2, ![16, 3]⟩
abbrev S16x1x3 : Shape := ⟨3, ![16, 1, 3]⟩
abbrev S32768 : Shape := ⟨1, ![32768]⟩
abbrev S32768x1 : Shape := ⟨2, ![32768, 1]⟩
abbrev S32768x128 : Shape := ⟨2, ![32768, 128]⟩
abbrev S32768x3 : Shape := ⟨2, ![32768, 3]⟩

abbrev nBuf : Space → Nat
  | .hbm => 142
  | .vmem => 0
  | .smem => 0
  | _ => 0

abbrev hbmTy0_0 (i : Nat) : BufTy := match i % 128 with
  | 0 => ⟨S65536x3, .f32⟩
  | 1 => ⟨S65536x128, .f32⟩
  | 2 => ⟨S65536, .i32⟩
  | 3 => ⟨S16x4096x3, .f32⟩
  | 4 => ⟨S16, .i32⟩
  | 5 => ⟨S_, .i32⟩
  | 6 => ⟨S16, .i32⟩
  | 7 => ⟨S16, .i32⟩
  | 8 => ⟨S_, .f32⟩
  | 9 => ⟨S16x4096, .f32⟩
  | 10 => ⟨S16x1, .i32⟩
  | 11 => ⟨S16x2048, .i32⟩
  | 12 => ⟨S_, .i32⟩
  | 13 => ⟨S_, .i32⟩
  | 14 => ⟨S65536x3, .f32⟩
  | 15 => ⟨S16x4096x3, .f32⟩
  | 16 => ⟨S16, .i32⟩
  | 17 => ⟨S_, .i32⟩
  | 18 => ⟨S_, .i32⟩
  | 19 => ⟨S16x4096, .f32⟩
  | 20 => ⟨S16, .i32⟩
  | 21 => ⟨S16x2048, .i32⟩
  | 22 => ⟨S_, .i32⟩
  | 23 => ⟨S_, .i1⟩
  | 24 => ⟨S_, .i32⟩
  | 25 => ⟨S_, .i32⟩
  | 26 => ⟨S_, .i32⟩
  | 27 => ⟨S16, .i32⟩
  | 28 => ⟨S16, .i1⟩
  | 29 => ⟨S_, .i32⟩
  | 30 => ⟨S16, .i32⟩
  | 31 => ⟨S16, .i32⟩
  | 32 => ⟨S16, .i32⟩
  | 33 => ⟨S16x1, .i32⟩
  | 34 => ⟨S1, .i32⟩
  | 35 => ⟨S_, .i32⟩
  | 36 => ⟨S16x1, .i32⟩
  | 37 => ⟨S16x1, .i1⟩
  | 38 => ⟨S1x1, .i32⟩
  | 39 => ⟨S16x1, .i32⟩
  | 40 => ⟨S16x1, .i1⟩
  | 41 => ⟨S16x1, .i1⟩
  | 42 => ⟨S_, .i1⟩
  | 43 => ⟨S16, .i1⟩
  | 44 => ⟨S16x3, .f32⟩
  | 45 => ⟨S16x3, .i1⟩
  | 46 => ⟨S_, .f32⟩
  | 47 => ⟨S16x3, .f32⟩
  | 48 => ⟨S16x3, .f32⟩
  | 49 => ⟨S16x1x3, .f32⟩
  | 50 => ⟨S16x4096x3, .f32⟩
  | 51 => ⟨S16x4096x3, .f32⟩
  | 52 => ⟨S16x4096x3, .f32⟩
  | 53 => ⟨S_, .f32⟩
  | 54 => ⟨S16x4096, .f32⟩
  | 55 => ⟨S16x4096, .f32⟩
  | 56 => ⟨S16x4096, .i32⟩
  | 57 => ⟨S_, .f32⟩
  | 58 => ⟨S_, .i32⟩
  | 59 => ⟨S16, .f32⟩
  | 60 => ⟨S16, .i32⟩
  | 61 => ⟨S16, .i32⟩
  | 62 => ⟨S16x1, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S16x2048, .i32⟩
  | 71 => ⟨S_, .i32⟩
  | 72 => ⟨S_, .i32⟩
  | 73 => ⟨S32768, .i32⟩
  | 74 => ⟨S_, .i32⟩
  | 75 => ⟨S32768, .i32⟩
  | 76 => ⟨S32768, .i1⟩
  | 77 => ⟨S_, .i32⟩
  | 78 => ⟨S32768, .i32⟩
  | 79 => ⟨S32768, .i32⟩
  | 80 => ⟨S32768, .i32⟩
  | 81 => ⟨S32768x1, .i32⟩
  | 82 => ⟨S1, .i32⟩
  | 83 => ⟨S_, .i32⟩
  | 84 => ⟨S32768x1, .i32⟩
  | 85 => ⟨S32768x1, .i1⟩
  | 86 => ⟨S1x1, .i32⟩
  | 87 => ⟨S32768x1, .i32⟩
  | 88 => ⟨S32768x1, .i1⟩
  | 89 => ⟨S32768x1, .i1⟩
  | 90 => ⟨S_, .i1⟩
  | 91 => ⟨S32768, .i1⟩
  | 92 => ⟨S32768x128, .f32⟩
  | 93 => ⟨S32768x128, .i1⟩
  | 94 => ⟨S_, .f32⟩
  | 95 => ⟨S32768x128, .f32⟩
  | 96 => ⟨S32768x128, .f32⟩
  | 97 => ⟨S_, .i32⟩
  | 98 => ⟨S32768, .i32⟩
  | 99 => ⟨S32768, .i1⟩
  | 100 => ⟨S_, .i32⟩
  | 101 => ⟨S32768, .i32⟩
  | 102 => ⟨S32768, .i32⟩
  | 103 => ⟨S32768, .i32⟩
  | 104 => ⟨S32768x1, .i32⟩
  | 105 => ⟨S1, .i32⟩
  | 106 => ⟨S_, .i32⟩
  | 107 => ⟨S32768x1, .i32⟩
  | 108 => ⟨S32768x1, .i1⟩
  | 109 => ⟨S1x1, .i32⟩
  | 110 => ⟨S32768x1, .i32⟩
  | 111 => ⟨S32768x1, .i1⟩
  | 112 => ⟨S32768x1, .i1⟩
  | 113 => ⟨S_, .i1⟩
  | 114 => ⟨S32768, .i1⟩
  | 115 => ⟨S32768x3, .f32⟩
  | 116 => ⟨S32768x3, .i1⟩
  | 117 => ⟨S_, .f32⟩
  | 118 => ⟨S32768x3, .f32⟩
  | 119 => ⟨S32768x3, .f32⟩
  | 120 => ⟨S_, .i32⟩
  | 121 => ⟨S32768, .i32⟩
  | 122 => ⟨S32768, .i1⟩
  | 123 => ⟨S_, .i32⟩
  | 124 => ⟨S32768, .i32⟩
  | 125 => ⟨S32768, .i32⟩
  | 126 => ⟨S32768, .i32⟩
  | 127 => ⟨S32768x1, .i32⟩
  | _ => ⟨S65536x3, .f32⟩

abbrev hbmTy0_1 (i : Nat) : BufTy := match i % 128 with
  | 0 => ⟨S1, .i32⟩
  | 1 => ⟨S_, .i32⟩
  | 2 => ⟨S32768x1, .i32⟩
  | 3 => ⟨S32768x1, .i1⟩
  | 4 => ⟨S1x1, .i32⟩
  | 5 => ⟨S32768x1, .i32⟩
  | 6 => ⟨S32768x1, .i1⟩
  | 7 => ⟨S32768x1, .i1⟩
  | 8 => ⟨S_, .i1⟩
  | 9 => ⟨S32768, .i1⟩
  | 10 => ⟨S32768, .i32⟩
  | 11 => ⟨S_, .i32⟩
  | 12 => ⟨S32768, .i32⟩
  | 13 => ⟨S32768, .i32⟩
  | _ => ⟨S65536x3, .f32⟩

abbrev hbmTy (i : Nat) : BufTy := match i / 128 with
  | 0 => hbmTy0_0 i
  | 1 => hbmTy0_1 i
  | _ => ⟨S65536x3, .f32⟩

abbrev bufTy : (tb : Table) → Fin (tcTables nBuf tb) → BufTy
  | .hbm, ⟨i, _⟩ => hbmTy i
  | _, _ => ⟨S65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_c_1 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_v7_7 : Ref sig .tc := ⟨.hbm, 21, rfl⟩
abbrev main_while0c_c_9 : Ref sig .tc := ⟨.hbm, 22, rfl⟩
abbrev main_while0c_v12 : Ref sig .tc := ⟨.hbm, 23, rfl⟩
abbrev main_while0b_c_9 : Ref sig .tc := ⟨.hbm, 24, rfl⟩
abbrev main_while0b_v12 : Ref sig .tc := ⟨.hbm, 25, rfl⟩
abbrev main_while0b_call0_c : Ref sig .tc := ⟨.hbm, 26, rfl⟩
abbrev main_while0b_call0_v0 : Ref sig .tc := ⟨.hbm, 27, rfl⟩
abbrev main_while0b_call0_v1 : Ref sig .tc := ⟨.hbm, 28, rfl⟩
abbrev main_while0b_call0_c_0 : Ref sig .tc := ⟨.hbm, 29, rfl⟩
abbrev main_while0b_call0_v2 : Ref sig .tc := ⟨.hbm, 30, rfl⟩
abbrev main_while0b_call0_v3 : Ref sig .tc := ⟨.hbm, 31, rfl⟩
abbrev main_while0b_call0_v4 : Ref sig .tc := ⟨.hbm, 32, rfl⟩
abbrev main_while0b_call0_v5 : Ref sig .tc := ⟨.hbm, 33, rfl⟩
abbrev main_while0b_call0_c_1 : Ref sig .tc := ⟨.hbm, 34, rfl⟩
abbrev main_while0b_call0_c_2 : Ref sig .tc := ⟨.hbm, 35, rfl⟩
abbrev main_while0b_call0_v6 : Ref sig .tc := ⟨.hbm, 36, rfl⟩
abbrev main_while0b_call0_v7 : Ref sig .tc := ⟨.hbm, 37, rfl⟩
abbrev main_while0b_call0_v8 : Ref sig .tc := ⟨.hbm, 38, rfl⟩
abbrev main_while0b_call0_v9 : Ref sig .tc := ⟨.hbm, 39, rfl⟩
abbrev main_while0b_call0_v10 : Ref sig .tc := ⟨.hbm, 40, rfl⟩
abbrev main_while0b_call0_v11 : Ref sig .tc := ⟨.hbm, 41, rfl⟩
abbrev main_while0b_call0_c_3 : Ref sig .tc := ⟨.hbm, 42, rfl⟩
abbrev main_while0b_call0_v12 : Ref sig .tc := ⟨.hbm, 43, rfl⟩
abbrev main_while0b_call0_v13 : Ref sig .tc := ⟨.hbm, 44, rfl⟩
abbrev main_while0b_call0_v14 : Ref sig .tc := ⟨.hbm, 45, rfl⟩
abbrev main_while0b_call0_cst : Ref sig .tc := ⟨.hbm, 46, rfl⟩
abbrev main_while0b_call0_v15 : Ref sig .tc := ⟨.hbm, 47, rfl⟩
abbrev main_while0b_v13 : Ref sig .tc := ⟨.hbm, 48, rfl⟩
abbrev main_while0b_v14 : Ref sig .tc := ⟨.hbm, 49, rfl⟩
abbrev main_while0b_v15 : Ref sig .tc := ⟨.hbm, 50, rfl⟩
abbrev main_while0b_v16 : Ref sig .tc := ⟨.hbm, 51, rfl⟩
abbrev main_while0b_v17 : Ref sig .tc := ⟨.hbm, 52, rfl⟩
abbrev main_while0b_cst_10 : Ref sig .tc := ⟨.hbm, 53, rfl⟩
abbrev main_while0b_v18 : Ref sig .tc := ⟨.hbm, 54, rfl⟩
abbrev main_while0b_v19 : Ref sig .tc := ⟨.hbm, 55, rfl⟩
abbrev main_while0b_call1_v0 : Ref sig .tc := ⟨.hbm, 56, rfl⟩
abbrev main_while0b_call1_cst : Ref sig .tc := ⟨.hbm, 57, rfl⟩
abbrev main_while0b_call1_c : Ref sig .tc := ⟨.hbm, 58, rfl⟩
abbrev main_while0b_call1_v1_0 : Ref sig .tc := ⟨.hbm, 59, rfl⟩
abbrev main_while0b_v20 : Ref sig .tc := ⟨.hbm, 60, rfl⟩
abbrev main_while0b_v21 : Ref sig .tc := ⟨.hbm, 61, rfl⟩
abbrev main_while0b_v22 : Ref sig .tc := ⟨.hbm, 62, rfl⟩
abbrev main_while0b_c_11 : Ref sig .tc := ⟨.hbm, 63, rfl⟩
abbrev main_while0b_v23 : Ref sig .tc := ⟨.hbm, 64, rfl⟩
abbrev main_while0b_v24 : Ref sig .tc := ⟨.hbm, 65, rfl⟩
abbrev main_while0b_c_12 : Ref sig .tc := ⟨.hbm, 66, rfl⟩
abbrev main_while0b_v25 : Ref sig .tc := ⟨.hbm, 67, rfl⟩
abbrev main_while0b_v26 : Ref sig .tc := ⟨.hbm, 68, rfl⟩
abbrev main_while0b_c_13 : Ref sig .tc := ⟨.hbm, 69, rfl⟩
abbrev main_while0b_v27 : Ref sig .tc := ⟨.hbm, 70, rfl⟩
abbrev main_while0b_c_14 : Ref sig .tc := ⟨.hbm, 71, rfl⟩
abbrev main_while0b_v28 : Ref sig .tc := ⟨.hbm, 72, rfl⟩
abbrev main_v8 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v9 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v10 : Ref sig .tc := ⟨.hbm, 119, rfl⟩
abbrev main_call4_c : Ref sig .tc := ⟨.hbm, 120, rfl⟩
abbrev main_call4_v0 : Ref sig .tc := ⟨.hbm, 121, rfl⟩
abbrev main_call4_v1 : Ref sig .tc := ⟨.hbm, 122, rfl⟩
abbrev main_call4_c_0 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_call4_v5 : Ref sig .tc := ⟨.hbm, 127, rfl⟩
abbrev main_call4_c_1 : Ref sig .tc := ⟨.hbm, 128, rfl⟩
abbrev main_call4_c_2 : Ref sig .tc := ⟨.hbm, 129, rfl⟩
abbrev main_call4_v6 : Ref sig .tc := ⟨.hbm, 130, rfl⟩
abbrev main_call4_v7 : Ref sig .tc := ⟨.hbm, 131, rfl⟩
abbrev main_call4_v8 : Ref sig .tc := ⟨.hbm, 132, rfl⟩
abbrev main_call4_v9 : Ref sig .tc := ⟨.hbm, 133, rfl⟩
abbrev main_call4_v10 : Ref sig .tc := ⟨.hbm, 134, rfl⟩
abbrev main_call4_v11 : Ref sig .tc := ⟨.hbm, 135, rfl⟩
abbrev main_call4_c_3 : Ref sig .tc := ⟨.hbm, 136, rfl⟩
abbrev main_call4_v12 : Ref sig .tc := ⟨.hbm, 137, rfl⟩
abbrev main_call4_v13 : Ref sig .tc := ⟨.hbm, 138, rfl⟩
abbrev main_call4_c_4 : Ref sig .tc := ⟨.hbm, 139, rfl⟩
abbrev main_call4_v14 : Ref sig .tc := ⟨.hbm, 140, rfl⟩
abbrev main_v11 : Ref sig .tc := ⟨.hbm, 141, rfl⟩

abbrev nD : Nat := 1
abbrev τ : Topo := Topo.v7x

variable {F : FTy → Type} [FloatOps F]

abbrev main_while0_count : Scf.Loop 32 := ⟨0#32, 2047#32, 1#32⟩
-- ==== Proof.Words.lean ====
/-
  The words that the tile's loop carries, and where the tile's copies lie.

  The tile's pipeline keeps five words from trip to trip: the number of the next copy-in, the number of the copy-in
  that is waited for, the number of the next copy-out, the number of the copy-out that is waited for, and the block
  within the tile's eight. Before trip `t` of eight they are `min (t + 1) 8`, `t`, `t`, `t - 1` (0 at the start) and
  `t mod 8` (`carry`). At these words every condition and every offset that the program computes has a closed form,
  found here by running through all tiles and trips: staging slot `t mod 2` serves block `t`, and block `t` of tile
  `(c, s)` is block `8 (16 c + s) + t` of the 256 blocks of 128 rows.
-/
module

public import proofs.«01_k».proof.Defs
public import proofs.«01_k».proof.Proof.Gen.KernelIdeal
public import proofs.«01_k».proof.Proof.Gen.KernelIdeal.Skeleton

@[expose] public section

set_option maxRecDepth 16384

namespace Cert.Proof.Words

open Cert.KernelIdeal Cert.KernelIdeal.Gen Idealize.ShloMosaic

/-- The number of the next copy-in before trip `t`. -/
def W6 (t : ℕ) : BitVec 32 := BitVec.ofNat 32 (min (t + 1) 8)
/-- The number of the copy-in that trip `t` waits for; also of the copy-out that it starts. -/
def W7 (t : ℕ) : BitVec 32 := BitVec.ofNat 32 t
/-- The number of the copy-out that trip `t` waits for. -/
def W9 (t : ℕ) : BitVec 32 := BitVec.ofNat 32 (t - 1)
/-- The block of trip `t` among the tile's eight. -/
def W10 (t : ℕ) : BitVec 32 := BitVec.ofNat 32 (t % 8)

/-- The five words before trip `t`. -/
def carry (t : ℕ) : BitVec 32 × BitVec 32 × BitVec 32 × BitVec 32 × BitVec 32 := (W6 t, W7 t, W7 t, W9 t, W10 t)

/-- The number among the 256 blocks of the tile's first block. -/
def base (i : grid0.Coords) : ℕ := ((i 1).val + 16 * (i 0).val) * 8

theorem trips_eq : k0_t1_loop.trips = 8 := by decide +kernel

theorem base_lt (i : grid0.Coords) : base i + 8 ≤ 256 := by revert i; decide +kernel

/-! ### The checks hold at the carried words -/

theorem chk3 (k : Fin k0_t1_loop.trips) : k0_chk3 (W7 k.val) := by revert k; decide +kernel
theorem chk2 (k : Fin k0_t1_loop.trips) : k0_chk2 (W7 k.val) := by revert k; decide +kernel
theorem chk1 (i : grid0.Coords) (k : Fin k0_t1_loop.trips) :
    k0_chk1 i k (W6 k.val) (W7 k.val) (W7 k.val) (W9 k.val) (W10 k.val) := by revert i k; decide +kernel
theorem chk5 (i : grid0.Coords) : k0_chk5 i (W10 8) := by revert i; decide +kernel
theorem chk4 : k0_chk4 (W9 8) := by decide +kernel

/-! ### The conditions -/

/-- The next block is fetched at every trip but the last. -/
theorem cond1 (i : grid0.Coords) (k : Fin k0_t1_loop.trips) : k0_cond1 i k (W10 k.val) = 1#1 ↔ k.val < 7 := by
  revert i k; decide +kernel
/-- Every trip waits for its own block. -/
theorem cond2 (i : grid0.Coords) (k : Fin k0_t1_loop.trips) : k0_cond2 i k (W10 k.val) = 1#1 := by
  revert i k; decide +kernel
/-- Every trip starts the copy-out of its rows. -/
theorem cond5 (i : grid0.Coords) (k : Fin k0_t1_loop.trips) : k0_cond5 i k (W10 k.val) = 1#1 := by
  revert i k; decide +kernel
/-- Every trip but the first waits for the copy-out before. -/
theorem cond7 (i : grid0.Coords) (k : Fin k0_t1_loop.trips) : k0_cond7 i k (W10 k.val) = 1#1 ↔ 0 < k.val := by
  revert i k; decide +kernel

/-! ### The offsets -/

theorem off1 : k0_off1 = ![0, 0, 0] := by decide +kernel
theorem off2 (i : grid0.Coords) : k0_off2 i = ![0, 128 * base i] := by revert i; decide +kernel
theorem off3 : k0_off3 = ![0] := by decide +kernel
theorem off4 (k : Fin k0_t1_loop.trips) (h : k.val < 7) : k0_off4 (W6 k.val) = ![(k.val + 1) % 2, 0, 0] := by revert k; decide +kernel
theorem off5 (i : grid0.Coords) (k : Fin k0_t1_loop.trips) (h : k.val < 7) :
    k0_off5 i (W10 k.val) = ![0, 128 * (base i + (k.val + 1))] := by revert i k; decide +kernel
theorem off6 (k : Fin k0_t1_loop.trips) (h : k.val < 7) : k0_off6 (W6 k.val) = ![(k.val + 1) % 2] := by revert k; decide +kernel
theorem off7 (k : Fin k0_t1_loop.trips) : k0_off7 (W7 k.val) = ![k.val % 2, 0, 0] := by revert k; decide +kernel
theorem off9 (k : Fin k0_t1_loop.trips) : k0_off9 (W7 k.val) = ![k.val % 2] := by revert k; decide +kernel
theorem off10 (k : Fin k0_t1_loop.trips) : k0_off10 (W7 k.val) = ![k.val % 2, 0, 0] := by revert k; decide +kernel
theorem off11 (k : Fin k0_t1_loop.trips) : k0_off11 (W7 k.val) = ![k.val % 2, 0, 0] := by revert k; decide +kernel
theorem off12 (k : Fin k0_t1_loop.trips) : k0_off12 (W7 k.val) = ![k.val % 2, 0, 0] := by revert k; decide +kernel
theorem off13 (i : grid0.Coords) (k : Fin k0_t1_loop.trips) : k0_off13 i (W10 k.val) = ![128 * (base i + k.val), 0] := by
  revert i k; decide +kernel
theorem off14 (k : Fin k0_t1_loop.trips) : k0_off14 (W7 k.val) = ![k.val % 2] := by revert k; decide +kernel
theorem off17 (k : Fin k0_t1_loop.trips) : k0_off17 (W9 k.val) = ![(k.val - 1) % 2] := by revert k; decide +kernel
theorem off20 : k0_off20 (W9 8) = ![1] := by decide +kernel

/-! ### The words after a trip -/

/-- The tile's first block as the program computes it. -/
def firstW (i : grid0.Coords) : BitVec 32 :=
  Scalar.muli (Scalar.addi (Scalar.addi 0#32 (Scalar.muli (BitVec.ofNat 32 (i 1).val) 1#32)) (Scalar.muli (BitVec.ofNat 32 (i 0).val) 16#32)) 8#32
/-- The trip's number, its block, the block before and the block after, as the program computes them. -/
def ivW (k : Fin k0_t1_loop.trips) : BitVec 32 := Scf.iv 0#32 1#32 k
def curW (i : grid0.Coords) (k : Fin k0_t1_loop.trips) : BitVec 32 := Scalar.addi (W10 k.val) (firstW i)
def prevW (i : grid0.Coords) (k : Fin k0_t1_loop.trips) : BitVec 32 :=
  Scalar.addi (Scalar.select (Scalar.cmpi .eq (Scalar.select 1#1 (Scalar.subi (W10 k.val) 1#32) (W10 k.val)) 4294967295#32) 7#32
    (Scalar.select 1#1 (Scalar.subi (W10 k.val) 1#32) (W10 k.val))) (firstW i)
def nextW (i : grid0.Coords) (k : Fin k0_t1_loop.trips) : BitVec 32 :=
  Scalar.addi (Scalar.select (Scalar.cmpi .eq (Scalar.select 1#1 (Scalar.addi (W10 k.val) 1#32) (W10 k.val)) 8#32) 0#32
    (Scalar.select 1#1 (Scalar.addi (W10 k.val) 1#32) (W10 k.val))) (firstW i)

/-- The number of the next copy-in, as a trip hands it on. -/
def nextIn (i : grid0.Coords) (k : Fin k0_t1_loop.trips) : BitVec 32 :=
  Scalar.select (Scalar.andi (Scalar.andi (Scalar.cmpi .ne (curW i k) (nextW i k)) (Scalar.xori (Scalar.cmpi .sge (ivW k) 7#32) 1#1)) 1#1)
    (Scalar.addi (W6 k.val) 1#32) (W6 k.val)

/-- The words that a trip hands on are the next trip's. -/
theorem carry_next (i : grid0.Coords) (k : Fin k0_t1_loop.trips) :
    ((nextIn i k,
      Scalar.select (Scalar.ori (Scalar.cmpi .ne (curW i k) (nextW i k)) (Scalar.cmpi .eq (ivW k) 7#32)) (Scalar.addi (W7 k.val) 1#32) (W7 k.val),
      Scalar.select (Scalar.andi (Scalar.ori (Scalar.cmpi .ne (curW i k) (nextW i k)) (Scalar.cmpi .eq (ivW k) 7#32)) 1#1) (Scalar.addi (W7 k.val) 1#32) (W7 k.val),
      Scalar.select (Scalar.andi (Scalar.andi (Scalar.cmpi .ne (curW i k) (prevW i k)) (Scalar.xori (Scalar.cmpi .eq (ivW k) 0#32) 1#1)) 1#1)
        (Scalar.addi (W9 k.val) 1#32) (W9 k.val),
      Scalar.select (Scalar.cmpi .eq (Scalar.select 1#1 (Scalar.addi (W10 k.val) 1#32) (W10 k.val)) 8#32) 0#32
        (Scalar.select 1#1 (Scalar.addi (W10 k.val) 1#32) (W10 k.val)))
      : BitVec 32 × BitVec 32 × BitVec 32 × BitVec 32 × BitVec 32) = carry (k.val + 1) := by
  revert i k; decide +kernel

end Cert.Proof.Words
-- ==== Proof.Views.lean ====
/-
  The tile's buffers as its copies address them, and what its copies move.

  The kernel names a slot of a staging buffer, a block of the row numbers, a block of the output and a semaphore of an
  array by offsets that it computes. Here each of them is a definition over the offsets; the closed forms of the
  offsets (Words.lean) then say which elements it is (`set_…`) and which elements it reads or writes (`emb_…`). The
  values: `list I B` is what the copy-in of block `B` leaves in a slot of the first staging buffer, `rowsOf X I` is the
  table's rows that the 32768 row numbers `I` name, and `slab X I B` is what the gather of block `B` leaves in a slot of
  the second.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout

@[expose] public section

noncomputable section

namespace Cert.Proof.Views

open Cert.KernelIdeal Cert.KernelIdeal.Gen Cert.Proof.Words
open Idealize.ShloMosaic Idealize.ShloMosaic.ValueIdx

variable {F : FTy → Type}

/-! ## The buffers whole, and their parts by offsets -/

abbrev xM : Memref sig .scVector .hbm S65536x128 .f32 := Memref.whole main_arg0_scv
abbrev gM : Memref sig .scVector .hbm S1x32768 .i32 := Memref.whole main_v0_scv
abbrev oM : Memref sig .scVector .hbm S32768x128 .f32 := Memref.whole main_v1_scv
abbrev iM : Memref sig .scVector .vmem S2x1x128 .i32 := Memref.whole cc0_scoped0
abbrev rM : Memref sig .scVector .vmem S2x128x128 .f32 := Memref.whole cc0_scoped2

/-- A slot of the row numbers' staging buffer. -/
abbrev iSlot (off : Fin 3 → ℕ) (h : ∀ a, off a + S1x1x128.size a ≤ S2x1x128.size a) : Memref sig .scVector .vmem S1x128 .i32 :=
  (iM.slice (Rect.unit (s := S2x1x128) off S1x1x128.size h) (fun _ => rfl)).squeeze S1x128 squeezes_S1x1x128_S1x128
/-- The slot as the gather reads it: a list of 128 row numbers. -/
abbrev iList (off : Fin 3 → ℕ) (h : ∀ a, off a + S1x1x128.size a ≤ S2x1x128.size a) : Memref sig .scVector .vmem S128 .i32 :=
  ((iSlot off h).slice (Rect.unit (s := S1x128) ![0, 0] S1x128.size inb_S1x128_S1x128_0_0) (fun _ => rfl)).squeeze S128 squeezes_S1x128_S128
/-- A slot of the rows' staging buffer. -/
abbrev rSlot (off : Fin 3 → ℕ) (h : ∀ a, off a + S1x128x128.size a ≤ S2x128x128.size a) : Memref sig .scVector .vmem S128x128 .f32 :=
  (rM.slice (Rect.unit (s := S2x128x128) off S1x128x128.size h) (fun _ => rfl)).squeeze S128x128 squeezes_S1x128x128_S128x128
/-- A block of 128 row numbers. -/
abbrev gBlk (off : Fin 2 → ℕ) (h : ∀ a, off a + S1x128.size a ≤ S1x32768.size a) : Memref sig .scVector .hbm S1x128 .i32 :=
  gM.slice (Rect.unit (s := S1x32768) off S1x128.size h) (fun _ => rfl)
/-- A block of 128 rows of the output. -/
abbrev oBlk (off : Fin 2 → ℕ) (h : ∀ a, off a + S128x128.size a ≤ S32768x128.size a) : Memref sig .scVector .hbm S128x128 .f32 :=
  oM.slice (Rect.unit (s := S32768x128) off S128x128.size h) (fun _ => rfl)
/-- The table, as the gather names it. -/
abbrev xAll : Memref sig .scVector .hbm S65536x128 .f32 :=
  xM.slice (Rect.unit (s := S65536x128) ![0, 0] S65536x128.size inb_S65536x128_S65536x128_0_0) (fun _ => rfl)
/-- A semaphore of the copies-in. -/
abbrev iSem (off : Fin 1 → ℕ) (h : ∀ a, off a + S1.size a ≤ S2.size a) : DmaSem sig :=
  ((cc0_scoped1.slice (Rect.unit (s := S2) off S1.size h)).squeeze S_ squeezes_S1_S_).sem
/-- A semaphore of the copies-out. -/
abbrev rSem (off : Fin 1 → ℕ) (h : ∀ a, off a + S1.size a ≤ S2.size a) : DmaSem sig :=
  ((cc0_scoped3.slice (Rect.unit (s := S2) off S1.size h)).squeeze S_ squeezes_S1_S_).sem

/-! ## Which elements they are -/

theorem inbI (b : Fin 2) : ∀ a, (![b.val, 0, 0] : Fin 3 → ℕ) a + S1x1x128.size a ≤ S2x1x128.size a := by revert b; decide
theorem inbR (b : Fin 2) : ∀ a, (![b.val, 0, 0] : Fin 3 → ℕ) a + S1x128x128.size a ≤ S2x128x128.size a := by revert b; decide
theorem inbS (b : Fin 2) : ∀ a, (![b.val] : Fin 1 → ℕ) a + S1.size a ≤ S2.size a := by revert b; decide

/-- Slot `b`'s semaphore of the copies-in, of the copies-out. -/
def iS (b : Fin 2) : DmaSem sig := iSem ![b.val] (inbS b)
def rS (b : Fin 2) : DmaSem sig := rSem ![b.val] (inbS b)

theorem iSem_eq (b : Fin 2) {off : Fin 1 → ℕ} (e : off = ![b.val]) (h : ∀ a, off a + S1.size a ≤ S2.size a) : iSem off h = iS b := by
  subst e; rfl
theorem rSem_eq (b : Fin 2) {off : Fin 1 → ℕ} (e : off = ![b.val]) (h : ∀ a, off a + S1.size a ≤ S2.size a) : rSem off h = rS b := by
  subst e; rfl

/-- The elements of slot `b` of the row numbers' staging buffer, of the rows' staging buffer. -/
def iSet (b : Fin 2) : Finset S2x1x128.Idx := Finset.univ.filter fun j => (j 0).val = b.val
def rSet (b : Fin 2) : Finset S2x128x128.Idx := Finset.univ.filter fun j => (j 0).val = b.val
/-- The elements of block `B` of the row numbers, of the output. -/
def gSet (B : ℕ) : Finset S1x32768.Idx := Finset.univ.filter fun j => (j 1).val / 128 = B
def oSet (B : ℕ) : Finset S32768x128.Idx := Finset.univ.filter fun j => (j 0).val / 128 = B

theorem set_iSlot (b : Fin 2) {off : Fin 3 → ℕ} (e : off = ![b.val, 0, 0]) (h : ∀ a, off a + S1x1x128.size a ≤ S2x1x128.size a) :
    (iSlot off h).view.set = iSet b := by
  subst e
  show (((View.whole (cc0_scoped0 : Ref sig .scVector)).slice _).reshape S1x128 _).set = _
  rw [View.set_reshape, View.set_slice]
  refine Finset.map_refl.trans ?_
  ext j
  rw [Rect.mem_set_unit, iSet, Finset.mem_filter]
  have h1 : (j 1).val < 1 := (j 1).isLt
  have h2 : (j 2).val < 128 := (j 2).isLt
  constructor
  · intro hj
    have h0 : b.val ≤ (j 0).val ∧ (j 0).val < b.val + 1 := hj 0
    exact ⟨Finset.mem_univ _, by omega⟩
  · rintro ⟨-, h0⟩ a
    match a with
    | ⟨0, _⟩ => show b.val ≤ (j 0).val ∧ (j 0).val < b.val + 1; omega
    | ⟨1, _⟩ => show 0 ≤ (j 1).val ∧ (j 1).val < 0 + 1; omega
    | ⟨2, _⟩ => show 0 ≤ (j 2).val ∧ (j 2).val < 0 + 128; omega

theorem set_iList (b : Fin 2) {off : Fin 3 → ℕ} (e : off = ![b.val, 0, 0]) (h : ∀ a, off a + S1x1x128.size a ≤ S2x1x128.size a) :
    (iList off h).view.set = iSet b := by
  rw [← set_iSlot b e h]
  show (((iSlot off h).view.slice _).reshape S128 _).set = _
  rw [View.set_reshape, View.set_slice]
  have hu : (Rect.unit (s := S1x128) ![0, 0] S1x128.size inb_S1x128_S1x128_0_0).set = Finset.univ := by decide +kernel
  rw [hu]; rfl

theorem set_rSlot (b : Fin 2) {off : Fin 3 → ℕ} (e : off = ![b.val, 0, 0]) (h : ∀ a, off a + S1x128x128.size a ≤ S2x128x128.size a) :
    (rSlot off h).view.set = rSet b := by
  subst e
  show (((View.whole (cc0_scoped2 : Ref sig .scVector)).slice _).reshape S128x128 _).set = _
  rw [View.set_reshape, View.set_slice]
  refine Finset.map_refl.trans ?_
  ext j
  rw [Rect.mem_set_unit, rSet, Finset.mem_filter]
  have h1 : (j 1).val < 128 := (j 1).isLt
  have h2 : (j 2).val < 128 := (j 2).isLt
  constructor
  · intro hj
    have h0 : b.val ≤ (j 0).val ∧ (j 0).val < b.val + 1 := hj 0
    exact ⟨Finset.mem_univ _, by omega⟩
  · rintro ⟨-, h0⟩ a
    match a with
    | ⟨0, _⟩ => show b.val ≤ (j 0).val ∧ (j 0).val < b.val + 1; omega
    | ⟨1, _⟩ => show 0 ≤ (j 1).val ∧ (j 1).val < 0 + 128; omega
    | ⟨2, _⟩ => show 0 ≤ (j 2).val ∧ (j 2).val < 0 + 128; omega

theorem set_gBlk (B : ℕ) {off : Fin 2 → ℕ} (e : off = ![0, 128 * B]) (h : ∀ a, off a + S1x128.size a ≤ S1x32768.size a) :
    (gBlk off h).view.set = gSet B := by
  subst e
  show ((View.whole (main_v0_scv : Ref sig .scVector)).slice _).set = _
  rw [View.set_slice]
  refine Finset.map_refl.trans ?_
  ext j
  rw [Rect.mem_set_unit, gSet, Finset.mem_filter]
  have h1 : (j 0).val < 1 := (j 0).isLt
  constructor
  · intro hj
    have h0 : 128 * B ≤ (j 1).val ∧ (j 1).val < 128 * B + 128 := hj 1
    exact ⟨Finset.mem_univ _, by omega⟩
  · rintro ⟨-, h0⟩ a
    match a with
    | ⟨0, _⟩ => show 0 ≤ (j 0).val ∧ (j 0).val < 0 + 1; omega
    | ⟨1, _⟩ => show 128 * B ≤ (j 1).val ∧ (j 1).val < 128 * B + 128; omega

theorem set_oBlk (B : ℕ) {off : Fin 2 → ℕ} (e : off = ![128 * B, 0]) (h : ∀ a, off a + S128x128.size a ≤ S32768x128.size a) :
    (oBlk off h).view.set = oSet B := by
  subst e
  show ((View.whole (main_v1_scv : Ref sig .scVector)).slice _).set = _
  rw [View.set_slice]
  refine Finset.map_refl.trans ?_
  ext j
  rw [Rect.mem_set_unit, oSet, Finset.mem_filter]
  have h1 : (j 1).val < 128 := (j 1).isLt
  constructor
  · intro hj
    have h0 : 128 * B ≤ (j 0).val ∧ (j 0).val < 128 * B + 128 := hj 0
    exact ⟨Finset.mem_univ _, by omega⟩
  · rintro ⟨-, h0⟩ a
    match a with
    | ⟨0, _⟩ => show 128 * B ≤ (j 0).val ∧ (j 0).val < 128 * B + 128; omega
    | ⟨1, _⟩ => show 0 ≤ (j 1).val ∧ (j 1).val < 0 + 128; omega

theorem emb_iSlot (b : Fin 2) (h : ∀ a, (![b.val, 0, 0] : Fin 3 → ℕ) a + S1x1x128.size a ≤ S2x1x128.size a) (u : Fin 1) (c : Fin 128) :
    (iSlot ![b.val, 0, 0] h).view.emb (ix2 u c) = (ix3 b u c : S2x1x128.Idx) := by
  have e := reshapeEquiv_ix2_1ab (a := 1) (b := 128) squeezes_S1x1x128_S1x128.numel_eq u c
  refine (congrArg (Rect.unit (s := S2x1x128) ![b.val, 0, 0] S1x1x128.size h).emb e).trans ?_
  funext a
  match a with
  | ⟨0, _⟩ => exact Fin.ext (show b.val + 1 * 0 = b.val by omega)
  | ⟨1, _⟩ => exact Fin.ext (show 0 + 1 * u.val = u.val by omega)
  | ⟨2, _⟩ => exact Fin.ext (show 0 + 1 * c.val = c.val by omega)

theorem emb_rSlot (b : Fin 2) (h : ∀ a, (![b.val, 0, 0] : Fin 3 → ℕ) a + S1x128x128.size a ≤ S2x128x128.size a) (r c : Fin 128) :
    (rSlot ![b.val, 0, 0] h).view.emb (ix2 r c) = (ix3 b r c : S2x128x128.Idx) := by
  have e := reshapeEquiv_ix2_1ab (a := 128) (b := 128) squeezes_S1x128x128_S128x128.numel_eq r c
  refine (congrArg (Rect.unit (s := S2x128x128) ![b.val, 0, 0] S1x128x128.size h).emb e).trans ?_
  funext a
  match a with
  | ⟨0, _⟩ => exact Fin.ext (show b.val + 1 * 0 = b.val by omega)
  | ⟨1, _⟩ => exact Fin.ext (show 0 + 1 * r.val = r.val by omega)
  | ⟨2, _⟩ => exact Fin.ext (show 0 + 1 * c.val = c.val by omega)

theorem emb_iList (b : Fin 2) (h : ∀ a, (![b.val, 0, 0] : Fin 3 → ℕ) a + S1x1x128.size a ≤ S2x1x128.size a) (c : Fin 128) :
    (iList ![b.val, 0, 0] h).view.emb (ix1 c) = (ix3 b (0 : Fin 1) c : S2x1x128.Idx) := by
  have e1 : Shape.reshapeEquiv squeezes_S1x128_S128.numel_eq (ix1 c) = (ix2 (0 : Fin 1) c : S1x128.Idx) :=
    Shape.reshapeEquiv_eq_of_rowMajor _ (by
      rw [Shape.rowMajor_val_two, Shape.rowMajor_val_one]
      show 0 * 128 + c.val = c.val
      omega)
  have e2 : (Rect.unit (s := S1x128) ![0, 0] S1x128.size inb_S1x128_S1x128_0_0).emb (ix2 (0 : Fin 1) c) = (ix2 (0 : Fin 1) c : S1x128.Idx) := by
    funext a
    match a with
    | ⟨0, _⟩ => rfl
    | ⟨1, _⟩ => exact Fin.ext (show 0 + 1 * c.val = c.val by omega)
  refine Eq.trans ?_ (emb_iSlot b h 0 c)
  exact (congrArg (fun t => (iSlot ![b.val, 0, 0] h).view.emb ((Rect.unit (s := S1x128) ![0, 0] S1x128.size inb_S1x128_S1x128_0_0).emb t)) e1).trans
    (congrArg (iSlot ![b.val, 0, 0] h).view.emb e2)

/-! ## What the copies move -/

/-- Where the row number of output row `n` lies. -/
def at_ (n : ℕ) : S1x32768.Idx := ix2 (0 : Fin 1) (⟨n % 32768, Nat.mod_lt _ (by decide)⟩ : Fin 32768)
/-- Where element `c` of row `w` of the table lies. -/
def cell (w : BitVec 32) (c : Fin 128) : S65536x128.Idx := ix2 (⟨w.toNat % 65536, Nat.mod_lt _ (by decide)⟩ : Fin 65536) c

/-- A slot of the first staging buffer once block `B` of the row numbers is copied in. -/
def list (I : S1x32768.Idx → Elt F .i32) (B : ℕ) : S2x1x128.Idx → Elt F .i32 := fun j => I (at_ (128 * B + (j 2).val))
/-- The table's rows that the row numbers name: the whole output. -/
def rowsOf (X : S65536x128.Idx → Elt F .f32) (I : S1x32768.Idx → Elt F .i32) : S32768x128.Idx → Elt F .f32 :=
  fun j => X (cell (I (at_ (j 0).val)) (j 1))
/-- A slot of the second staging buffer once block `B`'s rows are gathered. -/
def slab (X : S65536x128.Idx → Elt F .f32) (I : S1x32768.Idx → Elt F .i32) (B : ℕ) : S2x128x128.Idx → Elt F .f32 :=
  fun j => X (cell (I (at_ (128 * B + (j 1).val))) (j 2))

/-- The copy-in: block `B` of the row numbers, written through a slot, is `list I B` there. -/
theorem list_write (b : Fin 2) (B : ℕ) (hB : B < 256) {off : Fin 3 → ℕ} (e : off = ![b.val, 0, 0]) (h : ∀ a, off a + S1x1x128.size a ≤ S2x1x128.size a)
    {off' : Fin 2 → ℕ} (e' : off' = ![0, 128 * B]) (h' : ∀ a, off' a + S1x128.size a ≤ S1x32768.size a)
    (f : S2x1x128.Idx → Elt F .i32) (I : S1x32768.Idx → Elt F .i32) :
    ∀ j ∈ iSet b, (iSlot off h).view.write (Elt F) f ((gBlk off' h').view.read (Elt F) I) Finset.univ j = list I B j := by
  intro j hj
  subst e e'
  have h0 : (j 0).val = b.val := (Finset.mem_filter.mp hj).2
  have h1 : (j 1).val < 1 := (j 1).isLt
  have h2 : (j 2).val < 128 := (j 2).isLt
  have hj' : j = (iSlot ![b.val, 0, 0] h).view.emb (ix2 (⟨(j 1).val, h1⟩ : Fin 1) (⟨(j 2).val, h2⟩ : Fin 128)) := by
    rw [emb_iSlot]
    funext a
    match a with
    | ⟨0, _⟩ => exact Fin.ext h0
    | ⟨1, _⟩ => rfl
    | ⟨2, _⟩ => rfl
  conv_lhs => rw [hj']
  rw [View.write_emb_of_mem _ _ (Finset.mem_univ _)]
  show I ((Rect.unit (s := S1x32768) ![0, 128 * B] S1x128.size h').emb (ix2 (⟨(j 1).val, h1⟩ : Fin 1) (⟨(j 2).val, h2⟩ : Fin 128))) = I (at_ (128 * B + (j 2).val))
  congr 1
  funext a
  match a with
  | ⟨0, _⟩ => exact Fin.ext (show 0 + 1 * (j 1).val = 0 by omega)
  | ⟨1, _⟩ => exact Fin.ext (show 128 * B + 1 * (j 2).val = (128 * B + (j 2).val) % 32768 by omega)

/-- What the gather reads in the slot: entry `k` of its list is the row number of output row `128 B + k`. -/
theorem list_read (b : Fin 2) (B : ℕ) {off : Fin 3 → ℕ} (e : off = ![b.val, 0, 0]) (h : ∀ a, off a + S1x1x128.size a ≤ S2x1x128.size a)
    (I : S1x32768.Idx → Elt F .i32) (x : S128.Idx) :
    (iList off h).view.read (Elt F) (list I B) x = I (at_ (128 * B + (x 0).val)) := by
  subst e
  obtain ⟨c, rfl⟩ : ∃ c : Fin 128, x = ix1 c := ⟨x 0, eq_ix1 x⟩
  show list I B ((iList ![b.val, 0, 0] h).view.emb (ix1 c)) = _
  rw [emb_iList]
  rfl

theorem set_xAll : xAll.view.set = Finset.univ := by
  show ((View.whole (main_arg0_scv : Ref sig .scVector)).slice _).set = _
  rw [View.set_slice]
  refine Finset.map_refl.trans ?_
  ext j
  rw [Rect.mem_set_unit]
  have h0 : (j 0).val < 65536 := (j 0).isLt
  have h1 : (j 1).val < 128 := (j 1).isLt
  refine ⟨fun _ => Finset.mem_univ _, fun _ a => ?_⟩
  match a with
  | ⟨0, _⟩ => show 0 ≤ (j 0).val ∧ (j 0).val < 0 + 65536; omega
  | ⟨1, _⟩ => show 0 ≤ (j 1).val ∧ (j 1).val < 0 + 128; omega

theorem read_xAll (X : S65536x128.Idx → Elt F .f32) : xAll.view.read (Elt F) X = X := by
  funext j
  show X ((Rect.unit (s := S65536x128) ![0, 0] S65536x128.size inb_S65536x128_S65536x128_0_0).emb j) = X j
  congr 1
  funext a
  match a with
  | ⟨0, _⟩ => exact Fin.ext (show 0 + 1 * (j 0).val = (j 0).val by omega)
  | ⟨1, _⟩ => exact Fin.ext (show 0 + 1 * (j 1).val = (j 1).val by omega)

/-- The gather's entries are in range where all row numbers are. -/
theorem list_lt (b : Fin 2) (B : ℕ) {off : Fin 3 → ℕ} (e : off = ![b.val, 0, 0]) (h : ∀ a, off a + S1x1x128.size a ≤ S2x1x128.size a)
    (I : S1x32768.Idx → Elt F .i32) (hI : ∀ j, (show BitVec 32 from I j).toNat < 65536) (x : S128.Idx) :
    ((iList off h).view.read (Elt F) (list I B) x).toNat < S65536x128.size gathers_S65536x128_S128x128.axis := by
  rw [list_read b B e h I x]
  exact hI _

/-- The gather: the rows that block `B`'s list names, written through a slot, are `slab X I B` there. -/
theorem slab_write (b : Fin 2) (B : ℕ) {off : Fin 3 → ℕ} (e : off = ![b.val, 0, 0]) (h : ∀ a, off a + S1x128x128.size a ≤ S2x128x128.size a)
    {off' : Fin 3 → ℕ} (e' : off' = ![b.val, 0, 0]) (h' : ∀ a, off' a + S1x1x128.size a ≤ S2x1x128.size a)
    (f : S2x128x128.Idx → Elt F .f32) (X : S65536x128.Idx → Elt F .f32) (I : S1x32768.Idx → Elt F .i32)
    (hn : S128.numel = S128x128.size gathers_S65536x128_S128x128.axis')
    (hin : ∀ x, ((iList off' h').view.read (Elt F) (list I B) x).toNat < S65536x128.size gathers_S65536x128_S128x128.axis) :
    ∀ j ∈ rSet b, (rSlot off h).view.write (Elt F) f
        (SparseCore.gatherPayload gathers_S65536x128_S128x128 (xAll.view.read (Elt F) X)
          (SparseCore.rows ((iList off' h').view.read (Elt F) (list I B)) hn hin)) Finset.univ j = slab X I B j := by
  intro j hj
  subst e
  have h0 : (j 0).val = b.val := (Finset.mem_filter.mp hj).2
  have h1 : (j 1).val < 128 := (j 1).isLt
  have h2 : (j 2).val < 128 := (j 2).isLt
  obtain ⟨r, hr⟩ : ∃ r : Fin 128, r.val = (j 1).val := ⟨⟨_, h1⟩, rfl⟩
  obtain ⟨c, hc⟩ : ∃ c : Fin 128, c.val = (j 2).val := ⟨⟨_, h2⟩, rfl⟩
  have hj' : j = (rSlot ![b.val, 0, 0] h).view.emb (ix2 r c) := by
    rw [emb_rSlot]
    funext a
    match a with
    | ⟨0, _⟩ => exact Fin.ext h0
    | ⟨1, _⟩ => exact Fin.ext hr.symm
    | ⟨2, _⟩ => exact Fin.ext hc.symm
  rw [hj', View.write_emb_of_mem _ _ (Finset.mem_univ _), emb_rSlot]
  show SparseCore.gatherPayload gathers_S65536x128_S128x128 (xAll.view.read (Elt F) X)
    (SparseCore.rows ((iList off' h').view.read (Elt F) (list I B)) hn hin) (ix2 r c) = X (cell (I (at_ (128 * B + r.val))) c)
  rw [read_xAll]
  unfold SparseCore.gatherPayload
  congr 1
  obtain ⟨y, hy⟩ : ∃ y : S128.Idx, S128.rowMajor.symm (r.cast hn.symm) = y := ⟨_, rfl⟩
  have hy0 : (y 0).val = r.val := by
    have := Shape.rowMajor_val_one y
    rw [← this, ← hy, Equiv.apply_symm_apply]
    rfl
  have hw : (SparseCore.rows ((iList off' h').view.read (Elt F) (list I B)) hn hin r).val = BitVec.toNat (w := 32) (I (at_ (128 * B + r.val))) := by
    show BitVec.toNat (w := 32) ((iList off' h').view.read (Elt F) (list I B) (S128.rowMajor.symm (r.cast hn.symm))) = _
    rw [hy, list_read b B e' h' I, hy0]
  funext a
  match a with
  | ⟨0, _⟩ =>
    refine Fin.ext ?_
    refine (congrArg Fin.val (Shape.Gathers.idx_axis gathers_S65536x128_S128x128 _ _)).trans ?_
    refine hw.trans ?_
    have : BitVec.toNat (w := 32) (I (at_ (128 * B + r.val))) < 65536 := hw ▸ (SparseCore.rows _ hn hin r).isLt
    exact (Nat.mod_eq_of_lt this).symm
  | ⟨1, _⟩ => exact Fin.ext (Shape.Gathers.idx_of_ne gathers_S65536x128_S128x128 _ _ (1 : Fin 2) (by decide))

/-- The copy-out: slot `b` holding block `B`'s rows, written through the output's block, is the output there. -/
theorem out_write (b : Fin 2) (B : ℕ) (hB : B < 256) {off : Fin 3 → ℕ} (e : off = ![b.val, 0, 0]) (h : ∀ a, off a + S1x128x128.size a ≤ S2x128x128.size a)
    {off' : Fin 2 → ℕ} (e' : off' = ![128 * B, 0]) (h' : ∀ a, off' a + S128x128.size a ≤ S32768x128.size a)
    (f : S32768x128.Idx → Elt F .f32) (X : S65536x128.Idx → Elt F .f32) (I : S1x32768.Idx → Elt F .i32) :
    ∀ j ∈ oSet B, (oBlk off' h').view.write (Elt F) f ((rSlot off h).view.read (Elt F) (slab X I B)) Finset.univ j = rowsOf X I j := by
  intro j hj
  subst e e'
  have h0 : (j 0).val / 128 = B := (Finset.mem_filter.mp hj).2
  have h1 : (j 1).val < 128 := (j 1).isLt
  obtain ⟨r, hr⟩ : ∃ r : Fin 128, r.val = (j 0).val % 128 := ⟨⟨_, Nat.mod_lt _ (by decide)⟩, rfl⟩
  obtain ⟨c, hc⟩ : ∃ c : Fin 128, c.val = (j 1).val := ⟨⟨_, h1⟩, rfl⟩
  have hj' : j = (oBlk ![128 * B, 0] h').view.emb (ix2 r c) := by
    funext a
    match a with
    | ⟨0, _⟩ => exact Fin.ext (show (j 0).val = 128 * B + 1 * r.val by omega)
    | ⟨1, _⟩ => exact Fin.ext (show (j 1).val = 0 + 1 * c.val by omega)
  have hw : (oBlk ![128 * B, 0] h').view.write (Elt F) f ((rSlot ![b.val, 0, 0] h).view.read (Elt F) (slab X I B)) Finset.univ j
      = (rSlot ![b.val, 0, 0] h).view.read (Elt F) (slab X I B) (ix2 r c) := by
    conv_lhs => rw [hj']
    rw [View.write_emb_of_mem _ _ (Finset.mem_univ _)]
    rfl
  rw [hw]
  show slab X I B ((rSlot ![b.val, 0, 0] h).view.emb (ix2 r c)) = _
  rw [emb_rSlot]
  show X (cell (I (at_ (128 * B + r.val))) c) = X (cell (I (at_ (j 0).val)) (j 1))
  rw [show 128 * B + r.val = (j 0).val by omega]
  exact congrArg (fun t => X (cell _ t)) (Fin.ext hc)

end Cert.Proof.Views
end
-- ==== Proof.Tile.lean ====
/-
  The tile's whole run.

  A tile fetches, gathers and writes out eight blocks of 128 rows, one per trip of its loop, with the next block's row
  numbers fetched and the previous block's rows written out meanwhile. `Inv t` is what it holds before trip `t`: the copy-in
  of block `t` under way into slot `t mod 2`, the copy-out of block `t - 1` under way from slot `(t - 1) mod 2`, the
  blocks before that written with the table's rows, the blocks from `t` on untouched. `trip` carries it over a trip,
  `tile_run` over the kernel.
-/
module

public import proofs.«01_k».proof.Proof.Steps

@[expose] public section

noncomputable section

namespace Cert.Proof.Tile

open Cert.KernelIdeal Cert.KernelIdeal.Gen Cert.Proof.Words Cert.Proof.Views Cert.Proof.Steps

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Ranges of the output's blocks -/

/-- The output's rows of blocks `a` to `b - 1`. -/
def oRange (a b : ℕ) : Finset S32768x128.Idx := Finset.univ.filter fun j => a ≤ (j 0).val / 128 ∧ (j 0).val / 128 < b

theorem oRange_one (B : ℕ) : oRange B (B + 1) = oSet B := by
  ext j
  simp only [oRange, oSet, Finset.mem_filter, Finset.mem_univ, true_and]
  omega

theorem oRange_split (d : Dev nD) {a b c : ℕ} (hab : a ≤ b) (hbc : b ≤ c) (f : S32768x128.Idx → Elt F .f32) :
    (oLoc d ↦[oRange a c]{fullShare} f : sProp 𝕄) ⊣⊢ iprop((oLoc d ↦[oRange a b]{fullShare} f) ∗ oLoc d ↦[oRange b c]{fullShare} f) := by
  have hu : oRange a c = oRange a b ∪ oRange b c := by
    ext j
    simp only [oRange, Finset.mem_union, Finset.mem_filter, Finset.mem_univ, true_and]
    omega
  have hd : Disjoint (oRange a b) (oRange b c) := by
    rw [Finset.disjoint_left]
    intro j h1 h2
    simp only [oRange, Finset.mem_filter, Finset.mem_univ, true_and] at h1 h2
    omega
  rw [hu]
  exact pointsTo_union (ℓ := oLoc d) hd

theorem oRange_empty (d : Dev nD) (a : ℕ) (f : S32768x128.Idx → Elt F .f32) : (emp : sProp 𝕄) ⊢ oLoc d ↦[oRange a a]{fullShare} f := by
  have h : oRange a a = ∅ := by
    ext j
    simp only [oRange, Finset.mem_filter, Finset.mem_univ, true_and, Finset.notMem_empty, iff_false]
    omega
  rw [h]
  exact Entails.of_eq (pointsTo_empty (ℓ := oLoc d)).symm

/-! ## The loop -/

/-- The slot that serves block `t`. -/
def sl (t : ℕ) : Fin 2 := ⟨t % 2, Nat.mod_lt _ (by decide)⟩

theorem sl_add_two (t : ℕ) : sl (t + 1 + 1) = sl t := Fin.ext (by show (t + 1 + 1) % 2 = t % 2; omega)
theorem sl_pred (t : ℕ) (h : 0 < t) : sl (t - 1) = sl (t + 1) := Fin.ext (by show (t - 1) % 2 = (t + 1) % 2; omega)

section Tile

variable (d : Dev nD) (L : grid0.Coords)
variable (X : S65536x128.Idx → Elt F .f32) (I : S1x32768.Idx → Elt F .i32) (f0 : S32768x128.Idx → Elt F .f32)
variable (q : PosShare TreeShare) (qi : Fin 2 → PosShare TreeShare)
variable (O : CellTallies nD τ sig (HIx 1)) (W : Waits sig (HIx 1))

/-- The copies-in before trip `t`. -/
def InAt (t : ℕ) : sProp 𝕄 :=
  if t < 8 then FlyIn (F := F) d L I (qi (sl t)) (sl t) (base L + t) else FreeIn (F := F) d L I (qi (sl t)) (sl t)
/-- The copies-out before trip `t`. -/
def OutAt (t : ℕ) : sProp 𝕄 :=
  if 0 < t then FlyRow (F := F) d L X I (sl (t + 1)) (base L + (t - 1)) else FreeRow (F := F) d L (sl (t + 1))

theorem InAt_zero : InAt d L I qi 0 = FlyIn (F := F) d L I (qi 0) 0 (base L + 0) := if_pos (by decide)
theorem InAt_end : InAt d L I qi 8 = FreeIn (F := F) d L I (qi 0) 0 := if_neg (by decide)
theorem OutAt_zero : OutAt d L X I 0 = FreeRow (F := F) d L 1 := if_neg (by decide)
theorem OutAt_end : OutAt d L X I 8 = FlyRow (F := F) d L X I 1 (base L + 7) := if_pos (by decide)
theorem OutAt_pos {t : ℕ} (h : 0 < t) : OutAt d L X I t = FlyRow (F := F) d L X I (sl (t + 1)) (base L + (t - 1)) := if_pos h
theorem OutAt_neg {t : ℕ} (h : ¬ 0 < t) : OutAt d L X I t = FreeRow (F := F) d L (sl (t + 1)) := if_neg h

/-- What the tile holds before trip `t`. -/
def Held (t : ℕ) : sProp 𝕄 :=
  iprop(Transfers.MayWaits (thr d L) (default : HIx 1) O ∗ (xLoc d ↦{q} X) ∗ semVal (thr d L, SemLoc.dma gS) 0
    ∗ OW (F := F) d L O W ∗ InAt d L I qi t ∗ FreeIn (F := F) d L I (qi (sl (t + 1))) (sl (t + 1)) ∗ FreeRow (F := F) d L (sl t) ∗ OutAt d L X I t
    ∗ (oLoc d ↦[oRange (base L + t) (base L + 8)]{fullShare} f0) ∗ oLoc d ↦[oRange (base L) (base L + (t - 1))]{fullShare} rowsOf X I)

/-- What the tile holds before trip `t`, with the words that the loop hands on. -/
def Inv (t : ℕ) (acc : BitVec 32 × BitVec 32 × BitVec 32 × BitVec 32 × BitVec 32) : sProp 𝕄 :=
  iprop(⌜acc = carry t⌝ ∗ Held d L X I f0 q qi O W t)

variable [FloatOps F]

local notation "WP" => wp frame (wpE (defs₀ (F := F)) 𝒱₀ (thr d L) none) Set.univ

/-- A trip's first part: the copy-in of the next block starts, if there is one. -/
theorem part1 (k : Fin k0_t1_loop.trips) (Φ : _ → sProp (MT nD τ sig (HIx 1) (Elt F) ℕ UU ℕ)) :
    FreeIn (F := F) d L I (qi (sl (k.val + 1))) (sl (k.val + 1))
      ⊢ iprop((InAt d L I qi (k.val + 1) -∗ Φ ⟨chk3 k, chk2 k, chk1 L k, ivW k, Scalar.cmpi .eq (ivW k) 0#32, Scalar.cmpi .eq (ivW k) 7#32,
            curW L k, prevW L k, nextW L k, nextIn L k, Scalar.cmpi .ne (curW L k) (prevW L k)⟩)
        -∗ WP (k0_part1 (F := F) L xM (Memref.isWhole_whole _) gM (Memref.isWhole_whole _) oM (Memref.isWhole_whole _)
            iM (Memref.isWhole_whole _) cc0_scoped1 rM (Memref.isWhole_whole _) cc0_scoped3 cc0_scoped4 (firstW L) 0#32 1#32 k
            (W6 k.val) (W7 k.val) (W7 k.val) (W9 k.val) (W10 k.val)) Φ) := by
  have hk : k.val < 8 := trips_eq ▸ k.isLt
  have hbase := base_lt L
  simp only [k0_part1_eq_skeleton]
  unfold k0_part1_skel nextIn curW prevW nextW ivW
  simp only [Prog.lift, Prog.bind_op, Prog.bind_ret, Prog.pure_eq_ret, Prog.bind_assoc]
  iintro HfI HΦ
  iapply (wp_assume 𝒱₀ (thr d L) none Set.univ (chk3 k))
  iapply (wp_assume 𝒱₀ (thr d L) none Set.univ (chk2 k))
  iapply (wp_assume 𝒱₀ (thr d L) none Set.univ (chk1 L k))
  by_cases h1 : k0_cond1 L k (W10 k.val) = 1#1
  · have hk7 := (cond1 L k).mp h1
    rw [dif_pos h1]
    iapply (step_issueIn d L I (qi (sl (k.val + 1))) (sl (k.val + 1)) (base L + (k.val + 1)) (by omega)
      (off4 k hk7) _ (off5 L k hk7) _ (off6 k hk7) _) $$ [HfI]
    · iexact HfI
    iintro Hfly
    simp only [Prog.bind, Prog.pure_eq_ret, Prog.bind_ret]; rw [wp_ret]; imodintro
    iapply HΦ
    unfold InAt
    rw [if_pos (by omega)]
    iexact Hfly
  · have hk7 : ¬ k.val < 7 := fun h => h1 ((cond1 L k).mpr h)
    rw [dif_neg h1]
    rw [wp_ret]; imodintro
    iapply HΦ
    unfold InAt
    rw [if_neg (by omega)]
    iexact HfI

/-- A trip's second part: the block's row numbers land, its rows are gathered. -/
theorem part2 (hI : ∀ j, BitVec.toNat (w := 32) (I j) < 65536) (k : Fin k0_t1_loop.trips) (hk3 : k0_chk3 (W7 k.val)) (hk2 : k0_chk2 (W7 k.val))
    (hk1 : k0_chk1 L k (W6 k.val) (W7 k.val) (W7 k.val) (W9 k.val) (W10 k.val)) (a : BitVec 32) (b c : BitVec 1) (e f g : BitVec 32) (h : BitVec 1)
    (Φ : PUnit → sProp (MT nD τ sig (HIx 1) (Elt F) ℕ UU ℕ)) :
    iprop(InAt (F := F) d L I qi k.val ∗ FreeRow (F := F) d L (sl k.val) ∗ (xLoc d ↦{q} X) ∗ semVal (thr d L, SemLoc.dma gS) 0
        ∗ OW (F := F) d L O W ∗ Transfers.MayWaits (thr d L) (default : HIx 1) O)
      ⊢ iprop((iprop(FullRow (F := F) d L X I (sl k.val) (base L + k.val) ∗ FreeIn (F := F) d L I (qi (sl k.val)) (sl k.val) ∗ (xLoc d ↦{q} X)
            ∗ semVal (thr d L, SemLoc.dma gS) 0 ∗ OW (F := F) d L O W) -∗ Φ ⟨⟩)
        -∗ WP (k0_part2 (F := F) L xM (Memref.isWhole_whole _) gM (Memref.isWhole_whole _) oM (Memref.isWhole_whole _)
            iM (Memref.isWhole_whole _) cc0_scoped1 rM (Memref.isWhole_whole _) cc0_scoped3 cc0_scoped4 k
            (W6 k.val) (W7 k.val) (W7 k.val) (W9 k.val) (W10 k.val) hk3 hk2 hk1 a b c e f g h) Φ) := by
  have hk : k.val < 8 := trips_eq ▸ k.isLt
  simp only [k0_part2_eq_skeleton]
  unfold k0_part2_skel InAt
  rw [if_pos hk, dif_pos (cond2 L k)]
  simp only [SparseCore.waitIndirectGather, Prog.lift, Prog.bind_op, Prog.bind_ret, Prog.pure_eq_ret, Prog.bind_assoc, ite_self]
  iintro ⟨Hin, HfR, Hx, Hg, HO, #Hmw⟩ HΦ
  iapply (step_waitIn d L I (qi (sl k.val)) (sl k.val) (base L + k.val) _ _ (off9 k) _ O W) $$ [Hin HO]
  · isplitl [Hin]; · iexact Hin
    isplitl [HO]; · iexact HO
    iexact Hmw
  iintro ⟨Hfull, HO⟩
  iapply (step_gather d L X I hI q (qi (sl k.val)) (sl k.val) (base L + k.val) (off10 k) _ (off11 k) _) $$ [Hfull HfR Hx Hg]
  · isplitl [Hfull]; · iexact Hfull
    isplitl [HfR]; · iexact HfR
    isplitl [Hx]; · iexact Hx
    iexact Hg
  iintro Hfl
  iapply (step_waitGather d L X I q (qi (sl k.val)) (sl k.val) (base L + k.val) _ O W) $$ [Hfl HO]
  · isplitl [Hfl]; · iexact Hfl
    isplitl [HO]; · iexact HO
    iexact Hmw
  iintro H
  rw [wp_ret]; imodintro
  iapply HΦ
  iexact H

/-- A trip keeps what the tile holds. -/
theorem trip (hI : ∀ j, BitVec.toNat (w := 32) (I j) < 65536) (k : Fin k0_t1_loop.trips) :
    Held d L X I f0 q qi O W k.val ⊢ WP (k0_t1_body (F := F) L xM (Memref.isWhole_whole _) gM (Memref.isWhole_whole _) oM (Memref.isWhole_whole _)
      iM (Memref.isWhole_whole _) cc0_scoped1 rM (Memref.isWhole_whole _) cc0_scoped3 cc0_scoped4 (firstW L) k (carry k.val))
      (Inv d L X I f0 q qi O W (k.val + 1)) := by
  have hk : k.val < 8 := trips_eq ▸ k.isLt
  have hbase := base_lt L
  unfold Held k0_t1_body
  show _ ⊢ WP (k0_part1 (F := F) L xM (Memref.isWhole_whole _) gM (Memref.isWhole_whole _) oM (Memref.isWhole_whole _)
      iM (Memref.isWhole_whole _) cc0_scoped1 rM (Memref.isWhole_whole _) cc0_scoped3 cc0_scoped4 (firstW L) 0#32 1#32 k
      (W6 k.val) (W7 k.val) (W7 k.val) (W9 k.val) (W10 k.val) >>= _) _
  rw [wp_bind]
  iintro ⟨#Hmw, Hx, Hg, HO, Hin, HfI, HfR, Hout, Htodo, Hdone⟩
  iapply (part1 d L I qi k) $$ [HfI]
  · iexact HfI
  iintro Hin'
  dsimp only
  rw [wp_bind]
  iapply (part2 d L X I q qi O W hI k _ _ _ _ _ _ _ _ _ _) $$ [Hin HfR Hx Hg HO]
  · isplitl [Hin]; · iexact Hin
    isplitl [HfR]; · iexact HfR
    isplitl [Hx]; · iexact Hx
    isplitl [Hg]; · iexact Hg
    isplitl [HO]; · iexact HO
    iexact Hmw
  iintro ⟨HR, HfI, Hx, Hg, HO⟩
  rw [dif_pos (cond5 L k), ite_self]
  simp only [Prog.lift, Prog.bind_op, Prog.bind_ret, Prog.pure_eq_ret, Prog.bind_assoc]
  ihave Htodo := (oRange_split (F := F) d (a := base L + k.val) (b := base L + k.val + 1) (c := base L + 8) (by omega) (by omega) f0).1 $$ Htodo
  icases Htodo with ⟨Hblk, Htodo⟩
  rw [oRange_one]
  iapply (step_issueOut d L X I (sl k.val) (base L + k.val) (by omega) (off12 k) _ (off13 L k) _ (off14 k) _ f0) $$ [HR Hblk]
  · isplitl [HR]; · iexact HR
    iexact Hblk
  iintro Hfly
  by_cases h7 : k0_cond7 L k (W10 k.val) = 1#1
  · have hk0 := (cond7 L k).mp h7
    rw [dif_pos h7]
    ihave Hout := (Entails.of_eq (OutAt_pos d L X I hk0)) $$ Hout
    iapply (step_waitOut d L X I (sl (k.val + 1)) (base L + (k.val - 1)) _ _
      ((off17 k).trans (congrArg (fun b : Fin 2 => ![b.val]) (sl_pred k.val hk0))) _ O W) $$ [Hout HO]
    · isplitl [Hout]; · iexact Hout
      isplitl [HO]; · iexact HO
      iexact Hmw
    iintro ⟨Hblk, HfR, HO⟩
    rw [wp_ret]; imodintro
    unfold Inv
    isplitl []
    · ipureintro
      exact carry_next L k
    unfold Held
    isplitl []; · iexact Hmw
    isplitl [Hx]; · iexact Hx
    isplitl [Hg]; · iexact Hg
    isplitl [HO]; · iexact HO
    isplitl [Hin']; · iexact Hin'
    isplitl [HfI]
    · rw [sl_add_two]
      iexact HfI
    isplitl [HfR]; · iexact HfR
    isplitl [Hfly]
    · unfold OutAt
      rw [if_pos (by omega), sl_add_two, Nat.add_sub_cancel]
      iexact Hfly
    isplitl [Htodo]; · iexact Htodo
    · iapply ((oRange_split (F := F) d (a := base L) (b := base L + (k.val - 1)) (c := base L + (k.val + 1 - 1)) (by omega) (by omega) (rowsOf X I)).2)
      isplitl [Hdone]; · iexact Hdone
      rw [show base L + (k.val + 1 - 1) = base L + (k.val - 1) + 1 by omega, oRange_one]
      iexact Hblk
  · have hk0 : ¬ 0 < k.val := fun h => h7 ((cond7 L k).mpr h)
    rw [dif_neg h7]
    ihave Hout := (Entails.of_eq (OutAt_neg d L X I hk0)) $$ Hout
    rw [wp_ret]; imodintro
    unfold Inv
    isplitl []
    · ipureintro
      exact carry_next L k
    unfold Held
    isplitl []; · iexact Hmw
    isplitl [Hx]; · iexact Hx
    isplitl [Hg]; · iexact Hg
    isplitl [HO]; · iexact HO
    isplitl [Hin']; · iexact Hin'
    isplitl [HfI]
    · rw [sl_add_two]
      iexact HfI
    isplitl [Hout]; · iexact Hout
    isplitl [Hfly]
    · unfold OutAt
      rw [if_pos (by omega), sl_add_two, Nat.add_sub_cancel]
      iexact Hfly
    isplitl [Htodo]; · iexact Htodo
    · rw [show k.val + 1 - 1 = k.val - 1 by omega]
      iexact Hdone

/-- The tile's whole run: the eight blocks of its output hold the table's rows, everything lent is back. -/
theorem tile_run (hI : ∀ j, BitVec.toNat (w := 32) (I j) < 65536) (Φ : PUnit → sProp (MT nD τ sig (HIx 1) (Elt F) ℕ UU ℕ)) :
    iprop(Transfers.MayWaits (thr d L) (default : HIx 1) O ∗ (xLoc d ↦{q} X) ∗ semVal (thr d L, SemLoc.dma gS) 0
        ∗ OW (F := F) d L O W ∗ FreeIn (F := F) d L I (qi 0) 0 ∗ FreeIn (F := F) d L I (qi 1) 1 ∗ FreeRow (F := F) d L 0 ∗ FreeRow (F := F) d L 1
        ∗ (oLoc d ↦[oRange (base L) (base L + 8)]{fullShare} f0))
      ⊢ iprop((iprop((xLoc d ↦{q} X) ∗ semVal (thr d L, SemLoc.dma gS) 0
        ∗ OW (F := F) d L O W ∗ FreeIn (F := F) d L I (qi 0) 0 ∗ FreeIn (F := F) d L I (qi 1) 1 ∗ FreeRow (F := F) d L 0 ∗ FreeRow (F := F) d L 1
        ∗ (oLoc d ↦[oRange (base L) (base L + 8)]{fullShare} rowsOf X I)) -∗ Φ ⟨⟩)
        -∗ WP (cc0_kern (F := F) L xM (Memref.isWhole_whole _) gM (Memref.isWhole_whole _) oM (Memref.isWhole_whole _)
            iM (Memref.isWhole_whole _) cc0_scoped1 rM (Memref.isWhole_whole _) cc0_scoped3 cc0_scoped4) Φ) := by
  have hbase := base_lt L
  simp only [cc0_kern_eq_skeleton]
  unfold cc0_kern_skel
  simp only [k0_part3_eq_skeleton, k0_part4_eq_skeleton]
  unfold k0_part3_skel k0_part4_skel
  simp only [Prog.lift, Prog.bind_op, Prog.bind_ret, Prog.pure_eq_ret, Prog.bind_assoc]
  iintro ⟨#Hmw, Hx, Hg, HO, HI0, HI1, HR0, HR1, Ho⟩ HΦ
  iapply (step_issueIn d L I (qi 0) 0 (base L + 0) (by omega) off1 _ (off2 L) _ off3 _) $$ [HI0]
  · iexact HI0
  iintro Hin
  sl_for (Inv d L X I f0 q qi O W) $$ [Hx Hg HO Hin HI1 HR0 HR1 Ho]
  · intro k acc
    unfold Inv
    iintro ⟨%hacc, H⟩
    subst hacc
    iapply (trip d L X I f0 q qi O W hI k) $$ H
  · unfold Inv
    isplitl []
    · ipureintro; rfl
    unfold Held
    isplitl []; · iexact Hmw
    isplitl [Hx]; · iexact Hx
    isplitl [Hg]; · iexact Hg
    isplitl [HO]; · iexact HO
    isplitl [Hin]
    · iapply (Entails.of_eq (InAt_zero (F := F) d L I qi).symm) $$ Hin
    isplitl [HI1]; · iexact HI1
    isplitl [HR0]; · iexact HR0
    isplitl [HR1]
    · iapply (Entails.of_eq (OutAt_zero (F := F) d L X I).symm) $$ HR1
    isplitl [Ho]; · iexact Ho
    iapply (oRange_empty (F := F) d (base L) (rowsOf X I))
    itrivial
  iintro %acc H
  ihave H := (Entails.of_eq (congrArg (fun t => Inv (F := F) d L X I f0 q qi O W t acc) trips_eq)) $$ H
  unfold Inv Held
  icases H with ⟨%hacc, -, Hx, Hg, HO, Hin, HfI, HfR, Hout, -, Hdone⟩
  subst hacc
  unfold tile_run.sl.prog.cont_1
  iapply (wp_assume 𝒱₀ (thr d L) none Set.univ (chk5 L))
  iapply (wp_assume 𝒱₀ (thr d L) none Set.univ chk4)
  ihave Hout := (Entails.of_eq (OutAt_end (F := F) d L X I)) $$ Hout
  iapply (step_waitOut d L X I 1 (base L + 7) _ _ off20 _ O W) $$ [Hout HO]
  · isplitl [Hout]; · iexact Hout
    isplitl [HO]; · iexact HO
    iexact Hmw
  iintro ⟨Hblk, HR1, HO⟩
  rw [wp_ret]; imodintro
  iapply HΦ
  isplitl [Hx]; · iexact Hx
  isplitl [Hg]; · iexact Hg
  isplitl [HO]; · iexact HO
  isplitl [Hin]
  · iapply (Entails.of_eq (InAt_end (F := F) d L I qi)) $$ Hin
  isplitl [HfI]
  · iapply (Entails.of_eq (show FreeIn (F := F) d L I (qi (sl (8 + 1))) (sl (8 + 1)) = FreeIn d L I (qi 1) 1 from rfl)) $$ HfI
  isplitl [HfR]
  · iapply (Entails.of_eq (show FreeRow (F := F) d L (sl 8) = FreeRow d L 0 from rfl)) $$ HfR
  isplitl [HR1]; · iexact HR1
  iapply ((oRange_split (F := F) d (a := base L) (b := base L + 7) (c := base L + 8) (by omega) (by omega) (rowsOf X I)).2)
  isplitl [Hdone]; · iexact Hdone
  rw [show base L + 8 = base L + 7 + 1 by omega, oRange_one]
  iexact Hblk

end Tile

end Cert.Proof.Tile

end
-- ==== Proof.Launch.lean ====
/-
  The launch: the call's operands split over the two SparseCores and their sixteen tiles, and joined again.

  Every tile reads all of the table and all of the row numbers, so each gets a read share of both: the full share cut
  in two for the cores, each of those in sixteen for the tiles. The output is cut by rows: core `c` writes blocks
  `128 c` to `128 c + 127`, tile `i` of it eight of them. `run_main` says what the whole program leaves: the output
  holds at row `n` the table's row of the number `n`, the batch numbers are those of the clouds' first halves, the
  arguments are unchanged, every semaphore is back at zero.
-/
module

public import proofs.«01_k».proof.Proof.Tile

@[expose] public section

noncomputable section

namespace Cert.Proof.Launch

open Cert.KernelIdeal Cert.KernelIdeal.Gen Cert.Proof.Words Cert.Proof.Views Cert.Proof.Steps Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split wp_hlo_within)

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The launch memory, the shares, the output's parts -/

variable (m : (ℓ : Loc nD τ sig) → Buf (Elt F) ℓ) (ρ : Dev nD → PrngReg)

abbrev aLoc (d : Dev nD) : Loc nD τ sig := (SparseCore.T d).loc main_arg2
abbrev bLoc (d : Dev nD) : Loc nD τ sig := (SparseCore.T d).loc main_arg1
abbrev b1Loc (d : Dev nD) : Loc nD τ sig := (SparseCore.T d).loc main_v2
abbrev b2Loc (d : Dev nD) : Loc nD τ sig := (SparseCore.T d).loc main_v3
abbrev nLoc (d : Dev nD) : Loc nD τ sig := (SparseCore.T d).loc main_v4

/-- The table, the row numbers as the call takes them, the output at launch. -/
abbrev Xv (d : Dev nD) : S65536x128.Idx → Elt F .f32 := m (xLoc d)
def Gv (d : Dev nD) : S1x32768.Idx → Elt F .i32 := fun j => shapeCast S1x32768 (m (aLoc d)) shapeCasts_S16x2048_S1x32768 j
/-- The output that the call leaves. -/
def Ov (d : Dev nD) : S32768x128.Idx → Elt F .f32 := rowsOf (Xv m d) (Gv m d)
/-- The batch numbers that @main leaves: those of each cloud's first 2048 points. -/
def Nv (d : Dev nD) : S32768.Idx → Elt F .i32 := fun j =>
  shapeCast S32768 (extractStridedSlice S16x2048 ![0, 0] (fun i => shapeCast S16x4096 (m (bLoc d)) shapeCasts_S65536_S16x4096 i)
    slices_S16x4096_S16x2048_0_0) shapeCasts_S16x2048_S32768 j

def qCore (c : Fin 2) : PosShare TreeShare := pieceOf fullShare 2 (by decide) c
def qTile (c : Fin 2) (i : Fin 16) : PosShare TreeShare := pieceOf (qCore c) 16 (by decide) i

def oCore (c : Fin 2) : Finset S32768x128.Idx := oRange (128 * c.val) (128 * c.val + 128)
def oTile (c : Fin 2) (i : Fin 16) : Finset S32768x128.Idx := oRange (128 * c.val + 8 * i.val) (128 * c.val + 8 * i.val + 8)

theorem oCore_disjoint : ∀ c ∈ (Finset.univ : Finset (Fin 2)), ∀ c' ∈ (Finset.univ : Finset (Fin 2)), c ≠ c' → Disjoint (oCore c) (oCore c') := by
  intro c _ c' _ h
  rw [Finset.disjoint_left]
  intro j h1 h2
  simp only [oCore, oRange, Finset.mem_filter, Finset.mem_univ, true_and] at h1 h2
  exact h (Fin.ext (by omega))
theorem oCore_cover : (Finset.univ : Finset (Fin 2)).biUnion oCore = Finset.univ := by
  ext j
  have hj : (j 0).val < 32768 := (j 0).isLt
  simp only [Finset.mem_biUnion, Finset.mem_univ, true_and, iff_true, oCore, oRange, Finset.mem_filter]
  exact ⟨⟨(j 0).val / 16384, by omega⟩, by show 128 * ((j 0).val / 16384) ≤ _ ∧ _ < 128 * ((j 0).val / 16384) + 128; omega⟩
theorem oTile_disjoint (c : Fin 2) : ∀ i ∈ (Finset.univ : Finset (Fin 16)), ∀ i' ∈ (Finset.univ : Finset (Fin 16)), i ≠ i' → Disjoint (oTile c i) (oTile c i') := by
  intro i _ i' _ h
  rw [Finset.disjoint_left]
  intro j h1 h2
  simp only [oTile, oRange, Finset.mem_filter, Finset.mem_univ, true_and] at h1 h2
  exact h (Fin.ext (by omega))
theorem oTile_cover (c : Fin 2) : (Finset.univ : Finset (Fin 16)).biUnion (oTile c) = oCore c := by
  ext j
  simp only [Finset.mem_biUnion, Finset.mem_univ, true_and, oTile, oCore, oRange, Finset.mem_filter]
  constructor
  · rintro ⟨i, h⟩
    have := i.isLt
    omega
  · intro h
    exact ⟨⟨((j 0).val / 128 - 128 * c.val) / 8, by omega⟩, by
      show 128 * c.val + 8 * (((j 0).val / 128 - 128 * c.val) / 8) ≤ _ ∧ _ < 128 * c.val + 8 * (((j 0).val / 128 - 128 * c.val) / 8) + 8
      omega⟩

/-! ## What the handshakes carry -/

/-- What a core is handed and brings back. -/
abbrev corePts (d : Dev nD) (c : Fin 2) (f : S32768x128.Idx → Elt F .f32) : sProp 𝕄 :=
  iprop((xLoc d ↦{qCore c} Xv m d) ∗ (gLoc d ↦{qCore c} Gv m d) ∗ oLoc d ↦[oCore c]{fullShare} f)
/-- What a tile is handed and brings back. -/
abbrev tilePts (d : Dev nD) (c : Fin 2) (i : Fin 16) (f : S32768x128.Idx → Elt F .f32) : sProp 𝕄 :=
  iprop((xLoc d ↦{qTile c i} Xv m d) ∗ (gLoc d ↦{qTile c i} Gv m d) ∗ oLoc d ↦[oTile c i]{fullShare} f)

/-- A core's part is its tiles' parts. -/
theorem core_tiles (d : Dev nD) (c : Fin 2) (f : S32768x128.Idx → Elt F .f32) :
    (corePts m d c f : sProp 𝕄) = bigSep Finset.univ fun i : Fin 16 => tilePts m d c i f := by
  rw [bigSep_sep', bigSep_sep']
  unfold corePts
  rw [pointsTo_piecesOf (Val := Elt F) (ℓ := xLoc d) Finset.univ (Xv m d) (by decide : 0 < 16) (qCore c),
    pointsTo_piecesOf (Val := Elt F) (ℓ := gLoc d) Finset.univ (Gv m d) (by decide : 0 < 16) (qCore c),
    ← oTile_cover c, pointsTo_biUnion (ℓ := oLoc d) Finset.univ (oTile c) (oTile_disjoint c)]
  rfl

/-- The whole operands are the cores' parts. -/
theorem whole_cores (d : Dev nD) (f : S32768x128.Idx → Elt F .f32) :
    (iprop((xLoc d ↦{fullShare} Xv m d) ∗ (gLoc d ↦{fullShare} Gv m d) ∗ oLoc d ↦{fullShare} f) : sProp 𝕄)
      = bigSep Finset.univ fun c : Fin 2 => corePts m d c f := by
  rw [bigSep_sep', bigSep_sep',
    pointsTo_piecesOf (Val := Elt F) (ℓ := xLoc d) Finset.univ (Xv m d) (by decide : 0 < 2) fullShare,
    pointsTo_piecesOf (Val := Elt F) (ℓ := gLoc d) Finset.univ (Gv m d) (by decide : 0 < 2) fullShare,
    ← pointsTo_biUnion (ℓ := oLoc d) Finset.univ oCore oCore_disjoint, oCore_cover]
  rfl

variable [FloatOps F]

/-- The call: each core its part, each tile its part; the output comes back at the table's rows. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (Ov m d)
  go := fun q d c i => match q with | 0 => tilePts m d (Fin.cast nCore_zero c) (Fin.cast nSub_zero i) (m (oLoc d))
  td := fun q d c i => match q with | 0 => tilePts m d (Fin.cast nCore_zero c) (Fin.cast nSub_zero i) (Ov m d)
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (Ov m d)))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (Ov m d)))

/-- What the proof asks of the launch memory: every row number names a row of the table. -/
def PreOK : Prop := ∀ (d : Dev nD) (j : S16x2048.Idx), BitVec.toNat (w := 32) (m (aLoc d) j) < 65536

omit [FloatOps F] in
theorem Gv_lt (hpre : PreOK m) (d : Dev nD) (j : S1x32768.Idx) : BitVec.toNat (w := 32) (Gv m d j) < 65536 := hpre d _

/-! ## The task -/

section Tile

variable (d : Dev nD) (L : grid0.Coords)

omit m ρ [FloatOps F] in
theorem bound_zero : grid0.bound 0 = 2 := rfl
omit m ρ [FloatOps F] in
theorem bound_one : grid0.bound 1 = 16 := rfl
abbrev cL (L : grid0.Coords) : Fin 2 := Fin.cast bound_zero (L 0)
abbrev jL (L : grid0.Coords) : Fin 16 := Fin.cast bound_one (L 1)

omit m ρ [FloatOps F] in
theorem oTile_base : oTile (cL L) (jL L) = oRange (base L) (base L + 8) := by
  have h : 128 * (cL L).val + 8 * (jL L).val = base L := by
    show 128 * (L 0).val + 8 * (L 1).val = ((L 1).val + 16 * (L 0).val) * 8
    omega
  unfold oTile
  rw [h]

abbrev cell (s : DmaSem sig) : GSem nD τ sig := (thr d L, SemLoc.dma s)

omit m ρ [FloatOps F] in
theorem mem_cells (s : DmaSem sig) (h : (SemLoc.dma s : SemLoc sig).isScoped .scVector = true) : cell d L s ∈ ownCells (thr d L) :=
  (mem_ownCells (g := cell d L s)).mpr ⟨rfl, h⟩
omit m ρ [FloatOps F] in
theorem cell_ne {s s' : DmaSem sig} (h : s ≠ s') : cell d L s ≠ cell d L s' := fun e => h (SemLoc.dma.inj (congrArg Prod.snd e))

/-- The tile's other semaphores. -/
def restCells : Finset (GSem nD τ sig) :=
  (((((ownCells (thr d L)).erase (cell d L (iS 0))).erase (cell d L (iS 1))).erase (cell d L (rS 0))).erase (cell d L (rS 1))).erase (cell d L gS)

omit m ρ [FloatOps F] in
theorem ownSems0_V :
    (ownSems0 (thr d L) : sProp 𝕄)
      = iprop(semVal (cell d L (iS 0)) 0 ∗ semVal (cell d L (iS 1)) 0 ∗ semVal (cell d L (rS 0)) 0 ∗ semVal (cell d L (rS 1)) 0 ∗ semVal (cell d L gS) 0
          ∗ bigSep (restCells d L) fun g => semVal g 0) := by
  have n01 : iS 1 ≠ iS 0 := by decide
  have n20 : rS 0 ≠ iS 0 := by decide
  have n21 : rS 0 ≠ iS 1 := by decide
  have n30 : rS 1 ≠ iS 0 := by decide
  have n31 : rS 1 ≠ iS 1 := by decide
  have n32 : rS 1 ≠ rS 0 := by decide
  have n40 : gS ≠ iS 0 := by decide
  have n41 : gS ≠ iS 1 := by decide
  have n42 : gS ≠ rS 0 := by decide
  have n43 : gS ≠ rS 1 := by decide
  unfold SparseCore.Cfg.ownSems0 restCells
  rw [SparseCore.bigSep_erase' (mem_cells d L (iS 0) (by decide)),
    SparseCore.bigSep_erase' (Finset.mem_erase.mpr ⟨cell_ne d L n01, mem_cells d L (iS 1) (by decide)⟩),
    SparseCore.bigSep_erase' (Finset.mem_erase.mpr ⟨cell_ne d L n21, Finset.mem_erase.mpr ⟨cell_ne d L n20, mem_cells d L (rS 0) (by decide)⟩⟩),
    SparseCore.bigSep_erase' (Finset.mem_erase.mpr ⟨cell_ne d L n32, Finset.mem_erase.mpr ⟨cell_ne d L n31, Finset.mem_erase.mpr ⟨cell_ne d L n30,
      mem_cells d L (rS 1) (by decide)⟩⟩⟩),
    SparseCore.bigSep_erase' (Finset.mem_erase.mpr ⟨cell_ne d L n43, Finset.mem_erase.mpr ⟨cell_ne d L n42, Finset.mem_erase.mpr ⟨cell_ne d L n41,
      Finset.mem_erase.mpr ⟨cell_ne d L n40, mem_cells d L gS (by decide)⟩⟩⟩⟩)]

/-- The tile's other buffers. -/
def restRefs : Finset (DevRef τ sig) :=
  ((ownRefs (τ := τ) (.scVector (cV L) (jV L))).erase ((Proc.scVector (cV L) (jV L)).devRef cc0_scoped0)).erase
    ((Proc.scVector (cV L) (jV L)).devRef cc0_scoped2)

omit m ρ [FloatOps F] in
theorem ownBufs_V :
    (ownBufs (thr d L) : sProp 𝕄)
      = iprop((∃ f, iLoc d L ↦{fullShare} f) ∗ (∃ f, rLoc d L ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

omit m ρ [FloatOps F] in
theorem iSet_disjoint : Disjoint (iSet 0) (iSet 1) := by
  rw [Finset.disjoint_left]
  intro j h1 h2
  simp only [iSet, Finset.mem_filter, Finset.mem_univ, true_and] at h1 h2
  rw [h1] at h2
  exact absurd h2 (by decide)
omit m ρ [FloatOps F] in
theorem iSet_cover : iSet 0 ∪ iSet 1 = Finset.univ := by
  ext j
  have hj : (j 0).val < 2 := (j 0).isLt
  simp only [iSet, Finset.mem_union, Finset.mem_filter, Finset.mem_univ, true_and, iff_true]
  show (j 0).val = 0 ∨ (j 0).val = 1
  omega
omit m ρ [FloatOps F] in
theorem rSet_disjoint : Disjoint (rSet 0) (rSet 1) := by
  rw [Finset.disjoint_left]
  intro j h1 h2
  simp only [rSet, Finset.mem_filter, Finset.mem_univ, true_and] at h1 h2
  rw [h1] at h2
  exact absurd h2 (by decide)
omit m ρ [FloatOps F] in
theorem rSet_cover : rSet 0 ∪ rSet 1 = Finset.univ := by
  ext j
  have hj : (j 0).val < 2 := (j 0).isLt
  simp only [rSet, Finset.mem_union, Finset.mem_filter, Finset.mem_univ, true_and, iff_true]
  show (j 0).val = 0 ∨ (j 0).val = 1
  omega

omit m ρ [FloatOps F] in
theorem i_split (f : S2x1x128.Idx → Elt F .i32) :
    (iLoc d L ↦{fullShare} f : sProp 𝕄) ⊢ iprop((iLoc d L ↦[iSet 0]{fullShare} f) ∗ iLoc d L ↦[iSet 1]{fullShare} f) := by
  rw [← iSet_cover]
  exact (pointsTo_union (ℓ := iLoc d L) iSet_disjoint).1
omit m ρ [FloatOps F] in
theorem i_join (f g : S2x1x128.Idx → Elt F .i32) :
    iprop((iLoc d L ↦[iSet 0]{fullShare} f) ∗ iLoc d L ↦[iSet 1]{fullShare} g) ⊢ (iprop(∃ h, iLoc d L ↦{fullShare} h) : sProp 𝕄) := by
  have h := pointsTo_join (Val := Elt F) (ℓ := iLoc d L) (q := fullShare) (f := f) (g := g) iSet_disjoint (Ix := HIx 1) (Name := ℕ) (U := UU) (Lvl := ℕ)
  rw [iSet_cover] at h
  refine h.trans ?_
  iintro H
  iexists _
  iexact H
omit m ρ [FloatOps F] in
theorem r_split (f : S2x128x128.Idx → Elt F .f32) :
    (rLoc d L ↦{fullShare} f : sProp 𝕄) ⊢ iprop((rLoc d L ↦[rSet 0]{fullShare} f) ∗ rLoc d L ↦[rSet 1]{fullShare} f) := by
  rw [← rSet_cover]
  exact (pointsTo_union (ℓ := rLoc d L) rSet_disjoint).1
omit m ρ [FloatOps F] in
theorem r_join (f g : S2x128x128.Idx → Elt F .f32) :
    iprop((rLoc d L ↦[rSet 0]{fullShare} f) ∗ rLoc d L ↦[rSet 1]{fullShare} g) ⊢ (iprop(∃ h, rLoc d L ↦{fullShare} h) : sProp 𝕄) := by
  have h := pointsTo_join (Val := Elt F) (ℓ := rLoc d L) (q := fullShare) (f := f) (g := g) rSet_disjoint (Ix := HIx 1) (Name := ℕ) (U := UU) (Lvl := ℕ)
  rw [rSet_cover] at h
  refine h.trans ?_
  iintro H
  iexists _
  iexact H

/-- The tile's two shares of the row numbers, one per slot. -/
def qi (q : PosShare TreeShare) (b : Fin 2) : PosShare TreeShare := if b = 0 then q.left else q.right

/-- The task on tile `(L 0, L 1)`: from its part to its part, the output at the table's rows. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tilePts m d (cL L) (jL L) (m (oLoc d))
        ∗ scopedBufs (thr d L) ∗ scopedSems0 (thr d L) ∗ owes (thr d L) O W)
      ⊢ wp frame (wpE (defs₀ (F := F)) 𝒱₀ (thr d L) none) Set.univ
          (cc0_kern (F := F) L xM (Memref.isWhole_whole _) gM (Memref.isWhole_whole _) oM (Memref.isWhole_whole _)
            iM (Memref.isWhole_whole _) cc0_scoped1 rM (Memref.isWhole_whole _) cc0_scoped3 cc0_scoped4)
          fun _ => iprop(tilePts m d (cL L) (jL L) (Ov m d)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tilePts
  rw [oTile_base]
  iintro ⟨#Hlv, -, ⟨Hx, Hi, Ho⟩, ⟨⟨%fs, Hs⟩, ⟨%fr, Hr⟩, Hbufs⟩, ⟨Hs0, Hs1, Hr0, Hr1, Hg, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (pointsTo_share (PosShare.mem_left_op_right (qTile (cL L) (jL L)))).1 $$ Hi
  icases Hi' with ⟨Hil, Hir⟩
  ihave Hs' := (i_split (F := F) d L fs) $$ Hs
  icases Hs' with ⟨Hb0, Hb1⟩
  ihave Hr' := (r_split (F := F) d L fr) $$ Hr
  icases Hr' with ⟨Hc0, Hc1⟩
  iapply (tile_run d L (Xv m d) (Gv m d) (m (oLoc d)) (qTile (cL L) (jL L)) (qi (qTile (cL L) (jL L))) O W (Gv_lt m hpre d)) $$ [Hmw Hx Hg HO Hil Hir Hb0 Hb1 Hc0 Hc1 Hs0 Hs1 Hr0 Hr1 Ho]
  · isplitl [Hmw]; · iexact Hmw
    isplitl [Hx]; · iexact Hx
    isplitl [Hg]; · iexact Hg
    isplitl [HO]
    · unfold OW
      iexists W
      isplitl []
      · ipureintro; exact fun p hp => .inl hp
      iexact HO
    isplitl [Hb0 Hs0 Hil]
    · unfold FreeIn
      isplitl [Hb0]; · iexists fs; iexact Hb0
      isplitl [Hs0]; · iexact Hs0
      iexact Hil
    isplitl [Hb1 Hs1 Hir]
    · unfold FreeIn
      isplitl [Hb1]; · iexists fs; iexact Hb1
      isplitl [Hs1]; · iexact Hs1
      iexact Hir
    isplitl [Hc0 Hr0]
    · unfold FreeRow
      isplitl [Hc0]; · iexists fr; iexact Hc0
      iexact Hr0
    isplitl [Hc1 Hr1]
    · unfold FreeRow
      isplitl [Hc1]; · iexists fr; iexact Hc1
      iexact Hr1
    iexact Ho
  unfold FreeIn FreeRow OW
  iintro ⟨Hx, Hg, HO, ⟨⟨%f0, Hb0⟩, Hs0, Hil⟩, ⟨⟨%f1, Hb1⟩, Hs1, Hir⟩, ⟨⟨%g0, Hc0⟩, Hr0⟩, ⟨⟨%g1, Hc1⟩, Hr1⟩, Ho⟩
  isplitl [Hx Hil Hir Ho]
  · isplitl [Hx]; · iexact Hx
    isplitl [Hil Hir]
    · iapply (pointsTo_share (PosShare.mem_left_op_right (qTile (cL L) (jL L)))).2
      isplitl [Hil]; · iexact Hil
      iexact Hir
    iexact Ho
  isplitl [Hb0 Hb1 Hc0 Hc1 Hbufs]
  · isplitl [Hb0 Hb1]
    · iapply (i_join (F := F) d L f0 f1)
      isplitl [Hb0]; · iexact Hb0
      iexact Hb1
    isplitl [Hc0 Hc1]
    · iapply (r_join (F := F) d L g0 g1)
      isplitl [Hc0]; · iexact Hc0
      iexact Hc1
    iexact Hbufs
  isplitl [Hs0 Hs1 Hr0 Hr1 Hg Hsems]
  · isplitl [Hs0]; · iexact Hs0
    isplitl [Hs1]; · iexact Hs1
    isplitl [Hr0]; · iexact Hr0
    isplitl [Hr1]; · iexact Hr1
    isplitl [Hg]; · iexact Hg
    iexact Hsems
  iexact HO

/-! ### The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_kern (F := F) (coordsV c s) xM (Memref.isWhole_whole _) gM (Memref.isWhole_whole _)
          oM (Memref.isWhole_whole _) iM (Memref.isWhole_whole _) cc0_scoped1 rM (Memref.isWhole_whole _) cc0_scoped3 cc0_scoped4) ⟨⟩ c s := rfl

omit m ρ [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task does what its part says. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

/-! ## A core's part split over its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(corePts m d (Fin.cast nCore_zero c) (m (oLoc d))) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (Ov m d))
          -∗ corePts m d (Fin.cast nCore_zero c) (Ov m d)))
  rw [bigSep_tasks (F := F) (fun i => tilePts m d (Fin.cast nCore_zero c) i (m (oLoc d))),
    bigSep_tasks (F := F) (fun i => tilePts m d (Fin.cast nCore_zero c) i (Ov m d)), ← core_tiles, ← core_tiles]
  iintro H; imodintro
  isplitl [H]; · iexact H
  iintro H
  iexact H

/-! ## The launch element of the certificate's ghost state -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_nothing]
  iempintro

/-! ## @main on the TensorCore -/

abbrev x' : DevRef τ sig := Proc.devRef .tc (main_arg0 : Ref sig .tc)
abbrev a' : DevRef τ sig := Proc.devRef .tc (main_arg2 : Ref sig .tc)
abbrev g' : DevRef τ sig := Proc.devRef .tc (main_v0 : Ref sig .tc)
abbrev o' : DevRef τ sig := Proc.devRef .tc (main_v1 : Ref sig .tc)
abbrev b' : DevRef τ sig := Proc.devRef .tc (main_arg1 : Ref sig .tc)
abbrev b1' : DevRef τ sig := Proc.devRef .tc (main_v2 : Ref sig .tc)
abbrev b2' : DevRef τ sig := Proc.devRef .tc (main_v3 : Ref sig .tc)
abbrev n' : DevRef τ sig := Proc.devRef .tc (main_v4 : Ref sig .tc)
abbrev opR : HloOp τ sig (Elt F) := StableHlo.reshape main_arg2 main_v0 (rfl : (.i32 : EltTy) = .i32) shapeCasts_S16x2048_S1x32768
abbrev opB : HloOp τ sig (Elt F) := StableHlo.reshape main_arg1 main_v2 (rfl : (.i32 : EltTy) = .i32) shapeCasts_S65536_S16x4096
abbrev opC : HloOp τ sig (Elt F) := StableHlo.unary main_v2 main_v3
  ((extractStridedSlice S16x2048 ![0, 0] · slices_S16x4096_S16x2048_0_0) : (⟨S16x4096, .i32⟩ : BufTy).Contents (Elt F) → (⟨S16x2048, .i32⟩ : BufTy).Contents (Elt F))
abbrev opN : HloOp τ sig (Elt F) := StableHlo.reshape main_v3 main_v4 (rfl : (.i32 : EltTy) = .i32) shapeCasts_S16x2048_S32768

/-- The arrays around the call: the table, the row numbers, the row numbers in one line, the output. -/
abbrev S4 : Finset (DevRef τ sig) := {x', a', g', o'}
/-- The arrays of the batch numbers: the argument, by clouds, the first halves of the clouds, the result. -/
abbrev SB : Finset (DevRef τ sig) := {b', b1', b2', n'}

omit [FloatOps F] in
theorem held_S4 (d : Dev nD) (W : Valuation τ sig (Elt F)) :
    (held (T d) S4 W : sProp 𝕄)
      = iprop((xLoc d ↦{fullShare} W x') ∗ (aLoc d ↦{fullShare} W a') ∗ (gLoc d ↦{fullShare} W g') ∗ oLoc d ↦{fullShare} W o') := by
  unfold held S4
  rw [SparseCore.bigSep_insert' (by decide), SparseCore.bigSep_insert' (by decide), SparseCore.bigSep_insert' (by decide), bigSep_singleton]

omit [FloatOps F] in
theorem held_SB (d : Dev nD) (W : Valuation τ sig (Elt F)) :
    (held (T d) SB W : sProp 𝕄)
      = iprop((bLoc d ↦{fullShare} W b') ∗ (b1Loc d ↦{fullShare} W b1') ∗ (b2Loc d ↦{fullShare} W b2') ∗ nLoc d ↦{fullShare} W n') := by
  unfold held SB
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (aLoc d ↦{fullShare} W main_arg2) ∗ (gLoc d ↦{fullShare} W main_v0) ∗ (oLoc d ↦{fullShare} W main_v1)
          ∗ (bLoc d ↦{fullShare} W main_arg1) ∗ (b1Loc d ↦{fullShare} W main_v2) ∗ (b2Loc d ↦{fullShare} W main_v3) ∗ nLoc d ↦{fullShare} W main_v4) := by
  unfold unscopedBufs
  rw [show (Finset.univ.filter fun b : Ref sig .tc => ¬ b.isScoped) = {main_arg0, main_arg2, main_v0, main_v1, main_arg1, main_v2, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = iprop(held (T d) S4 (V0 m d) ∗ held (T d) SB (V0 m d)) := by
  rw [unscopedBufs_eq, held_S4, held_SB]
  refine equiv_iff.mp ⟨(?_ : (_ : sProp 𝕄) ⊢ _), (?_ : (_ : sProp 𝕄) ⊢ _)⟩
  · iintro ⟨Hx, Ha, Hg, Ho, Hb⟩
    isplitl [Hx Ha Hg Ho]
    · isplitl [Hx]; · iexact Hx
      isplitl [Ha]; · iexact Ha
      isplitl [Hg]; · iexact Hg
      iexact Ho
    iexact Hb
  · iintro ⟨⟨Hx, Ha, Hg, Ho⟩, Hb⟩
    isplitl [Hx]; · iexact Hx
    isplitl [Ha]; · iexact Ha
    isplitl [Hg]; · iexact Hg
    isplitl [Ho]; · iexact Ho
    iexact Hb

/-- The four arrays before the call: the row numbers laid in one line, the others as launched. -/
theorem held_call (d : Dev nD) :
    (held (T d) S4 ((opR (F := F)).result (V0 m d)) : sProp 𝕄)
      = iprop((xLoc d ↦{fullShare} Xv m d) ∗ (aLoc d ↦{fullShare} m (aLoc d)) ∗ (gLoc d ↦{fullShare} Gv m d) ∗ oLoc d ↦{fullShare} m (oLoc d)) := by
  rw [held_S4, (opR (F := F)).result_of_not_mem _ (show x' ∉ ({g'} : Finset (DevRef τ sig)) by decide),
    (opR (F := F)).result_of_not_mem _ (show a' ∉ ({g'} : Finset (DevRef τ sig)) by decide),
    (opR (F := F)).result_of_not_mem _ (show o' ∉ ({g'} : Finset (DevRef τ sig)) by decide),
    show (opR (F := F)).result (V0 m d) g' = Gv m d from StableHlo.reshape_result _ _ _ _ _ _ _]
  rfl

/-- The valuation after the operations on the batch numbers. -/
abbrev VB (d : Dev nD) : Valuation τ sig (Elt F) := (opN (F := F)).result ((opC (F := F)).result ((opB (F := F)).result (V0 m d)))

/-- The arrays of the batch numbers at the end: the argument as launched, the result the first halves of the clouds. -/
theorem held_ids (d : Dev nD) :
    (held (T d) SB (VB m d) : sProp 𝕄) ⊢ iprop((bLoc d ↦{fullShare} m (bLoc d)) ∗ nLoc d ↦{fullShare} Nv m d) := by
  have eb : VB m d b' = m (bLoc d) := by
    refine ((opN (F := F)).result_of_not_mem _ (show b' ∉ ({n'} : Finset (DevRef τ sig)) by decide)).trans ?_
    refine ((opC (F := F)).result_of_not_mem _ (show b' ∉ ({b2'} : Finset (DevRef τ sig)) by decide)).trans ?_
    exact (opB (F := F)).result_of_not_mem _ (show b' ∉ ({b1'} : Finset (DevRef τ sig)) by decide)
  have e1 : (opB (F := F)).result (V0 m d) b1' = fun i => shapeCast S16x4096 (m (bLoc d)) shapeCasts_S65536_S16x4096 i :=
    StableHlo.reshape_result _ _ _ _ _ _ _
  have e2 : (opC (F := F)).result ((opB (F := F)).result (V0 m d)) b2'
      = extractStridedSlice S16x2048 ![0, 0] ((opB (F := F)).result (V0 m d) b1') slices_S16x4096_S16x2048_0_0 :=
    StableHlo.unary_result _ _ _ _ _ _
  have en : VB m d n' = fun j => shapeCast S32768 ((opC (F := F)).result ((opB (F := F)).result (V0 m d)) b2') shapeCasts_S16x2048_S32768 j :=
    StableHlo.reshape_result _ _ _ _ _ _ _
  rw [e2, e1] at en
  rw [held_SB, eb, show VB m d n' = Nv m d from en]
  iintro ⟨Hb, -, -, Hn⟩
  isplitl [Hb]; · iexact Hb
  iexact Hn

theorem hB : (opB (F := F)).bufs ⊆ SB := show ({b', b1'} : Finset (DevRef τ sig)) ⊆ SB by decide
theorem hC : (opC (F := F)).bufs ⊆ SB := show ({b1', b2'} : Finset (DevRef τ sig)) ⊆ SB by decide
theorem hN : (opN (F := F)).bufs ⊆ SB := show ({b2', n'} : Finset (DevRef τ sig)) ⊆ SB by decide
theorem hR : (opR (F := F)).bufs ⊆ S4 := show ({a', g'} : Finset (DevRef τ sig)) ⊆ S4 by decide

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c)
    = iprop((xLoc d ↦{fullShare} Xv m d) ∗ (gLoc d ↦{fullShare} Gv m d) ∗ oLoc d ↦{fullShare} m (oLoc d)) :=
  (bigSep_cores (F := F) fun c => corePts m d c (m (oLoc d))).trans (whole_cores m d _).symm
theorem dn0_eq (d : Dev nD) : (bigSep Finset.univ fun c : Fin ((K (F := F)).nCore 0) => (P m).dn 0 d c)
    = iprop((xLoc d ↦{fullShare} Xv m d) ∗ (gLoc d ↦{fullShare} Gv m d) ∗ oLoc d ↦{fullShare} Ov m d) :=
  (bigSep_cores (F := F) fun c => corePts m d c (Ov m d)).trans (whole_cores m d _).symm

/-- What @main leaves the claims: the arguments as launched, the output at the table's rows, the batch numbers of the clouds' first halves. -/
abbrev FIN (d : Dev nD) : sProp 𝕄 :=
  iprop((xLoc d ↦{fullShare} Xv m d) ∗ (aLoc d ↦{fullShare} m (aLoc d)) ∗ (oLoc d ↦{fullShare} Ov m d)
    ∗ (bLoc d ↦{fullShare} m (bLoc d)) ∗ nLoc d ↦{fullShare} Nv m d)

/-- @main on the TensorCore: the row numbers laid in one line, the call, the batch numbers. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, ⟨Hheld, HB⟩, Hts, -⟩, -⟩
  iapply (wp_hlo_within 𝒱 (SparseCore.T d) none Set.univ (op := opR) (S := S4) hR (V := V0 m d)) $$ [Hb Hheld]
  · isplitl [Hb] <;> iassumption
  iintro ⟨Hb, Hheld⟩
  rw [wp_ret]; imodintro
  ihave Hh := (Entails.of_eq (held_call (F := F) m d)) $$ Hheld
  icases Hh with ⟨Hx, Ha, Hg, Ho⟩
  iapply ((K (F := F)).wp_run (D (F := F)) 𝒱 (EH := EH) (P := P m) κ d 0) $$ [Hst Hx Hg Ho Hb Ha Hts HB]
  isplitr; · iexact Hctx
  isplitl [Hst]; · iexact Hst
  isplitl [Hx Hg Ho]
  · rw [st0_eq]
    isplitl [Hx]; · iexact Hx
    isplitl [Hg]; · iexact Hg
    iexact Ho
  iintro ⟨Hst, Hdn⟩
  ihave Hdn' := (Entails.of_eq (dn0_eq m d)) $$ Hdn
  icases Hdn' with ⟨Hx, -, Ho⟩
  iapply (wp_hlo_within 𝒱 (SparseCore.T d) none Set.univ (op := opB) (S := SB) hB (V := V0 m d)) $$ [Hb HB]
  · isplitl [Hb] <;> iassumption
  iintro ⟨Hb, HB⟩
  rw [wp_ret]; imodintro
  iapply (wp_hlo_within 𝒱 (SparseCore.T d) none Set.univ (op := opC) (S := SB) hC (V := (opB (F := F)).result (V0 m d))) $$ [Hb HB]
  · isplitl [Hb] <;> iassumption
  iintro ⟨Hb, HB⟩
  rw [wp_ret]; imodintro
  iapply (wp_hlo_within 𝒱 (SparseCore.T d) none Set.univ (op := opN) (S := SB) hN (V := (opC (F := F)).result ((opB (F := F)).result (V0 m d)))) $$ [Hb HB]
  · isplitl [Hb] <;> iassumption
  iintro ⟨Hb, HB⟩
  rw [wp_ret]; imodintro
  ihave HB' := (held_ids m d) $$ HB
  icases HB' with ⟨Hi, Hn⟩
  imodintro
  isplitl [Hst]; · iexact Hst
  isplitr [Hb Hts]
  · isplitl [Hx]; · iexact Hx
    isplitl [Ha]; · iexact Ha
    isplitl [Ho]; · iexact Ho
    isplitl [Hi]; · iexact Hi
    iexact Hn
  isplitl [Hb] <;> iassumption

/-- What the claims read of the final state. -/
def fq (d : Dev nD) (s' : Phys nD τ sig (Elt F)) : Prop :=
  s'.mem.mem (oLoc d) = Ov m d ∧ s'.mem.mem (nLoc d) = Nv m d
    ∧ s'.mem.mem (xLoc d) = m (xLoc d) ∧ s'.mem.mem (bLoc d) = m (bLoc d) ∧ s'.mem.mem (aLoc d) = m (aLoc d)

set_option maxRecDepth 16384 in
theorem hfin (d : Dev nD) (s' : Phys nD τ sig (Elt F)) : iprop(FIN m d ∗ SI s') ⊢ (⌜fq m d s'⌝ : sProp 𝕄) := by
  iintro ⟨⟨Hx, Ha, Ho, Hi, Hn⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := bLoc d) (I := Finset.univ) (q := fullShare) (f := m (bLoc d)))) $$ [HSI Hi]
  · isplitl [HSI] <;> iassumption
  icases H with ⟨%hb, HSI, -⟩
  ihave H := (persistent_entails_right (SI_pointsTo_agree (st := s') (ℓ := nLoc d) (I := Finset.univ) (q := fullShare) (f := Nv m d))) $$ [HSI Hn]
  · isplitl [HSI] <;> iassumption
  icases H with ⟨%hn, HSI, -⟩
  ihave H := (SI_pointsTo_agree (st := s') (ℓ := oLoc d) (I := Finset.univ) (q := fullShare) (f := Ov m d)) $$ [HSI Ho]
  · isplitl [HSI] <;> iassumption
  icases H with %ho
  ipureintro
  exact ⟨funext fun i => ho i (Finset.mem_univ i), funext fun i => hn i (Finset.mem_univ i), funext fun i => hx i (Finset.mem_univ i),
    funext fun i => hb i (Finset.mem_univ i), funext fun i => ha i (Finset.mem_univ i)⟩

/-! ## The program's run -/

def QC : PUnit × MemSt nD τ sig (Elt F) → Prop := fun r =>
  (∀ c : Dev nD, (r.2.mem (oLoc c) = Ov m c ∧ r.2.mem (nLoc c) = Nv m c)
    ∧ r.2.mem (xLoc c) = m (xLoc c) ∧ r.2.mem (bLoc c) = m (bLoc c) ∧ r.2.mem (aLoc c) = m (aLoc c)) ∧ r.2.sem = fun _ => 0

/-- The whole program: it runs, its outputs are the table's rows and the batch numbers of the clouds' first halves, its arguments are unchanged, its semaphores are at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h hz => ⟨fun c => ⟨⟨(h c).1, (h c).2.1⟩, (h c).2.2⟩, hz⟩)

end Cert.Proof.Launch

end
-- ==== Proof.Value.lean ====
/-
  What the reference computes, read at an index.

  The reference is `jnp.take` along the rows: it adds 65536 to a negative row number, clamps the row number that it
  gathers at, and puts a NaN where the row number was outside the table. Where every row number names a row of the
  table none of the three changes anything, and the result's row `n` is the table's row of the number `n`: `rowsOf`,
  which is what the kernel's run leaves. The batch numbers are taken in the same way. Where the row numbers in line `c`
  name rows of cloud `c`, and a cloud has one batch number, that is the batch number of any point of the cloud, and so
  of the points in the cloud's first half, which the kernel copies.
-/
module

public import proofs.«01_k».proof.Defs
public import proofs.«01_k».proof.Proof.Launch
public import proofs.«01_k».proof.Proof.Gen.Reference
public import proofs.«01_k».proof.Proof.Gen.Pre_sampled_clouds
public import Idealize.ShloMosaic.Lib.ReduceAll
public import Idealize.ShloMosaic.Lib.Routing.Ops
public import Idealize.ShloMosaic.Lib.Routing.OpsSet
public import Idealize.ShloMosaic.Lib.ValueLayout

@[expose] public section

noncomputable section

namespace Cert.Proof.Value

open Cert.Reference Cert.Reference.Gen Cert.Proof.Views
open Idealize.ShloMosaic Idealize.ShloMosaic.ValueIdx

variable {F : FTy → Type}

/-! ## Words -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A word in the signed range of cloud `c` is in its range of naturals. -/
theorem word_cloud (v : BitVec 32) (c : Nat) (hc : c < 16)
    (e : IntOp.andi (IntOp.cmpi .sge v (4096#32 * BitVec.ofNat 32 c)) (IntOp.cmpi .slt v (4096#32 * BitVec.ofNat 32 c + 4096#32)) = 1#1) :
    4096 * c ≤ v.toNat ∧ v.toNat < 4096 * c + 4096 := by
  have h1 : (4096#32 * BitVec.ofNat 32 c).toNat = 4096 * c := by
    simp only [BitVec.toNat_mul, BitVec.toNat_ofNat, Nat.reducePow, Nat.reduceMod]
    omega
  have h2 : (4096#32 * BitVec.ofNat 32 c + 4096#32).toNat = 4096 * c + 4096 := by
    simp only [BitVec.toNat_add, h1, BitVec.toNat_ofNat, Nat.reducePow, Nat.reduceMod]
    omega
  simp only [IntOp.cmpi, andi_ofBool, ofBool_eq_one, Bool.and_eq_true, BitVec.sle_eq_decide, BitVec.slt_eq_decide,
    decide_eq_true_eq, BitVec.toInt_eq_toNat_cond, h1, h2, Nat.reducePow] at e
  have := v.isLt
  split at e <;> omega
/-- A word below 65536 is not negative. -/
theorem word_nonneg (v : BitVec 32) (h : v.toNat < 65536) : IntOp.cmpi .slt v 0#32 = 0#1 := by
  have : v.slt 0#32 = false := by
    simp only [BitVec.slt_eq_decide, decide_eq_false_iff_not, BitVec.toInt_eq_toNat_cond, BitVec.toNat_ofNat, Nat.reducePow, Nat.reduceMod]
    omega
  simp only [IntOp.cmpi, this]; rfl
/-- A word below 65536 passes the reference's check. -/
theorem word_inside (v : BitVec 32) (h : v.toNat < 65536) : IntOp.andi (IntOp.cmpi .sge v 0#32) (IntOp.cmpi .sle v 65535#32) = 1#1 := by
  simp only [IntOp.cmpi, andi_ofBool, ofBool_eq_one, Bool.and_eq_true, BitVec.sle_eq_decide,
    decide_eq_true_eq, BitVec.toInt_eq_toNat_cond, BitVec.toNat_ofNat, Nat.reducePow, Nat.reduceMod]
  omega

/-! ## The reference's term -/

/-- The row numbers as the reference gathers at them. -/
abbrev wrapped (I : IVec S16x2048 32) : IVec S32768x1 32 :=
  broadcastInDim S32768x1 ![0] bcast_S32768_S32768x1_0 (select (cmpi .slt (shapeCast _ I shapeCasts_S16x2048_S32768) (broadcastInDim S32768 ![] bcast_S_S32768 (constantI S_ 32 0#32))) (addi (shapeCast _ I shapeCasts_S16x2048_S32768) (broadcastInDim S32768 ![] bcast_S_S32768 (constantI S_ 32 65536#32))) (shapeCast _ I shapeCasts_S16x2048_S32768))

/-- The reference's result. -/
abbrev taken [FloatOps F] (X : FVec F S65536x128 .f32) (I : IVec S16x2048 32) : FVec F S32768x128 .f32 :=
  select (broadcastInDim S32768x128 ![0] bcast_S32768_S32768x128_0 (Host.reduce IntOp.andi (andi (cmpi .sge (wrapped I) (broadcastInDim S32768x1 ![] bcast_S_S32768x1 (constantI S_ 32 0#32))) (cmpi .sle (wrapped I) (broadcastInDim S32768x1 ![0, 1] bcast_S1x1_S32768x1_0_1 (broadcastInDim S1x1 ![1] bcast_S1_S1x1_1 (constantI S1 32 65535#32))))) (constantI S_ 1 1#1) reducesTo_S32768x1_S32768_d1 h_S_))
    (Host.gather gather_S65536x128_S32768x1_S32768x128_1_0_n_n_0_1_1128 X (wrapped I)) (broadcastInDim S32768x128 ![] bcast_S_S32768x128 (constant S_ .f32 0x7FC00000#32))

/-- The row numbers in one line, as the kernel's call takes them. -/
abbrev line (I : IVec S16x2048 32) : IVec Cert.KernelIdeal.S1x32768 32 :=
  fun j => shapeCast Cert.KernelIdeal.S1x32768 I Cert.KernelIdeal.Gen.shapeCasts_S16x2048_S1x32768 j

/-- Laying the row numbers in one line is laying them in a vector. -/
theorem line_at (I : IVec S16x2048 32) (n : Fin 32768) : line I (at_ n.val) = shapeCast S32768 I shapeCasts_S16x2048_S32768 (ix1 n) := by
  refine congrArg I (Shape.reshapeEquiv_eq_of_rowMajor _ ?_)
  have h1 : (S16x2048.rowMajor (Shape.reshapeEquiv shapeCasts_S16x2048_S32768 (ix1 n))).val = n.val := by
    rw [Shape.rowMajor_reshapeEquiv]; exact Shape.rowMajor_val_one _
  have h2 : (Cert.KernelIdeal.S1x32768.rowMajor (at_ n.val)).val = n.val := by
    refine (Shape.rowMajor_val_two _).trans ?_
    show 0 * 32768 + n.val % 32768 = n.val
    have := n.isLt
    omega
  exact h1.trans h2.symm

/-- Where every row number names a row of the table, the reference gathers at the row numbers themselves. -/
theorem wrapped_at (I : IVec S16x2048 32) (hI : ∀ j, (I j).toNat < 65536) (n : Fin 32768) (j : S32768x1.Idx) (hj : (j 0).val = n.val) :
    wrapped I j = line I (at_ n.val) := by
  rw [line_at]
  have e (x : IVec S32768 32) : broadcastInDim S32768x1 ![0] bcast_S32768_S32768x1_0 x j = x (ix1 n) := by
    refine congrArg x (funext fun a => Fin.ext ?_)
    match a with
    | 0 => exact hj
  refine (e _).trans ?_
  show Scalar.select (IntOp.cmpi .slt (shapeCast S32768 I shapeCasts_S16x2048_S32768 (ix1 n)) 0#32) _ (shapeCast S32768 I shapeCasts_S16x2048_S32768 (ix1 n)) = _
  rw [word_nonneg (shapeCast S32768 I shapeCasts_S16x2048_S32768 (ix1 n)) (hI _)]
  rfl

/-- The reference's result is the table's rows that the row numbers name. -/
theorem taken_eq [FloatOps F] (X : FVec F S65536x128 .f32) (I : IVec S16x2048 32) (hI : ∀ j, (I j).toNat < 65536) :
    taken X I = rowsOf X (line I) := by
  funext j
  obtain ⟨n, c, rfl⟩ : ∃ (n : Fin 32768) (c : Fin 128), j = ix2 n c := ⟨_, _, eq_ix2 j⟩
  have hlt : (line I (at_ n.val)).toNat < 65536 := hI _
  have hin (i : S32768.Idx) : Host.reduce IntOp.andi (andi (cmpi .sge (wrapped I) (broadcastInDim S32768x1 ![] bcast_S_S32768x1 (constantI S_ 32 0#32))) (cmpi .sle (wrapped I) (broadcastInDim S32768x1 ![0, 1] bcast_S1x1_S32768x1_0_1 (broadcastInDim S1x1 ![1] bcast_S1_S1x1_1 (constantI S1 32 65535#32))))) (constantI S_ 1 1#1) reducesTo_S32768x1_S32768_d1 h_S_ i = 1#1 := by
    refine Host.reduce_andi_one _ _ _ _ i rfl fun k => ?_
    show IntOp.andi (IntOp.cmpi .sge (wrapped I k) 0#32) (IntOp.cmpi .sle (wrapped I k) 65535#32) = 1#1
    rw [wrapped_at I hI ⟨(k 0).val, (k 0).isLt⟩ k rfl]
    exact word_inside _ (hI _)
  have hg : Host.gather gather_S65536x128_S32768x1_S32768x128_1_0_n_n_0_1_1128 X (wrapped I) (ix2 n c) = X (cell (line I (at_ n.val)) c) := by
    refine Routing.gather_row gather_S65536x128_S32768x1_S32768x128_1_0_n_n_0_1_1128 rfl rfl rfl rfl rfl X (wrapped I) n c _ ?_ (by decide)
    rw [wrapped_at I hI n _ rfl]
    refine BitVec.eq_of_toNat_eq ?_
    show (line I (at_ n.val)).toNat = ((line I (at_ n.val)).toNat % 65536) % 2 ^ 32
    omega
  refine Eq.trans ?_ hg
  show Scalar.select (Host.reduce IntOp.andi _ _ _ _ _) _ _ = _
  rw [hin]
  rfl

/-! ## The batch numbers -/

/-- The reference's batch numbers. -/
abbrev ids (B : IVec S65536 32) (I : IVec S16x2048 32) : IVec S32768 32 :=
  select (Host.reduce IntOp.andi (andi (cmpi .sge (wrapped I) (broadcastInDim S32768x1 ![] bcast_S_S32768x1 (constantI S_ 32 0#32))) (cmpi .sle (wrapped I) (broadcastInDim S32768x1 ![0, 1] bcast_S1x1_S32768x1_0_1 (broadcastInDim S1x1 ![1] bcast_S1_S1x1_1 (constantI S1 32 65535#32))))) (constantI S_ 1 1#1) reducesTo_S32768x1_S32768_d1 h_S_)
    (Host.gather gather_S65536_S32768x1_S32768_n_0_n_n_0_1_1 B (wrapped I)) (broadcastInDim S32768 ![] bcast_S_S32768 (constantI S_ 32 2147483648#32))

/-- The batch numbers by clouds. -/
abbrev byCloud (B : IVec S65536 32) : IVec Cert.KernelIdeal.S16x4096 32 :=
  fun i => shapeCast Cert.KernelIdeal.S16x4096 B Cert.KernelIdeal.Gen.shapeCasts_S65536_S16x4096 i

/-- The kernel's batch numbers: those of each cloud's first 2048 points. -/
abbrev halves (B : IVec S65536 32) : IVec S32768 32 := fun j =>
  shapeCast S32768 (extractStridedSlice Cert.KernelIdeal.S16x2048 ![0, 0] (byCloud B) Cert.KernelIdeal.Gen.slices_S16x4096_S16x2048_0_0)
    Cert.KernelIdeal.Gen.shapeCasts_S16x2048_S32768 j

/-- Point `k` of cloud `c` is point `4096 c + k`. -/
theorem byCloud_at (B : IVec S65536 32) (c : Fin 16) (k : Fin 4096) (n : Fin 65536) (h : n.val = 4096 * c.val + k.val) :
    byCloud B (ix2 c k) = B (ix1 n) := by
  refine congrArg B (Shape.reshapeEquiv_eq_of_rowMajor _ ?_)
  refine (Shape.rowMajor_val_one _).trans (Eq.trans ?_ (Shape.rowMajor_val_two _).symm)
  show n.val = c.val * 4096 + k.val
  omega

/-- Index `n` of a vector is place `n % 2048` of line `n / 2048`. -/
theorem flat_at (n : Fin 32768) (h : S16x2048.ShapeCasts S32768) :
    Shape.reshapeEquiv h (ix1 n) = ix2 (⟨n.val / 2048, by omega⟩ : Fin 16) (⟨n.val % 2048, by omega⟩ : Fin 2048) := by
  refine Shape.reshapeEquiv_eq_of_rowMajor _ ?_
  refine (Shape.rowMajor_val_two _).trans (Eq.trans ?_ (Shape.rowMajor_val_one _).symm)
  show n.val / 2048 * 2048 + n.val % 2048 = n.val
  omega

/-- The kernel's batch number `n` is that of point `n % 2048` of cloud `n / 2048`. -/
theorem halves_at (B : IVec S65536 32) (n : Fin 32768) :
    halves B (ix1 n) = byCloud B (ix2 (⟨n.val / 2048, by omega⟩ : Fin 16) (⟨n.val % 2048, by omega⟩ : Fin 4096)) := by
  show byCloud B (fun a => ⟨_ + (Shape.reshapeEquiv Cert.KernelIdeal.Gen.shapeCasts_S16x2048_S32768 (ix1 n) _).val, _⟩) = _
  refine congrArg (byCloud B) (funext fun a => Fin.ext ?_)
  match a with
  | 0 => exact (Nat.zero_add _).trans (congrArg (fun i : S16x2048.Idx => (i 0).val) (flat_at n _))
  | 1 => exact (Nat.zero_add _).trans (congrArg (fun i : S16x2048.Idx => (i 1).val) (flat_at n _))

/-- Where the row numbers in line `c` name rows of cloud `c`, and a cloud has one batch number, the reference's batch
    numbers are the kernel's. -/
theorem ids_eq (B : IVec S65536 32) (I : IVec S16x2048 32)
    (hI : ∀ (c : Fin 16) (k : Fin 2048), 4096 * c.val ≤ (I (ix2 c k)).toNat ∧ (I (ix2 c k)).toNat < 4096 * c.val + 4096)
    (hB : ∀ (c : Fin 16) (k : Fin 4096), byCloud B (ix2 c k) = byCloud B (ix2 c 0)) :
    ids B I = halves B := by
  have hlt (j : S16x2048.Idx) : (I j).toNat < 65536 := by
    obtain ⟨c, k, rfl⟩ : ∃ (c : Fin 16) (k : Fin 2048), j = ix2 c k := ⟨_, _, eq_ix2 j⟩
    have := (hI c k).2
    have := c.isLt
    omega
  funext j
  obtain ⟨n, rfl⟩ : ∃ n : Fin 32768, j = ix1 n := ⟨_, eq_ix1 j⟩
  have hin : Host.reduce IntOp.andi (andi (cmpi .sge (wrapped I) (broadcastInDim S32768x1 ![] bcast_S_S32768x1 (constantI S_ 32 0#32))) (cmpi .sle (wrapped I) (broadcastInDim S32768x1 ![0, 1] bcast_S1x1_S32768x1_0_1 (broadcastInDim S1x1 ![1] bcast_S1_S1x1_1 (constantI S1 32 65535#32))))) (constantI S_ 1 1#1) reducesTo_S32768x1_S32768_d1 h_S_ (ix1 n) = 1#1 := by
    refine Host.reduce_andi_one _ _ _ _ _ rfl fun k => ?_
    show IntOp.andi (IntOp.cmpi .sge (wrapped I k) 0#32) (IntOp.cmpi .sle (wrapped I k) 65535#32) = 1#1
    rw [wrapped_at I hlt ⟨(k 0).val, (k 0).isLt⟩ k rfl]
    exact word_inside _ (hlt _)
  have hn := n.isLt
  have hr : line I (at_ n.val) = I (ix2 (⟨n.val / 2048, by omega⟩ : Fin 16) (⟨n.val % 2048, by omega⟩ : Fin 2048)) :=
    (line_at I n).trans (congrArg I (flat_at n _))
  have hc := hI ⟨n.val / 2048, by omega⟩ ⟨n.val % 2048, by omega⟩
  rw [← hr] at hc
  simp only at hc
  have hg : Host.gather gather_S65536_S32768x1_S32768_n_0_n_n_0_1_1 B (wrapped I) (ix1 n) = B (ix1 ⟨(line I (at_ n.val)).toNat, hlt _⟩) := by
    refine Routing.gather_take1 gather_S65536_S32768x1_S32768_n_0_n_n_0_1_1 rfl rfl rfl rfl B (wrapped I) n _ ?_ (by decide)
    rw [wrapped_at I hlt n _ rfl]
    refine BitVec.eq_of_toNat_eq ?_
    show (line I (at_ n.val)).toNat = (line I (at_ n.val)).toNat % 2 ^ 32
    exact (Nat.mod_eq_of_lt (line I (at_ n.val)).isLt).symm
  have he : ids B I (ix1 n) = B (ix1 ⟨(line I (at_ n.val)).toNat, hlt _⟩) := by
    refine Eq.trans ?_ hg
    show Scalar.select (Host.reduce IntOp.andi _ _ _ _ _) _ _ = _
    rw [hin]
    rfl
  rw [he, halves_at, hB, ← hB _ (⟨(line I (at_ n.val)).toNat - 4096 * (n.val / 2048), by omega⟩ : Fin 4096)]
  refine (byCloud_at B _ _ _ ?_).symm
  show (line I (at_ n.val)).toNat = 4096 * (n.val / 2048) + ((line I (at_ n.val)).toNat - 4096 * (n.val / 2048))
  omega

/-! ## The precondition -/

theorem andi_one (x y : BitVec 1) (h : IntOp.andi x y = 1#1) : x = 1#1 ∧ y = 1#1 := by
  revert x y; decide

theorem cmpi_eq (x y : BitVec 32) (h : IntOp.cmpi .eq x y = 1#1) : x = y := by
  simpa only [IntOp.cmpi, ofBool_eq_one, beq_iff_eq] using h

/-- The precondition says that the row numbers in line `c` name rows of cloud `c`, and that a cloud has one batch number. -/
theorem clouds_ok [FloatOps F] (X : FVec F S65536x128 .f32) (B : IVec S65536 32) (I : IVec S16x2048 32)
    (h : Cert.Pre_sampled_clouds.fn (F := F) X B I = fun _ => 1#1) :
    (∀ (c : Fin 16) (k : Fin 2048), 4096 * c.val ≤ (I (ix2 c k)).toNat ∧ (I (ix2 c k)).toNat < 4096 * c.val + 4096)
      ∧ ∀ (c : Fin 16) (k : Fin 4096), byCloud B (ix2 c k) = byCloud B (ix2 c 0) := by
  haveI : Subsingleton Cert.Pre_sampled_clouds.S_.Idx := ⟨fun a b => funext fun i => i.elim0⟩
  obtain ⟨h1, h2⟩ := andi_one _ _ (congrFun h (fun i => i.elim0))
  refine ⟨fun c k => ?_, fun c k => ?_⟩
  · exact word_cloud _ c.val c.isLt (Host.reduce_andi_all _ _ _ _ (fun i => i.elim0) h1 (ix2 c k))
  · refine (cmpi_eq _ _ (Host.reduce_andi_all _ _ _ _ (fun i => i.elim0) h2 (ix2 c k))).trans ?_
    refine congrArg (byCloud B) (funext fun a => Fin.ext ?_)
    match a with
    | 0 => exact Nat.zero_add _
    | 1 => rfl

/-- So every row number names a row of the table. -/
theorem rows_ok [FloatOps F] (X : FVec F S65536x128 .f32) (B : IVec S65536 32) (I : IVec S16x2048 32)
    (h : Cert.Pre_sampled_clouds.fn (F := F) X B I = fun _ => 1#1) (j : S16x2048.Idx) : (I j).toNat < 65536 := by
  obtain ⟨c, k, rfl⟩ : ∃ (c : Fin 16) (k : Fin 2048), j = ix2 c k := ⟨_, _, eq_ix2 j⟩
  have := ((clouds_ok X B I h).1 c k).2
  have := c.isLt
  omega

end Cert.Proof.Value

end
-- ==== Proof.Body.lean ====
/- The sampler's kernel, written over again as loops over its slabs of points: one slab of 128 points, the slabs of one
   group of eight clouds, one selection step, the steps of one chunk of 128 selections, and the chunks one after another.
   `body_eq` says that this is the printed kernel. -/
module

public import proofs.«01_k».proof.SamplerIdeal.P01

@[expose] public section

noncomputable section

namespace Cert.SamplerIdeal.Fps

open Facts₀ Idealize.ShloMosaic Idealize.ShloMosaic.TcCoe Idealize.SL.Sem

variable {F : FTy → Type} [FloatOps F] [Facts]

/-- One word per cloud of a group and lane. -/
abbrev V (F : FTy → Type) := FVec F S8x128 .f32
/-- The same of integers. -/
abbrev W := IVec S8x128 32
/-- The kernel's programs. -/
abbrev Pg (F : FTy → Type) [FloatOps F] (α : Type) := Prog (TpuEff nD τ sig (Elt F) Λ₀ .tc) α

/-- What one group carries from step to step: the last point's coordinates, and of the chunk the row numbers and the
    coordinates selected so far. -/
abbrev Grp (F : FTy → Type) := V F × V F × V F × W × V F × V F × V F
/-- The running maximum of each lane, its slab's number, and the point's coordinates. -/
abbrev Best (F : FTy → Type) := V F × V F × V F × V F × V F

theorem inb3 (a g k : ℕ) (ha : a < 3) (hg : g < 2) (hk : k < 32) :
    ∀ i, (![a, 8 * g, 128 * k] : Fin 3 → Nat) i + S1x8x128.size i ≤ S3x16x4096.size i := by
  intro i; fin_cases i <;> simp <;> omega

theorem inb2 (g k : ℕ) (hg : g < 2) (hk : k < 32) :
    ∀ i, (![8 * g, 128 * k] : Fin 2 → Nat) i + S8x128.size i ≤ S16x4096.size i := by
  intro i; fin_cases i <;> simp <;> omega

theorem inbO (g j : ℕ) (hg : g < 2) (hj : j < 16) :
    ∀ i, (![8 * g, 128 * j] : Fin 2 → Nat) i + S8x128.size i ≤ S16x2048.size i := by
  intro i; fin_cases i <;> simp <;> omega

/-- The float that is a slab's number. -/
def slabBits : Fin 32 → BitVec 32 :=
  ![0x00000000#32, 0x3F800000#32, 0x40000000#32, 0x40400000#32, 0x40800000#32, 0x40A00000#32,
    0x40C00000#32, 0x40E00000#32, 0x41000000#32, 0x41100000#32, 0x41200000#32, 0x41300000#32,
    0x41400000#32, 0x41500000#32, 0x41600000#32, 0x41700000#32, 0x41800000#32, 0x41880000#32,
    0x41900000#32, 0x41980000#32, 0x41A00000#32, 0x41A80000#32, 0x41B00000#32, 0x41B80000#32,
    0x41C00000#32, 0x41C80000#32, 0x41D00000#32, 0x41D80000#32, 0x41E00000#32, 0x41E80000#32,
    0x41F00000#32, 0x41F80000#32]

variable (arg0 : Memref sig .tc .vmem S3x16x4096 .f32) (arg1 : Memref sig .tc .vmem S16x2048 .i32)
  (arg2 arg3 arg4 : Memref sig .tc .vmem S16x2048 .f32) (arg5 : Memref sig .tc .vmem S16x4096 .f32)

/-- The squared distance as the kernel adds it up. -/
def dist (px py pz lx ly lz : V F) : V F :=
  addf (addf (mulf (subf px lx) (subf px lx)) (mulf (subf pz lz) (subf pz lz))) (mulf (subf py ly) (subf py ly))

/-- Slab `k` of group `g`: its points, and its distances brought up to date. -/
def slab (g : Fin 2) (k : Fin 32) (lx ly lz : V F) : Pg F (V F × V F × V F × V F) := do
  let px : Vec F S1x8x128 .f32 ← Prog.lift (.load arg0 (Rect.unit (s := S3x16x4096) ![(0 : Fin 3).val, 8 * g.val, 128 * k.val] S1x8x128.size (inb3 (0 : Fin 3) g k (0 : Fin 3).2 g.2 k.2)).toLoadRect (View.loadsAt_vmem h_S1x8x128))
  let py : Vec F S1x8x128 .f32 ← Prog.lift (.load arg0 (Rect.unit (s := S3x16x4096) ![(1 : Fin 3).val, 8 * g.val, 128 * k.val] S1x8x128.size (inb3 (1 : Fin 3) g k (1 : Fin 3).2 g.2 k.2)).toLoadRect (View.loadsAt_vmem h_S1x8x128))
  let pz : Vec F S1x8x128 .f32 ← Prog.lift (.load arg0 (Rect.unit (s := S3x16x4096) ![(2 : Fin 3).val, 8 * g.val, 128 * k.val] S1x8x128.size (inb3 (2 : Fin 3) g k (2 : Fin 3).2 g.2 k.2)).toLoadRect (View.loadsAt_vmem h_S1x8x128))
  let old : Vec F S8x128 .f32 ← Prog.lift (.load arg5 (Rect.unit (s := S16x4096) ![8 * g.val, 128 * k.val] S8x128.size (inb2 g k g.2 k.2)).toLoadRect (View.loadsAt_vmem h_S8x128))
  let _ : Vec F S8x128 .f32 ← Prog.lift (.load arg5 (Rect.unit (s := S16x4096) ![8 * g.val, 128 * k.val] S8x128.size (inb2 g k g.2 k.2)).toLoadRect (View.loadsAt_vmem h_S8x128))
  Prog.lift (.store arg5 (Rect.unit (s := S16x4096) ![8 * g.val, 128 * k.val] S8x128.size (inb2 g k g.2 k.2)) (shapeCast S8x128 (minimumf old (dist (shapeCast S8x128 px shapeCasts_S1x8x128_S8x128) (shapeCast S8x128 py shapeCasts_S1x8x128_S8x128) (shapeCast S8x128 pz shapeCasts_S1x8x128_S8x128) lx ly lz)) shapeCasts_S8x128_S8x128) Finset.univ (View.stores_vmem_bits_univ h_S8x128 rfl) (.inl rfl))
  pure (minimumf old (dist (shapeCast S8x128 px shapeCasts_S1x8x128_S8x128) (shapeCast S8x128 py shapeCasts_S1x8x128_S8x128) (shapeCast S8x128 pz shapeCasts_S1x8x128_S8x128) lx ly lz), shapeCast S8x128 px shapeCasts_S1x8x128_S8x128, shapeCast S8x128 py shapeCasts_S1x8x128_S8x128, shapeCast S8x128 pz shapeCasts_S1x8x128_S8x128)

/-- The number of slab `k`, in every lane. -/
def num (k : Fin 32) : V F := broadcast S8x128 (Scalar.ofBits .f32 (slabBits k))

/-- Lane by lane the second where `t`, else the first. -/
def pick (t : IVec S8x128 1) (b c : Best F) : Best F :=
  (select t c.1 b.1, select t c.2.1 b.2.1, select t c.2.2.1 b.2.2.1, select t c.2.2.2.1 b.2.2.2.1, select t c.2.2.2.2 b.2.2.2.2)

/-- The better of two, lane by lane; on a tie the first. -/
def better (b c : Best F) : Best F := pick (cmpf .ogt c.1 b.1) b c

/-- The slabs of a list, one after another, into the running maximum. -/
def slabs (g : Fin 2) (lx ly lz : V F) : List (Fin 32) → Best F → Pg F (Best F)
  | [], b => pure b
  | k :: ks, b => do
    let s ← slab arg0 arg5 g k lx ly lz
    slabs g lx ly lz ks (better b (s.1, num k, s.2))

/-- Sixteen slabs, the first of which starts the running maximum. -/
def part (g : Fin 2) (lx ly lz : V F) (k : Fin 32) (ks : List (Fin 32)) : Pg F (Best F) := do
  let s ← slab arg0 arg5 g k lx ly lz
  slabs arg0 arg5 g lx ly lz ks (s.1, num k, s.2)

/-- The lanes' numbers, and the same as floats. -/
def lane : W := iota .tc S8x128 32 [1] iota_S8x128_d1_w32
def laneF : V F := sitofp .f32 lane

/-- The number of each lane's candidate where the lane has the maximum, else 4096. -/
def cand (b : Best F) : V F :=
  select (cmpf .oeq b.1 (broadcastTo S8x128 (shapeCast S8x1 (multiReduction .maximumf [1] S8 b.1 0xFF800000#32 reduces_S8x128_S8 (.inl rfl) rfl) shapeCasts_S8_S8x1) broadcasts_S8x1_S8x128))
    (addf (mulf b.2.1 (broadcast S8x128 (Scalar.ofBits .f32 0x43000000#32))) laneF) (broadcast S8x128 (Scalar.ofBits .f32 0x45800000#32))

/-- The least candidate. -/
def least (c : V F) : FVec F S8x1 .f32 :=
  shapeCast S8x1 (multiReduction .minimumf [1] S8 c 0x7F800000#32 reduces_S8x128_S8 (.inl rfl) rfl) shapeCasts_S8_S8x1

/-- The lane that has it. -/
def hot (c : V F) : IVec S8x128 1 := cmpf .oeq c (broadcastTo S8x128 (least c) broadcasts_S8x1_S8x128)

/-- What that lane has, in every lane. -/
def spread (h : IVec S8x128 1) (x : V F) : V F :=
  broadcastTo S8x128 (shapeCast S8x1 (shapeCast S8x1 (multiReduction .add [1] S8 (select h x (broadcast S8x128 (Scalar.ofBits .f32 0x00000000#32))) 0x00000000#32 reduces_S8x128_S8 (.inl rfl) rfl) shapeCasts_S8_S8x1) shapeCasts_S8x1_S8x1) broadcasts_S8x1_S8x128

/-- The first row of each cloud of group `g`. -/
def offs (g : Fin 2) : IVec S8x1 32 :=
  muli (addi (iota .tc S8x1 32 [0] iota_S8x1_d0_w32) (broadcast S8x1 (BitVec.ofNat 32 (8 * g.val)))) (broadcast S8x1 4096#32)

/-- What a step records at lane `i` of the chunk. -/
def record (g : Fin 2) (i : BitVec 32) (b : Best F) (a : Grp F) : Grp F :=
  let c := cand b
  let h := hot c
  (spread h b.2.2.1, spread h b.2.2.2.1, spread h b.2.2.2.2,
   select (cmpi .eq lane (broadcast S8x128 i)) (broadcastTo S8x128 (shapeCast S8x1 (addi (fptosi 32 (least c)) (offs g)) shapeCasts_S8x1_S8x1) broadcasts_S8x1_S8x128) a.2.2.2.1,
   select (cmpi .eq lane (broadcast S8x128 i)) (spread h b.2.2.1) a.2.2.2.2.1,
   select (cmpi .eq lane (broadcast S8x128 i)) (spread h b.2.2.2.1) a.2.2.2.2.2.1,
   select (cmpi .eq lane (broadcast S8x128 i)) (spread h b.2.2.2.2) a.2.2.2.2.2.2)

/-- One selection in each cloud of group `g`. -/
def group (g : Fin 2) (i : BitVec 32) (a : Grp F) : Pg F (Grp F) := do
  let b ← part arg0 arg5 g a.1 a.2.1 a.2.2.1 0 [1, 2, 3, 4, 5, 6, 7, 8, 9, 10, 11, 12, 13, 14, 15]
  let c ← part arg0 arg5 g a.1 a.2.1 a.2.2.1 16 [17, 18, 19, 20, 21, 22, 23, 24, 25, 26, 27, 28, 29, 30, 31]
  pure (record g i (better b c) a)

/-- What both groups carry. -/
abbrev Carry (F : FTy → Type) := V F × V F × V F × W × V F × V F × V F × V F × V F × V F × W × V F × V F × V F

/-- The two halves of the carried tuple, and back. -/
def lo (a : Carry F) : Grp F := (a.1, a.2.1, a.2.2.1, a.2.2.2.1, a.2.2.2.2.1, a.2.2.2.2.2.1, a.2.2.2.2.2.2.1)
def hi (a : Carry F) : Grp F := a.2.2.2.2.2.2.2
def both (a b : Grp F) : Carry F := (a.1, a.2.1, a.2.2.1, a.2.2.2.1, a.2.2.2.2.1, a.2.2.2.2.2.1, a.2.2.2.2.2.2, b)

/-- One selection in every cloud. -/
def step (i : BitVec 32) (a : Carry F) : Pg F (Carry F) := do
  let p ← group arg0 arg5 0 i (lo a)
  let q ← group arg0 arg5 1 i (hi a)
  pure (both p q)

/-- The loop of a chunk, from `s`, of `n` steps. -/
abbrev loopOf (s n : BitVec 32) : Scf.Loop 32 := ⟨s, Scalar.addi s n, 1#32⟩

/-- A chunk's steps. -/
def steps (s n : BitVec 32) (ok : (loopOf s n).OK) (a : Carry F) : Pg F (Carry F) :=
  Scf.Loop.for (loopOf s n) ok a fun k a => step arg0 arg5 (Scf.iv s 1#32 k) a

/-- The stores of one group's recorded selections into columns `128 j` on. -/
def emit (g : Fin 2) (j : Fin 16) (a : Grp F) : Pg F PUnit := do
  let _ : Vec F S8x128 .i32 ← Prog.lift (.load arg1 (Rect.unit (s := S16x2048) ![8 * g.val, 128 * j.val] S8x128.size (inbO g j g.2 j.2)).toLoadRect (View.loadsAt_vmem h_S8x128))
  Prog.lift (.store arg1 (Rect.unit (s := S16x2048) ![8 * g.val, 128 * j.val] S8x128.size (inbO g j g.2 j.2)) a.2.2.2.1 Finset.univ (View.stores_vmem_bits_univ h_S8x128 rfl) (.inl rfl))
  let _ : Vec F S8x128 .f32 ← Prog.lift (.load arg2 (Rect.unit (s := S16x2048) ![8 * g.val, 128 * j.val] S8x128.size (inbO g j g.2 j.2)).toLoadRect (View.loadsAt_vmem h_S8x128))
  Prog.lift (.store arg2 (Rect.unit (s := S16x2048) ![8 * g.val, 128 * j.val] S8x128.size (inbO g j g.2 j.2)) a.2.2.2.2.1 Finset.univ (View.stores_vmem_bits_univ h_S8x128 rfl) (.inl rfl))
  let _ : Vec F S8x128 .f32 ← Prog.lift (.load arg3 (Rect.unit (s := S16x2048) ![8 * g.val, 128 * j.val] S8x128.size (inbO g j g.2 j.2)).toLoadRect (View.loadsAt_vmem h_S8x128))
  Prog.lift (.store arg3 (Rect.unit (s := S16x2048) ![8 * g.val, 128 * j.val] S8x128.size (inbO g j g.2 j.2)) a.2.2.2.2.2.1 Finset.univ (View.stores_vmem_bits_univ h_S8x128 rfl) (.inl rfl))
  let _ : Vec F S8x128 .f32 ← Prog.lift (.load arg4 (Rect.unit (s := S16x2048) ![8 * g.val, 128 * j.val] S8x128.size (inbO g j g.2 j.2)).toLoadRect (View.loadsAt_vmem h_S8x128))
  Prog.lift (.store arg4 (Rect.unit (s := S16x2048) ![8 * g.val, 128 * j.val] S8x128.size (inbO g j g.2 j.2)) a.2.2.2.2.2.2 Finset.univ (View.stores_vmem_bits_univ h_S8x128 rfl) (.inl rfl))

/-- Zeros. -/
def zeroF : V F := broadcast S8x128 (Scalar.ofBits .f32 0x00000000#32)
def zeroI : W := broadcast S8x128 0#32

/-- The last point kept, nothing recorded. -/
def clear (a : Grp F) : Grp F := (a.1, a.2.1, a.2.2.1, zeroI, zeroF, zeroF, zeroF)

/-- The chunks of a list, each from lane 0. -/
def chunks (ok : (loopOf 0#32 128#32).OK) : List (Fin 16) → Carry F → Pg F PUnit
  | [], _ => pure ⟨⟩
  | j :: js, a => do
    let a ← steps arg0 arg5 0#32 128#32 ok (both (clear (lo a)) (clear (hi a)))
    emit arg1 arg2 arg3 arg4 0 j (lo a)
    emit arg1 arg2 arg3 arg4 1 j (hi a)
    chunks ok js a

theorem inb1 (a g : ℕ) (ha : a < 3) (hg : g < 2) :
    ∀ i, (![a, 8 * g, 0] : Fin 3 → Nat) i + S1x8x1.size i ≤ S3x16x4096.size i := by
  intro i; fin_cases i <;> simp <;> omega

/-- One word per cloud, in every lane. -/
def wide (u : Vec F S1x8x1 .f32) : V F := broadcastTo S8x128 (shapeCast S8x1 (shapeCast S8x1 u shapeCasts_S1x8x1_S8x1) shapeCasts_S8x1_S8x1) broadcasts_S8x1_S8x128

/-- Lane 0. -/
def lane0 : IVec S8x128 1 := cmpi .eq lane (broadcast S8x128 0#32)

/-- The point of coordinates `x`, `y`, `z`, the first of its cloud, recorded at lane 0. -/
def start (g : Fin 2) (x y z : Vec F S1x8x1 .f32) : Grp F :=
  (wide x, wide y, wide z, select lane0 (broadcastTo S8x128 (shapeCast S8x1 (offs g) shapeCasts_S8x1_S8x1) broadcasts_S8x1_S8x128) zeroI,
    select lane0 (wide x) zeroF, select lane0 (wide y) zeroF, select lane0 (wide z) zeroF)

/-- Group `g` before its first step: point 0 of each cloud is selected. -/
def first (g : Fin 2) : Pg F (Grp F) := do
  let x : Vec F S1x8x1 .f32 ← Prog.lift (.load arg0 (Rect.unit (s := S3x16x4096) ![0, 8 * g.val, 0] S1x8x1.size (inb1 0 g (by decide) g.2)).toLoadRect (View.loadsAt_vmem h_S1x8x1))
  let y : Vec F S1x8x1 .f32 ← Prog.lift (.load arg0 (Rect.unit (s := S3x16x4096) ![1, 8 * g.val, 0] S1x8x1.size (inb1 1 g (by decide) g.2)).toLoadRect (View.loadsAt_vmem h_S1x8x1))
  let z : Vec F S1x8x1 .f32 ← Prog.lift (.load arg0 (Rect.unit (s := S3x16x4096) ![2, 8 * g.val, 0] S1x8x1.size (inb1 2 g (by decide) g.2)).toLoadRect (View.loadsAt_vmem h_S1x8x1))
  pure (start g x y z)

/-- No distance yet. -/
def far : Vec F S16x4096 .f32 := shapeCast S16x4096 (broadcast S16x4096 (Scalar.ofBits .f32 0x7F800000#32)) shapeCasts_S16x4096_S16x4096

/-- The kernel. -/
def fps (ok1 : (loopOf 1#32 127#32).OK) (ok : (loopOf 0#32 128#32).OK) : Pg F PUnit := do
  let _ : Vec F S16x4096 .f32 ← Prog.lift (.load arg5 (Rect.unit (s := S16x4096) ![0, 0] S16x4096.size inb_S16x4096_S16x4096_0_0).toLoadRect (View.loadsAt_vmem h_S16x4096))
  Prog.lift (.store arg5 (Rect.unit (s := S16x4096) ![0, 0] S16x4096.size inb_S16x4096_S16x4096_0_0) far Finset.univ (View.stores_vmem_bits_univ h_S16x4096 rfl) (.inl rfl))
  let a ← first arg0 0
  let b ← first arg0 1
  let a ← steps arg0 arg5 1#32 127#32 ok1 (both a b)
  emit arg1 arg2 arg3 arg4 0 0 (lo a)
  emit arg1 arg2 arg3 arg4 1 0 (hi a)
  chunks arg0 arg1 arg2 arg3 arg4 arg5 ok [1, 2, 3, 4, 5, 6, 7, 8, 9, 10, 11, 12, 13, 14, 15] a

end Cert.SamplerIdeal.Fps

end
-- ==== Proof.Walk.lean ====
/- What the sampler's program does, piece by piece: a slab, the slabs of a list, a part, a group, a step, the steps of a
   chunk, the chunks. Every piece has a pure counterpart on the contents of its buffers (names ending in `V`), and a
   theorem that the piece, run on buffers of those contents, leaves and returns what the counterpart says. -/
module

public import proofs.«01_k».proof.Proof.Body
public import Idealize.ShloMosaic.Lib.VecWindow

@[expose] public section

noncomputable section

namespace Cert.SamplerIdeal.Fps

open Facts₀ Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Facts]

local notation "𝕄" => MT nD τ sig Unit (Elt F) ℕ (UR sig nD τ) ℕ

variable {defs : Defs nD τ sig (Elt F) Λ₀} (c : Dev nD)

local notation "WP" => wp frame (wpE defs Variants.none (c : Thread nD τ) Option.none) Set.univ

/-! ## One operation -/

section Op

variable {α : Type} {Q : α → sProp (MT nD τ sig Unit (Elt F) ℕ (UR sig nD τ) ℕ)} {S : Shape} {e : EltTy} (M : Memref sig .tc .vmem S e)

theorem load_at (q : PosShare TreeShare) (x : S.Idx → Elt F e) {off size : Fin S.rank → ℕ} (inb : ∀ a, off a + size a ≤ S.size a)
    {hl : M.view.LoadsAt (Rect.unit off size inb).toLoadRect} (k : ((Rect.unit off size inb).toLoadRect.shape.Idx → Elt F e) → Pg F α) :
    (owns (c : Thread nD τ) M q x : sProp 𝕄)
      ⊢ iprop((owns (c : Thread nD τ) M q x -∗ WP (k (window x off size inb)) Q)
        -∗ WP (Prog.lift (.load M (Rect.unit off size inb).toLoadRect hl) >>= k) Q) := by
  unfold owns
  iintro ⟨%f, %hf, H⟩ Hk
  iapply (wp_load Variants.none (c : Thread nD τ) none Set.univ (m := M) (r := (Rect.unit off size inb).toLoadRect) (hl := hl)
    (k := k) (S := M.view.set) (q := q) (f := f) (View.setOn_subset_set M.view _)) $$ H
  iintro H
  rw [View.readAt_unit M.view f inb rfl inb, hf]
  iapply Hk
  iexists f; isplitr; · ipureintro; exact hf
  iexact H

theorem store_at (x : S.Idx → Elt F e) {off size : Fin S.rank → ℕ} (inb : ∀ a, off a + size a ≤ S.size a)
    (w : (Rect.unit off size inb).shape.Idx → Elt F e)
    {hx : (M.access (Rect.unit off size inb)).Stores Finset.univ} {hm : Finset.univ = Finset.univ ∨ ∀ a, (Rect.unit off size inb).stride a = 1}
    (k : PUnit → Pg F α) :
    (owns (c : Thread nD τ) M fullShare x : sProp 𝕄)
      ⊢ iprop((owns (c : Thread nD τ) M fullShare (put x off size w) -∗ WP (k ⟨⟩) Q)
        -∗ WP (Prog.lift (.store M (Rect.unit off size inb) w Finset.univ hx hm) >>= k) Q) := by
  unfold owns
  iintro ⟨%f, %hf, H⟩ Hk
  iapply (wp_store_writes₀ Variants.none (c : Thread nD τ) none Set.univ (m := M) (r := Rect.unit off size inb) (w := w) (hx := hx) (hm := hm)
    (k := k) (S := M.view.set) (f := f) (View.set_slice_subset M.view _)) $$ H
  iintro H
  iapply Hk
  iexists _; isplitr; swap; · iexact H
  ipureintro
  rw [View.read_writes_cons_put M.view f inb w [] rfl, View.writes_nil, hf]

end Op

/-- A program that only returns. -/
theorem ret_at {α : Type} {Q : α → sProp (MT nD τ sig Unit (Elt F) ℕ (UR sig nD τ) ℕ)} (a : α) : Q a ⊢ WP (pure a : Pg F α) Q :=
  le_wp_ret _ _ _ _ _

/-! ## The pure counterparts -/

/-- The contents of the points' array, of the distances, of the results. -/
abbrev Pts (F : FTy → Type) := S3x16x4096.Idx → Elt F .f32
abbrev Dst (F : FTy → Type) := S16x4096.Idx → Elt F .f32
abbrev Out (F : FTy → Type) := S16x2048.Idx → Elt F .f32
abbrev OutI (F : FTy → Type) := S16x2048.Idx → Elt F .i32

variable (P : Pts F)

/-- Coordinate `a` of the points of slab `k`. -/
def ptsV (a : Fin 3) (g : Fin 2) (k : Fin 32) : V F :=
  shapeCast S8x128 (window P ![a.val, 8 * g.val, 128 * k.val] S1x8x128.size (inb3 a g k a.2 g.2 k.2) : Vec F S1x8x128 .f32) shapeCasts_S1x8x128_S8x128

/-- The slab's new distances. -/
def nearV (D : Dst F) (g : Fin 2) (k : Fin 32) (lx ly lz : V F) : V F :=
  minimumf (window D ![8 * g.val, 128 * k.val] S8x128.size (inb2 g k g.2 k.2) : Vec F S8x128 .f32) (dist (ptsV P 0 g k) (ptsV P 1 g k) (ptsV P 2 g k) lx ly lz)

/-- The distances once slab `k` is brought up to date. -/
def slabD (D : Dst F) (g : Fin 2) (k : Fin 32) (lx ly lz : V F) : Dst F :=
  put D ![8 * g.val, 128 * k.val] S8x128.size (shapeCast S8x128 (nearV P D g k lx ly lz) shapeCasts_S8x128_S8x128)

/-- What a slab offers to the maximum. -/
def offerV (D : Dst F) (g : Fin 2) (k : Fin 32) (lx ly lz : V F) : Best F :=
  (nearV P D g k lx ly lz, num k, ptsV P 0 g k, ptsV P 1 g k, ptsV P 2 g k)

def slabsV (g : Fin 2) (lx ly lz : V F) : List (Fin 32) → Dst F → Best F → Dst F × Best F
  | [], D, b => (D, b)
  | k :: ks, D, b => slabsV g lx ly lz ks (slabD P D g k lx ly lz) (better b (offerV P D g k lx ly lz))

def partV (g : Fin 2) (lx ly lz : V F) (k : Fin 32) (ks : List (Fin 32)) (D : Dst F) : Dst F × Best F :=
  slabsV P g lx ly lz ks (slabD P D g k lx ly lz) (offerV P D g k lx ly lz)

/-- The slabs of the two parts, but for the first of each. -/
def low : List (Fin 32) := [1, 2, 3, 4, 5, 6, 7, 8, 9, 10, 11, 12, 13, 14, 15]
def high : List (Fin 32) := [17, 18, 19, 20, 21, 22, 23, 24, 25, 26, 27, 28, 29, 30, 31]

def groupV (g : Fin 2) (i : BitVec 32) (D : Dst F) (a : Grp F) : Dst F × Grp F :=
  let r := partV P g a.1 a.2.1 a.2.2.1 0 low D
  let r' := partV P g a.1 a.2.1 a.2.2.1 16 high r.1
  (r'.1, record g i (better r.2 r'.2) a)

def stepV (i : BitVec 32) (s : Dst F × Carry F) : Dst F × Carry F :=
  let p := groupV P 0 i s.1 (lo s.2)
  let q := groupV P 1 i p.1 (hi s.2)
  (q.1, both p.2 q.2)

def stepsV (s : BitVec 32) (x : Dst F × Carry F) : ℕ → Dst F × Carry F
  | 0 => x
  | n + 1 => stepV P (Scf.iv s 1#32 n) (stepsV s x n)

/-! ## The pieces -/

section Pieces

variable {α : Type} (arg0 : Memref sig .tc .vmem S3x16x4096 .f32) (arg1 : Memref sig .tc .vmem S16x2048 .i32)
  (arg2 arg3 arg4 : Memref sig .tc .vmem S16x2048 .f32) (arg5 : Memref sig .tc .vmem S16x4096 .f32)

/-- The points and the distances held. -/
def held (D : Dst F) : sProp (MT nD τ sig Unit (Elt F) ℕ (UR sig nD τ) ℕ) :=
  iprop(owns (c : Thread nD τ) arg0 fullShare P ∗ owns (c : Thread nD τ) arg5 fullShare D)

theorem slab_walk (D : Dst F) (g : Fin 2) (k : Fin 32) (lx ly lz : V F) {Q : V F × V F × V F × V F → sProp 𝕄} :
    held c P arg0 arg5 D ⊢ iprop((held c P arg0 arg5 (slabD P D g k lx ly lz)
        -∗ Q (nearV P D g k lx ly lz, ptsV P 0 g k, ptsV P 1 g k, ptsV P 2 g k))
      -∗ WP (slab arg0 arg5 g k lx ly lz) Q) := by
  unfold slab held
  iintro ⟨HP, HD⟩ Hk
  iapply (load_at c arg0 fullShare P _ _) $$ HP; iintro HP
  iapply (load_at c arg0 fullShare P _ _) $$ HP; iintro HP
  iapply (load_at c arg0 fullShare P _ _) $$ HP; iintro HP
  iapply (load_at c arg5 fullShare D _ _) $$ HD; iintro HD
  iapply (load_at c arg5 fullShare D _ _) $$ HD; iintro HD
  iapply (store_at c arg5 D _ _ _) $$ HD; iintro HD
  iapply (ret_at c _)
  unfold slabD nearV ptsV
  ihave Hk := Hk $$ [HP HD]
  · isplitl [HP]; · iexact HP
    iexact HD
  iexact Hk

theorem slabs_walk (g : Fin 2) (lx ly lz : V F) (ks : List (Fin 32)) {Q : Best F → sProp 𝕄} (D : Dst F) (b : Best F) :
    held c P arg0 arg5 D ⊢ iprop((held c P arg0 arg5 (slabsV P g lx ly lz ks D b).1 -∗ Q (slabsV P g lx ly lz ks D b).2)
      -∗ WP (slabs arg0 arg5 g lx ly lz ks b) Q) := by
  induction ks generalizing D b with
  | nil =>
    unfold slabs slabsV
    iintro H Hk
    iapply (ret_at c _)
    iapply Hk
    iexact H
  | cons k ks ih =>
    unfold slabs slabsV
    rw [wp_bind]
    iintro H Hk
    iapply (slab_walk c P arg0 arg5 D g k lx ly lz) $$ H
    iintro H
    iapply (ih (slabD P D g k lx ly lz) (better b (offerV P D g k lx ly lz))) $$ H
    iexact Hk

theorem part_walk (g : Fin 2) (lx ly lz : V F) (k : Fin 32) (ks : List (Fin 32)) {Q : Best F → sProp 𝕄} (D : Dst F) :
    held c P arg0 arg5 D ⊢ iprop((held c P arg0 arg5 (partV P g lx ly lz k ks D).1 -∗ Q (partV P g lx ly lz k ks D).2)
      -∗ WP (part arg0 arg5 g lx ly lz k ks) Q) := by
  unfold part partV
  rw [wp_bind]
  iintro H Hk
  iapply (slab_walk c P arg0 arg5 D g k lx ly lz) $$ H
  iintro H
  iapply (slabs_walk c P arg0 arg5 g lx ly lz ks _ (offerV P D g k lx ly lz)) $$ H
  iexact Hk

theorem group_walk (g : Fin 2) (i : BitVec 32) (a : Grp F) {Q : Grp F → sProp 𝕄} (D : Dst F) :
    held c P arg0 arg5 D ⊢ iprop((held c P arg0 arg5 (groupV P g i D a).1 -∗ Q (groupV P g i D a).2)
      -∗ WP (group arg0 arg5 g i a) Q) := by
  unfold group groupV
  rw [wp_bind]
  iintro H Hk
  iapply (part_walk c P arg0 arg5 g a.1 a.2.1 a.2.2.1 0 low D) $$ H
  iintro H
  rw [wp_bind]
  iapply (part_walk c P arg0 arg5 g a.1 a.2.1 a.2.2.1 16 high _) $$ H
  iintro H
  iapply (ret_at c _)
  iapply Hk
  iexact H

theorem step_walk (i : BitVec 32) (D : Dst F) (a : Carry F) {Q : Carry F → sProp 𝕄} :
    held c P arg0 arg5 D ⊢ iprop((held c P arg0 arg5 (stepV P i (D, a)).1 -∗ Q (stepV P i (D, a)).2)
      -∗ WP (step arg0 arg5 i a) Q) := by
  unfold step stepV
  rw [wp_bind]
  iintro H Hk
  iapply (group_walk c P arg0 arg5 0 i (lo a) D) $$ H
  iintro H
  rw [wp_bind]
  iapply (group_walk c P arg0 arg5 1 i (hi a) _) $$ H
  iintro H
  iapply (ret_at c _)
  iapply Hk
  iexact H

theorem steps_walk (s n : BitVec 32) (ok : (loopOf s n).OK) (x : Dst F × Carry F) {Q : Carry F → sProp 𝕄} :
    held c P arg0 arg5 x.1 ⊢ iprop((held c P arg0 arg5 (stepsV P s x (loopOf s n).trips).1 -∗ Q (stepsV P s x (loopOf s n).trips).2)
      -∗ WP (steps arg0 arg5 s n ok x.2) Q) := by
  unfold steps
  iintro H Hk
  iapply (Scf.wp_for frame (wpE defs Variants.none (c : Thread nD τ) Option.none) Set.univ _ _ _ ok _ _
    (fun t a => iprop(held c P arg0 arg5 (stepsV P s x t).1 ∗ ⌜a = (stepsV P s x t).2⌝)) (fun t a => by
      iintro ⟨H, %e⟩
      subst e
      iapply (step_walk c P arg0 arg5 (Scf.iv s 1#32 t) (stepsV P s x t).1 (stepsV P s x t).2) $$ H
      iintro H
      isplitl [H]; · iexact H
      ipureintro; rfl))
  isplitl [H]
  · isplitl [H]; · iexact H
    ipureintro; rfl
  iintro %a ⟨H, %e⟩
  subst e
  iapply Hk
  iexact H

end Pieces

end Cert.SamplerIdeal.Fps

end
-- ==== Proof.Chunks.lean ====
/- The sampler's program on its buffers, from the pieces of a step up: the records of a chunk put into the results, the
   chunks one after another, and the whole. Whatever the results held before, they end at `outV`. -/
module

public import proofs.«01_k».proof.Proof.Walk

@[expose] public section

noncomputable section

namespace Cert.SamplerIdeal.Fps

open Facts₀ Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Facts]

local notation "𝕄" => MT nD τ sig Unit (Elt F) ℕ (UR sig nD τ) ℕ

variable {defs : Defs nD τ sig (Elt F) Λ₀} (c : Dev nD)

local notation "WP" => wp frame (wpE defs Variants.none (c : Thread nD τ) Option.none) Set.univ

/-! ## The pure counterparts -/

/-- What a group has recorded: the row numbers and the coordinates. -/
def rI (a : Grp F) : W := a.2.2.2.1
def rX (a : Grp F) : V F := a.2.2.2.2.1
def rY (a : Grp F) : V F := a.2.2.2.2.2.1
def rZ (a : Grp F) : V F := a.2.2.2.2.2.2

section Pure

variable {α : Type} (P : Pts F) (f : Grp F → S8x128.Idx → α)

/-- Group `g`'s records over columns `128 j` on of a result. -/
def emitV (g : Fin 2) (j : Fin 16) (O : S16x2048.Idx → α) (a : Grp F) : S16x2048.Idx → α :=
  put O ![8 * g.val, 128 * j.val] S8x128.size (f a)

/-- Both groups'. -/
def emitsV (j : Fin 16) (O : S16x2048.Idx → α) (a : Carry F) : S16x2048.Idx → α :=
  emitV f 1 j (emitV f 0 j O (lo a)) (hi a)

/-- One chunk. -/
def chunkV (x : Dst F × Carry F) : Dst F × Carry F :=
  stepsV P 0#32 (x.1, both (clear (lo x.2)) (clear (hi x.2))) (loopOf 0#32 128#32).trips

/-- The chunks of a list: the distances left, and a result. -/
def chunksD : List (Fin 16) → Dst F × Carry F → Dst F
  | [], x => x.1
  | _ :: js, x => chunksD js (chunkV P x)

def chunksV : List (Fin 16) → (S16x2048.Idx → α) → Dst F × Carry F → S16x2048.Idx → α
  | [], O, _ => O
  | j :: js, O, x => chunksV js (emitsV f j O (chunkV P x).2) (chunkV P x)

/-- Group `g` with point 0 of each cloud selected. -/
def startV (g : Fin 2) : Grp F :=
  start g (window P ![0, 8 * g.val, 0] S1x8x1.size (inb1 0 g (by decide) g.2)) (window P ![1, 8 * g.val, 0] S1x8x1.size (inb1 1 g (by decide) g.2))
    (window P ![2, 8 * g.val, 0] S1x8x1.size (inb1 2 g (by decide) g.2))

/-- The first chunk, which starts with point 0 selected. -/
def openV : Dst F × Carry F :=
  stepsV P 1#32 (far, both (startV P 0) (startV P 1)) (loopOf 1#32 127#32).trips

/-- The chunks after the first. -/
def later : List (Fin 16) := [1, 2, 3, 4, 5, 6, 7, 8, 9, 10, 11, 12, 13, 14, 15]

/-- A result, of what it held before. -/
def outV (O : S16x2048.Idx → α) : S16x2048.Idx → α :=
  chunksV P f later (emitsV f 0 O (openV P).2) (openV P)

end Pure

/-! ## The program -/

section Pieces

variable (P : Pts F) (arg0 : Memref sig .tc .vmem S3x16x4096 .f32) (arg1 : Memref sig .tc .vmem S16x2048 .i32)
  (arg2 arg3 arg4 : Memref sig .tc .vmem S16x2048 .f32) (arg5 : Memref sig .tc .vmem S16x4096 .f32)

/-- A store that ends its program. -/
theorem store_last {S : Shape} {e : EltTy} (M : Memref sig .tc .vmem S e) {Q : PUnit → sProp (MT nD τ sig Unit (Elt F) ℕ (UR sig nD τ) ℕ)}
    (x : S.Idx → Elt F e) {off size : Fin S.rank → ℕ} (inb : ∀ a, off a + size a ≤ S.size a)
    (w : (Rect.unit off size inb).shape.Idx → Elt F e)
    {hx : (M.access (Rect.unit off size inb)).Stores Finset.univ} {hm : Finset.univ = Finset.univ ∨ ∀ a, (Rect.unit off size inb).stride a = 1} :
    (owns (c : Thread nD τ) M fullShare x : sProp 𝕄)
      ⊢ iprop((owns (c : Thread nD τ) M fullShare (put x off size w) -∗ Q ⟨⟩)
        -∗ WP (Prog.lift (.store M (Rect.unit off size inb) w Finset.univ hx hm)) Q) := by
  iintro H Hk
  iapply (store_at (defs := defs) (Q := Q) c M x inb w (hx := hx) (hm := hm) (fun _ => (.ret ⟨⟩ : Pg F PUnit))) $$ H
  iintro H
  iapply (le_wp_ret _ _ _ _ _)
  iapply Hk
  iexact H

/-- The results held. -/
def outs (O1 : OutI F) (O2 O3 O4 : Out F) : sProp (MT nD τ sig Unit (Elt F) ℕ (UR sig nD τ) ℕ) :=
  iprop(owns (c : Thread nD τ) arg1 fullShare O1 ∗ owns (c : Thread nD τ) arg2 fullShare O2 ∗ owns (c : Thread nD τ) arg3 fullShare O3
    ∗ owns (c : Thread nD τ) arg4 fullShare O4)

theorem emit_walk (g : Fin 2) (j : Fin 16) (a : Grp F) (O1 : OutI F) (O2 O3 O4 : Out F) {Q : PUnit → sProp 𝕄} :
    outs c arg1 arg2 arg3 arg4 O1 O2 O3 O4 ⊢ iprop((outs c arg1 arg2 arg3 arg4 (emitV rI g j O1 a) (emitV rX g j O2 a) (emitV rY g j O3 a) (emitV rZ g j O4 a) -∗ Q ⟨⟩)
      -∗ WP (emit arg1 arg2 arg3 arg4 g j a) Q) := by
  unfold emit outs emitV rI rX rY rZ
  iintro ⟨H1, H2, H3, H4⟩ Hk
  iapply (load_at c arg1 fullShare O1 _ _) $$ H1; iintro H1
  iapply (store_at c arg1 O1 _ _ _) $$ H1; iintro H1
  iapply (load_at c arg2 fullShare O2 _ _) $$ H2; iintro H2
  iapply (store_at c arg2 O2 _ _ _) $$ H2; iintro H2
  iapply (load_at c arg3 fullShare O3 _ _) $$ H3; iintro H3
  iapply (store_at c arg3 O3 _ _ _) $$ H3; iintro H3
  iapply (load_at c arg4 fullShare O4 _ _) $$ H4; iintro H4
  iapply (store_last c arg4 O4 _ _) $$ H4; iintro H4
  iapply Hk
  isplitl [H1]; · iexact H1
  isplitl [H2]; · iexact H2
  isplitl [H3]; · iexact H3
  iexact H4

theorem first_walk (D : Dst F) (g : Fin 2) {Q : Grp F → sProp 𝕄} :
    held c P arg0 arg5 D ⊢ iprop((held c P arg0 arg5 D -∗ Q (startV P g)) -∗ WP (first arg0 g) Q) := by
  unfold first held startV
  iintro ⟨HP, HD⟩ Hk
  iapply (load_at c arg0 fullShare P _ _) $$ HP; iintro HP
  iapply (load_at c arg0 fullShare P _ _) $$ HP; iintro HP
  iapply (load_at c arg0 fullShare P _ _) $$ HP; iintro HP
  iapply (ret_at c _)
  iapply Hk
  isplitl [HP]; · iexact HP
  iexact HD

theorem chunks_walk (ok : (loopOf 0#32 128#32).OK) (js : List (Fin 16)) (x : Dst F × Carry F) (O1 : OutI F) (O2 O3 O4 : Out F) {Q : PUnit → sProp 𝕄} :
    iprop(held c P arg0 arg5 x.1 ∗ outs c arg1 arg2 arg3 arg4 O1 O2 O3 O4)
      ⊢ iprop((held c P arg0 arg5 (chunksD P js x) -∗ outs c arg1 arg2 arg3 arg4 (chunksV P rI js O1 x) (chunksV P rX js O2 x) (chunksV P rY js O3 x) (chunksV P rZ js O4 x) -∗ Q ⟨⟩)
      -∗ WP (chunks arg0 arg1 arg2 arg3 arg4 arg5 ok js x.2) Q) := by
  induction js generalizing x O1 O2 O3 O4 with
  | nil =>
    unfold chunks chunksD chunksV
    iintro ⟨H, HO⟩ Hk
    iapply (ret_at c _)
    iapply Hk $$ H HO
  | cons j js ih =>
    unfold chunks chunksD chunksV
    rw [wp_bind]
    iintro ⟨H, HO⟩ Hk
    iapply (steps_walk c P arg0 arg5 0#32 128#32 ok (x.1, both (clear (lo x.2)) (clear (hi x.2)))) $$ H
    iintro H
    rw [wp_bind]
    iapply (emit_walk c arg1 arg2 arg3 arg4 0 j _ O1 O2 O3 O4) $$ HO
    iintro HO
    rw [wp_bind]
    iapply (emit_walk c arg1 arg2 arg3 arg4 1 j _ _ _ _ _) $$ HO
    iintro HO
    iapply (ih (chunkV P x) _ _ _ _) $$ [H HO]
    · isplitl [H]; · iexact H
      iexact HO
    iexact Hk

/-- A store of the whole. -/
theorem put_all {S : Shape} {α : Type} {off : Fin S.rank → ℕ} (h : ∀ a, off a = 0) (x : S.Idx → α) (w : S.Idx → α) : put x off S.size w = w := by
  funext y
  unfold put
  rw [dif_pos (fun a => ⟨by rw [h a]; exact Nat.zero_le _, by rw [h a, Nat.zero_add]; exact (y a).2⟩)]
  exact congrArg w (funext fun a => Fin.ext (by show (y a).val - off a = _; rw [h a, Nat.sub_zero]))

theorem fps_walk (ok1 : (loopOf 1#32 127#32).OK) (ok : (loopOf 0#32 128#32).OK) (D : Dst F) (O1 : OutI F) (O2 O3 O4 : Out F) {Q : PUnit → sProp 𝕄} :
    iprop(held c P arg0 arg5 D ∗ outs c arg1 arg2 arg3 arg4 O1 O2 O3 O4)
      ⊢ iprop((held c P arg0 arg5 (chunksD P later (openV P)) -∗ outs c arg1 arg2 arg3 arg4 (outV P rI O1) (outV P rX O2) (outV P rY O3) (outV P rZ O4) -∗ Q ⟨⟩)
      -∗ WP (fps arg0 arg1 arg2 arg3 arg4 arg5 ok1 ok) Q) := by
  unfold fps
  iintro ⟨H, HO⟩ Hk
  unfold held
  icases H with ⟨HP, HD⟩
  iapply (load_at c arg5 fullShare D _ _) $$ HD; iintro HD
  iapply (store_at c arg5 D _ _ _) $$ HD; iintro HD
  rw [put_all (S := S16x4096) (by intro a; fin_cases a <;> rfl)]
  rw [wp_bind]
  iapply (first_walk c P arg0 arg5 far 0) $$ [HP HD]
  · unfold held; isplitl [HP]; · iexact HP
    iexact HD
  iintro H
  rw [wp_bind]
  iapply (first_walk c P arg0 arg5 far 1) $$ H
  iintro H
  rw [wp_bind]
  iapply (steps_walk c P arg0 arg5 1#32 127#32 ok1 (far, both (startV P 0) (startV P 1))) $$ H
  iintro H
  rw [wp_bind]
  iapply (emit_walk c arg1 arg2 arg3 arg4 0 0 _ O1 O2 O3 O4) $$ HO
  iintro HO
  rw [wp_bind]
  iapply (emit_walk c arg1 arg2 arg3 arg4 1 0 _ _ _ _ _) $$ HO
  iintro HO
  iapply (chunks_walk c P arg0 arg1 arg2 arg3 arg4 arg5 ok later (openV P) _ _ _ _) $$ [H HO]
  · isplitl [H]; · iexact H
    iexact HO
  iexact Hk

end Pieces

end Cert.SamplerIdeal.Fps

end
-- ==== Proof.Result.lean ====
/- What the sampler's program leaves in a result, at an index: chunk `j` of the columns is what the two groups have
   recorded when the `j`th chunk of steps ends, whatever the result held before. -/
module

public import proofs.«01_k».proof.Proof.Chunks

@[expose] public section

noncomputable section

namespace Cert.SamplerIdeal.Fps

open Facts₀ Idealize.ShloMosaic Idealize.ShloMosaic.TcCoe
open VecWindow (window put)

variable {F : FTy → Type} [FloatOps F] [Facts]

variable {α : Type} (P : Pts F) (f : Grp F → S8x128.Idx → α)

/-- A result's index is in one group's rows and one chunk's columns, at this place of theirs. -/
def grp (y : S16x2048.Idx) : Fin 2 := ⟨(y 0).val / 8, by have : (y 0).val < 16 := (y 0).2; omega⟩
def loc (y : S16x2048.Idx) : S8x128.Idx
  | 0 => ⟨(y 0).val % 8, Nat.mod_lt _ (by decide)⟩
  | 1 => ⟨(y 1).val % 128, Nat.mod_lt _ (by decide)⟩

/-- A group's half of what is carried. -/
def half (g : Fin 2) (a : Carry F) : Grp F := if g = 0 then lo a else hi a

/-- After chunk `j`. -/
def endOf : ℕ → Dst F × Carry F
  | 0 => openV P
  | j + 1 => chunkV P (endOf j)

/-- The result. -/
def resV (y : S16x2048.Idx) : α := f (half (grp y) (endOf P ((y 1).val / 128)).2) (loc y)

theorem emitV_at (g : Fin 2) (j : Fin 16) (O : S16x2048.Idx → α) (a : Grp F) (y : S16x2048.Idx) :
    emitV f g j O a y = if grp y = g ∧ (y 1).val / 128 = j.val then f a (loc y) else O y := by
  have h0 : (y 0).val < 16 := (y 0).2
  have h1 : (y 1).val < 2048 := (y 1).2
  unfold emitV put
  by_cases h : grp y = g ∧ (y 1).val / 128 = j.val
  · obtain ⟨hg, hj⟩ := h
    have hg : (y 0).val / 8 = g.val := congrArg Fin.val hg
    have hin : ∀ a : Fin 2, (![8 * g.val, 128 * j.val] : Fin 2 → ℕ) a ≤ (y a).val ∧ (y a).val < (![8 * g.val, 128 * j.val] : Fin 2 → ℕ) a + S8x128.size a := by
      intro a; fin_cases a
      · exact ⟨by show 8 * g.val ≤ _; simp only [Fin.zero_eta]; omega, by show _ < 8 * g.val + 8; simp only [Fin.zero_eta]; omega⟩
      · exact ⟨by show 128 * j.val ≤ _; simp only [Fin.mk_one]; omega, by show _ < 128 * j.val + 128; simp only [Fin.mk_one]; omega⟩
    rw [dif_pos hin, if_pos ⟨Fin.ext hg, hj⟩]
    refine congrArg (f a) (funext fun b => Fin.ext ?_)
    fin_cases b
    · show (y 0).val - 8 * g.val = (y 0).val % 8; omega
    · show (y 1).val - 128 * j.val = (y 1).val % 128; omega
  · rw [if_neg h, dif_neg]
    intro hin
    have e0 : 8 * g.val ≤ (y 0).val ∧ (y 0).val < 8 * g.val + 8 := hin 0
    have e1 : 128 * j.val ≤ (y 1).val ∧ (y 1).val < 128 * j.val + 128 := hin 1
    exact h ⟨Fin.ext (by show (y 0).val / 8 = _; omega), by omega⟩

theorem emitsV_at (j : Fin 16) (O : S16x2048.Idx → α) (a : Carry F) (y : S16x2048.Idx) :
    emitsV f j O a y = if (y 1).val / 128 = j.val then f (half (grp y) a) (loc y) else O y := by
  unfold emitsV
  rw [emitV_at, emitV_at]
  by_cases hj : (y 1).val / 128 = j.val
  · have hg : grp y = 0 ∨ grp y = 1 := by
      generalize grp y = g; fin_cases g <;> simp
    rcases hg with hg | hg <;> rw [hg] <;> simp [hj, half]
  · simp [hj]

theorem chunksV_at (js : List (Fin 16)) (k : ℕ) (hjs : ∀ i (h : i < js.length), (js[i]).val = k + 1 + i) (O : S16x2048.Idx → α) (y : S16x2048.Idx) :
    chunksV P f js O (endOf P k) y = if k < (y 1).val / 128 ∧ (y 1).val / 128 ≤ k + js.length then resV P f y else O y := by
  induction js generalizing k O with
  | nil =>
    unfold chunksV
    rw [if_neg]
    rintro ⟨h1, h2⟩
    simp only [List.length_nil] at h2
    omega
  | cons j js ih =>
    have hj : j.val = k + 1 := hjs 0 (by simp)
    unfold chunksV
    have h := ih (k + 1) (fun i h => by
      have := hjs (i + 1) (by simpa using h)
      simp only [List.getElem_cons_succ] at this
      omega) (emitsV f j O (chunkV P (endOf P k)).2)
    refine h.trans ?_
    rw [emitsV_at, hj]
    simp only [List.length_cons]
    by_cases h1 : (y 1).val / 128 = k + 1
    · rw [if_neg (by omega), if_pos h1, if_pos (by omega)]
      unfold resV
      rw [h1]
      rfl
    · by_cases h2 : k + 1 < (y 1).val / 128 ∧ (y 1).val / 128 ≤ k + 1 + js.length
      · rw [if_pos h2, if_pos (by omega)]
      · rw [if_neg h2, if_neg h1, if_neg (by omega)]

theorem outV_eq (O : S16x2048.Idx → α) : outV P f O = resV P f := by
  funext y
  have h1 : (y 1).val < 2048 := (y 1).2
  unfold outV
  refine (chunksV_at P f later 0 (by decide) _ y).trans ?_
  have hl : later.length = 15 := rfl
  by_cases h : (y 1).val / 128 = 0
  · rw [if_neg (by omega), emitsV_at]; refine (if_pos (h.trans rfl)).trans ?_
    unfold resV
    rw [h]
    rfl
  · rw [if_pos (by omega)]

end Cert.SamplerIdeal.Fps

end
-- ==== Proof.Sound.lean ====
/- The printed body is the program of Body.lean, and so: run on whole buffers, with the points held, it leaves the
   results at `resV` of the points. -/
module

public import proofs.«01_k».proof.SamplerIdeal
public import proofs.«01_k».proof.Proof.Result
public import Idealize.ShloMosaic.Lib.Tactic

@[expose] public section

noncomputable section

namespace Cert.SamplerIdeal.Fps

open Facts₀ Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Facts]

local notation "𝕄" => MT nD τ sig Unit (Elt F) ℕ (UR sig nD τ) ℕ

variable (arg0 : Memref sig .tc .vmem S3x16x4096 .f32) (h0 : arg0.IsWhole) (arg1 : Memref sig .tc .vmem S16x2048 .i32) (h1 : arg1.IsWhole)
  (arg2 : Memref sig .tc .vmem S16x2048 .f32) (h2 : arg2.IsWhole) (arg3 : Memref sig .tc .vmem S16x2048 .f32) (h3 : arg3.IsWhole)
  (arg4 : Memref sig .tc .vmem S16x2048 .f32) (h4 : arg4.IsWhole) (arg5 : Memref sig .tc .vmem S16x4096 .f32) (h5 : arg5.IsWhole)

/-- The parts are joined across the loops by associativity; the rest is unfolding. -/
theorem body_eq : cc0__fps_body (F := F) arg0 h0 arg1 h1 arg2 h2 arg3 h3 arg4 h4 arg5 h5 = fps arg0 arg1 arg2 arg3 arg4 arg5 k0_t1_ok k0_t2_ok := by
  simp only [cc0__fps_body, k0_part739, k0_part740, k0_part741, k0_part742, k0_part743, k0_part744, k0_part745, k0_part746, k0_part747, k0_part748, bind_assoc]
  sl_kernel_rfl

theorem body_walk {defs : Defs nD τ sig (Elt F) Λ₀} (c : Dev nD) (P : Pts F) (D : Dst F) (O1 : OutI F) (O2 O3 O4 : Out F) {Q : PUnit → sProp 𝕄} :
    iprop(held c P arg0 arg5 D ∗ outs c arg1 arg2 arg3 arg4 O1 O2 O3 O4)
      ⊢ iprop((held c P arg0 arg5 (chunksD P later (openV P)) -∗ outs c arg1 arg2 arg3 arg4 (resV P rI) (resV P rX) (resV P rY) (resV P rZ) -∗ Q ⟨⟩)
      -∗ wp frame (wpE defs Variants.none (c : Thread nD τ) Option.none) Set.univ (cc0__fps_body arg0 h0 arg1 h1 arg2 h2 arg3 h3 arg4 h4 arg5 h5) Q) := by
  rw [body_eq]
  have h := fps_walk (defs := defs) c P arg0 arg1 arg2 arg3 arg4 arg5 k0_t1_ok k0_t2_ok D O1 O2 O3 O4 (Q := Q)
  rw [outV_eq, outV_eq, outV_eq, outV_eq] at h
  exact h

end Cert.SamplerIdeal.Fps

end
-- ==== Proof.Run.lean ====
/- The sampler's call: the pipeline's proof data over what the body leaves (`resV` of the points), and the run, over any
   float values: the four results are `resV` of the transposed points, the argument is left, every semaphore is at zero. -/
module

public import proofs.«01_k».proof.Proof.Sound
public import proofs.«01_k».proof.Proof.Gen.SamplerIdeal.Launch
public import proofs.«01_k».proof.Proof.Gen.SamplerIdeal.Points
public import Idealize.ShloMosaic.Lib.Pipeline.Frame
public import Idealize.ShloMosaic.Lib.Pipeline.FrameBody
public import Idealize.ShloMosaic.Lib.Pipeline.Value
public import Idealize.ShloMosaic.Lib.Pipeline.ValueKit.Geometry
public import Idealize.ShloMosaic.Lib.Claim

@[expose] public section

noncomputable section

namespace Cert.SamplerIdeal.Fps

open Cert.SamplerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when its call begins. -/
abbrev atCall (c : Dev nD) (b : Ref sig .tc) : Buf (Elt F) ((c : Thread nD τ).loc b) := StableHlo.after hostOps0 (fun b => m (c, b)) b

theorem none_fresh : (hostOps0 (F := F)).Forall fun op => op.fresh = ∅ := ⟨rfl, rfl⟩

theorem reaches (𝒱₀ : Variants) : Pipeline.HMain (Ix := Unit) (Name := ℕ) (U := UR sig nD τ) (Lvl := ℕ) cfgs 0 defs₀ 𝒱₀ m (main (F := F)) (atCall m) :=
  Pipeline.hmain_prefix cfgs 0 defs₀ 𝒱₀ m main hostOps0 hostOps0_sub none_fresh main_chain

/-- The points as the body finds them. -/
def points (c : Dev nD) (t : Fin cfg0.N) : Pts F := ((cfg0.win 0).blk t).view.read (Elt F) (atCall m c (Pipeline.arrRef spec0 0))

/-- The proof data. -/
def dats (_ : Fin 1) (c : Dev nD) : Dat τ (Elt F) Unit ℕ (UR sig nD τ) ℕ cfg0 c where
  A w := atCall m c (Pipeline.arrRef spec0 w)
  after w t := match w with
    | ⟨0, _⟩ => points m c t
    | ⟨1, _⟩ => resV (points m c t) rI
    | ⟨2, _⟩ => resV (points m c t) rX
    | ⟨3, _⟩ => resV (points m c t) rY
    | ⟨4, _⟩ => resV (points m c t) rZ
  Φ _ := Pipeline.ΦA spec0 c
  q _ := fullShare
  owed _ := 0

theorem dats_A (c : Dev nD) (w : Fin cfg0.W) : (dats m 0 c).A w = atCall m c (Pipeline.arrRef spec0 w) := by
  dsimp only [dats]

theorem after_0 (c : Dev nD) (t : Fin cfg0.N) : (dats m 0 c).after 0 t = points m c t := by dsimp only [dats]
theorem after_1 (c : Dev nD) (t : Fin cfg0.N) : (dats m 0 c).after 1 t = resV (points m c t) rI := by dsimp only [dats]
theorem after_2 (c : Dev nD) (t : Fin cfg0.N) : (dats m 0 c).after 2 t = resV (points m c t) rX := by dsimp only [dats]
theorem after_3 (c : Dev nD) (t : Fin cfg0.N) : (dats m 0 c).after 3 t = resV (points m c t) rY := by dsimp only [dats]
theorem after_4 (c : Dev nD) (t : Fin cfg0.N) : (dats m 0 c).after 4 t = resV (points m c t) rZ := by dsimp only [dats]

/-- The points are in their buffer when the body starts. -/
theorem before_0 (c : Dev nD) (t : Fin cfg0.N) (d) : (dats m 0 c).before 0 t d = points m c t :=
  ((dats m 0 c).before_in_eq_fetched 0 rfl (fun _ => rfl) (fun _ _ _ => rfl)
    (fun t => by rw [after_0]; unfold Dat.blockOf points; rw [dats_A]; try rfl) t d).trans
    (by unfold Dat.fetched Dat.blockOf points; rw [dats_A]; try rfl)

/-- The distances' buffer. -/
abbrev scratch : Memref sig .tc .vmem S16x4096 .f32 := Memref.whole cc0_scratch0

theorem inv_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- What the body is called with, and what it gives back. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def yields (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem body_sound (c : Dev nD) (t : Fin cfg0.N) :
    given m c t ⊢ wp frame (wpE (defs₀ (F := F)) Variants.none (c : Thread nD τ) Option.none) Set.univ (bodyAt0 t) (fun _ => yields m c t) := by
  unfold given yields bodyAt0
  simp only [before_0]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, inv_eq]
  iintro ⟨⟨⟨%ds, HS⟩, Hg⟩, Ho, ⟨%d0, H0⟩, ⟨%d1, H1⟩, ⟨%d2, H2⟩, ⟨%d3, H3⟩, ⟨%d4, H4⟩⟩
  iapply (body_walk _ _ _ _ _ _ _ _ _ _ _ _ c (points m c t) ds _ _ _ _) $$ [H0 H1 H2 H3 H4 HS]
  · unfold held outs
    isplitl [H0 HS]
    · isplitl [H0]; · iexact H0
      iexact HS
    isplitl [H1]; · iexact H1
    isplitl [H2]; · iexact H2
    isplitl [H3]; · iexact H3
    iexact H4
  unfold held outs
  iintro ⟨H0, HS⟩ ⟨H1, H2, H3, H4⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]; · iexact H3
  iexact H4

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

set_option backward.isDefEq.respectTransparency.types false in
theorem run_call : θ_run defs (onTc (τ := τ) (main (F := F))) (s₀ m ρ) (fun r => (Pipeline.FramePost cfgs (dats m) 0 (atCall m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := atCall m) (hmain := reaches m Variants.none) (hA := dats_A m) (hΦ := fun _ _ => rfl)

/-- The points by coordinate, cloud and number in the cloud. -/
def byAxis (c : Dev nD) : Pts F :=
  transpose S3x16x4096 [2, 0, 1] (shapeCast S16x4096x3 (m ((c.tc : Thread nD τ).loc main_arg0) : Vec F S65536x3 .f32) shapeCasts_S65536x3_S16x4096x3) transposes_S16x4096x3_S3x16x4096_2_0_1

theorem points_eq (c : Dev nD) (t : Fin cfg0.N) : points m c t = byAxis m c := by
  funext x
  unfold points byAxis
  rw [View.read_apply]
  show atCall m c main_v1 _ = _
  have h : atCall m c main_v1 = byAxis m c := by
    show StableHlo.after hostOps0 (fun b => m (c, b)) (Proc.devRef .tc main_v1) = _
    unfold hostOps0
    after_results
    rfl
  rw [h]
  refine congrArg (byAxis m c) (funext fun a => Fin.ext ?_)
  show 0 * _ + 1 * (x a).val = (x a).val
  omega

/-- The results' arrays at the end: the one block is the array. -/
theorem ends (c : Dev nD) : (dats m 0 c).arrAt 1 cfg0.N = resV (byAxis m c) rI ∧ (dats m 0 c).arrAt 2 cfg0.N = resV (byAxis m c) rX
    ∧ (dats m 0 c).arrAt 3 cfg0.N = resV (byAxis m c) rY ∧ (dats m 0 c).arrAt 4 cfg0.N = resV (byAxis m c) rZ := by
  have hz : ∀ n k : ℕ, n = 0 * k + 1 * n := by intros; omega
  refine ⟨(dats m 0 c).arrAt_eq_of_cover 1 (resV (byAxis m c) rI) (fun t _ => ?_) (fun i => ⟨t0_0, flush0_1 _, ?_⟩),
    (dats m 0 c).arrAt_eq_of_cover 2 (resV (byAxis m c) rX) (fun t _ => ?_) (fun i => ⟨t0_0, flush0_2 _, ?_⟩),
    (dats m 0 c).arrAt_eq_of_cover 3 (resV (byAxis m c) rY) (fun t _ => ?_) (fun i => ⟨t0_0, flush0_3 _, ?_⟩),
    (dats m 0 c).arrAt_eq_of_cover 4 (resV (byAxis m c) rZ) (fun t _ => ?_) (fun i => ⟨t0_0, flush0_4 _, ?_⟩)⟩
  all_goals first
    | (rename_i i; exact (congrArg (· ∈ _) (funext fun a => Fin.ext (hz (i a).val _).symm)).mp (View.emb_mem_set _ i))
    | (rename_i t _
       rw [← points_eq m c t]
       funext x
       rw [Pipeline.Dat.flushed_apply, View.read_apply]
       first | rw [after_1] | rw [after_2] | rw [after_3] | rw [after_4]
       exact congrArg (resV (points m c t) _) (funext fun a => Fin.ext (hz (x a).val _)))

/-- The run. -/
theorem run_main : θ_run defs (onTc (τ := τ) (main (F := F))) ⟨m, fun _ => 0, ρ⟩ (fun r => (∀ c : Dev nD,
      r.2.mem ((c.tc : Thread nD τ).loc main_v2_0) = resV (byAxis m c) rI
      ∧ r.2.mem ((c.tc : Thread nD τ).loc main_v2_1) = resV (byAxis m c) rX
      ∧ r.2.mem ((c.tc : Thread nD τ).loc main_v2_2) = resV (byAxis m c) rY
      ∧ r.2.mem ((c.tc : Thread nD τ).loc main_v2_3) = resV (byAxis m c) rZ
      ∧ r.2.mem ((c.tc : Thread nD τ).loc main_arg0) = m ((c.tc : Thread nD τ).loc main_arg0))
      ∧ r.2.sem = fun _ => 0) :=
  (θ_run defs _ _).mono (fun _ h => ⟨fun c => ⟨((h.1 c).1 1).trans (ends m c).1, ((h.1 c).1 2).trans (ends m c).2.1,
    ((h.1 c).1 3).trans (ends m c).2.2.1, ((h.1 c).1 4).trans (ends m c).2.2.2,
    ((h.1 c).2 main_arg0 (Pipeline.mem_restRefs_of main_arg0 (by decide) (by decide))).trans (by
      show StableHlo.after hostOps0 (fun b => m (c, b)) (Proc.devRef .tc main_arg0) = _
      unfold hostOps0
      after_results)⟩, h.2⟩) (run_call m ρ)

end Cert.SamplerIdeal.Fps

end
-- ==== Proof.Farthest.lean ====
/- Farthest point first in one cloud of 4096 points, over the extended reals: after each selection every point keeps its
   least distance to the selected ones, and the next selected is the first of the points whose least distance is greatest. -/
module

public import Mathlib.Data.EReal.Operations
public import Mathlib.Data.Finset.Max
public import Mathlib.Data.Fintype.Basic

@[expose] public section

noncomputable section

namespace Cert.Farthest

/-- `n` is the first of the points at which `f` is greatest. -/
def IsFirst (f : Fin 4096 → EReal) (n : Fin 4096) : Prop := (∀ m, f m ≤ f n) ∧ ∀ m, f m = f n → n ≤ m

theorem IsFirst.unique {f : Fin 4096 → EReal} {n n' : Fin 4096} (h : IsFirst f n) (h' : IsFirst f n') : n = n' :=
  le_antisymm (h.2 n' (le_antisymm (h.1 n') (h'.1 n))) (h'.2 n (le_antisymm (h'.1 n) (h.1 n')))

theorem exists_first (f : Fin 4096 → EReal) : ∃ n, IsFirst f n := by
  obtain ⟨a, _, ha⟩ := Finset.exists_max_image Finset.univ f ⟨0, Finset.mem_univ _⟩
  obtain ⟨n, hn, hle⟩ := Finset.exists_min_image (Finset.univ.filter fun m => f m = f a) id ⟨a, by simp⟩
  have hf : f n = f a := (Finset.mem_filter.1 hn).2
  exact ⟨n, fun m => by rw [hf]; exact ha m (Finset.mem_univ _), fun m hm => hle m (Finset.mem_filter.2 ⟨Finset.mem_univ _, hm.trans hf⟩)⟩

/-- The first of the points at which `f` is greatest. -/
def first (f : Fin 4096 → EReal) : Fin 4096 := Classical.choose (exists_first f)

theorem isFirst_first (f : Fin 4096 → EReal) : IsFirst f (first f) := Classical.choose_spec (exists_first f)

theorem IsFirst.eq {f : Fin 4096 → EReal} {n : Fin 4096} (h : IsFirst f n) : n = first f := h.unique (isFirst_first f)

variable (d : Fin 4096 → Fin 4096 → EReal)

/-- The least distances to the points selected before the last, and the last selected, after `t` selections besides point 0's. -/
def run : ℕ → (Fin 4096 → EReal) × Fin 4096
  | 0 => (fun _ => ⊤, 0)
  | t + 1 => (fun n => min ((run t).1 n) (d n (run t).2), first fun n => min ((run t).1 n) (d n (run t).2))

/-- The least distances, and the last selected. -/
def near (t : ℕ) : Fin 4096 → EReal := (run d t).1
def last (t : ℕ) : Fin 4096 := (run d t).2

theorem near_zero : near d 0 = fun _ => ⊤ := rfl
theorem last_zero : last d 0 = 0 := rfl
theorem near_succ (t : ℕ) (n : Fin 4096) : near d (t + 1) n = min (near d t n) (d n (last d t)) := rfl
theorem last_succ (t : ℕ) : last d (t + 1) = first (near d (t + 1)) := rfl

/-- The squared distance of points given by their coordinates. -/
def dsq (p : Fin 3 → Fin 4096 → EReal) (n m : Fin 4096) : EReal :=
  (p 0 n - p 0 m) * (p 0 n - p 0 m) + (p 1 n - p 1 m) * (p 1 n - p 1 m) + (p 2 n - p 2 m) * (p 2 n - p 2 m)

end Cert.Farthest

end
-- ==== Proof.Reads.lean ====
/- The sampler's values read at an index, over the extended reals: a slab's points and distances, the numbers, and the
   reductions along the lanes. -/
module

public import proofs.«01_k».proof.Proof.Chunks
public import proofs.«01_k».proof.Proof.Farthest
public import Idealize.ShloMosaic.Lib.Pointwise

@[expose] public section

noncomputable section

namespace Cert.SamplerIdeal.Fps

open Facts₀ Idealize.ShloMosaic
open VecWindow (window put)

variable [Facts]

/-- The cloud of a group's row, and the point of a slab's lane. -/
def row (g : Fin 2) (i : Fin 8) : Fin 16 := ⟨8 * g.val + i.val, by omega⟩
def col (k : Fin 32) (l : Fin 128) : Fin 4096 := ⟨128 * k.val + l.val, by omega⟩

/-- The coordinates of a cloud's points. -/
def pts (P : Pts Ideal) (c : Fin 16) (a : Fin 3) (n : Fin 4096) : EReal := P (ix3 a c n)

theorem ptsV_at (P : Pts Ideal) (a : Fin 3) (g : Fin 2) (k : Fin 32) (i : Fin 8) (l : Fin 128) :
    ptsV P a g k (ix2 i l) = pts P (row g i) a (col k l) := by
  unfold ptsV pts
  rw [shapeCast_dropUnit_apply]
  unfold window
  refine congrArg P (funext fun b => Fin.ext ?_)
  fin_cases b
  · show a.val + 1 * 0 = a.val; omega
  · show 8 * g.val + 1 * i.val = _; unfold row; simp
  · show 128 * k.val + 1 * l.val = _; unfold col; simp

theorem dist_at (px py pz lx ly lz : V Ideal) (y : S8x128.Idx) :
    dist px py pz lx ly lz y = (px y - lx y) * (px y - lx y) + (py y - ly y) * (py y - ly y) + (pz y - lz y) * (pz y - lz y) := by
  unfold dist
  pointwise
  exact add_right_comm _ _ _

theorem num_at (k : Fin 32) (y : S8x128.Idx) : (num k : V Ideal) y = ((k.val : ℝ) : EReal) := by
  unfold num slabBits
  pointwise
  fin_cases k <;> simp [Ideal.ofBits, Ideal.ieee] <;> norm_num <;> rw [← EReal.coe_mul] <;> norm_num

theorem lane_at (i : Fin 8) (l : Fin 128) : lane (ix2 i l) = BitVec.ofNat 32 l.val := by
  unfold lane
  pointwise

theorem laneF_at (i : Fin 8) (l : Fin 128) : (laneF : V Ideal) (ix2 i l) = ((l.val : ℝ) : EReal) := by
  unfold laneF
  rw [ValueIdx.sitofp_apply]
  show (((lane (ix2 i l)).toInt : ℝ) : EReal) = _
  rw [lane_at]
  have : (BitVec.ofNat 32 l.val).toInt = (l.val : ℤ) := by
    rw [BitVec.toInt_eq_toNat_cond, BitVec.toNat_ofNat]; have := l.2; omega
  rw [this]
  simp

theorem hundred : Ideal.ofBits .f32 0x43000000#32 = ((128 : ℝ) : EReal) := by
  simp [Ideal.ofBits, Ideal.ieee]; rw [← EReal.coe_mul]; norm_num

theorem beyond : Ideal.ofBits .f32 0x45800000#32 = ((4096 : ℝ) : EReal) := by
  simp [Ideal.ofBits, Ideal.ieee]; rw [← EReal.coe_mul]; norm_num

theorem inf_bits : Ideal.ofBits .f32 0x7F800000#32 = ⊤ := by simp [Ideal.ofBits, Ideal.ieee]
theorem neginf_bits : Ideal.ofBits .f32 0xFF800000#32 = ⊥ := by simp [Ideal.ofBits, Ideal.ieee]

/-- The greatest along the lanes, in every lane. -/
def peak (x : V Ideal) : V Ideal := broadcastTo S8x128 (shapeCast S8x1 (multiReduction .maximumf [1] S8 x 0xFF800000#32 reduces_S8x128_S8 (.inl rfl) rfl) shapeCasts_S8_S8x1) broadcasts_S8x1_S8x128

theorem peak_at (x : V Ideal) (i : Fin 8) (l : Fin 128) :
    peak x (ix2 i l) = Finset.univ.fold max ⊥ fun k : Fin 128 => x (ix2 i k) := by
  unfold peak
  pointwise
  rw [neginf_bits]

theorem least_at (x : V Ideal) (i : Fin 8) (l : Fin 128) :
    broadcastTo S8x128 (least x) broadcasts_S8x1_S8x128 (ix2 i l) = Finset.univ.fold min ⊤ fun k : Fin 128 => x (ix2 i k) := by
  unfold least
  pointwise
  rw [inf_bits]

theorem spread_at (h : IVec S8x128 1) (x : V Ideal) (i : Fin 8) (l : Fin 128) :
    spread h x (ix2 i l) = ∑ k : Fin 128, if h (ix2 i k) = 1#1 then x (ix2 i k) else 0 := by
  unfold spread
  pointwise
  rfl

theorem select_at {α : Type} (t : IVec S8x128 1) (a b : S8x128.Idx → α) (y : S8x128.Idx) : select t a b y = if t y = 1#1 then a y else b y := rfl

theorem gt_iff (a b : V Ideal) (y : S8x128.Idx) : cmpf .ogt a b y = 1#1 ↔ b y < a y := by
  rw [ValueIdx.cmpf_apply]
  show Ideal.cmp .ogt (a y) (b y) = 1#1 ↔ _
  unfold Ideal.cmp
  by_cases h : b y < a y <;> simp [h]

theorem eq_iff (a b : V Ideal) (y : S8x128.Idx) : cmpf .oeq a b y = 1#1 ↔ a y = b y := by
  rw [ValueIdx.cmpf_apply]
  show Ideal.cmp .oeq (a y) (b y) = 1#1 ↔ _
  unfold Ideal.cmp
  by_cases h : a y = b y <;> simp [h]

theorem fptosi_nat (n : ℕ) (hn : n < 2 ^ 31) : Ideal.fptosi 32 ((n : ℝ) : EReal) = BitVec.ofNat 32 n := by
  have h : (n : ℤ) ≤ 2147483647 := by omega
  unfold Ideal.fptosi
  rw [Ideal.toIntClamped_coe, if_pos (Nat.cast_nonneg n), Int.floor_natCast]
  have e : max (-(2 ^ (32 - 1) : ℕ) : ℤ) (min ((2 ^ (32 - 1) : ℕ) - 1 : ℤ) (n : ℤ)) = (n : ℤ) := by
    rw [min_eq_right (by norm_num; omega), max_eq_right (by norm_num)]
  rw [e]
  rfl

end Cert.SamplerIdeal.Fps

end
-- ==== Proof.Pick.lean ====
/- One selection in a group, over the extended reals: the sweep over the slabs brings the least distances up to date and keeps
   of each lane the first slab with the greatest; the lanes' comparison then gives the first point of the cloud with the greatest. -/
module

public import proofs.«01_k».proof.Proof.Reads

@[expose] public section

noncomputable section

namespace Cert.SamplerIdeal.Fps

open Facts₀ Idealize.ShloMosaic Cert.Farthest
open VecWindow (window put)

variable [Facts] (P : Pts Ideal)

/-- Of lane `l` of cloud `c`, the first of the slabs of a list at which `E` is greatest, as the sweep keeps it. -/
def Sums (c : Fin 16) (E : Fin 4096 → EReal) (l : Fin 128) (b : Best Ideal) (y : S8x128.Idx) (ks : List (Fin 32)) : Prop :=
  ∃ k ∈ ks, (b.1 y = E (col k l) ∧ b.2.1 y = ((k.val : ℝ) : EReal) ∧ b.2.2.1 y = pts P c 0 (col k l) ∧ b.2.2.2.1 y = pts P c 1 (col k l)
    ∧ b.2.2.2.2 y = pts P c 2 (col k l)) ∧ ∀ k' ∈ ks, E (col k' l) ≤ E (col k l) ∧ (E (col k' l) = E (col k l) → k ≤ k')

variable {P}

theorem Sums.better {c : Fin 16} {E : Fin 4096 → EReal} {l : Fin 128} {b b' : Best Ideal} {y : S8x128.Idx} {A B : List (Fin 32)}
    (h : Sums P c E l b y A) (h' : Sums P c E l b' y B) (hAB : ∀ k ∈ A, ∀ k' ∈ B, k < k') :
    Sums P c E l (better b b') y (A ++ B) := by
  obtain ⟨k, hk, ⟨e1, e2, e3, e4, e5⟩, hm⟩ := h
  obtain ⟨k', hk', ⟨e1', e2', e3', e4', e5'⟩, hm'⟩ := h'
  by_cases hlt : b.1 y < b'.1 y
  · have ht : cmpf .ogt b'.1 b.1 y = 1#1 := (gt_iff _ _ _).2 hlt
    rw [e1, e1'] at hlt
    refine ⟨k', List.mem_append_right _ hk', ?_, fun j hj => ?_⟩
    · unfold Fps.better pick
      simp only [select_at, ht, if_true]
      exact ⟨e1', e2', e3', e4', e5'⟩
    · rcases List.mem_append.1 hj with hj | hj
      · have := lt_of_le_of_lt (hm j hj).1 hlt
        exact ⟨this.le, fun he => absurd he this.ne⟩
      · exact hm' j hj
  · have ht : ¬ cmpf .ogt b'.1 b.1 y = 1#1 := fun h => hlt ((gt_iff _ _ _).1 h)
    rw [e1, e1'] at hlt
    refine ⟨k, List.mem_append_left _ hk, ?_, fun j hj => ?_⟩
    · unfold Fps.better pick
      simp only [select_at, ht, if_false]
      exact ⟨e1, e2, e3, e4, e5⟩
    · rcases List.mem_append.1 hj with hj | hj
      · exact hm j hj
      · exact ⟨(hm' j hj).1.trans (not_lt.1 hlt), fun _ => (hAB k hk j hj).le⟩

variable (P)

/-- Every lane has the coordinates of the point `q` of its cloud. -/
def Held (q : Fin 16 → Fin 4096) (g : Fin 2) (lx ly lz : V Ideal) : Prop :=
  ∀ i l, lx (ix2 i l) = pts P (row g i) 0 (q (row g i)) ∧ ly (ix2 i l) = pts P (row g i) 1 (q (row g i)) ∧ lz (ix2 i l) = pts P (row g i) 2 (q (row g i))

/-- The least distance of a point, with the distance to `q`. -/
def close (D : Dst Ideal) (q : Fin 16 → Fin 4096) (c : Fin 16) (n : Fin 4096) : EReal := min (D (ix2 c n)) (dsq (pts P c) n (q c))

/-- The distances with those of the slabs of a list brought up to date in group `g`. -/
def upd (D : Dst Ideal) (q : Fin 16 → Fin 4096) (g : Fin 2) (S : List (Fin 32)) : Dst Ideal := fun y =>
  if (y 0).val / 8 = g.val ∧ ∃ k ∈ S, (y 1).val / 128 = k.val then close P D q (y 0) (y 1) else D y

theorem upd_at (D : Dst Ideal) (q : Fin 16 → Fin 4096) (g : Fin 2) (S : List (Fin 32)) (c : Fin 16) (n : Fin 4096) :
    upd P D q g S (ix2 c n) = if c.val / 8 = g.val ∧ ∃ k ∈ S, n.val / 128 = k.val then close P D q c n else D (ix2 c n) := rfl

variable {P} {D : Dst Ideal} {q : Fin 16 → Fin 4096} {g : Fin 2} {lx ly lz : V Ideal}

theorem nearV_at (h : Held P q g lx ly lz) (S : List (Fin 32)) (k : Fin 32) (i : Fin 8) (l : Fin 128) :
    nearV P (upd P D q g S) g k lx ly lz (ix2 i l) = close P D q (row g i) (col k l) := by
  have hw : (window (upd P D q g S) ![8 * g.val, 128 * k.val] S8x128.size (inb2 g k g.2 k.2) : Vec Ideal S8x128 .f32) (ix2 i l)
      = upd P D q g S (ix2 (row g i) (col k l)) := by
    unfold window
    refine congrArg (upd P D q g S) (funext fun b => Fin.ext ?_)
    fin_cases b
    · show 8 * g.val + 1 * i.val = _; unfold row; simp
    · show 128 * k.val + 1 * l.val = _; unfold col; simp
  have hd : dist (ptsV P 0 g k) (ptsV P 1 g k) (ptsV P 2 g k) lx ly lz (ix2 i l) = dsq (pts P (row g i)) (col k l) (q (row g i)) := by
    rw [dist_at, ptsV_at, ptsV_at, ptsV_at, (h i l).1, (h i l).2.1, (h i l).2.2]
    rfl
  unfold nearV
  show min ((window (upd P D q g S) ![8 * g.val, 128 * k.val] S8x128.size (inb2 g k g.2 k.2) : Vec Ideal S8x128 .f32) (ix2 i l)) (dist (ptsV P 0 g k) (ptsV P 1 g k) (ptsV P 2 g k) lx ly lz (ix2 i l)) = _
  rw [hw, hd, upd_at]
  by_cases hc : (row g i).val / 8 = g.val ∧ ∃ j ∈ S, (col k l).val / 128 = j.val
  · rw [if_pos hc]; unfold close; rw [min_assoc, min_self]
  · rw [if_neg hc]; rfl

theorem slabD_eq (h : Held P q g lx ly lz) (S : List (Fin 32)) (k : Fin 32) :
    slabD P (upd P D q g S) g k lx ly lz = upd P D q g (S ++ [k]) := by
  funext y
  obtain ⟨c, n, rfl⟩ : ∃ (c : Fin 16) (n : Fin 4096), y = ix2 c n := ⟨_, _, eq_ix2 y⟩
  rw [upd_at]
  unfold slabD put
  by_cases hin : c.val / 8 = g.val ∧ n.val / 128 = k.val
  · have hd : ∀ a : Fin 2, (![8 * g.val, 128 * k.val] : Fin 2 → ℕ) a ≤ (ix2 c n a).val ∧ (ix2 c n a).val < (![8 * g.val, 128 * k.val] : Fin 2 → ℕ) a + S8x128.size a := by
      intro a; fin_cases a
      · exact ⟨by show 8 * g.val ≤ c.val; omega, by show c.val < 8 * g.val + 8; omega⟩
      · exact ⟨by show 128 * k.val ≤ n.val; omega, by show n.val < 128 * k.val + 128; omega⟩
    rw [dif_pos hd, shapeCast_self]
    have hc : row g ⟨c.val - 8 * g.val, by have := c.2; omega⟩ = c := Fin.ext (by unfold row; simp only; omega)
    have hn : col k ⟨n.val - 128 * k.val, by have := n.2; omega⟩ = n := Fin.ext (by unfold col; simp only; omega)
    have key := nearV_at (D := D) h S k ⟨c.val - 8 * g.val, by have := c.2; omega⟩ ⟨n.val - 128 * k.val, by have := n.2; omega⟩
    rw [hc, hn] at key
    rw [if_pos ⟨hin.1, k, by simp, hin.2⟩]
    exact (congrArg (nearV P (upd P D q g S) g k lx ly lz) (funext fun b => by fin_cases b <;> rfl)).trans key
  · rw [dif_neg (fun hd => hin ?_)]
    · rw [upd_at]
      refine if_congr (and_congr_right fun hg => ?_) rfl rfl
      simp only [List.mem_append, List.mem_singleton]
      exact ⟨fun ⟨j, hj, e⟩ => ⟨j, .inl hj, e⟩, fun ⟨j, hj, e⟩ => hj.elim (fun hj => ⟨j, hj, e⟩) fun hj => absurd ⟨hg, hj ▸ e⟩ hin⟩
    · have e0 : 8 * g.val ≤ c.val ∧ c.val < 8 * g.val + 8 := hd 0
      have e1 : 128 * k.val ≤ n.val ∧ n.val < 128 * k.val + 128 := hd 1
      omega

/-- What a slab offers. -/
theorem offer_sums (h : Held P q g lx ly lz) (S : List (Fin 32)) (k : Fin 32) (i : Fin 8) (l : Fin 128) :
    Sums P (row g i) (close P D q (row g i)) l (offerV P (upd P D q g S) g k lx ly lz) (ix2 i l) [k] :=
  ⟨k, by simp, ⟨nearV_at h S k i l, num_at k (ix2 i l), ptsV_at P 0 g k i l, ptsV_at P 1 g k i l, ptsV_at P 2 g k i l⟩, fun k' hk' => by
    rw [List.mem_singleton.1 hk']; exact ⟨le_rfl, fun _ => le_rfl⟩⟩

theorem slabsV_eq (h : Held P q g lx ly lz) (ks : List (Fin 32)) (S T : List (Fin 32)) (hp : (T ++ ks).Pairwise (· < ·)) (b : Best Ideal)
    (hb : ∀ i l, Sums P (row g i) (close P D q (row g i)) l b (ix2 i l) T) :
    (slabsV P g lx ly lz ks (upd P D q g S) b).1 = upd P D q g (S ++ ks)
      ∧ ∀ i l, Sums P (row g i) (close P D q (row g i)) l (slabsV P g lx ly lz ks (upd P D q g S) b).2 (ix2 i l) (T ++ ks) := by
  induction ks generalizing S T b with
  | nil => unfold slabsV; simpa using hb
  | cons k ks ih =>
    unfold slabsV
    rw [slabD_eq h]
    have hp' : ((T ++ [k]) ++ ks).Pairwise (· < ·) := by simpa using hp
    have := ih (S ++ [k]) (T ++ [k]) hp' _ fun i l => (hb i l).better (offer_sums h S k i l) fun a ha a' ha' =>
      (List.pairwise_append.1 hp).2.2 a ha a' (by rw [List.mem_singleton.1 ha']; simp)
    simpa using this

theorem partV_eq (h : Held P q g lx ly lz) (k : Fin 32) (ks S : List (Fin 32)) (hp : (k :: ks).Pairwise (· < ·)) :
    (partV P g lx ly lz k ks (upd P D q g S)).1 = upd P D q g (S ++ k :: ks)
      ∧ ∀ i l, Sums P (row g i) (close P D q (row g i)) l (partV P g lx ly lz k ks (upd P D q g S)).2 (ix2 i l) (k :: ks) := by
  unfold partV
  rw [slabD_eq h]
  have := slabsV_eq (D := D) h ks (S ++ [k]) [k] (by simpa using hp) _ fun i l => offer_sums h S k i l
  simpa using this

end Cert.SamplerIdeal.Fps

end
-- ==== Proof.Lanes.lean ====
/- One selection in a group, over the extended reals: of the lanes' candidates the one with the least number is the first point of
   the cloud with the greatest distance; its coordinates are spread over the lanes, and the selection is recorded. -/
module

public import proofs.«01_k».proof.Proof.Pick

@[expose] public section

noncomputable section

namespace Cert.SamplerIdeal.Fps

open Facts₀ Idealize.ShloMosaic Cert.Farthest
open VecWindow (window put)

variable [Facts]

/-- A point's slab and lane. -/
def slabOf (n : Fin 4096) : Fin 32 := ⟨n.val / 128, by omega⟩
def laneOf (n : Fin 4096) : Fin 128 := ⟨n.val % 128, Nat.mod_lt _ (by decide)⟩

theorem col_of (n : Fin 4096) : col (slabOf n) (laneOf n) = n := Fin.ext (by unfold col slabOf laneOf; simp only; omega)

/-- Every slab is among a list. -/
def Whole (ks : List (Fin 32)) : Prop := ∀ k, k ∈ ks

variable {P : Pts Ideal} {c : Fin 16} {E : Fin 4096 → EReal} {i : Fin 8} {b : Best Ideal} {ks : List (Fin 32)}

/-- The greatest of the lanes' maxima is the greatest of all. -/
theorem peak_eq (hw : Whole ks) (h : ∀ l, Sums P c E l b (ix2 i l) ks) (l : Fin 128) : peak b.1 (ix2 i l) = E (Farthest.first E) := by
  rw [peak_at]
  refine le_antisymm (Finset.fold_max_le _ |>.2 ⟨bot_le, fun l _ => ?_⟩) (Finset.le_fold_max _ |>.2 (.inr ⟨laneOf (Farthest.first E), Finset.mem_univ _, ?_⟩))
  · obtain ⟨k, _, ⟨e, _⟩, _⟩ := h l
    rw [e]
    exact (isFirst_first E).1 _
  · obtain ⟨k, _, ⟨e, _⟩, hm⟩ := h (laneOf (Farthest.first E))
    rw [e]
    have := (hm (slabOf (Farthest.first E)) (hw _)).1
    rwa [col_of] at this

/-- A lane's candidate is no less than the first, and that only in its lane; there the lane has the point itself. -/
theorem cand_eq (hw : Whole ks) (h : ∀ l, Sums P c E l b (ix2 i l) ks) (l : Fin 128) :
    ∃ w : ℕ, cand b (ix2 i l) = ((w : ℝ) : EReal) ∧ (Farthest.first E).val ≤ w ∧ (w = (Farthest.first E).val ↔ l = laneOf (Farthest.first E)) := by
  obtain ⟨k, _, ⟨e1, e2, _⟩, hm⟩ := h l
  have hf := isFirst_first E
  have hc : cand b (ix2 i l) = if b.1 (ix2 i l) = peak b.1 (ix2 i l) then b.2.1 (ix2 i l) * Ideal.ofBits .f32 0x43000000#32 + laneF (ix2 i l) else Ideal.ofBits .f32 0x45800000#32 := by
    unfold cand
    rw [select_at]
    exact if_congr (eq_iff _ _ _) rfl rfl
  rw [hc, peak_eq hw h, e1, e2, laneF_at, hundred, beyond]
  by_cases he : E (col k l) = E (Farthest.first E)
  · rw [if_pos he]
    have hle : (Farthest.first E).val ≤ (col k l).val := hf.2 _ he
    refine ⟨(col k l).val, ?_, hle, fun hv => ?_, fun hl => ?_⟩
    · rw [← EReal.coe_mul, ← EReal.coe_add]
      refine congrArg _ ?_
      show _ = ((128 * k.val + l.val : ℕ) : ℝ)
      push_cast
      ring
    · refine Fin.ext ?_
      show l.val = (Farthest.first E).val % 128
      have : (col k l).val = 128 * k.val + l.val := rfl
      have := l.2
      omega
    · have h1 := (hm (slabOf (Farthest.first E)) (hw _)).2
      rw [hl, col_of] at h1
      rw [hl] at he
      have h2 : k.val ≤ (Farthest.first E).val / 128 := h1 he.symm
      have h3 : l.val = (Farthest.first E).val % 128 := congrArg Fin.val hl
      have : (col k l).val = 128 * k.val + l.val := rfl
      omega
  · rw [if_neg he]
    refine ⟨4096, by norm_num, (Farthest.first E).2.le, fun hv => absurd hv (by have := (Farthest.first E).2; omega), fun hl => absurd ?_ he⟩
    have h1 := (hm (slabOf (Farthest.first E)) (hw _)).1
    rw [hl, col_of] at h1
    rw [hl]
    exact le_antisymm (hf.1 _) h1

theorem least_eq (hw : Whole ks) (h : ∀ l, Sums P c E l b (ix2 i l) ks) (l : Fin 128) :
    broadcastTo S8x128 (least (cand b)) broadcasts_S8x1_S8x128 (ix2 i l) = (((Farthest.first E).val : ℝ) : EReal) := by
  rw [least_at]
  refine le_antisymm (Finset.fold_min_le _ |>.2 (.inr ⟨laneOf (Farthest.first E), Finset.mem_univ _, ?_⟩)) (Finset.le_fold_min _ |>.2 ⟨le_top, fun l _ => ?_⟩)
  · obtain ⟨w, e, _, hv⟩ := cand_eq hw h (laneOf (Farthest.first E))
    rw [e, hv.2 rfl]
  · obtain ⟨w, e, hle, _⟩ := cand_eq hw h l
    rw [e]
    exact_mod_cast hle

theorem hot_iff (hw : Whole ks) (h : ∀ l, Sums P c E l b (ix2 i l) ks) (l : Fin 128) : hot (cand b) (ix2 i l) = 1#1 ↔ l = laneOf (Farthest.first E) := by
  unfold hot
  rw [eq_iff, least_eq hw h]
  obtain ⟨w, e, _, hv⟩ := cand_eq hw h l
  rw [e, ← hv]
  norm_cast

theorem spread_eq (hw : Whole ks) (h : ∀ l, Sums P c E l b (ix2 i l) ks) (x : V Ideal) (l : Fin 128) :
    spread (hot (cand b)) x (ix2 i l) = x (ix2 i (laneOf (Farthest.first E))) := by
  rw [spread_at]
  simp only [hot_iff hw h]
  simp

/-- The best of the first's lane is the first. -/
theorem coords_eq (hw : Whole ks) (h : ∀ l, Sums P c E l b (ix2 i l) ks) :
    b.2.2.1 (ix2 i (laneOf (Farthest.first E))) = pts P c 0 (Farthest.first E) ∧ b.2.2.2.1 (ix2 i (laneOf (Farthest.first E))) = pts P c 1 (Farthest.first E)
      ∧ b.2.2.2.2 (ix2 i (laneOf (Farthest.first E))) = pts P c 2 (Farthest.first E) := by
  obtain ⟨k, hk, ⟨e1, e2, e3, e4, e5⟩, hm⟩ := h (laneOf (Farthest.first E))
  have hf := isFirst_first E
  have h1 := hm (slabOf (Farthest.first E)) (hw _)
  rw [col_of] at h1
  have he : E (Farthest.first E) = E (col k (laneOf (Farthest.first E))) := le_antisymm h1.1 (hf.1 _)
  have hle : (Farthest.first E).val ≤ (col k (laneOf (Farthest.first E))).val := hf.2 _ he.symm
  have h2 : k.val ≤ (Farthest.first E).val / 128 := h1.2 he
  have hc : col k (laneOf (Farthest.first E)) = Farthest.first E := by
    have e : (col k (laneOf (Farthest.first E))).val = 128 * k.val + (Farthest.first E).val % 128 := rfl
    exact Fin.ext (by omega)
  rw [e3, e4, e5, hc]
  exact ⟨rfl, rfl, rfl⟩

theorem offs_at (g : Fin 2) (i : Fin 8) : offs g (ix2 i 0) = BitVec.ofNat 32 (4096 * (row g i).val) := by
  unfold offs row
  pointwise
  fin_cases g <;> fin_cases i <;> rfl

/-- The row number recorded. -/
theorem index_at (g : Fin 2) (x : V Ideal) (n : Fin 4096) (i : Fin 8) (hx : ∀ l, broadcastTo S8x128 (least x) broadcasts_S8x1_S8x128 (ix2 i l) = ((n.val : ℝ) : EReal)) (l : Fin 128) :
    broadcastTo S8x128 (shapeCast S8x1 (addi (fptosi 32 (least x)) (offs g)) shapeCasts_S8x1_S8x1) broadcasts_S8x1_S8x128 (ix2 i l)
      = BitVec.ofNat 32 (4096 * (row g i).val + n.val) := by
  have hl : least x (ix2 i 0) = ((n.val : ℝ) : EReal) := by
    rw [← hx l]
    generalize least x = u
    pointwise
  rw [shapeCast_self]
  have hb : ∀ u : IVec S8x1 32, broadcastTo S8x128 u broadcasts_S8x1_S8x128 (ix2 i l) = u (ix2 i 0) := fun u => by pointwise
  rw [hb]
  show Ideal.fptosi 32 (least x (ix2 i 0)) + offs g (ix2 i 0) = _
  rw [hl, fptosi_nat _ (by have := n.2; omega), offs_at, ← BitVec.ofNat_add, Nat.add_comm]

theorem lane_iff (i : Fin 8) (l : Fin 128) (m : ℕ) (hm : m < 128) : cmpi .eq lane (broadcast S8x128 (BitVec.ofNat 32 m)) (ix2 i l) = 1#1 ↔ l.val = m := by
  show IntOp.cmpi .eq (lane (ix2 i l)) (BitVec.ofNat 32 m) = 1#1 ↔ _
  rw [lane_at]
  have : BitVec.ofNat 32 l.val = BitVec.ofNat 32 m ↔ l.val = m := by
    rw [← BitVec.toNat_inj, BitVec.toNat_ofNat, BitVec.toNat_ofNat]
    have := l.2
    omega
  rw [← this]
  show BitVec.ofBool (BitVec.ofNat 32 l.val == BitVec.ofNat 32 m) = 1#1 ↔ _
  by_cases h : BitVec.ofNat 32 l.val = BitVec.ofNat 32 m
  · simp [h]
  · rw [beq_eq_false_iff_ne.2 h]; simp [h]

end Cert.SamplerIdeal.Fps

end
-- ==== Proof.Selected.lean ====
/- The sampler's steps, over the extended reals: after `T` selections the distances are those of farthest point first, the
   lanes hold the last point selected, and the chunk's lanes so far hold the selections they are of. -/
module

public import proofs.«01_k».proof.Proof.Lanes
public import proofs.«01_k».proof.Proof.Result

@[expose] public section

noncomputable section

namespace Cert.SamplerIdeal.Fps

open Facts₀ Idealize.ShloMosaic Cert.Farthest
open VecWindow (window put)

variable [Facts] (P : Pts Ideal)

/-- The point selected in cloud `c` after `t` others. -/
def sel (c : Fin 16) (t : ℕ) : Fin 4096 := last (dsq (pts P c)) t

/-- Lane `l` has point `n` recorded. -/
def Noted (g : Fin 2) (i : Fin 8) (l : Fin 128) (n : Fin 4096) (a : Grp Ideal) : Prop :=
  rI a (ix2 i l) = BitVec.ofNat 32 (4096 * (row g i).val + n.val) ∧ rX a (ix2 i l) = pts P (row g i) 0 n
    ∧ rY a (ix2 i l) = pts P (row g i) 1 n ∧ rZ a (ix2 i l) = pts P (row g i) 2 n

/-- What group `g` carries after `T` selections, in a chunk that starts with selection `base`. -/
def Kept (T base : ℕ) (g : Fin 2) (a : Grp Ideal) : Prop :=
  Held P (fun c => sel P c T) g a.1 a.2.1 a.2.2.1 ∧ ∀ i l, base + l.val ≤ T → Noted P g i l (sel P (row g i) (base + l.val)) a

/-- The distances of group `g`. -/
def Near (T : ℕ) (g : Fin 2) (D : Dst Ideal) : Prop := ∀ i n, D (ix2 (row g i) n) = near (dsq (pts P (row g i))) T n

variable {P}

theorem groupV_sums {D : Dst Ideal} {q : Fin 16 → Fin 4096} {g : Fin 2} {a : Grp Ideal} (h : Held P q g a.1 a.2.1 a.2.2.1) (w : BitVec 32) :
    ∃ b, groupV P g w D a = (upd P D q g (0 :: low ++ 16 :: high), record g w b a)
      ∧ ∀ i l, Sums P (row g i) (close P D q (row g i)) l b (ix2 i l) (0 :: low ++ 16 :: high) := by
  have h1 := partV_eq (D := D) h 0 low [] (by decide)
  have h2 := partV_eq (D := D) h 16 high (0 :: low) (by decide)
  have hu : upd P D q g [] = D := by
    funext y
    obtain ⟨c, n, rfl⟩ : ∃ (c : Fin 16) (n : Fin 4096), y = ix2 c n := ⟨_, _, eq_ix2 y⟩
    rw [upd_at, if_neg (by simp)]
  rw [hu] at h1
  have e1 : (partV P g a.1 a.2.1 a.2.2.1 0 low D).1 = upd P D q g (0 :: low) := h1.1
  refine ⟨_, Prod.ext ?_ rfl, fun i l => (h1.2 i l).better ?_ (by decide)⟩
  · show (partV P g a.1 a.2.1 a.2.2.1 16 high (partV P g a.1 a.2.1 a.2.2.1 0 low D).1).1 = _
    rw [e1, h2.1]
  · show Sums _ _ _ _ (partV P g a.1 a.2.1 a.2.2.1 16 high (partV P g a.1 a.2.1 a.2.2.1 0 low D).1).2 _ _
    rw [e1]
    exact h2.2 i l

theorem row_group (g : Fin 2) (i : Fin 8) : (row g i).val / 8 = g.val := by unfold row; simp only; omega

theorem whole : Whole (0 :: low ++ 16 :: high) := by unfold Whole; decide

theorem group_step {T base m : ℕ} {g : Fin 2} {D : Dst Ideal} {a : Grp Ideal} (hm : base + m = T + 1) (hlt : m < 128)
    (hK : Kept P T base g a) (hN : Near P T g D) :
    Kept P (T + 1) base g (groupV P g (BitVec.ofNat 32 m) D a).2 ∧ Near P (T + 1) g (groupV P g (BitVec.ofNat 32 m) D a).1
      ∧ ∀ g' t, g' ≠ g → Near P t g' D → Near P t g' (groupV P g (BitVec.ofNat 32 m) D a).1 := by
  obtain ⟨b, e, hs⟩ := groupV_sums (D := D) hK.1 (BitVec.ofNat 32 m)
  rw [e]
  have hE : ∀ i, close P D (fun c => sel P c T) (row g i) = near (dsq (pts P (row g i))) (T + 1) := fun i => by
    funext n
    unfold close
    rw [hN, near_succ]
    rfl
  have hf : ∀ i, sel P (row g i) (T + 1) = Farthest.first (close P D (fun c => sel P c T) (row g i)) := fun i => by
    rw [hE]
    exact last_succ _ _
  have hx : ∀ i l, spread (hot (cand b)) b.2.2.1 (ix2 i l) = pts P (row g i) 0 (sel P (row g i) (T + 1)) := fun i l => by
    rw [spread_eq whole (hs i), (coords_eq whole (hs i)).1, hf]
  have hy : ∀ i l, spread (hot (cand b)) b.2.2.2.1 (ix2 i l) = pts P (row g i) 1 (sel P (row g i) (T + 1)) := fun i l => by
    rw [spread_eq whole (hs i), (coords_eq whole (hs i)).2.1, hf]
  have hz : ∀ i l, spread (hot (cand b)) b.2.2.2.2 (ix2 i l) = pts P (row g i) 2 (sel P (row g i) (T + 1)) := fun i l => by
    rw [spread_eq whole (hs i), (coords_eq whole (hs i)).2.2, hf]
  refine ⟨⟨fun i l => ⟨hx i l, hy i l, hz i l⟩, fun i l hl => ?_⟩, fun i n => ?_, fun g' t hg hN' i n => ?_⟩
  · unfold Noted rI rX rY rZ record
    simp only [select_at]
    by_cases hlm : l.val = m
    · have ht := (lane_iff i l m hlt).2 hlm
      have hbt : base + l.val = T + 1 := by omega
      rw [if_pos ht, if_pos ht, if_pos ht, if_pos ht, hbt, hx, hy, hz]
      exact ⟨index_at g (cand b) (sel P (row g i) (T + 1)) i (fun l => by rw [least_eq whole (hs i), hf]) l, rfl, rfl, rfl⟩
    · have ht : ¬ cmpi .eq lane (broadcast S8x128 (BitVec.ofNat 32 m)) (ix2 i l) = 1#1 := fun h => hlm ((lane_iff i l m hlt).1 h)
      rw [if_neg ht, if_neg ht, if_neg ht, if_neg ht]
      exact hK.2 i l (by omega)
  · show upd P D _ g _ (ix2 (row g i) n) = _
    rw [upd_at, if_pos ⟨row_group g i, laneSlab n⟩, hE]
  · show upd P D _ g _ (ix2 (row g' i) n) = _
    rw [upd_at, if_neg (fun h => hg (Fin.ext ((row_group g' i).symm.trans h.1))), hN']
where
  laneSlab (n : Fin 4096) : ∃ k ∈ (0 :: low ++ 16 :: high), n.val / 128 = k.val := ⟨slabOf n, whole _, rfl⟩

variable (P)

/-- After `T` selections, in a chunk that starts with selection `base`. -/
def At (T base : ℕ) (s : Dst Ideal × Carry Ideal) : Prop :=
  (Kept P T base 0 (lo s.2) ∧ Near P T 0 s.1) ∧ Kept P T base 1 (hi s.2) ∧ Near P T 1 s.1

variable {P}

theorem step_at {T base m : ℕ} {s : Dst Ideal × Carry Ideal} (hm : base + m = T + 1) (hlt : m < 128) (h : At P T base s) :
    At P (T + 1) base (stepV P (BitVec.ofNat 32 m) s) := by
  obtain ⟨⟨hK, hN⟩, hK', hN'⟩ := h
  obtain ⟨a1, a2, a3⟩ := group_step hm hlt hK hN
  obtain ⟨b1, b2, b3⟩ := group_step hm hlt hK' (a3 1 T (by decide) hN')
  exact ⟨⟨a1, b3 0 (T + 1) (by decide) a2⟩, b1, b2⟩

theorem steps_at {T base m : ℕ} {s : Dst Ideal × Carry Ideal} (hm : base + m = T + 1) (h : At P T base s) (n : ℕ) (hn : m + n ≤ 128) :
    At P (T + n) base (stepsV P (BitVec.ofNat 32 m) s n) := by
  induction n with
  | zero => exact h
  | succ n ih =>
    have hi : Scf.iv (BitVec.ofNat 32 m) 1#32 n = BitVec.ofNat 32 (m + n) := by
      unfold Scf.iv
      apply BitVec.eq_of_toNat_eq
      simp
    show At P (T + n + 1) base (stepV P (Scf.iv (BitVec.ofNat 32 m) 1#32 n) (stepsV P (BitVec.ofNat 32 m) s n))
    rw [hi]
    exact step_at (by omega) (by omega) (ih (by omega))

theorem wide_at (u : Vec Ideal S1x8x1 .f32) (i : Fin 8) (l : Fin 128) : wide u (ix2 i l) = u (ix3 0 i 0) := by
  unfold wide
  pointwise

theorem start_at (g : Fin 2) : Kept P 0 0 g (startV P g) := by
  have hw : ∀ (a : Fin 3) (i : Fin 8) (l : Fin 128), wide (window P ![a.val, 8 * g.val, 0] S1x8x1.size (inb1 a g a.2 g.2) : Vec Ideal S1x8x1 .f32) (ix2 i l) = pts P (row g i) a 0 := fun a i l => by
    rw [wide_at]
    unfold window pts
    refine congrArg P (funext fun b => Fin.ext ?_)
    fin_cases b
    · show a.val + 1 * 0 = a.val; omega
    · show 8 * g.val + 1 * i.val = _; unfold row; simp
    · rfl
  refine ⟨fun i l => ⟨hw 0 i l, hw 1 i l, hw 2 i l⟩, fun i l hl => ?_⟩
  have ht : lane0 (ix2 i l) = 1#1 := (lane_iff i l 0 (by decide)).2 (by omega)
  have h0 : sel P (row g i) (0 + l.val) = 0 := by
    rw [show 0 + l.val = 0 by omega]; exact last_zero _
  rw [h0]
  unfold Noted rI rX rY rZ startV start
  simp only [select_at]
  rw [if_pos ht, if_pos ht, if_pos ht, if_pos ht]
  refine ⟨?_, hw 0 i l, hw 1 i l, hw 2 i l⟩
  rw [shapeCast_self]
  have hb : ∀ u : IVec S8x1 32, broadcastTo S8x128 u broadcasts_S8x1_S8x128 (ix2 i l) = u (ix2 i 0) := fun u => by pointwise
  rw [hb, offs_at]
  rfl

theorem far_at (g : Fin 2) : Near P 0 g far := fun i n => by
  rw [near_zero]
  show far (ix2 (row g i) n) = _
  unfold far
  rw [shapeCast_self]
  exact inf_bits

theorem open_at : At P 127 0 (openV P) := by
  have h : At P 0 0 (far, both (startV P 0) (startV P 1)) := ⟨⟨start_at 0, far_at 0⟩, start_at 1, far_at 1⟩
  exact steps_at (m := 1) rfl h 127 (by decide)

theorem chunk_at {T : ℕ} {s : Dst Ideal × Carry Ideal} {base : ℕ} (h : At P T base s) : At P (T + 128) (T + 1) (chunkV P s) := by
  have hc : At P T (T + 1) (s.1, both (clear (lo s.2)) (clear (hi s.2))) :=
    ⟨⟨⟨h.1.1.1, fun i l hl => by omega⟩, h.1.2⟩, ⟨h.2.1.1, fun i l hl => by omega⟩, h.2.2⟩
  exact steps_at (m := 0) rfl hc 128 (by decide)

theorem end_at (j : ℕ) : At P (128 * j + 127) (128 * j) (endOf P j) := by
  induction j with
  | zero => exact open_at
  | succ j ih => exact (congrArg₂ (fun T b => At P T b (endOf P (j + 1))) (by omega) (by omega)).mp (chunk_at ih)

/-- The results. -/
theorem res_at (c : Fin 16) (s : Fin 2048) :
    resV P rI (ix2 c s) = BitVec.ofNat 32 (4096 * c.val + (sel P c s.val).val) ∧ resV P rX (ix2 c s) = pts P c 0 (sel P c s.val)
      ∧ resV P rY (ix2 c s) = pts P c 1 (sel P c s.val) ∧ resV P rZ (ix2 c s) = pts P c 2 (sel P c s.val) := by
  have hc := c.2
  have hs := s.2
  obtain ⟨⟨⟨_, h0⟩, _⟩, ⟨_, h1⟩, _⟩ := end_at (P := P) (s.val / 128)
  have hk : ∀ g i l, Noted P g i l (sel P (row g i) (128 * (s.val / 128) + l.val)) (half g (endOf P (s.val / 128)).2) := fun g i l => by
    fin_cases g
    · exact h0 i l (by have := l.2; omega)
    · exact h1 i l (by have := l.2; omega)
  have key := hk ⟨c.val / 8, by omega⟩ ⟨c.val % 8, by omega⟩ ⟨s.val % 128, by omega⟩
  have hr : row ⟨c.val / 8, by omega⟩ ⟨c.val % 8, by omega⟩ = c := Fin.ext (by unfold row; simp only; omega)
  have hl : loc (ix2 c s) = ix2 ⟨c.val % 8, by omega⟩ ⟨s.val % 128, by omega⟩ := by
    funext b; fin_cases b <;> rfl
  rw [hr] at key
  unfold Noted at key
  rw [← hl, hr, show 128 * (s.val / 128) + (⟨s.val % 128, by omega⟩ : Fin 128).val = s.val by simp only; omega] at key
  exact key

end Cert.SamplerIdeal.Fps

end
-- ==== Proof.Trips.lean ====
/- The reference's selection loop, one trip of it: what the trip leaves in the buffers that the loop carries, as functions of
   what it found there. -/
module

public import proofs.«01_k».proof.Proof.Gen.SelectionIdeal.Run

@[expose] public section

noncomputable section

namespace Cert.SelectionIdeal.Trips

open Cert.SelectionIdeal Cert.SelectionIdeal.Gen Cert.SelectionIdeal.Value
open Idealize.ShloMosaic Idealize.ShloMosaic.StableHlo

variable {F : FTy → Type} [FloatOps F]

/-- What a valuation holds in a buffer of the TensorCore. -/
abbrev rd (X : Valuation τ sig (Elt F)) (b : Ref sig .tc) : (Proc.devRef (τ := τ) .tc b).ty.Contents (Elt F) := X (Proc.devRef .tc b)

/-- The row numbers as the trip gathers at them. -/
abbrev wrapped (I : IVec S16 32) : IVec S16x1 32 :=
  broadcastInDim S16x1 ![0] bcast_S16_S16x1_0 (select (cmpi .slt I (broadcastInDim S16 ![] bcast_S_S16 (constantI S_ 32 0#32))) (addi I (broadcastInDim S16 ![] bcast_S_S16 (constantI S_ 32 65536#32))) I)

/-- The gathered points. -/
abbrev taken (p : FVec F S65536x3 .f32) (I : IVec S16 32) : FVec F S16x3 .f32 :=
  select (broadcastInDim S16x3 ![0] bcast_S16_S16x3_0 (Host.reduce IntOp.andi (andi (cmpi .sge (wrapped I) (broadcastInDim S16x1 ![] bcast_S_S16x1 (constantI S_ 32 0#32))) (cmpi .sle (wrapped I) (broadcastInDim S16x1 ![0, 1] bcast_S1x1_S16x1_0_1 (broadcastInDim S1x1 ![1] bcast_S1_S1x1_1 (constantI S1 32 65535#32))))) (constantI S_ 1 1#1) reducesTo_S16x1_S16_d1 h_S_))
    (Host.gather gather_S65536x3_S16x1_S16x3_1_0_n_n_0_1_13 p (wrapped I)) (broadcastInDim S16x3 ![] bcast_S_S16x3 (constant S_ .f32 0x7FC00000#32))

/-- The distances with those to the gathered points. -/
abbrev closer (P : FVec F S16x4096x3 .f32) (D : FVec F S16x4096 .f32) (u : FVec F S16x3 .f32) : FVec F S16x4096 .f32 :=
  let x := subf P (broadcastInDim S16x4096x3 ![0, 1, 2] bcast_S16x1x3_S16x4096x3_0_1_2 (broadcastInDim S16x1x3 ![0, 2] bcast_S16x3_S16x1x3_0_2 u))
  minimumf D (Host.reduceAdd (mulf x x) (constant S_ .f32 0x00000000#32) reducesTo_S16x4096x3_S16x4096_d2 h_S_)

/-- The first place of the greatest. -/
abbrev greatest (D : FVec F S16x4096 .f32) : IVec S16 32 := fun j =>
  (Host.argReduce reducer_argmax_f32_i32 D (iotaInDim S16x4096 32 1) (constant S_ .f32 0xFF800000#32) (constantI S_ 32 0#32) reducesTo_S16x4096_S16_d1 h_S_ j).2

/-- The selections with those of place `i`. -/
abbrev noted (S : IVec S16x2048 32) (u : IVec S16 32) (i : IVec S_ 32) : IVec S16x2048 32 :=
  Host.dynamicUpdateSlice S (broadcastInDim S16x1 ![0] bcast_S16_S16x1_0 u)
    (fun k => ((![constantI S_ 32 0#32, select (cmpi .slt i (constantI S_ 32 0#32)) (addi i (constantI S_ 32 2048#32)) i] : Fin 2 → IVec S_ 32) k (Shape.Idx.first h_S_)).toInt) updateFits_S16x2048_S16x1

variable (X : Valuation τ sig (Elt F))

/-! ## The stretches -/

theorem next_eq : rd (after while0Ops0 X) main_while0b_v17 = addi (rd X main_v7_4 : IVec S_ 32) (constantI S_ 32 1#32) := by
  after_results
  try rfl

set_option maxRecDepth 100000 in
set_option maxHeartbeats 2000000 in
theorem taken_eq : rd (after while0Ops0_1 X) main_while0b_v18 = taken (rd X main_v7_0 : FVec F S65536x3 .f32) (rd X main_v7_6 : IVec S16 32) := by
  after_results_simp_entrywise
  try rfl

theorem closer_eq : rd (after while0Ops0_2 X) main_while0b_v24
    = closer (rd X main_v7_1 : FVec F S16x4096x3 .f32) (rd X main_v7_5 : FVec F S16x4096 .f32) (rd X main_while0b_v18 : FVec F S16x3 .f32) := by
  after_results
  try rfl

set_option maxRecDepth 100000 in
theorem greatest_eq : rd (after while0Ops0_3 X) main_while0b_v25 = greatest (rd X main_while0b_v24 : FVec F S16x4096 .f32) := by
  after_results
  try rfl

set_option maxRecDepth 100000 in
theorem place_eq : rd (after while0Ops0_4 X) main_v7_4 = rd X main_while0b_v17 := by
  after_results
  try rfl

set_option maxRecDepth 100000 in
theorem dists_eq : rd (after while0Ops0_4 X) main_v7_5 = rd X main_while0b_v24 := by
  after_results
  try rfl

set_option maxRecDepth 100000 in
theorem last_eq : rd (after while0Ops0_4 X) main_v7_6 = addi (rd X main_while0b_v25 : IVec S16 32) (rd X main_v7_2 : IVec S16 32) := by
  after_results
  try rfl

set_option maxRecDepth 100000 in
theorem noted_eq : rd (after while0Ops0_4 X) main_v7_7
    = noted (rd X main_v7_7 : IVec S16x2048 32) (addi (rd X main_while0b_v25 : IVec S16 32) (rd X main_v7_2 : IVec S16 32)) (rd X main_v7_4 : IVec S_ 32) := by
  after_results_simp_entrywise
  rfl

end Cert.SelectionIdeal.Trips

end
-- ==== Proof.Greatest.lean ====
/- What one trip of the reference's selection loop computes, read at an index over the extended reals: the gathered points, the
   distances, the first place of the greatest, and the selections. -/
module

public import proofs.«01_k».proof.Proof.Trips
public import proofs.«01_k».proof.Proof.Farthest
public import Idealize.ShloMosaic.Lib.Pointwise
public import Idealize.ShloMosaic.Lib.ReduceAll
public import Idealize.ShloMosaic.Lib.WordCmp
public import Idealize.ShloMosaic.Lib.Routing.Ops
public import Idealize.ShloMosaic.PureOps.Ideal.Laws

@[expose] public section

noncomputable section

namespace Cert.SelectionIdeal.Trips

open Cert.SelectionIdeal Cert.SelectionIdeal.Gen Cert.Farthest
open Idealize.ShloMosaic

/-! ## Words -/

theorem toInt_small (n : ℕ) (hn : n < 2 ^ 31) : (BitVec.ofNat 32 n).toInt = (n : ℤ) := by
  rw [BitVec.toInt_eq_toNat_cond, BitVec.toNat_ofNat]; omega

theorem slt_small (a b : ℕ) (ha : a < 2 ^ 31) (hb : b < 2 ^ 31) : IntOp.cmpi .slt (BitVec.ofNat 32 a) (BitVec.ofNat 32 b) = 1#1 ↔ a < b := by
  show BitVec.ofBool (BitVec.slt _ _) = 1#1 ↔ _
  rw [BitVec.slt_eq_decide, toInt_small a ha, toInt_small b hb]
  by_cases h : a < b
  · simp [h]
  · have : ¬ (a : ℤ) < b := by omega
    simp [h]

theorem row_inside (n : ℕ) (hn : n < 65536) : IntOp.andi (IntOp.cmpi .sge (BitVec.ofNat 32 n) 0#32) (IntOp.cmpi .sle (BitVec.ofNat 32 n) 65535#32) = 1#1 := by
  have h1 : IntOp.cmpi .sge (BitVec.ofNat 32 n) 0#32 = 1#1 := by
    show BitVec.ofBool (BitVec.sle 0#32 (BitVec.ofNat 32 n)) = 1#1
    rw [BitVec.sle_eq_decide, toInt_small n (by omega)]
    simp
  have h2 : IntOp.cmpi .sle (BitVec.ofNat 32 n) 65535#32 = 1#1 := by
    show BitVec.ofBool (BitVec.sle (BitVec.ofNat 32 n) (BitVec.ofNat 32 65535)) = 1#1
    rw [BitVec.sle_eq_decide, toInt_small n (by omega), toInt_small 65535 (by norm_num)]
    have : (n : ℤ) ≤ (65535 : ℕ) := by omega
    simp only [this, decide_true]
    rfl
  rw [h1, h2]
  rfl

theorem row_kept (n : ℕ) (hn : n < 65536) : ¬ IntOp.cmpi .slt (BitVec.ofNat 32 n) 0#32 = 1#1 := fun h => by
  have := (slt_small n 0 (by omega) (by norm_num)).1 h
  omega

/-! ## The greatest -/

/-- The reducer keeps the greater, of equals the one with the lesser number. -/
theorem reducer_eq (v w : EReal) (i n : ℕ) (hi : i < 4096) (hn : n < 4096) :
    reducer_argmax_f32_i32 (F := Ideal) (v, BitVec.ofNat 32 i) (w, BitVec.ofNat 32 n)
      = if w < v ∨ (v = w ∧ i < n) then (v, BitVec.ofNat 32 i) else (w, BitVec.ofNat 32 n) := by
  have hs := slt_small i n (by omega) (by omega)
  unfold reducer_argmax_f32_i32
  simp only [Ideal.cmpf_def, Ideal.cmp, Scalar.select]
  by_cases h1 : w < v
  · have h2 : v ≠ w := h1.ne'
    simp [h1, h2, IntOp.ori, IntOp.andi]
  · by_cases h2 : v = w
    · subst h2
      by_cases h3 : i < n
      · have h4 := hs.2 h3
        simp [h3, h4, IntOp.ori, IntOp.andi]
      · have h4 : IntOp.cmpi .slt (BitVec.ofNat 32 i) (BitVec.ofNat 32 n) = 0#1 := by
          have := fun h => h3 (hs.1 h)
          generalize IntOp.cmpi .slt (BitVec.ofNat 32 i) (BitVec.ofNat 32 n) = x at this
          revert x; decide
        simp [h3, h4, IntOp.ori, IntOp.andi]
    · simp [h1, h2, IntOp.ori, IntOp.andi]

/-- What the fold over a list of places holds. -/
def Folded (E : Fin 4096 → EReal) (ns : List (Fin 4096)) (r : EReal × BitVec 32) : Prop :=
  ∃ i : Fin 4096, r.2 = BitVec.ofNat 32 i.val ∧ (r.1 = E i ∨ (r.1 = ⊥ ∧ i = 0)) ∧ ∀ n ∈ ns, E n ≤ r.1 ∧ (E n = r.1 → i ≤ n)

theorem Folded.step {E : Fin 4096 → EReal} {ns : List (Fin 4096)} {r : EReal × BitVec 32} (h : Folded E ns r) (n : Fin 4096) :
    Folded E (ns ++ [n]) (reducer_argmax_f32_i32 (F := Ideal) r (E n, BitVec.ofNat 32 n.val)) := by
  obtain ⟨v, w⟩ := r
  obtain ⟨i, hi, hv, hm⟩ := h
  simp only at hi hv hm
  subst hi
  rw [reducer_eq _ _ _ _ i.2 n.2]
  by_cases hc : E n < v ∨ (v = E n ∧ i.val < n.val)
  · rw [if_pos hc]
    refine ⟨i, rfl, hv, fun k hk => ?_⟩
    rcases List.mem_append.1 hk with hk | hk
    · exact hm k hk
    · rw [List.mem_singleton.1 hk]
      rcases hc with hc | ⟨hc, hl⟩
      · exact ⟨hc.le, fun e => absurd e hc.ne⟩
      · exact ⟨hc.ge, fun _ => hl.le⟩
  · rw [if_neg hc]
    rw [not_or, not_and, not_lt] at hc
    refine ⟨n, rfl, .inl rfl, fun k hk => ?_⟩
    rcases List.mem_append.1 hk with hk | hk
    · refine ⟨(hm k hk).1.trans hc.1, fun e => ?_⟩
      have e : E k = E n := e
      have hvn : v = E n := le_antisymm hc.1 (e ▸ (hm k hk).1)
      exact (not_lt.1 (hc.2 hvn)).trans ((hm k hk).2 (e.trans hvn.symm))
    · rw [List.mem_singleton.1 hk]
      exact ⟨le_rfl, fun _ => le_rfl⟩

theorem Folded.foldl {E : Fin 4096 → EReal} (ms ns : List (Fin 4096)) (r : EReal × BitVec 32) (h : Folded E ns r) :
    Folded E (ns ++ ms) (ms.foldl (fun r n => reducer_argmax_f32_i32 (F := Ideal) r (E n, BitVec.ofNat 32 n.val)) r) := by
  induction ms generalizing ns r with
  | nil => simpa using h
  | cons m ms ih => simpa using ih _ _ (h.step m)

theorem Folded.first {E : Fin 4096 → EReal} {ns : List (Fin 4096)} {r : EReal × BitVec 32} (h : Folded E ns r) (hw : ∀ n, n ∈ ns) :
    r.2 = BitVec.ofNat 32 (Farthest.first E).val := by
  obtain ⟨i, hi, hv, hm⟩ := h
  have he : r.1 = E i := by
    rcases hv with hv | ⟨hv, hz⟩
    · exact hv
    · have := (hm i (hw i)).1
      rw [hv] at this
      rw [hv, le_bot_iff.1 this]
  rw [he] at hm
  rw [hi, IsFirst.eq ⟨fun m => (hm m (hw m)).1, fun m => (hm m (hw m)).2⟩]

/-- A place's point. -/
def place (n : Fin S16x4096.numel) : Fin 4096 := S16x4096.rowMajor.symm n 1

theorem greatest_at (D : FVec Ideal S16x4096 .f32) (c : Fin 16) :
    greatest D (ix1 c) = BitVec.ofNat 32 (Farthest.first fun n => D (ix2 c n)).val := by
  unfold greatest
  rw [Ideal.argReduce_eq_reduce2, Host.reduce2]
  set L := (List.finRange S16x4096.numel).filter fun n => reducesTo_S16x4096_S16_d1.drop (S16x4096.rowMajor.symm n) = ix1 c with hL
  have hidx : ∀ n ∈ L, S16x4096.rowMajor.symm n = ix2 c (place n) := fun n hn => by
    have hd := of_decide_eq_true (List.mem_filter.1 hn).2
    obtain ⟨k, hk⟩ := (Shape.ReducesTo.fiber_r2_a1 reducesTo_S16x4096_S16_d1 (ix1 c) _).1 hd
    unfold place
    rw [← hk]
    rfl
  have hf : L.foldl (fun r n => reducer_argmax_f32_i32 (F := Ideal) r (D (S16x4096.rowMajor.symm n), iotaInDim S16x4096 32 1 (S16x4096.rowMajor.symm n))) (⊥, 0#32)
      = (L.map place).foldl (fun r n => reducer_argmax_f32_i32 (F := Ideal) r (D (ix2 c n), BitVec.ofNat 32 n.val)) (⊥, 0#32) := by
    rw [List.foldl_map]
    refine List.foldl_ext _ _ _ fun r n hn => ?_
    refine congrArg (reducer_argmax_f32_i32 (F := Ideal) r) (Prod.ext (congrArg D (hidx n hn)) rfl)
  have h0 : Folded (fun n => D (ix2 c n)) [] ((⊥ : EReal), 0#32) := ⟨0, rfl, .inr ⟨rfl, rfl⟩, fun n hn => absurd hn (by simp)⟩
  have key := (Folded.foldl (L.map place) [] _ h0).first fun n => ?_
  · rw [← hf] at key
    refine Eq.trans ?_ key
    have hb : constant (F := Ideal) S_ .f32 0xFF800000#32 (Shape.Idx.first h_S_) = (⊥ : EReal) := by
      show Ideal.ofBits .f32 0xFF800000#32 = ⊥
      simp [Ideal.ofBits, Ideal.ieee]
    rw [hb]
    rfl
  · rw [List.nil_append]
    refine List.mem_map.2 ⟨S16x4096.rowMajor (ix2 c n), List.mem_filter.2 ⟨List.mem_finRange _, decide_eq_true ?_⟩, ?_⟩
    · rw [Equiv.symm_apply_apply]
      exact (Shape.ReducesTo.fiber_r2_a1 reducesTo_S16x4096_S16_d1 (ix1 c) _).2 ⟨n, rfl⟩
    · unfold place
      rw [Equiv.symm_apply_apply]
      rfl

/-! ## The rest of a trip -/

theorem wrapped_at (I : IVec S16 32) (r : Fin 16 → Fin 65536) (hI : ∀ c, I (ix1 c) = BitVec.ofNat 32 (r c).val) (c : Fin 16) :
    wrapped I (ix2 c 0) = BitVec.ofNat 32 (r c).val := by
  unfold wrapped
  have e (x : IVec S16 32) : broadcastInDim S16x1 ![0] bcast_S16_S16x1_0 x (ix2 c 0) = x (ix1 c) := by pointwise
  rw [e]
  show Scalar.select (IntOp.cmpi .slt (I (ix1 c)) 0#32) _ (I (ix1 c)) = _
  rw [hI]
  exact if_neg (row_kept _ (r c).2)

theorem taken_at (p : FVec Ideal S65536x3 .f32) (I : IVec S16 32) (r : Fin 16 → Fin 65536) (hI : ∀ c, I (ix1 c) = BitVec.ofNat 32 (r c).val)
    (c : Fin 16) (a : Fin 3) : taken p I (ix2 c a) = p (ix2 (r c) a) := by
  have hin (i : S16.Idx) : Host.reduce IntOp.andi (andi (cmpi .sge (wrapped I) (broadcastInDim S16x1 ![] bcast_S_S16x1 (constantI S_ 32 0#32))) (cmpi .sle (wrapped I) (broadcastInDim S16x1 ![0, 1] bcast_S1x1_S16x1_0_1 (broadcastInDim S1x1 ![1] bcast_S1_S1x1_1 (constantI S1 32 65535#32))))) (constantI S_ 1 1#1) reducesTo_S16x1_S16_d1 h_S_ i = 1#1 := by
    refine Host.reduce_andi_one _ _ _ _ i rfl fun k => ?_
    obtain ⟨c, z, rfl⟩ : ∃ (c : Fin 16) (z : Fin 1), k = ix2 c z := ⟨_, _, eq_ix2 k⟩
    obtain rfl : z = 0 := Subsingleton.elim _ _
    show IntOp.andi (IntOp.cmpi .sge (wrapped I (ix2 c 0)) 0#32) (IntOp.cmpi .sle (wrapped I (ix2 c 0)) 65535#32) = 1#1
    rw [wrapped_at I r hI]
    exact row_inside _ (r c).2
  have hg := Routing.gather_row gather_S65536x3_S16x1_S16x3_1_0_n_n_0_1_13 rfl rfl rfl rfl rfl p (wrapped I) c a (r c) (wrapped_at I r hI c) (by decide)
  refine Eq.trans ?_ hg
  show Scalar.select (Host.reduce IntOp.andi _ _ _ _ _) _ _ = _
  rw [hin]
  rfl

theorem closer_at (P : FVec Ideal S16x4096x3 .f32) (D : FVec Ideal S16x4096 .f32) (u : FVec Ideal S16x3 .f32) (p : Fin 3 → Fin 4096 → EReal) (q : Fin 4096)
    (c : Fin 16) (n : Fin 4096) (hP : ∀ a n, P (ix3 c n a) = p a n) (hu : ∀ a, u (ix2 c a) = p a q) :
    closer P D u (ix2 c n) = min (D (ix2 c n)) (dsq p n q) := by
  have e : closer P D u (ix2 c n) = min (D (ix2 c n)) (∑ a : Fin 3, (P (ix3 c n a) - u (ix2 c a)) * (P (ix3 c n a) - u (ix2 c a))) := by
    unfold closer
    pointwise
  rw [e, Fin.sum_univ_three]
  simp only [hP, hu]
  rfl

theorem noted_at (S : IVec S16x2048 32) (u : IVec S16 32) (i : IVec S_ 32) (k : ℕ) (hk : k < 2048) (hi : i = fun _ => BitVec.ofNat 32 k) (c : Fin 16) (s : Fin 2048) :
    noted S u i (ix2 c s) = if s.val = k then u (ix1 c) else S (ix2 c s) := by
  subst hi
  unfold noted
  have hst : ∀ a : Fin 2, (![constantI S_ 32 0#32, select (cmpi .slt (fun _ => BitVec.ofNat 32 k : IVec S_ 32) (constantI S_ 32 0#32)) (addi (fun _ => BitVec.ofNat 32 k) (constantI S_ 32 2048#32)) fun _ => BitVec.ofNat 32 k] : Fin 2 → IVec S_ 32) a (Shape.Idx.first h_S_)
      = BitVec.ofNat 32 ((![0, k] : Fin 2 → ℕ) a) := fun a => by
    fin_cases a
    · rfl
    · exact if_neg (row_kept k (by omega))
  have hlt : ∀ a : Fin 2, (![0, k] : Fin 2 → ℕ) a < 2 ^ 31 := fun a => by fin_cases a <;> simp <;> omega
  have hfit : S16x2048.Slices (![0, k] : Fin 2 → ℕ) S16x1 := ⟨rfl, fun a => by
    fin_cases a
    · show 0 + 16 ≤ 16
      omega
    · show k + 1 ≤ 2048
      omega⟩
  refine (congrFun (WordCmp.dynamicUpdateSlice_eq_update S (broadcastInDim S16x1 ![0] bcast_S16_S16x1_0 u) _ updateFits_S16x2048_S16x1 (![0, k] : Fin 2 → ℕ) hfit fun a => ?_) (ix2 c s)).trans ?_
  · exact (congrArg BitVec.toInt (hst a)).trans (toInt_small _ (hlt a))
  unfold updateSlice
  by_cases hs : s.val = k
  · rw [dif_pos, if_pos hs]
    · pointwise
    · intro a; fin_cases a
      · exact ⟨Nat.zero_le _, by show c.val < 0 + 16; omega⟩
      · exact ⟨hs.ge, by show s.val < k + 1; omega⟩
  · rw [dif_neg, if_neg hs]
    intro hin
    have h1 : k ≤ s.val ∧ s.val < k + 1 := hin 1
    omega

end Cert.SelectionIdeal.Trips

end
-- ==== Proof.Chosen.lean ====
/- The reference's selection loop from its entry to its end: after `t` trips the buffers that the loop carries hold the least
   distances to the first `t` selections of farthest point first, the last selection, and all of them so far. -/
module

public import proofs.«01_k».proof.Proof.Greatest

@[expose] public section

noncomputable section

namespace Cert.SelectionIdeal.Trips

open Cert.SelectionIdeal Cert.SelectionIdeal.Gen Cert.SelectionIdeal.Value
open Idealize.ShloMosaic Idealize.ShloMosaic.StableHlo
open Cert.Farthest (near last dsq)

section Trip

variable {F : FTy → Type} [FloatOps F] (X : Valuation τ sig (Elt F))

/-- A trip: the condition, then the body's stretches. -/
abbrev trip : Valuation τ sig (Elt F) := afterL bodyI (after condOps X)

theorem keep_cond {r : Ref sig .tc} (h : r ∉ condOps_W) : rd (after condOps X) r = rd X r :=
  after_of_writes_sub condOps X condOps_writes h
theorem keep_0 {r : Ref sig .tc} (h : r ∉ while0Ops0_W) : rd (after while0Ops0 X) r = rd X r :=
  after_of_writes_sub while0Ops0 X while0Ops0_writes h
theorem keep_1 {r : Ref sig .tc} (h : r ∉ while0Ops0_1_W) : rd (after while0Ops0_1 X) r = rd X r :=
  after_of_writes_sub while0Ops0_1 X while0Ops0_1_writes h
theorem keep_2 {r : Ref sig .tc} (h : r ∉ while0Ops0_2_W) : rd (after while0Ops0_2 X) r = rd X r :=
  after_of_writes_sub while0Ops0_2 X while0Ops0_2_writes h
theorem keep_3 {r : Ref sig .tc} (h : r ∉ while0Ops0_3_W) : rd (after while0Ops0_3 X) r = rd X r :=
  after_of_writes_sub while0Ops0_3 X while0Ops0_3_writes h
theorem keep_4 {r : Ref sig .tc} (h : r ∉ while0Ops0_4_W) : rd (after while0Ops0_4 X) r = rd X r :=
  after_of_writes_sub while0Ops0_4 X while0Ops0_4_writes h

/-- Before the distances are taken, a buffer that neither the condition nor the gather writes is as it was. -/
theorem keep_taken {r : Ref sig .tc} (h : r ∉ condOps_W ++ while0Ops0_W ++ while0Ops0_1_W) :
    rd (after while0Ops0_1 (after while0Ops0 (after condOps X))) r = rd X r := by
  simp only [List.mem_append, not_or] at h
  rw [keep_1 _ h.2, keep_0 _ h.1.2, keep_cond _ h.1.1]

/-- Nor do the distances and their greatest change the others. -/
theorem keep_picked {r : Ref sig .tc} (h : r ∉ (condOps_W ++ while0Ops0_W ++ while0Ops0_1_W) ++ (while0Ops0_2_W ++ while0Ops0_3_W)) :
    rd (after while0Ops0_3 (after while0Ops0_2 (after while0Ops0_1 (after while0Ops0 (after condOps X))))) r = rd X r := by
  rw [List.mem_append, not_or] at h
  have h' := h.2
  rw [List.mem_append, not_or] at h'
  rw [keep_3 _ h'.2, keep_2 _ h'.1, keep_taken X h.1]

theorem trip_kept {r : Ref sig .tc} (h : r ∉ (condOps_W ++ while0Ops0_W ++ while0Ops0_1_W) ++ (while0Ops0_2_W ++ while0Ops0_3_W)) (h4 : r ∉ while0Ops0_4_W) :
    rd (trip X) r = rd X r :=
  (keep_4 _ h4).trans (keep_picked X h)

theorem trip_place : rd (trip X) main_v7_4 = addi (rd X main_v7_4 : IVec S_ 32) (constantI S_ 32 1#32) := by
  refine (place_eq _).trans ?_
  rw [keep_3 _ (by decide +kernel), keep_2 _ (by decide +kernel), keep_1 _ (by decide +kernel), next_eq, keep_cond _ (by decide +kernel)]

/-- The distances that a trip leaves. -/
abbrev nearer : FVec F S16x4096 .f32 :=
  closer (rd X main_v7_1 : FVec F S16x4096x3 .f32) (rd X main_v7_5 : FVec F S16x4096 .f32) (taken (rd X main_v7_0 : FVec F S65536x3 .f32) (rd X main_v7_6 : IVec S16 32))

/-- The rows that a trip selects. -/
abbrev chosen : IVec S16 32 := addi (greatest (nearer X)) (rd X main_v7_2 : IVec S16 32)

theorem nearer_eq : rd (after while0Ops0_2 (after while0Ops0_1 (after while0Ops0 (after condOps X)))) main_while0b_v24 = nearer X := by
  rw [closer_eq, taken_eq, keep_taken X (by decide +kernel), keep_taken X (by decide +kernel)]
  rw [keep_0 _ (by decide +kernel), keep_0 _ (by decide +kernel), keep_cond _ (by decide +kernel), keep_cond _ (by decide +kernel)]

theorem chosen_eq :
    addi (rd (after while0Ops0_3 (after while0Ops0_2 (after while0Ops0_1 (after while0Ops0 (after condOps X))))) main_while0b_v25 : IVec S16 32)
      (rd (after while0Ops0_3 (after while0Ops0_2 (after while0Ops0_1 (after while0Ops0 (after condOps X))))) main_v7_2 : IVec S16 32) = chosen X := by
  rw [greatest_eq, nearer_eq, keep_picked X (by decide +kernel)]

theorem trip_dists : rd (trip X) main_v7_5 = nearer X := by
  refine (dists_eq _).trans ?_
  rw [keep_3 _ (by decide +kernel), nearer_eq]

theorem trip_last : rd (trip X) main_v7_6 = chosen X := (last_eq _).trans (chosen_eq X)

theorem trip_noted : rd (trip X) main_v7_7 = noted (rd X main_v7_7 : IVec S16x2048 32) (chosen X) (rd X main_v7_4 : IVec S_ 32) := by
  refine (noted_eq _).trans ?_
  rw [chosen_eq, keep_picked X (by decide +kernel), keep_picked X (by decide +kernel)]

end Trip

/-- The row of point `n` of cloud `c`. -/
def row (c : Fin 16) (n : Fin 4096) : Fin 65536 := ⟨4096 * c.val + n.val, by omega⟩

/-- The coordinates of cloud `c`'s points. -/
abbrev pt (A : FVec Ideal S65536x3 .f32) (c : Fin 16) (a : Fin 3) (n : Fin 4096) : EReal := A (ix2 (row c n) a)

/-- What the loop carries after `t` trips. -/
structure Holds (A : FVec Ideal S65536x3 .f32) (t : ℕ) (X : Valuation τ sig (Elt Ideal)) : Prop where
  table : (rd X main_v7_0 : FVec Ideal S65536x3 .f32) = A
  clouds (c : Fin 16) (n : Fin 4096) (a : Fin 3) : (rd X main_v7_1 : FVec Ideal S16x4096x3 .f32) (ix3 c n a) = pt A c a n
  offs (c : Fin 16) : (rd X main_v7_2 : IVec S16 32) (ix1 c) = BitVec.ofNat 32 (4096 * c.val)
  place : (rd X main_v7_4 : IVec S_ 32) = fun _ => BitVec.ofNat 32 (t + 1)
  dists (c : Fin 16) (n : Fin 4096) : (rd X main_v7_5 : FVec Ideal S16x4096 .f32) (ix2 c n) = near (dsq (pt A c)) t n
  last (c : Fin 16) : (rd X main_v7_6 : IVec S16 32) (ix1 c) = BitVec.ofNat 32 (row c (last (dsq (pt A c)) t)).val
  noted (c : Fin 16) (s : Fin 2048) (h : s.val ≤ t) : (rd X main_v7_7 : IVec S16x2048 32) (ix2 c s) = BitVec.ofNat 32 (row c (Farthest.last (dsq (pt A c)) s.val)).val

variable {A : FVec Ideal S65536x3 .f32} {t : ℕ} {X : Valuation τ sig (Elt Ideal)}

theorem Holds.nearer_at (h : Holds A t X) (c : Fin 16) (n : Fin 4096) : nearer X (ix2 c n) = near (dsq (pt A c)) (t + 1) n := by
  have hu (a : Fin 3) : taken (F := Ideal) (rd X main_v7_0 : FVec Ideal S65536x3 .f32) (rd X main_v7_6 : IVec S16 32) (ix2 c a) = pt A c a (Farthest.last (dsq (pt A c)) t) :=
    (taken_at _ _ (fun c => row c (Farthest.last (dsq (pt A c)) t)) h.last c a).trans (congrFun h.table _)
  refine (closer_at _ _ _ (pt A c) (Farthest.last (dsq (pt A c)) t) c n (fun a n => h.clouds c n a) hu).trans ?_
  rw [Farthest.near_succ]
  exact congrArg (min · _) (h.dists c n)

theorem Holds.chosen_at (h : Holds A t X) (c : Fin 16) : chosen X (ix1 c) = BitVec.ofNat 32 (row c (Farthest.last (dsq (pt A c)) (t + 1))).val := by
  show IntOp.addi (greatest (nearer X) (ix1 c)) ((rd X main_v7_2 : IVec S16 32) (ix1 c)) = _
  rw [greatest_at, h.offs, funext (h.nearer_at c), Farthest.last_succ]
  show BitVec.ofNat 32 _ + BitVec.ofNat 32 _ = _
  rw [← BitVec.ofNat_add, Nat.add_comm]
  rfl

theorem Holds.place_at (h : Holds A t X) : (rd (trip X) main_v7_4 : IVec S_ 32) = fun _ => BitVec.ofNat 32 (t + 1 + 1) := by
  refine (trip_place X).trans (funext fun i => ?_)
  refine (congrArg (fun x : IVec S_ 32 => addi x (constantI S_ 32 1#32) i) h.place).trans ?_
  show BitVec.ofNat 32 (t + 1) + BitVec.ofNat 32 1 = _
  rw [← BitVec.ofNat_add]

theorem Holds.noted_at (h : Holds A t X) (ht : t < 2047) (c : Fin 16) (s : Fin 2048) (hs : s.val ≤ t + 1) :
    (rd (trip X) main_v7_7 : IVec S16x2048 32) (ix2 c s) = BitVec.ofNat 32 (row c (Farthest.last (dsq (pt A c)) s.val)).val := by
  refine (congrFun (trip_noted X) (ix2 c s)).trans ((Trips.noted_at _ _ _ (t + 1) (by omega) h.place c s).trans ?_)
  split
  · rename_i e
    rw [h.chosen_at, e]
  · exact h.noted c s (by omega)

theorem Holds.trip (h : Holds A t X) (ht : t < 2047) : Holds A (t + 1) (trip X) where
  table := (trip_kept (r := main_v7_0) X (by decide +kernel) (by decide +kernel)).trans h.table
  clouds c n a := (congrFun (trip_kept (r := main_v7_1) X (by decide +kernel) (by decide +kernel)) (ix3 c n a)).trans (h.clouds c n a)
  offs c := (congrFun (trip_kept (r := main_v7_2) X (by decide +kernel) (by decide +kernel)) (ix1 c)).trans (h.offs c)
  place := h.place_at
  dists c n := (congrFun (trip_dists X) (ix2 c n)).trans (h.nearer_at c n)
  last c := (congrFun (trip_last X) (ix1 c)).trans (h.chosen_at c)
  noted c s hs := h.noted_at ht c s hs

variable (m : (ℓ : Loc nD τ sig) → Buf (Elt Ideal) ℓ) (d : Dev nD)

/-- The points as the program is given them. -/
abbrev given : FVec Ideal S65536x3 .f32 := m ((d.tc : Thread nD τ).loc main_arg0)

theorem holds_entry : Holds (given m d) 0 (entryContents preI m d) := by
  have e0 : (rd (entryContents preI m d) main_v7_0 : FVec Ideal S65536x3 .f32) = given m d := by
    simp only [rd, entryContents, afterL_cons, afterL_nil]
    after_reads_simp
    rfl
  have e1 : (rd (entryContents preI m d) main_v7_1 : FVec Ideal S16x4096x3 .f32) = shapeCast S16x4096x3 (given m d) shapeCasts_S65536x3_S16x4096x3 := by
    simp only [rd, entryContents, afterL_cons, afterL_nil]
    after_reads_simp
    rfl
  have e2 : (rd (entryContents preI m d) main_v7_2 : IVec S16 32) = muli (broadcastInDim S16 ![] bcast_S_S16 (constantI S_ 32 4096#32)) (iotaInDim S16 32 0) := by
    simp only [rd, entryContents, afterL_cons, afterL_nil]
    after_reads_simp
    rfl
  have e4 : (rd (entryContents preI m d) main_v7_4 : IVec S_ 32) = constantI S_ 32 1#32 := by
    simp only [rd, entryContents, afterL_cons, afterL_nil]
    after_reads_simp
    rfl
  have e5 : (rd (entryContents preI m d) main_v7_5 : FVec Ideal S16x4096 .f32) = broadcastInDim S16x4096 ![] bcast_S_S16x4096 (constant (F := Ideal) S_ .f32 0x7F800000#32) := by
    simp only [rd, entryContents, afterL_cons, afterL_nil]
    after_reads_simp
    rfl
  have e6 : (rd (entryContents preI m d) main_v7_6 : IVec S16 32) = muli (broadcastInDim S16 ![] bcast_S_S16 (constantI S_ 32 4096#32)) (iotaInDim S16 32 0) := by
    simp only [rd, entryContents, afterL_cons, afterL_nil]
    after_reads_simp
    rfl
  have e7 : (rd (entryContents preI m d) main_v7_7 : IVec S16x2048 32) = broadcastInDim S16x2048 ![0, 1] bcast_S16x1_S16x2048_0_1 (broadcastInDim S16x1 ![0] bcast_S16_S16x1_0 (muli (broadcastInDim S16 ![] bcast_S_S16 (constantI S_ 32 4096#32)) (iotaInDim S16 32 0))) := by
    simp only [rd, entryContents, afterL_cons, afterL_nil]
    after_reads_simp
    rfl
  have ho (c : Fin 16) : (muli (broadcastInDim S16 ![] bcast_S_S16 (constantI S_ 32 4096#32)) (iotaInDim S16 32 0) : IVec S16 32) (ix1 c) = BitVec.ofNat 32 (4096 * c.val) := by
    show BitVec.ofNat 32 4096 * BitVec.ofNat 32 c.val = _
    rw [← BitVec.ofNat_mul]
  have hr (c : Fin 16) : (row c 0).val = 4096 * c.val := rfl
  refine ⟨e0, fun c n a => ?_, fun c => ?_, ?_, fun c n => ?_, fun c => ?_, fun c s hs => ?_⟩
  · rw [e1]
    refine congrArg (given m d) (Shape.reshapeEquiv_eq_of_rowMajor _ ?_)
    refine (Shape.rowMajor_val_two _).trans (Eq.trans ?_ (Shape.rowMajor_val_three _).symm)
    show (4096 * c.val + n.val) * 3 + a.val = (c.val * 4096 + n.val) * 3 + a.val
    omega
  · rw [e2, ho]
  · rw [e4]
    rfl
  · rw [e5]
    show Ideal.ofBits .f32 0x7F800000#32 = ⊤
    simp [Ideal.ofBits, Ideal.ieee]
  · rw [e6, ho, Farthest.last_zero, hr]
  · obtain rfl : s = 0 := Fin.ext (Nat.le_zero.1 hs)
    rw [e7]
    have e (x : IVec S16 32) : broadcastInDim S16x2048 ![0, 1] bcast_S16x1_S16x2048_0_1 (broadcastInDim S16x1 ![0] bcast_S16_S16x1_0 x) (ix2 c 0) = x (ix1 c) := by pointwise
    rw [e, ho]
    rfl

theorem holds_at : ∀ t, t ≤ 2047 → Holds (given m d) t (atK m t d)
  | 0, _ => holds_entry m d
  | t + 1, h => (holds_at t (by omega)).trip (by omega)

end Cert.SelectionIdeal.Trips

end
-- ==== Proof.Outcome.lean ====
/- The reference after its loop: the selections are left as the loop leaves them, and the coordinates are the rows of the
   table that they name, by clouds and axes. -/
module

public import proofs.«01_k».proof.Proof.Chosen
public import Idealize.ShloMosaic.Lib.Claim

@[expose] public section

noncomputable section

namespace Cert.SelectionIdeal.Trips

open Cert.SelectionIdeal Cert.SelectionIdeal.Gen Cert.SelectionIdeal.Value
open Idealize.ShloMosaic Idealize.ShloMosaic.StableHlo
open Idealize.SL.Sem

section Any

variable {F : FTy → Type} [FloatOps F] (X : Valuation τ sig (Elt F))

/-- The row numbers of all selections as the program gathers at them. -/
abbrev wrappedAll (I : IVec S32768 32) : IVec S32768x1 32 :=
  broadcastInDim S32768x1 ![0] bcast_S32768_S32768x1_0 (select (cmpi .slt I (broadcastInDim S32768 ![] bcast_S_S32768 (constantI S_ 32 0#32))) (addi I (broadcastInDim S32768 ![] bcast_S_S32768 (constantI S_ 32 65536#32))) I)

/-- The points of all selections. -/
abbrev takenAll (p : FVec F S65536x3 .f32) (I : IVec S32768 32) : FVec F S32768x3 .f32 :=
  select (broadcastInDim S32768x3 ![0] bcast_S32768_S32768x3_0 (Host.reduce IntOp.andi (andi (cmpi .sge (wrappedAll I) (broadcastInDim S32768x1 ![] bcast_S_S32768x1 (constantI S_ 32 0#32))) (cmpi .sle (wrappedAll I) (broadcastInDim S32768x1 ![0, 1] bcast_S1x1_S32768x1_0_1 (broadcastInDim S1x1 ![1] bcast_S1_S1x1_1 (constantI S1 32 65535#32))))) (constantI S_ 1 1#1) reducesTo_S32768x1_S32768_d1 h_S_))
    (Host.gather gather_S65536x3_S32768x1_S32768x3_1_0_n_n_0_1_13 p (wrappedAll I)) (broadcastInDim S32768x3 ![] bcast_S_S32768x3 (constant S_ .f32 0x7FC00000#32))

/-- One axis of them, by clouds. -/
abbrev axisOf (y : FVec F S32768x3 .f32) (off : Fin 3 → ℕ) (h : S16x2048x3.Slices off S16x2048x1) : FVec F S16x2048 .f32 :=
  shapeCast S16x2048 (extractStridedSlice S16x2048x1 off (shapeCast S16x2048x3 y shapeCasts_S32768x3_S16x2048x3) h) shapeCasts_S16x2048x1_S16x2048

theorem flat_eq : rd (after hostOps0_1 X) main_v8 = shapeCast S32768 (rd X main_v7_7 : IVec S16x2048 32) shapeCasts_S16x2048_S32768 := by
  after_results
  try rfl

set_option maxRecDepth 100000 in
set_option maxHeartbeats 2000000 in
theorem takenAll_eq : rd (after hostOps0_2 X) main_v9 = takenAll (rd X main_arg0 : FVec F S65536x3 .f32) (rd X main_v8 : IVec S32768 32) := by
  after_results_simp_entrywise
  try rfl

theorem xs_eq : rd (after hostOps0_3 X) main_v12 = axisOf (rd X main_v9 : FVec F S32768x3 .f32) ![0, 0, 0] slices_S16x2048x3_S16x2048x1_0_0_0 := by
  after_results
  try rfl

theorem ys_eq : rd (after hostOps0_3 X) main_v14 = axisOf (rd X main_v9 : FVec F S32768x3 .f32) ![0, 0, 1] slices_S16x2048x3_S16x2048x1_0_0_1 := by
  after_results
  try rfl

theorem zs_eq : rd (after hostOps0_3 X) main_v16 = axisOf (rd X main_v9 : FVec F S32768x3 .f32) ![0, 0, 2] slices_S16x2048x3_S16x2048x1_0_0_2 := by
  after_results
  try rfl

/-- What the operations after the loop write. -/
abbrev flatW : List (Ref sig .tc) := [main_v8]
abbrev rowsW : List (Ref sig .tc) :=
  [main_call2_c, main_call2_v0, main_call2_v1, main_call2_c_0, main_call2_v2, main_call2_v3, main_call2_v4, main_call2_v5, main_call2_c_1, main_call2_c_2,
    main_call2_v6, main_call2_v7, main_call2_v8, main_call2_v9, main_call2_v10, main_call2_v11, main_call2_c_3, main_call2_v12, main_call2_v13, main_call2_v14,
    main_call2_cst, main_call2_v15, main_v9]
abbrev axesW : List (Ref sig .tc) := [main_v10, main_v11, main_v12, main_v13, main_v14, main_v15, main_v16]

theorem keep_flat {r : Ref sig .tc} (h : r ∉ flatW) : rd (after hostOps0_1 X) r = rd X r :=
  after_of_writes_sub hostOps0_1 X (forall_writes_sub_of_map rfl) h
theorem keep_rows {r : Ref sig .tc} (h : r ∉ rowsW) : rd (after hostOps0_2 X) r = rd X r :=
  after_of_writes_sub hostOps0_2 X (forall_writes_sub_of_map rfl) h
theorem keep_axes {r : Ref sig .tc} (h : r ∉ axesW) : rd (after hostOps0_3 X) r = rd X r :=
  after_of_writes_sub hostOps0_3 X (forall_writes_sub_of_map rfl) h

/-- A buffer that none of them writes is left. -/
theorem post_kept {r : Ref sig .tc} (h : r ∉ flatW ++ rowsW ++ axesW) : rd (afterL postI X) r = rd X r := by
  simp only [List.mem_append, not_or] at h
  exact (keep_axes _ h.2).trans ((keep_rows _ h.1.2).trans (keep_flat _ h.1.1))

/-- The rows that the operations after the loop take. -/
theorem rows_eq : rd (after hostOps0_2 (after hostOps0_1 X)) main_v9
    = takenAll (rd X main_arg0 : FVec F S65536x3 .f32) (shapeCast S32768 (rd X main_v7_7 : IVec S16x2048 32) shapeCasts_S16x2048_S32768) := by
  rw [takenAll_eq, flat_eq, keep_flat _ (by decide +kernel)]

/-! ## The argument is left -/

variable (m : (ℓ : Loc nD τ sig) → Buf (Elt F) ℓ) (ρ : Dev nD → PrngReg) (d : Dev nD)

theorem arg_at : ∀ t, rd (atK m t d) main_arg0 = m ((d.tc : Thread nD τ).loc main_arg0)
  | 0 => (after_of_writes_sub (r := main_arg0) hostOps0 (launchContents m d) hostOps0_writes (by decide +kernel) :
      after hostOps0 (launchContents m d) (Proc.devRef .tc main_arg0) = launchContents m d (Proc.devRef .tc main_arg0))
  | t + 1 => (trip_kept (r := main_arg0) (atK m t d) (by decide +kernel) (by decide +kernel)).trans (arg_at t)

theorem arg_cond : rd (after condOps (atK m 2047 d)) main_arg0 = m ((d.tc : Thread nD τ).loc main_arg0) :=
  (keep_cond (r := main_arg0) _ (by decide +kernel)).trans (arg_at m d 2047)

theorem arg_end : rd (finalContents condOps preI bodyI postI 2047 m d) main_arg0 = m ((d.tc : Thread nD τ).loc main_arg0) :=
  (post_kept (r := main_arg0) _ (by decide +kernel)).trans (arg_cond m d)

theorem run_frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)) ∧ r.2.sem = fun _ => 0) :=
  (θ_run defs _ _).mono (fun r h => ⟨fun c => (h c main_arg0 rfl).trans (arg_end m c), sem_eq_zero_of_no_sems rfl r.2⟩) (run_fold m ρ)

end Any

/-! ## The coordinates -/

theorem wrappedAll_at (I : IVec S32768 32) (r : Fin 32768 → Fin 65536) (hI : ∀ n, I (ix1 n) = BitVec.ofNat 32 (r n).val) (n : Fin 32768) :
    wrappedAll I (ix2 n 0) = BitVec.ofNat 32 (r n).val := by
  unfold wrappedAll
  have e (x : IVec S32768 32) : broadcastInDim S32768x1 ![0] bcast_S32768_S32768x1_0 x (ix2 n 0) = x (ix1 n) := by pointwise
  rw [e]
  show Scalar.select (IntOp.cmpi .slt (I (ix1 n)) 0#32) _ (I (ix1 n)) = _
  rw [hI]
  exact if_neg (row_kept _ (r n).2)

theorem takenAll_at (p : FVec Ideal S65536x3 .f32) (I : IVec S32768 32) (r : Fin 32768 → Fin 65536) (hI : ∀ n, I (ix1 n) = BitVec.ofNat 32 (r n).val)
    (n : Fin 32768) (a : Fin 3) : takenAll p I (ix2 n a) = p (ix2 (r n) a) := by
  have hin (i : S32768.Idx) : Host.reduce IntOp.andi (andi (cmpi .sge (wrappedAll I) (broadcastInDim S32768x1 ![] bcast_S_S32768x1 (constantI S_ 32 0#32))) (cmpi .sle (wrappedAll I) (broadcastInDim S32768x1 ![0, 1] bcast_S1x1_S32768x1_0_1 (broadcastInDim S1x1 ![1] bcast_S1_S1x1_1 (constantI S1 32 65535#32))))) (constantI S_ 1 1#1) reducesTo_S32768x1_S32768_d1 h_S_ i = 1#1 := by
    refine Host.reduce_andi_one _ _ _ _ i rfl fun k => ?_
    obtain ⟨n, z, rfl⟩ : ∃ (n : Fin 32768) (z : Fin 1), k = ix2 n z := ⟨_, _, eq_ix2 k⟩
    obtain rfl : z = 0 := Subsingleton.elim _ _
    show IntOp.andi (IntOp.cmpi .sge (wrappedAll I (ix2 n 0)) 0#32) (IntOp.cmpi .sle (wrappedAll I (ix2 n 0)) 65535#32) = 1#1
    rw [wrappedAll_at I r hI]
    exact row_inside _ (r n).2
  have hg := Routing.gather_row gather_S65536x3_S32768x1_S32768x3_1_0_n_n_0_1_13 rfl rfl rfl rfl rfl p (wrappedAll I) n a (r n) (wrappedAll_at I r hI n) (by decide)
  refine Eq.trans ?_ hg
  show Scalar.select (Host.reduce IntOp.andi _ _ _ _ _) _ _ = _
  rw [hin]
  rfl

/-- Selection `s` of cloud `c`, all clouds in one line. -/
def spot (c : Fin 16) (s : Fin 2048) : Fin 32768 := ⟨2048 * c.val + s.val, by omega⟩

theorem axisOf_at (y : FVec Ideal S32768x3 .f32) (a : Fin 3) (h : S16x2048x3.Slices ![0, 0, a.val] S16x2048x1) (c : Fin 16) (s : Fin 2048) :
    axisOf y ![0, 0, a.val] h (ix2 c s) = y (ix2 (spot c s) a) := by
  have e1 : Shape.reshapeEquiv shapeCasts_S16x2048x1_S16x2048 (ix2 c s) = (ix3 c s (0 : Fin 1) : S16x2048x1.Idx) := by
    refine Shape.reshapeEquiv_eq_of_rowMajor _ ?_
    refine (Shape.rowMajor_val_three _).trans (Eq.trans ?_ (Shape.rowMajor_val_two _).symm)
    show (c.val * 2048 + s.val) * 1 + 0 = c.val * 2048 + s.val
    omega
  have e2 : Shape.reshapeEquiv shapeCasts_S32768x3_S16x2048x3 (ix3 c s a) = (ix2 (spot c s) a : S32768x3.Idx) := by
    refine Shape.reshapeEquiv_eq_of_rowMajor _ ?_
    refine (Shape.rowMajor_val_two _).trans (Eq.trans ?_ (Shape.rowMajor_val_three _).symm)
    show (2048 * c.val + s.val) * 3 + a.val = (c.val * 2048 + s.val) * 3 + a.val
    omega
  refine Eq.trans ?_ (congrArg y e2)
  show extractStridedSlice S16x2048x1 ![0, 0, a.val] (shapeCast S16x2048x3 y shapeCasts_S32768x3_S16x2048x3) h (Shape.reshapeEquiv shapeCasts_S16x2048x1_S16x2048 (ix2 c s)) = shapeCast S16x2048x3 y shapeCasts_S32768x3_S16x2048x3 (ix3 c s a)
  rw [e1]
  refine congrArg (shapeCast S16x2048x3 y shapeCasts_S32768x3_S16x2048x3) (funext fun i => Fin.ext ?_)
  match i with
  | 0 => exact Nat.zero_add _
  | 1 => exact Nat.zero_add _
  | 2 => rfl

variable (m : (ℓ : Loc nD τ sig) → Buf (Elt Ideal) ℓ) (ρ : Dev nD → PrngReg) (d : Dev nD)

/-- The selections, and their coordinates. -/
abbrev picks (A : FVec Ideal S65536x3 .f32) (c : Fin 16) (s : Fin 2048) : Fin 4096 := Farthest.last (Farthest.dsq (pt A c)) s.val

theorem noted_cond (c : Fin 16) (s : Fin 2048) :
    (rd (after condOps (atK m 2047 d)) main_v7_7 : IVec S16x2048 32) (ix2 c s) = BitVec.ofNat 32 (row c (picks (given m d) c s)).val :=
  (congrFun (keep_cond (r := main_v7_7) _ (by decide +kernel)) (ix2 c s)).trans ((holds_at m d 2047 le_rfl).noted c s (by omega))

theorem picks_end (c : Fin 16) (s : Fin 2048) :
    (rd (finalContents condOps preI bodyI postI 2047 m d) main_v7_7 : IVec S16x2048 32) (ix2 c s) = BitVec.ofNat 32 (row c (picks (given m d) c s)).val :=
  (congrFun (post_kept (r := main_v7_7) _ (by decide +kernel)) (ix2 c s)).trans (noted_cond m d c s)

/-- The rows taken after the loop are those of the selections. -/
theorem rows_at (c : Fin 16) (s : Fin 2048) (a : Fin 3) :
    (rd (after hostOps0_2 (after hostOps0_1 (after condOps (atK m 2047 d)))) main_v9 : FVec Ideal S32768x3 .f32) (ix2 (spot c s) a)
      = pt (given m d) c a (picks (given m d) c s) := by
  have hc (n : Fin 32768) : n.val / 2048 < 16 := by omega
  have hs (n : Fin 32768) : n.val % 2048 < 2048 := by omega
  refine (congrFun (rows_eq _) _).trans ((takenAll_at _ _ (fun n => row ⟨_, hc n⟩ (picks (given m d) ⟨_, hc n⟩ ⟨_, hs n⟩)) (fun n => ?_) _ a).trans ?_)
  · refine Eq.trans ?_ (noted_cond m d ⟨_, hc n⟩ ⟨_, hs n⟩)
    refine congrArg (rd (after condOps (atK m 2047 d)) main_v7_7 : IVec S16x2048 32) (Shape.reshapeEquiv_eq_of_rowMajor _ ?_)
    refine (Shape.rowMajor_val_two _).trans (Eq.trans ?_ (Shape.rowMajor_val_one _).symm)
    show n.val / 2048 * 2048 + n.val % 2048 = n.val
    omega
  · have ec : (⟨(spot c s).val / 2048, hc _⟩ : Fin 16) = c := Fin.ext (show (2048 * c.val + s.val) / 2048 = c.val by omega)
    have es : (⟨(spot c s).val % 2048, hs _⟩ : Fin 2048) = s := Fin.ext (show (2048 * c.val + s.val) % 2048 = s.val by omega)
    rw [ec, es]
    exact congrFun (arg_cond m d) _

theorem xs_end (c : Fin 16) (s : Fin 2048) :
    (rd (finalContents condOps preI bodyI postI 2047 m d) main_v12 : FVec Ideal S16x2048 .f32) (ix2 c s) = pt (given m d) c 0 (picks (given m d) c s) := by
  refine Eq.trans ?_ ((axisOf_at _ 0 slices_S16x2048x3_S16x2048x1_0_0_0 c s).trans (rows_at m d c s 0))
  exact congrFun (xs_eq (after hostOps0_2 (after hostOps0_1 (after condOps (atK m 2047 d))))) (ix2 c s)

theorem ys_end (c : Fin 16) (s : Fin 2048) :
    (rd (finalContents condOps preI bodyI postI 2047 m d) main_v14 : FVec Ideal S16x2048 .f32) (ix2 c s) = pt (given m d) c 1 (picks (given m d) c s) := by
  refine Eq.trans ?_ ((axisOf_at _ 1 slices_S16x2048x3_S16x2048x1_0_0_1 c s).trans (rows_at m d c s 1))
  exact congrFun (ys_eq (after hostOps0_2 (after hostOps0_1 (after condOps (atK m 2047 d))))) (ix2 c s)

theorem zs_end (c : Fin 16) (s : Fin 2048) :
    (rd (finalContents condOps preI bodyI postI 2047 m d) main_v16 : FVec Ideal S16x2048 .f32) (ix2 c s) = pt (given m d) c 2 (picks (given m d) c s) := by
  refine Eq.trans ?_ ((axisOf_at _ 2 slices_S16x2048x3_S16x2048x1_0_0_2 c s).trans (rows_at m d c s 2))
  exact congrFun (zs_eq (after hostOps0_2 (after hostOps0_1 (after condOps (atK m 2047 d))))) (ix2 c s)

/-- The run: the selections' rows, and their coordinates. -/
theorem run_values : θ_run (defs (F := Ideal)) (onTc (τ := τ) (main (F := Ideal))) ⟨m, fun _ => 0, ρ⟩
    (fun r => ∀ e : Dev nD,
      (∀ (c : Fin 16) (s : Fin 2048),
        (r.2.mem ((e.tc : Thread nD τ).loc main_v7_7) : IVec S16x2048 32) (ix2 c s) = BitVec.ofNat 32 (row c (picks (given m e) c s)).val
        ∧ (r.2.mem ((e.tc : Thread nD τ).loc main_v12) : FVec Ideal S16x2048 .f32) (ix2 c s) = pt (given m e) c 0 (picks (given m e) c s)
        ∧ (r.2.mem ((e.tc : Thread nD τ).loc main_v14) : FVec Ideal S16x2048 .f32) (ix2 c s) = pt (given m e) c 1 (picks (given m e) c s)
        ∧ (r.2.mem ((e.tc : Thread nD τ).loc main_v16) : FVec Ideal S16x2048 .f32) (ix2 c s) = pt (given m e) c 2 (picks (given m e) c s))
      ∧ r.2.mem ((e.tc : Thread nD τ).loc main_arg0) = m ((e.tc : Thread nD τ).loc main_arg0)) := by
  refine (θ_run defs _ _).mono (fun r h e => ⟨fun c s => ⟨?_, ?_, ?_, ?_⟩, ?_⟩) (run_fold m ρ)
  · exact (congrFun (h e main_v7_7 rfl) (ix2 c s)).trans (picks_end m e c s)
  · exact (congrFun (h e main_v12 rfl) (ix2 c s)).trans (xs_end m e c s)
  · exact (congrFun (h e main_v14 rfl) (ix2 c s)).trans (ys_end m e c s)
  · exact (congrFun (h e main_v16 rfl) (ix2 c s)).trans (zs_end m e c s)
  · exact (h e main_arg0 rfl).trans (arg_end m e)

end Cert.SelectionIdeal.Trips

end
-- ==== Proof.Sampling.lean ====
/- The sampler's call: the frames of its program and of the reference's selection, and the value claim. Both programs leave
   farthest point first: the kernel's in `Selected.res_at`, the reference's in `Outcome.run_values`. -/
module

public import proofs.«01_k».proof.Defs
public import proofs.«01_k».proof.Proof.Gen.Sampler
public import proofs.«01_k».proof.Proof.Gen.Selection.Run
public import proofs.«01_k».proof.Proof.Run
public import proofs.«01_k».proof.Proof.Selected
public import proofs.«01_k».proof.Proof.Outcome

@[expose] public section

noncomputable section

namespace Cert.Proof

open Idealize.ShloMosaic Idealize.SL.Sem

/-- The reference's selection runs and leaves its argument; it has no semaphores. -/
theorem frame_selection_ideal : Cert.quiescent_SelectionIdeal := fun m ρ _ =>
  Cert.SelectionIdeal.Trips.run_frame (F := Ideal) m ρ

/-- The idealized sampler runs, leaves its argument, and leaves every semaphore at zero. -/
theorem frame_sampler_ideal : Cert.quiescent_SamplerIdeal := fun m ρ _ =>
  (θ_run Cert.SamplerIdeal.defs _ _).mono (fun _ h => ⟨fun c => (h.1 c).2.2.2.2, h.2⟩) (Cert.SamplerIdeal.Fps.run_main (F := Ideal) m ρ)

/-- The reference printed for the machine's words is the same text. -/
theorem selection_same : Cert.quiescent_Selection = ∀ (m : (ℓ : Loc Cert.SelectionIdeal.nD Cert.SelectionIdeal.τ Cert.SelectionIdeal.sig) → Buf (Elt Bits) ℓ) (g : Dev Cert.SelectionIdeal.nD → PrngReg), True →
    θ_run (Cert.SelectionIdeal.defs (F := Bits)) (onTc (τ := Cert.SelectionIdeal.τ) (Cert.SelectionIdeal.main (F := Bits))) ⟨m, fun _ => 0, g⟩ (fun r => (∀ c : Dev Cert.SelectionIdeal.nD,
      r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0)) ∧ r.2.sem = fun _ => 0) := by
  sl_kernel_rfl

/-- So it runs and leaves its argument. -/
theorem frame_selection : Cert.quiescent_Selection :=
  selection_same.mpr fun m ρ _ => Cert.SelectionIdeal.Trips.run_frame (F := Bits) m ρ

/-- The kernel's program printed for the machine's words is the same text. -/
theorem sampler_same : Cert.quiescent_Sampler = ∀ (m : (ℓ : Loc Cert.SamplerIdeal.nD Cert.SamplerIdeal.τ Cert.SamplerIdeal.sig) → Buf (Elt Bits) ℓ) (g : Dev Cert.SamplerIdeal.nD → PrngReg), True →
    θ_run (Cert.SamplerIdeal.defs (F := Bits)) (onTc (τ := Cert.SamplerIdeal.τ) (Cert.SamplerIdeal.main (F := Bits))) ⟨m, fun _ => 0, g⟩ (fun r => (∀ c : Dev Cert.SamplerIdeal.nD,
      r.2.mem ((c.tc : Thread Cert.SamplerIdeal.nD Cert.SamplerIdeal.τ).loc Cert.SamplerIdeal.main_arg0) = m ((c.tc : Thread Cert.SamplerIdeal.nD Cert.SamplerIdeal.τ).loc Cert.SamplerIdeal.main_arg0)) ∧ r.2.sem = fun _ => 0) := by
  sl_kernel_rfl

/-- So it runs, leaves its argument, and leaves every semaphore at zero. -/
theorem frame_sampler : Cert.quiescent_Sampler :=
  sampler_same.mpr fun m ρ _ =>
    (θ_run Cert.SamplerIdeal.defs _ _).mono (fun _ h => ⟨fun c => (h.1 c).2.2.2.2, h.2⟩) (Cert.SamplerIdeal.Fps.run_main (F := Bits) m ρ)

/-! ## The selections -/

/-- The points as the kernel's program lays them out are the rows of the argument. -/
theorem byAxis_at (m : (ℓ : Loc Cert.SamplerIdeal.nD Cert.SamplerIdeal.τ Cert.SamplerIdeal.sig) → Buf (Elt Ideal) ℓ) (d : Dev Cert.SamplerIdeal.nD)
    (A : FVec Ideal Cert.SelectionIdeal.S65536x3 .f32) (hA : A = m ((d.tc : Thread Cert.SamplerIdeal.nD Cert.SamplerIdeal.τ).loc Cert.SamplerIdeal.main_arg0))
    (c : Fin 16) : Cert.SamplerIdeal.Fps.pts (Cert.SamplerIdeal.Fps.byAxis m d) c = Cert.SelectionIdeal.Trips.pt A c := by
  subst hA
  funext a n
  have e : Shape.reshapeEquiv Cert.SamplerIdeal.Gen.shapeCasts_S65536x3_S16x4096x3 (ValueIdx.ix3 c n a)
      = (ValueIdx.ix2 (Cert.SelectionIdeal.Trips.row c n) a : Cert.SamplerIdeal.S65536x3.Idx) := by
    refine Shape.reshapeEquiv_eq_of_rowMajor _ ?_
    refine (Shape.rowMajor_val_two _).trans (Eq.trans ?_ (Shape.rowMajor_val_three _).symm)
    show (4096 * c.val + n.val) * 3 + a.val = (c.val * 4096 + n.val) * 3 + a.val
    omega
  refine Eq.trans ?_ (congrArg (m ((d.tc : Thread Cert.SamplerIdeal.nD Cert.SamplerIdeal.τ).loc Cert.SamplerIdeal.main_arg0)) e)
  refine congrArg (fun i => m ((d.tc : Thread Cert.SamplerIdeal.nD Cert.SamplerIdeal.τ).loc Cert.SamplerIdeal.main_arg0) (Shape.reshapeEquiv Cert.SamplerIdeal.Gen.shapeCasts_S65536x3_S16x4096x3 i)) (funext fun k => Fin.ext ?_)
  match k with
  | 0 => rfl
  | 1 => rfl
  | 2 => rfl

/-- At the reals, the kernel's selections and their coordinates are the reference's. -/
theorem algebraic_sampler : Cert.algebraic_SamplerIdeal_SelectionIdeal := by
  intro m ρ m' ρ' _ hm
  refine ⟨fun d => Cert.SamplerIdeal.Fps.resV (Cert.SamplerIdeal.Fps.byAxis m d) Cert.SamplerIdeal.Fps.rI, fun d => Cert.SamplerIdeal.Fps.resV (Cert.SamplerIdeal.Fps.byAxis m d) Cert.SamplerIdeal.Fps.rX,
    fun d => Cert.SamplerIdeal.Fps.resV (Cert.SamplerIdeal.Fps.byAxis m d) Cert.SamplerIdeal.Fps.rY, fun d => Cert.SamplerIdeal.Fps.resV (Cert.SamplerIdeal.Fps.byAxis m d) Cert.SamplerIdeal.Fps.rZ, ?_, ?_⟩
  · exact (θ_run Cert.SamplerIdeal.defs _ _).mono (fun _ h c => h.1 c) (Cert.SamplerIdeal.Fps.run_main (F := Ideal) m ρ)
  · refine (θ_run Cert.SelectionIdeal.defs _ _).mono (fun r h d => ?_) (Cert.SelectionIdeal.Trips.run_values m' ρ')
    have hs (c : Fin 16) (s : Fin 2048) := Cert.SamplerIdeal.Fps.res_at (P := Cert.SamplerIdeal.Fps.byAxis m d) c s
    simp only [Cert.SamplerIdeal.Fps.sel, byAxis_at m d (Cert.SelectionIdeal.Trips.given m' d) (hm d)] at hs
    refine ⟨funext fun y => ?_, funext fun y => ?_, funext fun y => ?_, funext fun y => ?_, (h d).2⟩
    all_goals obtain ⟨c, s, rfl⟩ : ∃ (c : Fin 16) (s : Fin 2048), y = ValueIdx.ix2 c s := ⟨_, _, ValueIdx.eq_ix2 y⟩
    · exact ((h d).1 c s).1.trans (hs c s).1.symm
    · exact ((h d).1 c s).2.1.trans (hs c s).2.1.symm
    · exact ((h d).1 c s).2.2.1.trans (hs c s).2.2.1.symm
    · exact ((h d).1 c s).2.2.2.trans (hs c s).2.2.2.symm

end Cert.Proof

end
-- ==== Proof.Whole.Words.lean ====
/-
  The words that the tile's loop carries, and where the tile's copies lie.

  The tile's pipeline keeps five words from trip to trip: the number of the next copy-in, the number of the copy-in
  that is waited for, the number of the next copy-out, the number of the copy-out that is waited for, and the block
  within the tile's eight. Before trip `t` of eight they are `min (t + 1) 8`, `t`, `t`, `t - 1` (0 at the start) and
  `t mod 8` (`carry`). At these words every condition and every offset that the program computes has a closed form,
  found here by running through all tiles and trips: staging slot `t mod 2` serves block `t`, and block `t` of tile
  `(c, s)` is block `8 (16 c + s) + t` of the 256 blocks of 128 rows.
-/
module

public import proofs.«01_k».proof.Proof.Gen.WholeIdeal
public import proofs.«01_k».proof.Proof.Gen.WholeIdeal.Skeleton

@[expose] public section

set_option maxRecDepth 16384

namespace Cert.Whole.Rows.Words

open Cert.WholeIdeal Cert.WholeIdeal.Gen Idealize.ShloMosaic

/-- The number of the next copy-in before trip `t`. -/
def W6 (t : ℕ) : BitVec 32 := BitVec.ofNat 32 (min (t + 1) 8)
/-- The number of the copy-in that trip `t` waits for; also of the copy-out that it starts. -/
def W7 (t : ℕ) : BitVec 32 := BitVec.ofNat 32 t
/-- The number of the copy-out that trip `t` waits for. -/
def W9 (t : ℕ) : BitVec 32 := BitVec.ofNat 32 (t - 1)
/-- The block of trip `t` among the tile's eight. -/
def W10 (t : ℕ) : BitVec 32 := BitVec.ofNat 32 (t % 8)

/-- The five words before trip `t`. -/
def carry (t : ℕ) : BitVec 32 × BitVec 32 × BitVec 32 × BitVec 32 × BitVec 32 := (W6 t, W7 t, W7 t, W9 t, W10 t)

/-- The number among the 256 blocks of the tile's first block. -/
def base (i : grid1.Coords) : ℕ := ((i 1).val + 16 * (i 0).val) * 8

theorem trips_eq : k1_t1_loop.trips = 8 := by decide +kernel

theorem base_lt (i : grid1.Coords) : base i + 8 ≤ 256 := by revert i; decide +kernel

/-! ### The checks hold at the carried words -/

theorem chk3 (k : Fin k1_t1_loop.trips) : k1_chk3 (W7 k.val) := by revert k; decide +kernel
theorem chk2 (k : Fin k1_t1_loop.trips) : k1_chk2 (W7 k.val) := by revert k; decide +kernel
theorem chk1 (i : grid1.Coords) (k : Fin k1_t1_loop.trips) :
    k1_chk1 i k (W6 k.val) (W7 k.val) (W7 k.val) (W9 k.val) (W10 k.val) := by revert i k; decide +kernel
theorem chk5 (i : grid1.Coords) : k1_chk5 i (W10 8) := by revert i; decide +kernel
theorem chk4 : k1_chk4 (W9 8) := by decide +kernel

/-! ### The conditions -/

/-- The next block is fetched at every trip but the last. -/
theorem cond1 (i : grid1.Coords) (k : Fin k1_t1_loop.trips) : k1_cond1 i k (W10 k.val) = 1#1 ↔ k.val < 7 := by
  revert i k; decide +kernel
/-- Every trip waits for its own block. -/
theorem cond2 (i : grid1.Coords) (k : Fin k1_t1_loop.trips) : k1_cond2 i k (W10 k.val) = 1#1 := by
  revert i k; decide +kernel
/-- Every trip starts the copy-out of its rows. -/
theorem cond5 (i : grid1.Coords) (k : Fin k1_t1_loop.trips) : k1_cond5 i k (W10 k.val) = 1#1 := by
  revert i k; decide +kernel
/-- Every trip but the first waits for the copy-out before. -/
theorem cond7 (i : grid1.Coords) (k : Fin k1_t1_loop.trips) : k1_cond7 i k (W10 k.val) = 1#1 ↔ 0 < k.val := by
  revert i k; decide +kernel

/-! ### The offsets -/

theorem off1 : k1_off1 = ![0, 0, 0] := by decide +kernel
theorem off2 (i : grid1.Coords) : k1_off2 i = ![0, 128 * base i] := by revert i; decide +kernel
theorem off3 : k1_off3 = ![0] := by decide +kernel
theorem off4 (k : Fin k1_t1_loop.trips) (h : k.val < 7) : k1_off4 (W6 k.val) = ![(k.val + 1) % 2, 0, 0] := by revert k; decide +kernel
theorem off5 (i : grid1.Coords) (k : Fin k1_t1_loop.trips) (h : k.val < 7) :
    k1_off5 i (W10 k.val) = ![0, 128 * (base i + (k.val + 1))] := by revert i k; decide +kernel
theorem off6 (k : Fin k1_t1_loop.trips) (h : k.val < 7) : k1_off6 (W6 k.val) = ![(k.val + 1) % 2] := by revert k; decide +kernel
theorem off7 (k : Fin k1_t1_loop.trips) : k1_off7 (W7 k.val) = ![k.val % 2, 0, 0] := by revert k; decide +kernel
theorem off9 (k : Fin k1_t1_loop.trips) : k1_off9 (W7 k.val) = ![k.val % 2] := by revert k; decide +kernel
theorem off10 (k : Fin k1_t1_loop.trips) : k1_off10 (W7 k.val) = ![k.val % 2, 0, 0] := by revert k; decide +kernel
theorem off11 (k : Fin k1_t1_loop.trips) : k1_off11 (W7 k.val) = ![k.val % 2, 0, 0] := by revert k; decide +kernel
theorem off12 (k : Fin k1_t1_loop.trips) : k1_off12 (W7 k.val) = ![k.val % 2, 0, 0] := by revert k; decide +kernel
theorem off13 (i : grid1.Coords) (k : Fin k1_t1_loop.trips) : k1_off13 i (W10 k.val) = ![128 * (base i + k.val), 0] := by
  revert i k; decide +kernel
theorem off14 (k : Fin k1_t1_loop.trips) : k1_off14 (W7 k.val) = ![k.val % 2] := by revert k; decide +kernel
theorem off17 (k : Fin k1_t1_loop.trips) : k1_off17 (W9 k.val) = ![(k.val - 1) % 2] := by revert k; decide +kernel
theorem off20 : k1_off20 (W9 8) = ![1] := by decide +kernel

/-! ### The words after a trip -/

/-- The tile's first block as the program computes it. -/
def firstW (i : grid1.Coords) : BitVec 32 :=
  Scalar.muli (Scalar.addi (Scalar.addi 0#32 (Scalar.muli (BitVec.ofNat 32 (i 1).val) 1#32)) (Scalar.muli (BitVec.ofNat 32 (i 0).val) 16#32)) 8#32
/-- The trip's number, its block, the block before and the block after, as the program computes them. -/
def ivW (k : Fin k1_t1_loop.trips) : BitVec 32 := Scf.iv 0#32 1#32 k
def curW (i : grid1.Coords) (k : Fin k1_t1_loop.trips) : BitVec 32 := Scalar.addi (W10 k.val) (firstW i)
def prevW (i : grid1.Coords) (k : Fin k1_t1_loop.trips) : BitVec 32 :=
  Scalar.addi (Scalar.select (Scalar.cmpi .eq (Scalar.select 1#1 (Scalar.subi (W10 k.val) 1#32) (W10 k.val)) 4294967295#32) 7#32
    (Scalar.select 1#1 (Scalar.subi (W10 k.val) 1#32) (W10 k.val))) (firstW i)
def nextW (i : grid1.Coords) (k : Fin k1_t1_loop.trips) : BitVec 32 :=
  Scalar.addi (Scalar.select (Scalar.cmpi .eq (Scalar.select 1#1 (Scalar.addi (W10 k.val) 1#32) (W10 k.val)) 8#32) 0#32
    (Scalar.select 1#1 (Scalar.addi (W10 k.val) 1#32) (W10 k.val))) (firstW i)

/-- The number of the next copy-in, as a trip hands it on. -/
def nextIn (i : grid1.Coords) (k : Fin k1_t1_loop.trips) : BitVec 32 :=
  Scalar.select (Scalar.andi (Scalar.andi (Scalar.cmpi .ne (curW i k) (nextW i k)) (Scalar.xori (Scalar.cmpi .sge (ivW k) 7#32) 1#1)) 1#1)
    (Scalar.addi (W6 k.val) 1#32) (W6 k.val)

/-- The words that a trip hands on are the next trip's. -/
theorem carry_next (i : grid1.Coords) (k : Fin k1_t1_loop.trips) :
    ((nextIn i k,
      Scalar.select (Scalar.ori (Scalar.cmpi .ne (curW i k) (nextW i k)) (Scalar.cmpi .eq (ivW k) 7#32)) (Scalar.addi (W7 k.val) 1#32) (W7 k.val),
      Scalar.select (Scalar.andi (Scalar.ori (Scalar.cmpi .ne (curW i k) (nextW i k)) (Scalar.cmpi .eq (ivW k) 7#32)) 1#1) (Scalar.addi (W7 k.val) 1#32) (W7 k.val),
      Scalar.select (Scalar.andi (Scalar.andi (Scalar.cmpi .ne (curW i k) (prevW i k)) (Scalar.xori (Scalar.cmpi .eq (ivW k) 0#32) 1#1)) 1#1)
        (Scalar.addi (W9 k.val) 1#32) (W9 k.val),
      Scalar.select (Scalar.cmpi .eq (Scalar.select 1#1 (Scalar.addi (W10 k.val) 1#32) (W10 k.val)) 8#32) 0#32
        (Scalar.select 1#1 (Scalar.addi (W10 k.val) 1#32) (W10 k.val)))
      : BitVec 32 × BitVec 32 × BitVec 32 × BitVec 32 × BitVec 32) = carry (k.val + 1) := by
  revert i k; decide +kernel

end Cert.Whole.Rows.Words
-- ==== Proof.Whole.Views.lean ====
/-
  The tile's buffers as its copies address them, and what its copies move.

  The kernel names a slot of a staging buffer, a block of the row numbers, a block of the output and a semaphore of an
  array by offsets that it computes. Here each of them is a definition over the offsets; the closed forms of the
  offsets (Words.lean) then say which elements it is (`set_…`) and which elements it reads or writes (`emb_…`). The
  values: `list I B` is what the copy-in of block `B` leaves in a slot of the first staging buffer, `rowsOf X I` is the
  table's rows that the 32768 row numbers `I` name, and `slab X I B` is what the gather of block `B` leaves in a slot of
  the second.
-/
module

public import proofs.«01_k».proof.Proof.Whole.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout

@[expose] public section

noncomputable section

namespace Cert.Whole.Rows.Views

open Cert.WholeIdeal Cert.WholeIdeal.Gen Cert.Whole.Rows.Words
open Idealize.ShloMosaic Idealize.ShloMosaic.ValueIdx

variable {F : FTy → Type}

/-! ## The buffers whole, and their parts by offsets -/

abbrev xM : Memref sig .scVector .hbm S65536x128 .f32 := Memref.whole main_arg1_scv
abbrev gM : Memref sig .scVector .hbm S1x32768 .i32 := Memref.whole main_v3_scv
abbrev oM : Memref sig .scVector .hbm S32768x128 .f32 := Memref.whole main_v4_scv
abbrev iM : Memref sig .scVector .vmem S2x1x128 .i32 := Memref.whole cc1_scoped0
abbrev rM : Memref sig .scVector .vmem S2x128x128 .f32 := Memref.whole cc1_scoped2

/-- A slot of the row numbers' staging buffer. -/
abbrev iSlot (off : Fin 3 → ℕ) (h : ∀ a, off a + S1x1x128.size a ≤ S2x1x128.size a) : Memref sig .scVector .vmem S1x128 .i32 :=
  (iM.slice (Rect.unit (s := S2x1x128) off S1x1x128.size h) (fun _ => rfl)).squeeze S1x128 squeezes_S1x1x128_S1x128
/-- The slot as the gather reads it: a list of 128 row numbers. -/
abbrev iList (off : Fin 3 → ℕ) (h : ∀ a, off a + S1x1x128.size a ≤ S2x1x128.size a) : Memref sig .scVector .vmem S128 .i32 :=
  ((iSlot off h).slice (Rect.unit (s := S1x128) ![0, 0] S1x128.size inb_S1x128_S1x128_0_0) (fun _ => rfl)).squeeze S128 squeezes_S1x128_S128
/-- A slot of the rows' staging buffer. -/
abbrev rSlot (off : Fin 3 → ℕ) (h : ∀ a, off a + S1x128x128.size a ≤ S2x128x128.size a) : Memref sig .scVector .vmem S128x128 .f32 :=
  (rM.slice (Rect.unit (s := S2x128x128) off S1x128x128.size h) (fun _ => rfl)).squeeze S128x128 squeezes_S1x128x128_S128x128
/-- A block of 128 row numbers. -/
abbrev gBlk (off : Fin 2 → ℕ) (h : ∀ a, off a + S1x128.size a ≤ S1x32768.size a) : Memref sig .scVector .hbm S1x128 .i32 :=
  gM.slice (Rect.unit (s := S1x32768) off S1x128.size h) (fun _ => rfl)
/-- A block of 128 rows of the output. -/
abbrev oBlk (off : Fin 2 → ℕ) (h : ∀ a, off a + S128x128.size a ≤ S32768x128.size a) : Memref sig .scVector .hbm S128x128 .f32 :=
  oM.slice (Rect.unit (s := S32768x128) off S128x128.size h) (fun _ => rfl)
/-- The table, as the gather names it. -/
abbrev xAll : Memref sig .scVector .hbm S65536x128 .f32 :=
  xM.slice (Rect.unit (s := S65536x128) ![0, 0] S65536x128.size inb_S65536x128_S65536x128_0_0) (fun _ => rfl)
/-- A semaphore of the copies-in. -/
abbrev iSem (off : Fin 1 → ℕ) (h : ∀ a, off a + S1.size a ≤ S2.size a) : DmaSem sig :=
  ((cc1_scoped1.slice (Rect.unit (s := S2) off S1.size h)).squeeze S_ squeezes_S1_S_).sem
/-- A semaphore of the copies-out. -/
abbrev rSem (off : Fin 1 → ℕ) (h : ∀ a, off a + S1.size a ≤ S2.size a) : DmaSem sig :=
  ((cc1_scoped3.slice (Rect.unit (s := S2) off S1.size h)).squeeze S_ squeezes_S1_S_).sem

/-! ## Which elements they are -/

theorem inbI (b : Fin 2) : ∀ a, (![b.val, 0, 0] : Fin 3 → ℕ) a + S1x1x128.size a ≤ S2x1x128.size a := by revert b; decide
theorem inbR (b : Fin 2) : ∀ a, (![b.val, 0, 0] : Fin 3 → ℕ) a + S1x128x128.size a ≤ S2x128x128.size a := by revert b; decide
theorem inbS (b : Fin 2) : ∀ a, (![b.val] : Fin 1 → ℕ) a + S1.size a ≤ S2.size a := by revert b; decide

/-- Slot `b`'s semaphore of the copies-in, of the copies-out. -/
def iS (b : Fin 2) : DmaSem sig := iSem ![b.val] (inbS b)
def rS (b : Fin 2) : DmaSem sig := rSem ![b.val] (inbS b)

theorem iSem_eq (b : Fin 2) {off : Fin 1 → ℕ} (e : off = ![b.val]) (h : ∀ a, off a + S1.size a ≤ S2.size a) : iSem off h = iS b := by
  subst e; rfl
theorem rSem_eq (b : Fin 2) {off : Fin 1 → ℕ} (e : off = ![b.val]) (h : ∀ a, off a + S1.size a ≤ S2.size a) : rSem off h = rS b := by
  subst e; rfl

/-- The elements of slot `b` of the row numbers' staging buffer, of the rows' staging buffer. -/
def iSet (b : Fin 2) : Finset S2x1x128.Idx := Finset.univ.filter fun j => (j 0).val = b.val
def rSet (b : Fin 2) : Finset S2x128x128.Idx := Finset.univ.filter fun j => (j 0).val = b.val
/-- The elements of block `B` of the row numbers, of the output. -/
def gSet (B : ℕ) : Finset S1x32768.Idx := Finset.univ.filter fun j => (j 1).val / 128 = B
def oSet (B : ℕ) : Finset S32768x128.Idx := Finset.univ.filter fun j => (j 0).val / 128 = B

theorem set_iSlot (b : Fin 2) {off : Fin 3 → ℕ} (e : off = ![b.val, 0, 0]) (h : ∀ a, off a + S1x1x128.size a ≤ S2x1x128.size a) :
    (iSlot off h).view.set = iSet b := by
  subst e
  show (((View.whole (cc1_scoped0 : Ref sig .scVector)).slice _).reshape S1x128 _).set = _
  rw [View.set_reshape, View.set_slice]
  refine Finset.map_refl.trans ?_
  ext j
  rw [Rect.mem_set_unit, iSet, Finset.mem_filter]
  have h1 : (j 1).val < 1 := (j 1).isLt
  have h2 : (j 2).val < 128 := (j 2).isLt
  constructor
  · intro hj
    have h0 : b.val ≤ (j 0).val ∧ (j 0).val < b.val + 1 := hj 0
    exact ⟨Finset.mem_univ _, by omega⟩
  · rintro ⟨-, h0⟩ a
    match a with
    | ⟨0, _⟩ => show b.val ≤ (j 0).val ∧ (j 0).val < b.val + 1; omega
    | ⟨1, _⟩ => show 0 ≤ (j 1).val ∧ (j 1).val < 0 + 1; omega
    | ⟨2, _⟩ => show 0 ≤ (j 2).val ∧ (j 2).val < 0 + 128; omega

theorem set_iList (b : Fin 2) {off : Fin 3 → ℕ} (e : off = ![b.val, 0, 0]) (h : ∀ a, off a + S1x1x128.size a ≤ S2x1x128.size a) :
    (iList off h).view.set = iSet b := by
  rw [← set_iSlot b e h]
  show (((iSlot off h).view.slice _).reshape S128 _).set = _
  rw [View.set_reshape, View.set_slice]
  have hu : (Rect.unit (s := S1x128) ![0, 0] S1x128.size inb_S1x128_S1x128_0_0).set = Finset.univ := by decide +kernel
  rw [hu]; rfl

theorem set_rSlot (b : Fin 2) {off : Fin 3 → ℕ} (e : off = ![b.val, 0, 0]) (h : ∀ a, off a + S1x128x128.size a ≤ S2x128x128.size a) :
    (rSlot off h).view.set = rSet b := by
  subst e
  show (((View.whole (cc1_scoped2 : Ref sig .scVector)).slice _).reshape S128x128 _).set = _
  rw [View.set_reshape, View.set_slice]
  refine Finset.map_refl.trans ?_
  ext j
  rw [Rect.mem_set_unit, rSet, Finset.mem_filter]
  have h1 : (j 1).val < 128 := (j 1).isLt
  have h2 : (j 2).val < 128 := (j 2).isLt
  constructor
  · intro hj
    have h0 : b.val ≤ (j 0).val ∧ (j 0).val < b.val + 1 := hj 0
    exact ⟨Finset.mem_univ _, by omega⟩
  · rintro ⟨-, h0⟩ a
    match a with
    | ⟨0, _⟩ => show b.val ≤ (j 0).val ∧ (j 0).val < b.val + 1; omega
    | ⟨1, _⟩ => show 0 ≤ (j 1).val ∧ (j 1).val < 0 + 128; omega
    | ⟨2, _⟩ => show 0 ≤ (j 2).val ∧ (j 2).val < 0 + 128; omega

theorem set_gBlk (B : ℕ) {off : Fin 2 → ℕ} (e : off = ![0, 128 * B]) (h : ∀ a, off a + S1x128.size a ≤ S1x32768.size a) :
    (gBlk off h).view.set = gSet B := by
  subst e
  show ((View.whole (main_v3_scv : Ref sig .scVector)).slice _).set = _
  rw [View.set_slice]
  refine Finset.map_refl.trans ?_
  ext j
  rw [Rect.mem_set_unit, gSet, Finset.mem_filter]
  have h1 : (j 0).val < 1 := (j 0).isLt
  constructor
  · intro hj
    have h0 : 128 * B ≤ (j 1).val ∧ (j 1).val < 128 * B + 128 := hj 1
    exact ⟨Finset.mem_univ _, by omega⟩
  · rintro ⟨-, h0⟩ a
    match a with
    | ⟨0, _⟩ => show 0 ≤ (j 0).val ∧ (j 0).val < 0 + 1; omega
    | ⟨1, _⟩ => show 128 * B ≤ (j 1).val ∧ (j 1).val < 128 * B + 128; omega

theorem set_oBlk (B : ℕ) {off : Fin 2 → ℕ} (e : off = ![128 * B, 0]) (h : ∀ a, off a + S128x128.size a ≤ S32768x128.size a) :
    (oBlk off h).view.set = oSet B := by
  subst e
  show ((View.whole (main_v4_scv : Ref sig .scVector)).slice _).set = _
  rw [View.set_slice]
  refine Finset.map_refl.trans ?_
  ext j
  rw [Rect.mem_set_unit, oSet, Finset.mem_filter]
  have h1 : (j 1).val < 128 := (j 1).isLt
  constructor
  · intro hj
    have h0 : 128 * B ≤ (j 0).val ∧ (j 0).val < 128 * B + 128 := hj 0
    exact ⟨Finset.mem_univ _, by omega⟩
  · rintro ⟨-, h0⟩ a
    match a with
    | ⟨0, _⟩ => show 128 * B ≤ (j 0).val ∧ (j 0).val < 128 * B + 128; omega
    | ⟨1, _⟩ => show 0 ≤ (j 1).val ∧ (j 1).val < 0 + 128; omega

theorem emb_iSlot (b : Fin 2) (h : ∀ a, (![b.val, 0, 0] : Fin 3 → ℕ) a + S1x1x128.size a ≤ S2x1x128.size a) (u : Fin 1) (c : Fin 128) :
    (iSlot ![b.val, 0, 0] h).view.emb (ix2 u c) = (ix3 b u c : S2x1x128.Idx) := by
  have e := reshapeEquiv_ix2_1ab (a := 1) (b := 128) squeezes_S1x1x128_S1x128.numel_eq u c
  refine (congrArg (Rect.unit (s := S2x1x128) ![b.val, 0, 0] S1x1x128.size h).emb e).trans ?_
  funext a
  match a with
  | ⟨0, _⟩ => exact Fin.ext (show b.val + 1 * 0 = b.val by omega)
  | ⟨1, _⟩ => exact Fin.ext (show 0 + 1 * u.val = u.val by omega)
  | ⟨2, _⟩ => exact Fin.ext (show 0 + 1 * c.val = c.val by omega)

theorem emb_rSlot (b : Fin 2) (h : ∀ a, (![b.val, 0, 0] : Fin 3 → ℕ) a + S1x128x128.size a ≤ S2x128x128.size a) (r c : Fin 128) :
    (rSlot ![b.val, 0, 0] h).view.emb (ix2 r c) = (ix3 b r c : S2x128x128.Idx) := by
  have e := reshapeEquiv_ix2_1ab (a := 128) (b := 128) squeezes_S1x128x128_S128x128.numel_eq r c
  refine (congrArg (Rect.unit (s := S2x128x128) ![b.val, 0, 0] S1x128x128.size h).emb e).trans ?_
  funext a
  match a with
  | ⟨0, _⟩ => exact Fin.ext (show b.val + 1 * 0 = b.val by omega)
  | ⟨1, _⟩ => exact Fin.ext (show 0 + 1 * r.val = r.val by omega)
  | ⟨2, _⟩ => exact Fin.ext (show 0 + 1 * c.val = c.val by omega)

theorem emb_iList (b : Fin 2) (h : ∀ a, (![b.val, 0, 0] : Fin 3 → ℕ) a + S1x1x128.size a ≤ S2x1x128.size a) (c : Fin 128) :
    (iList ![b.val, 0, 0] h).view.emb (ix1 c) = (ix3 b (0 : Fin 1) c : S2x1x128.Idx) := by
  have e1 : Shape.reshapeEquiv squeezes_S1x128_S128.numel_eq (ix1 c) = (ix2 (0 : Fin 1) c : S1x128.Idx) :=
    Shape.reshapeEquiv_eq_of_rowMajor _ (by
      rw [Shape.rowMajor_val_two, Shape.rowMajor_val_one]
      show 0 * 128 + c.val = c.val
      omega)
  have e2 : (Rect.unit (s := S1x128) ![0, 0] S1x128.size inb_S1x128_S1x128_0_0).emb (ix2 (0 : Fin 1) c) = (ix2 (0 : Fin 1) c : S1x128.Idx) := by
    funext a
    match a with
    | ⟨0, _⟩ => rfl
    | ⟨1, _⟩ => exact Fin.ext (show 0 + 1 * c.val = c.val by omega)
  refine Eq.trans ?_ (emb_iSlot b h 0 c)
  exact (congrArg (fun t => (iSlot ![b.val, 0, 0] h).view.emb ((Rect.unit (s := S1x128) ![0, 0] S1x128.size inb_S1x128_S1x128_0_0).emb t)) e1).trans
    (congrArg (iSlot ![b.val, 0, 0] h).view.emb e2)

/-! ## What the copies move -/

/-- Where the row number of output row `n` lies. -/
def at_ (n : ℕ) : S1x32768.Idx := ix2 (0 : Fin 1) (⟨n % 32768, Nat.mod_lt _ (by decide)⟩ : Fin 32768)
/-- Where element `c` of row `w` of the table lies. -/
def cell (w : BitVec 32) (c : Fin 128) : S65536x128.Idx := ix2 (⟨w.toNat % 65536, Nat.mod_lt _ (by decide)⟩ : Fin 65536) c

/-- A slot of the first staging buffer once block `B` of the row numbers is copied in. -/
def list (I : S1x32768.Idx → Elt F .i32) (B : ℕ) : S2x1x128.Idx → Elt F .i32 := fun j => I (at_ (128 * B + (j 2).val))
/-- The table's rows that the row numbers name: the whole output. -/
def rowsOf (X : S65536x128.Idx → Elt F .f32) (I : S1x32768.Idx → Elt F .i32) : S32768x128.Idx → Elt F .f32 :=
  fun j => X (cell (I (at_ (j 0).val)) (j 1))
/-- A slot of the second staging buffer once block `B`'s rows are gathered. -/
def slab (X : S65536x128.Idx → Elt F .f32) (I : S1x32768.Idx → Elt F .i32) (B : ℕ) : S2x128x128.Idx → Elt F .f32 :=
  fun j => X (cell (I (at_ (128 * B + (j 1).val))) (j 2))

/-- The copy-in: block `B` of the row numbers, written through a slot, is `list I B` there. -/
theorem list_write (b : Fin 2) (B : ℕ) (hB : B < 256) {off : Fin 3 → ℕ} (e : off = ![b.val, 0, 0]) (h : ∀ a, off a + S1x1x128.size a ≤ S2x1x128.size a)
    {off' : Fin 2 → ℕ} (e' : off' = ![0, 128 * B]) (h' : ∀ a, off' a + S1x128.size a ≤ S1x32768.size a)
    (f : S2x1x128.Idx → Elt F .i32) (I : S1x32768.Idx → Elt F .i32) :
    ∀ j ∈ iSet b, (iSlot off h).view.write (Elt F) f ((gBlk off' h').view.read (Elt F) I) Finset.univ j = list I B j := by
  intro j hj
  subst e e'
  have h0 : (j 0).val = b.val := (Finset.mem_filter.mp hj).2
  have h1 : (j 1).val < 1 := (j 1).isLt
  have h2 : (j 2).val < 128 := (j 2).isLt
  have hj' : j = (iSlot ![b.val, 0, 0] h).view.emb (ix2 (⟨(j 1).val, h1⟩ : Fin 1) (⟨(j 2).val, h2⟩ : Fin 128)) := by
    rw [emb_iSlot]
    funext a
    match a with
    | ⟨0, _⟩ => exact Fin.ext h0
    | ⟨1, _⟩ => rfl
    | ⟨2, _⟩ => rfl
  conv_lhs => rw [hj']
  rw [View.write_emb_of_mem _ _ (Finset.mem_univ _)]
  show I ((Rect.unit (s := S1x32768) ![0, 128 * B] S1x128.size h').emb (ix2 (⟨(j 1).val, h1⟩ : Fin 1) (⟨(j 2).val, h2⟩ : Fin 128))) = I (at_ (128 * B + (j 2).val))
  congr 1
  funext a
  match a with
  | ⟨0, _⟩ => exact Fin.ext (show 0 + 1 * (j 1).val = 0 by omega)
  | ⟨1, _⟩ => exact Fin.ext (show 128 * B + 1 * (j 2).val = (128 * B + (j 2).val) % 32768 by omega)

/-- What the gather reads in the slot: entry `k` of its list is the row number of output row `128 B + k`. -/
theorem list_read (b : Fin 2) (B : ℕ) {off : Fin 3 → ℕ} (e : off = ![b.val, 0, 0]) (h : ∀ a, off a + S1x1x128.size a ≤ S2x1x128.size a)
    (I : S1x32768.Idx → Elt F .i32) (x : S128.Idx) :
    (iList off h).view.read (Elt F) (list I B) x = I (at_ (128 * B + (x 0).val)) := by
  subst e
  obtain ⟨c, rfl⟩ : ∃ c : Fin 128, x = ix1 c := ⟨x 0, eq_ix1 x⟩
  show list I B ((iList ![b.val, 0, 0] h).view.emb (ix1 c)) = _
  rw [emb_iList]
  rfl

theorem set_xAll : xAll.view.set = Finset.univ := by
  show ((View.whole (main_arg1_scv : Ref sig .scVector)).slice _).set = _
  rw [View.set_slice]
  refine Finset.map_refl.trans ?_
  ext j
  rw [Rect.mem_set_unit]
  have h0 : (j 0).val < 65536 := (j 0).isLt
  have h1 : (j 1).val < 128 := (j 1).isLt
  refine ⟨fun _ => Finset.mem_univ _, fun _ a => ?_⟩
  match a with
  | ⟨0, _⟩ => show 0 ≤ (j 0).val ∧ (j 0).val < 0 + 65536; omega
  | ⟨1, _⟩ => show 0 ≤ (j 1).val ∧ (j 1).val < 0 + 128; omega

theorem read_xAll (X : S65536x128.Idx → Elt F .f32) : xAll.view.read (Elt F) X = X := by
  funext j
  show X ((Rect.unit (s := S65536x128) ![0, 0] S65536x128.size inb_S65536x128_S65536x128_0_0).emb j) = X j
  congr 1
  funext a
  match a with
  | ⟨0, _⟩ => exact Fin.ext (show 0 + 1 * (j 0).val = (j 0).val by omega)
  | ⟨1, _⟩ => exact Fin.ext (show 0 + 1 * (j 1).val = (j 1).val by omega)

/-- The gather's entries are in range where all row numbers are. -/
theorem list_lt (b : Fin 2) (B : ℕ) {off : Fin 3 → ℕ} (e : off = ![b.val, 0, 0]) (h : ∀ a, off a + S1x1x128.size a ≤ S2x1x128.size a)
    (I : S1x32768.Idx → Elt F .i32) (hI : ∀ j, (show BitVec 32 from I j).toNat < 65536) (x : S128.Idx) :
    ((iList off h).view.read (Elt F) (list I B) x).toNat < S65536x128.size gathers_S65536x128_S128x128.axis := by
  rw [list_read b B e h I x]
  exact hI _

/-- The gather: the rows that block `B`'s list names, written through a slot, are `slab X I B` there. -/
theorem slab_write (b : Fin 2) (B : ℕ) {off : Fin 3 → ℕ} (e : off = ![b.val, 0, 0]) (h : ∀ a, off a + S1x128x128.size a ≤ S2x128x128.size a)
    {off' : Fin 3 → ℕ} (e' : off' = ![b.val, 0, 0]) (h' : ∀ a, off' a + S1x1x128.size a ≤ S2x1x128.size a)
    (f : S2x128x128.Idx → Elt F .f32) (X : S65536x128.Idx → Elt F .f32) (I : S1x32768.Idx → Elt F .i32)
    (hn : S128.numel = S128x128.size gathers_S65536x128_S128x128.axis')
    (hin : ∀ x, ((iList off' h').view.read (Elt F) (list I B) x).toNat < S65536x128.size gathers_S65536x128_S128x128.axis) :
    ∀ j ∈ rSet b, (rSlot off h).view.write (Elt F) f
        (SparseCore.gatherPayload gathers_S65536x128_S128x128 (xAll.view.read (Elt F) X)
          (SparseCore.rows ((iList off' h').view.read (Elt F) (list I B)) hn hin)) Finset.univ j = slab X I B j := by
  intro j hj
  subst e
  have h0 : (j 0).val = b.val := (Finset.mem_filter.mp hj).2
  have h1 : (j 1).val < 128 := (j 1).isLt
  have h2 : (j 2).val < 128 := (j 2).isLt
  obtain ⟨r, hr⟩ : ∃ r : Fin 128, r.val = (j 1).val := ⟨⟨_, h1⟩, rfl⟩
  obtain ⟨c, hc⟩ : ∃ c : Fin 128, c.val = (j 2).val := ⟨⟨_, h2⟩, rfl⟩
  have hj' : j = (rSlot ![b.val, 0, 0] h).view.emb (ix2 r c) := by
    rw [emb_rSlot]
    funext a
    match a with
    | ⟨0, _⟩ => exact Fin.ext h0
    | ⟨1, _⟩ => exact Fin.ext hr.symm
    | ⟨2, _⟩ => exact Fin.ext hc.symm
  rw [hj', View.write_emb_of_mem _ _ (Finset.mem_univ _), emb_rSlot]
  show SparseCore.gatherPayload gathers_S65536x128_S128x128 (xAll.view.read (Elt F) X)
    (SparseCore.rows ((iList off' h').view.read (Elt F) (list I B)) hn hin) (ix2 r c) = X (cell (I (at_ (128 * B + r.val))) c)
  rw [read_xAll]
  unfold SparseCore.gatherPayload
  congr 1
  obtain ⟨y, hy⟩ : ∃ y : S128.Idx, S128.rowMajor.symm (r.cast hn.symm) = y := ⟨_, rfl⟩
  have hy0 : (y 0).val = r.val := by
    have := Shape.rowMajor_val_one y
    rw [← this, ← hy, Equiv.apply_symm_apply]
    rfl
  have hw : (SparseCore.rows ((iList off' h').view.read (Elt F) (list I B)) hn hin r).val = BitVec.toNat (w := 32) (I (at_ (128 * B + r.val))) := by
    show BitVec.toNat (w := 32) ((iList off' h').view.read (Elt F) (list I B) (S128.rowMajor.symm (r.cast hn.symm))) = _
    rw [hy, list_read b B e' h' I, hy0]
  funext a
  match a with
  | ⟨0, _⟩ =>
    refine Fin.ext ?_
    refine (congrArg Fin.val (Shape.Gathers.idx_axis gathers_S65536x128_S128x128 _ _)).trans ?_
    refine hw.trans ?_
    have : BitVec.toNat (w := 32) (I (at_ (128 * B + r.val))) < 65536 := hw ▸ (SparseCore.rows _ hn hin r).isLt
    exact (Nat.mod_eq_of_lt this).symm
  | ⟨1, _⟩ => exact Fin.ext (Shape.Gathers.idx_of_ne gathers_S65536x128_S128x128 _ _ (1 : Fin 2) (by decide))

/-- The copy-out: slot `b` holding block `B`'s rows, written through the output's block, is the output there. -/
theorem out_write (b : Fin 2) (B : ℕ) (hB : B < 256) {off : Fin 3 → ℕ} (e : off = ![b.val, 0, 0]) (h : ∀ a, off a + S1x128x128.size a ≤ S2x128x128.size a)
    {off' : Fin 2 → ℕ} (e' : off' = ![128 * B, 0]) (h' : ∀ a, off' a + S128x128.size a ≤ S32768x128.size a)
    (f : S32768x128.Idx → Elt F .f32) (X : S65536x128.Idx → Elt F .f32) (I : S1x32768.Idx → Elt F .i32) :
    ∀ j ∈ oSet B, (oBlk off' h').view.write (Elt F) f ((rSlot off h).view.read (Elt F) (slab X I B)) Finset.univ j = rowsOf X I j := by
  intro j hj
  subst e e'
  have h0 : (j 0).val / 128 = B := (Finset.mem_filter.mp hj).2
  have h1 : (j 1).val < 128 := (j 1).isLt
  obtain ⟨r, hr⟩ : ∃ r : Fin 128, r.val = (j 0).val % 128 := ⟨⟨_, Nat.mod_lt _ (by decide)⟩, rfl⟩
  obtain ⟨c, hc⟩ : ∃ c : Fin 128, c.val = (j 1).val := ⟨⟨_, h1⟩, rfl⟩
  have hj' : j = (oBlk ![128 * B, 0] h').view.emb (ix2 r c) := by
    funext a
    match a with
    | ⟨0, _⟩ => exact Fin.ext (show (j 0).val = 128 * B + 1 * r.val by omega)
    | ⟨1, _⟩ => exact Fin.ext (show (j 1).val = 0 + 1 * c.val by omega)
  have hw : (oBlk ![128 * B, 0] h').view.write (Elt F) f ((rSlot ![b.val, 0, 0] h).view.read (Elt F) (slab X I B)) Finset.univ j
      = (rSlot ![b.val, 0, 0] h).view.read (Elt F) (slab X I B) (ix2 r c) := by
    conv_lhs => rw [hj']
    rw [View.write_emb_of_mem _ _ (Finset.mem_univ _)]
    rfl
  rw [hw]
  show slab X I B ((rSlot ![b.val, 0, 0] h).view.emb (ix2 r c)) = _
  rw [emb_rSlot]
  show X (cell (I (at_ (128 * B + r.val))) c) = X (cell (I (at_ (j 0).val)) (j 1))
  rw [show 128 * B + r.val = (j 0).val by omega]
  exact congrArg (fun t => X (cell _ t)) (Fin.ext hc)

end Cert.Whole.Rows.Views
end
-- ==== Proof.Whole.Ghost.lean ====
/- The ghost state of the whole call: the rounds of the handshakes with the tiles, the rounds of the copies of the
   sampler's call, and the counters of the tiles' own copies. -/
module

public import proofs.«01_k».proof.WholeIdeal
public import Idealize.ShloMosaic.Lib.SparseCore.Quiescent
public import Idealize.ShloMosaic.Lib.Pipeline.Kit
public import Idealize.ShloMosaic.Lib.SparseCore
public import Idealize.ShloMosaic.Lib.Transfers

@[expose] public section

namespace Cert.WholeIdeal.Fps

open Idealize.ShloMosaic Idealize.SL.RA Idealize.ShloMosaic.Rounds

abbrev UH : Type := URounds (GSem nD τ sig) ℕ
abbrev UU : Type := UH × (UR sig nD τ × Counters)

end Cert.WholeIdeal.Fps
-- ==== Proof.Whole.Steps.lean ====
/-
  The tile's five memory operations, each once.

  A tile has two staging buffers of two slots each. A slot of the first is either free (`FreeIn`: its elements, its
  semaphore at zero and a share of the row numbers) or being filled (`FlyIn b B`: block `B` of the row numbers on its way
  into slot `b`); a slot of the second is either free (`FreeRow`) or being emptied (`FlyRow b B`: its rows on their way
  into block `B` of the output). The lemmas say what each operation of the kernel takes and gives back: `step_issueIn`,
  `step_waitIn`, `step_gather`, `step_waitGather`, `step_issueOut`, `step_waitOut`. Offsets are hypotheses, so that each
  lemma serves every place of the program where the operation stands.
-/
module

public import proofs.«01_k».proof.Proof.Whole.Views
public import proofs.«01_k».proof.Proof.Whole.Ghost

@[expose] public section

noncomputable section

namespace Cert.Whole.Rows.Steps

open Cert.WholeIdeal Cert.WholeIdeal.Gen Cert.Whole.Rows.Words Cert.Whole.Rows.Views

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The ghost state: the handshakes' rounds, the transfers' counters -/

export Cert.WholeIdeal.Fps (UH UU)

local notation "𝕄" => MT nD τ sig (HIx 1) (Elt F) ℕ UU ℕ

abbrev 𝒱₀ : Variants := Variants.none

/-! ## The tile, its buffers, its semaphores -/

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

abbrev xLoc (d : Dev nD) : Loc nD τ sig := (SparseCore.T d).loc main_arg1
abbrev gLoc (d : Dev nD) : Loc nD τ sig := (SparseCore.T d).loc main_v3
abbrev oLoc (d : Dev nD) : Loc nD τ sig := (SparseCore.T d).loc main_v4
abbrev iLoc (d : Dev nD) (L : grid1.Coords) : Loc nD τ sig := (thr d L).loc cc1_scoped0
abbrev rLoc (d : Dev nD) (L : grid1.Coords) : Loc nD τ sig := (thr d L).loc cc1_scoped2

/-- The gather's semaphore. -/
abbrev gS : DmaSem sig := cc1_scoped4.sem

/-- What a copy-in, a copy-out and a gather credit. -/
def NI : ℕ := (iSlot ![0, 0, 0] (inbI 0)).view.dmaCredit
def NO : ℕ := (oM.slice (Rect.unit (s := S32768x128) ![0, 0] S128x128.size (by decide)) (fun _ => rfl)).view.dmaCredit
def NG : ℕ := (rSlot ![0, 0, 0] (inbR 0)).view.dmaCredit

/-- The gather's 128 rows together credit what its slot does. -/
theorem rows_credit (off : Fin 3 → ℕ) (h : ∀ a, off a + S1x128x128.size a ≤ S2x128x128.size a) :
    ∑ j, ((rSlot off h).slice (S128x128.rowRect gathers_S65536x128_S128x128.axis' j)
      (S128x128.stride_rowRect gathers_S65536x128_S128x128.axis' j)).view.dmaCredit = NG := by
  have hr : ∀ j, ((rSlot off h).slice (S128x128.rowRect gathers_S65536x128_S128x128.axis' j)
      (S128x128.stride_rowRect gathers_S65536x128_S128x128.axis' j)).view.dmaCredit
      = ((rSlot ![0, 0, 0] (inbR 0)).slice (S128x128.rowRect gathers_S65536x128_S128x128.axis' j)
      (S128x128.stride_rowRect gathers_S65536x128_S128x128.axis' j)).view.dmaCredit := fun _ => rfl
  rw [Finset.sum_congr rfl fun j _ => hr j]
  decide +kernel

section Tile

variable (d : Dev nD) (L : grid1.Coords)
variable (X : S65536x128.Idx → Elt F .f32) (I : S1x32768.Idx → Elt F .i32)

/-- A free slot of the first staging buffer, with its share of the row numbers. -/
def FreeIn (q : PosShare TreeShare) (b : Fin 2) : sProp 𝕄 :=
  iprop((∃ f, iLoc d L ↦[iSet b]{fullShare} f) ∗ semVal (thr d L, SemLoc.dma (iS b)) 0 ∗ gLoc d ↦{q} I)
/-- A slot being filled with block `B` of the row numbers. -/
def FlyIn (q : PosShare TreeShare) (b : Fin 2) (B : ℕ) : sProp 𝕄 :=
  iprop(Transfers.Flight countersEmb (thr d L) (SemLoc.dma (iS b)) (default : HIx 1) NI
      iprop((iLoc d L ↦[iSet b]{fullShare} list I B) ∗ gLoc d ↦[gSet B]{q} I)
    ∗ gLoc d ↦[Finset.univ \ gSet B]{q} I)
/-- A slot filled with block `B` of the row numbers. -/
def FullIn (q : PosShare TreeShare) (b : Fin 2) (B : ℕ) : sProp 𝕄 :=
  iprop((iLoc d L ↦[iSet b]{fullShare} list I B) ∗ semVal (thr d L, SemLoc.dma (iS b)) 0 ∗ gLoc d ↦{q} I)
/-- A free slot of the second staging buffer. -/
def FreeRow (b : Fin 2) : sProp 𝕄 :=
  iprop((∃ f, rLoc d L ↦[rSet b]{fullShare} f) ∗ semVal (thr d L, SemLoc.dma (rS b)) 0)
/-- A slot filled with block `B`'s rows. -/
def FullRow (b : Fin 2) (B : ℕ) : sProp 𝕄 :=
  iprop((rLoc d L ↦[rSet b]{fullShare} slab X I B) ∗ semVal (thr d L, SemLoc.dma (rS b)) 0)
/-- A slot being emptied into block `B` of the output. -/
def FlyRow (b : Fin 2) (B : ℕ) : sProp 𝕄 :=
  Transfers.Flight countersEmb (thr d L) (SemLoc.dma (rS b)) (default : HIx 1) NO
    iprop((oLoc d ↦[oSet B]{fullShare} rowsOf X I) ∗ ∃ f, rLoc d L ↦[rSet b]{fullShare} f)
/-- The gather of block `B` into slot `b` under way. -/
def FlyG (q qi : PosShare TreeShare) (b : Fin 2) (B : ℕ) : sProp 𝕄 :=
  iprop(Transfers.Flight countersEmb (thr d L) (SemLoc.dma gS) (default : HIx 1) NG
      iprop((rLoc d L ↦[rSet b]{fullShare} slab X I B) ∗ (xLoc d ↦{q} X) ∗ iLoc d L ↦[iSet b]{fullShare} list I B)
    ∗ semVal (thr d L, SemLoc.dma (rS b)) 0 ∗ semVal (thr d L, SemLoc.dma (iS b)) 0 ∗ gLoc d ↦{qi} I)

/-- What the tile owes, its waits so far recorded. -/
def OW (O : CellTallies nD τ sig (HIx 1)) (W : Waits sig (HIx 1)) : sProp 𝕄 :=
  iprop(∃ W', ⌜∀ p ∈ W', p ∈ W ∨ p.2 = none⌝ ∗ owes (thr d L) O W')

variable [FloatOps F] {α : Type} {Q : α → sProp (MT nD τ sig (HIx 1) (Elt F) ℕ UU ℕ)}
  {k : PUnit → Prog (TpuEff nD τ sig (Elt F) Λ₀ (thr d L).2) α}

local notation "WP" => wp frame (wpE (defs₀ (F := F)) 𝒱₀ (thr d L) none) Set.univ

/-- The copy-in starts. -/
theorem step_issueIn (q : PosShare TreeShare) (b : Fin 2) (B : ℕ) (hB : B < 256)
    {off : Fin 3 → ℕ} (e : off = ![b.val, 0, 0]) (h : ∀ a, off a + S1x1x128.size a ≤ S2x1x128.size a)
    {off' : Fin 2 → ℕ} (e' : off' = ![0, 128 * B]) (h' : ∀ a, off' a + S1x128.size a ≤ S1x32768.size a)
    {offs : Fin 1 → ℕ} (es : offs = ![b.val]) (hs : ∀ a, offs a + S1.size a ≤ S2.size a)
    {hsrc : (gBlk off' h').view.WordExact} {hdst : (iSlot off h).view.WordExact}
    {hty : DmaTarget.Typed (nD := nD) .hbm (SemLoc.dma (iSem offs hs)) (DmaTarget.here (p := (thr d L).2) (iSlot off h))} :
    FreeIn (F := F) d L I q b ⊢ iprop((FlyIn d L I q b B -∗ WP (k ⟨⟩) Q)
      -∗ WP (.op (.enqueueDma (gBlk off' h') (.here (iSlot off h)) (.dma (iSem offs hs)) hsrc hdst hty) k) Q) := by
  have hsem : iSem offs hs = iS b := iSem_eq b es hs
  have hset := set_iSlot b e h
  have hset' := set_gBlk B e' h'
  unfold FreeIn FlyIn
  iintro ⟨⟨%f, Hi⟩, Hv, Hg⟩ Hk
  ihave Hg' := (pointsTo_split_subset (q := q) (f := I) (S := Finset.univ) (Finset.subset_univ (gSet B))).1 $$ Hg
  icases Hg' with ⟨Hg, Hrest⟩
  iapply (Transfers.wp_dmaLocal countersEmb 𝒱₀ (thr d L) none (default : HIx 1) NI (Sd := iSet b) (q := q) (fs := I) (fd := f) rfl
    (by decide) (hset ▸ Finset.Subset.refl _)) $$ [Hi Hg Hv]
  · rw [hset', hsem]
    isplitl [Hg]; · iexact Hg
    isplitl [Hi]; · iexact Hi
    iexact Hv
  iintro Hfl
  iapply Hk
  isplitl [Hfl]
  · rw [hset', hsem]
    iapply (Transfers.Flight_mono countersEmb (thr d L) (Entails.of_eq (congrArg (fun P => iprop(P ∗ gLoc d ↦[gSet B]{q} I))
      (pointsTo_congr (ℓ := iLoc d L) (list_write b B hB e h e' h' f I))))) $$ Hfl
  iexact Hrest

/-- The copy-in lands. -/
theorem step_waitIn (q : PosShare TreeShare) (b : Fin 2) (B : ℕ)
    {off : Fin 3 → ℕ} (h : ∀ a, off a + S1x1x128.size a ≤ S2x1x128.size a)
    {off' : Fin 2 → ℕ} (h' : ∀ a, off' a + S1x128.size a ≤ S1x32768.size a)
    {offs : Fin 1 → ℕ} (es : offs = ![b.val]) (hs : ∀ a, offs a + S1.size a ≤ S2.size a)
    {hsrc : (gBlk off' h').view.WordExact} {hdst : (iSlot off h).view.WordExact}
    (O : CellTallies nD τ sig (HIx 1)) (W : Waits sig (HIx 1)) :
    iprop(FlyIn (F := F) d L I q b B ∗ OW d L O W ∗ Transfers.MayWaits (thr d L) (default : HIx 1) O)
      ⊢ iprop((iprop(FullIn d L I q b B ∗ OW d L O W) -∗ WP (k ⟨⟩) Q)
        -∗ WP (.op (.waitDma2 (iSem offs hs) (gBlk off' h') (iSlot off h) hsrc hdst) k) Q) := by
  have hsem : iSem offs hs = iS b := iSem_eq b es hs
  unfold FlyIn FullIn OW
  iintro ⟨⟨Hfl, Hrest⟩, ⟨%W', %hW, HO⟩, Hmw⟩ Hk
  iapply (Transfers.wp_waitLocalO countersEmb 𝒱₀ (thr d L) none (srcw := gBlk off' h') (dstw := iSlot off h) (default : HIx 1)
    (show (iSlot off h).view.dmaCredit = NI from rfl)) $$ [Hfl HO Hmw]
  · rw [hsem]
    isplitl [Hfl]; · iexact Hfl
    isplitl [HO]; · iexact HO
    iapply (Transfers.MayWaits.elim (SemLoc.dma (iS b))) $$ Hmw
  rw [hsem]
  iintro ⟨⟨Hi, Hg⟩, Hv, HO⟩
  iapply Hk
  isplitr [HO]
  · isplitl [Hi]; · iexact Hi
    isplitl [Hv]; · iexact Hv
    iapply (pointsTo_split_subset (q := q) (f := I) (S := Finset.univ) (Finset.subset_univ (gSet B))).2
    isplitl [Hg]; · iexact Hg
    iexact Hrest
  iexists _
  isplitr
  swap; · iexact HO
  ipureintro
  intro p hp
  rcases Finset.mem_insert.mp hp with hp | hp
  · exact .inr (hp ▸ rfl)
  · exact hW p hp

/-- The gather starts: its list in slot `b` of the first buffer, its rows to slot `b` of the second. -/
theorem step_gather (hI : ∀ j, BitVec.toNat (w := 32) (I j) < 65536) (q qi : PosShare TreeShare) (b : Fin 2) (B : ℕ)
    {off : Fin 3 → ℕ} (e : off = ![b.val, 0, 0]) (h : ∀ a, off a + S1x128x128.size a ≤ S2x128x128.size a)
    {off' : Fin 3 → ℕ} (e' : off' = ![b.val, 0, 0]) (h' : ∀ a, off' a + S1x1x128.size a ≤ S2x1x128.size a)
    {hp : (thr d L).2.kind = .scVector} {hn : S128.numel = S128x128.size gathers_S65536x128_S128x128.axis'}
    {hsrc : xAll.view.WordExact} {he : EltTy.f32.bits = 32} {hsp : Space.hbm = .hbm ∨ Space.hbm = .shared}
    {hr : S65536x128.StreamRows 0} :
    iprop(FullIn (F := F) d L I qi b B ∗ FreeRow (F := F) d L b ∗ (xLoc d ↦{q} X) ∗ semVal (thr d L, SemLoc.dma gS) 0)
      ⊢ iprop((FlyG d L X I q qi b B -∗ WP (k ⟨⟩) Q)
        -∗ WP (SparseCore.enqueueIndirectGather hp xAll (rSlot off h) gathers_S65536x128_S128x128 (iList off' h') hn gS hsrc he hsp hr >>= k) Q) := by
  have hset := set_rSlot b e h
  have hset' := set_iList b e' h'
  have hsetX := set_xAll
  unfold FullIn FreeRow FlyG
  iintro ⟨⟨Hi, Hvi, Hg⟩, ⟨⟨%f, Hr⟩, Hvr⟩, Hx, Hv⟩ Hk
  have hN : ∑ j, ((rSlot off h).slice (S128x128.rowRect gathers_S65536x128_S128x128.axis' j)
      (S128x128.stride_rowRect gathers_S65536x128_S128x128.axis' j)).view.dmaCredit = NG := rows_credit off h
  have hin := list_lt b B e' h' I hI
  iapply (SparseCore.wp_indirectGatherLocal countersEmb 𝒱₀ (thr d L) none (hg := gathers_S65536x128_S128x128) (default : HIx 1)
      NG hN (by decide) hin (q := q) (qo := fullShare) (fs := X) (fd := f) (fo := list I B)) $$ [Hi Hr Hx Hv]
  · rw [hset, hset', hsetX]
    isplitl [Hx]; · iexact Hx
    isplitl [Hr]; · iexact Hr
    isplitl [Hi]; · iexact Hi
    iexact Hv
  iintro Hfl
  iapply Hk
  isplitl [Hfl]
  · rw [hset, hset', hsetX]
    iapply (Transfers.Flight_mono countersEmb (thr d L) (Entails.of_eq (congrArg (fun P => iprop(P ∗ (xLoc d ↦{q} X) ∗ iLoc d L ↦[iSet b]{fullShare} list I B))
      (pointsTo_congr (ℓ := rLoc d L) (slab_write b B e h e' h' f X I hn hin))))) $$ Hfl
  isplitl [Hvr]; · iexact Hvr
  isplitl [Hvi]; · iexact Hvi
  iexact Hg

/-- The gather lands: its rows in the slot of the second buffer, the slot of the first free again. -/
theorem step_waitGather (q qi : PosShare TreeShare) (b : Fin 2) (B : ℕ)
    {off : Fin 3 → ℕ} (h : ∀ a, off a + S1x128x128.size a ≤ S2x128x128.size a)
    {hsrc : xAll.view.WordExact} {hdst : (rSlot off h).view.WordExact}
    (O : CellTallies nD τ sig (HIx 1)) (W : Waits sig (HIx 1)) :
    iprop(FlyG (F := F) d L X I q qi b B ∗ OW d L O W ∗ Transfers.MayWaits (thr d L) (default : HIx 1) O)
      ⊢ iprop((iprop(FullRow d L X I b B ∗ FreeIn (F := F) d L I qi b ∗ (xLoc d ↦{q} X) ∗ semVal (thr d L, SemLoc.dma gS) 0 ∗ OW d L O W) -∗ WP (k ⟨⟩) Q)
        -∗ WP (.op (.waitDma2 gS xAll (rSlot off h) hsrc hdst) k) Q) := by
  unfold FlyG FullRow FreeIn OW
  iintro ⟨⟨Hfl, Hvr, Hvi, Hg⟩, ⟨%W', %hW, HO⟩, Hmw⟩ Hk
  iapply (Transfers.wp_waitLocalO countersEmb 𝒱₀ (thr d L) none (srcw := xAll) (dstw := rSlot off h) (default : HIx 1)
    (show (rSlot off h).view.dmaCredit = NG from rfl)) $$ [Hfl HO Hmw]
  · isplitl [Hfl]; · iexact Hfl
    isplitl [HO]; · iexact HO
    iapply (Transfers.MayWaits.elim (SemLoc.dma gS)) $$ Hmw
  iintro ⟨⟨Hr, Hx, Hi⟩, Hv, HO⟩
  iapply Hk
  isplitl [Hr Hvr]
  · isplitl [Hr]; · iexact Hr
    iexact Hvr
  isplitl [Hi Hvi Hg]
  · isplitl [Hi]; · iexists _; iexact Hi
    isplitl [Hvi]; · iexact Hvi
    iexact Hg
  isplitl [Hx]; · iexact Hx
  isplitl [Hv]; · iexact Hv
  iexists _
  isplitr
  swap; · iexact HO
  ipureintro
  intro p hp
  rcases Finset.mem_insert.mp hp with hp | hp
  · exact .inr (hp ▸ rfl)
  · exact hW p hp

/-- The copy-out starts. -/
theorem step_issueOut (b : Fin 2) (B : ℕ) (hB : B < 256)
    {off : Fin 3 → ℕ} (e : off = ![b.val, 0, 0]) (h : ∀ a, off a + S1x128x128.size a ≤ S2x128x128.size a)
    {off' : Fin 2 → ℕ} (e' : off' = ![128 * B, 0]) (h' : ∀ a, off' a + S128x128.size a ≤ S32768x128.size a)
    {offs : Fin 1 → ℕ} (es : offs = ![b.val]) (hs : ∀ a, offs a + S1.size a ≤ S2.size a)
    {hsrc : (rSlot off h).view.WordExact} {hdst : (oBlk off' h').view.WordExact}
    {hty : DmaTarget.Typed (nD := nD) .vmem (SemLoc.dma (rSem offs hs)) (DmaTarget.here (p := (thr d L).2) (oBlk off' h'))}
    (fo : S32768x128.Idx → Elt F .f32) :
    iprop(FullRow (F := F) d L X I b B ∗ oLoc d ↦[oSet B]{fullShare} fo)
      ⊢ iprop((FlyRow d L X I b B -∗ WP (k ⟨⟩) Q)
        -∗ WP (.op (.enqueueDma (rSlot off h) (.here (oBlk off' h')) (.dma (rSem offs hs)) hsrc hdst hty) k) Q) := by
  have hsem : rSem offs hs = rS b := rSem_eq b es hs
  have hset := set_rSlot b e h
  have hset' := set_oBlk B e' h'
  unfold FullRow FlyRow
  iintro ⟨⟨Hr, Hv⟩, Ho⟩ Hk
  iapply (Transfers.wp_dmaLocal countersEmb 𝒱₀ (thr d L) none (default : HIx 1) NO (Sd := oSet B) (q := fullShare) (fs := slab X I B) (fd := fo) rfl
    (by decide) (hset' ▸ Finset.Subset.refl _)) $$ [Hr Ho Hv]
  · rw [hset, hsem]
    isplitl [Hr]; · iexact Hr
    isplitl [Ho]; · iexact Ho
    iexact Hv
  iintro Hfl
  iapply Hk
  rw [hset, hsem]
  have hD : iprop((oLoc d ↦[oSet B]{fullShare} (oBlk off' h').view.write (Elt F) fo ((rSlot off h).view.read (Elt F) (slab X I B)) Finset.univ)
        ∗ rLoc d L ↦[rSet b]{fullShare} slab X I B)
      ⊢ (iprop((oLoc d ↦[oSet B]{fullShare} rowsOf X I) ∗ ∃ f, rLoc d L ↦[rSet b]{fullShare} f) : sProp 𝕄) := by
    iintro ⟨Ho, Hr⟩
    isplitl [Ho]
    · iapply (Entails.of_eq (pointsTo_congr (ℓ := oLoc d) (out_write b B hB e h e' h' fo X I))) $$ Ho
    iexists _; iexact Hr
  iapply (Transfers.Flight_mono countersEmb (thr d L) hD) $$ Hfl

/-- The copy-out lands. -/
theorem step_waitOut (b : Fin 2) (B : ℕ)
    {off : Fin 3 → ℕ} (h : ∀ a, off a + S1x128x128.size a ≤ S2x128x128.size a)
    {off' : Fin 2 → ℕ} (h' : ∀ a, off' a + S128x128.size a ≤ S32768x128.size a)
    {offs : Fin 1 → ℕ} (es : offs = ![b.val]) (hs : ∀ a, offs a + S1.size a ≤ S2.size a)
    {hsrc : (rSlot off h).view.WordExact} {hdst : (oBlk off' h').view.WordExact}
    (O : CellTallies nD τ sig (HIx 1)) (W : Waits sig (HIx 1)) :
    iprop(FlyRow (F := F) d L X I b B ∗ OW d L O W ∗ Transfers.MayWaits (thr d L) (default : HIx 1) O)
      ⊢ iprop((iprop((oLoc d ↦[oSet B]{fullShare} rowsOf X I) ∗ FreeRow d L b ∗ OW d L O W) -∗ WP (k ⟨⟩) Q)
        -∗ WP (.op (.waitDma2 (rSem offs hs) (rSlot off h) (oBlk off' h') hsrc hdst) k) Q) := by
  have hsem : rSem offs hs = rS b := rSem_eq b es hs
  unfold FlyRow FreeRow OW
  iintro ⟨Hfl, ⟨%W', %hW, HO⟩, Hmw⟩ Hk
  iapply (Transfers.wp_waitLocalO countersEmb 𝒱₀ (thr d L) none (srcw := rSlot off h) (dstw := oBlk off' h') (default : HIx 1)
    (show (oBlk off' h').view.dmaCredit = NO from rfl)) $$ [Hfl HO Hmw]
  · rw [hsem]
    isplitl [Hfl]; · iexact Hfl
    isplitl [HO]; · iexact HO
    iapply (Transfers.MayWaits.elim (SemLoc.dma (rS b))) $$ Hmw
  rw [hsem]
  iintro ⟨⟨Ho, Hr⟩, Hv, HO⟩
  iapply Hk
  isplitl [Ho]; · iexact Ho
  isplitl [Hr Hv]
  · isplitl [Hr]; · iexact Hr
    iexact Hv
  iexists _
  isplitr
  swap; · iexact HO
  ipureintro
  intro p hp
  rcases Finset.mem_insert.mp hp with hp | hp
  · exact .inr (hp ▸ rfl)
  · exact hW p hp

end Tile

end Cert.Whole.Rows.Steps

end
-- ==== Proof.Whole.Tile.lean ====
/-
  The tile's whole run.

  A tile fetches, gathers and writes out eight blocks of 128 rows, one per trip of its loop, with the next block's row
  numbers fetched and the previous block's rows written out meanwhile. `Inv t` is what it holds before trip `t`: the copy-in
  of block `t` under way into slot `t mod 2`, the copy-out of block `t - 1` under way from slot `(t - 1) mod 2`, the
  blocks before that written with the table's rows, the blocks from `t` on untouched. `trip` carries it over a trip,
  `tile_run` over the kernel.
-/
module

public import proofs.«01_k».proof.Proof.Whole.Steps

@[expose] public section

noncomputable section

namespace Cert.Whole.Rows.Tile

open Cert.WholeIdeal Cert.WholeIdeal.Gen Cert.Whole.Rows.Words Cert.Whole.Rows.Views Cert.Whole.Rows.Steps

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Ranges of the output's blocks -/

/-- The output's rows of blocks `a` to `b - 1`. -/
def oRange (a b : ℕ) : Finset S32768x128.Idx := Finset.univ.filter fun j => a ≤ (j 0).val / 128 ∧ (j 0).val / 128 < b

theorem oRange_one (B : ℕ) : oRange B (B + 1) = oSet B := by
  ext j
  simp only [oRange, oSet, Finset.mem_filter, Finset.mem_univ, true_and]
  omega

theorem oRange_split (d : Dev nD) {a b c : ℕ} (hab : a ≤ b) (hbc : b ≤ c) (f : S32768x128.Idx → Elt F .f32) :
    (oLoc d ↦[oRange a c]{fullShare} f : sProp 𝕄) ⊣⊢ iprop((oLoc d ↦[oRange a b]{fullShare} f) ∗ oLoc d ↦[oRange b c]{fullShare} f) := by
  have hu : oRange a c = oRange a b ∪ oRange b c := by
    ext j
    simp only [oRange, Finset.mem_union, Finset.mem_filter, Finset.mem_univ, true_and]
    omega
  have hd : Disjoint (oRange a b) (oRange b c) := by
    rw [Finset.disjoint_left]
    intro j h1 h2
    simp only [oRange, Finset.mem_filter, Finset.mem_univ, true_and] at h1 h2
    omega
  rw [hu]
  exact pointsTo_union (ℓ := oLoc d) hd

theorem oRange_empty (d : Dev nD) (a : ℕ) (f : S32768x128.Idx → Elt F .f32) : (emp : sProp 𝕄) ⊢ oLoc d ↦[oRange a a]{fullShare} f := by
  have h : oRange a a = ∅ := by
    ext j
    simp only [oRange, Finset.mem_filter, Finset.mem_univ, true_and, Finset.notMem_empty, iff_false]
    omega
  rw [h]
  exact Entails.of_eq (pointsTo_empty (ℓ := oLoc d)).symm

/-! ## The loop -/

/-- The slot that serves block `t`. -/
def sl (t : ℕ) : Fin 2 := ⟨t % 2, Nat.mod_lt _ (by decide)⟩

theorem sl_add_two (t : ℕ) : sl (t + 1 + 1) = sl t := Fin.ext (by show (t + 1 + 1) % 2 = t % 2; omega)
theorem sl_pred (t : ℕ) (h : 0 < t) : sl (t - 1) = sl (t + 1) := Fin.ext (by show (t - 1) % 2 = (t + 1) % 2; omega)

section Tile

variable (d : Dev nD) (L : grid1.Coords)
variable (X : S65536x128.Idx → Elt F .f32) (I : S1x32768.Idx → Elt F .i32) (f0 : S32768x128.Idx → Elt F .f32)
variable (q : PosShare TreeShare) (qi : Fin 2 → PosShare TreeShare)
variable (O : CellTallies nD τ sig (HIx 1)) (W : Waits sig (HIx 1))

/-- The copies-in before trip `t`. -/
def InAt (t : ℕ) : sProp 𝕄 :=
  if t < 8 then FlyIn (F := F) d L I (qi (sl t)) (sl t) (base L + t) else FreeIn (F := F) d L I (qi (sl t)) (sl t)
/-- The copies-out before trip `t`. -/
def OutAt (t : ℕ) : sProp 𝕄 :=
  if 0 < t then FlyRow (F := F) d L X I (sl (t + 1)) (base L + (t - 1)) else FreeRow (F := F) d L (sl (t + 1))

theorem InAt_zero : InAt d L I qi 0 = FlyIn (F := F) d L I (qi 0) 0 (base L + 0) := if_pos (by decide)
theorem InAt_end : InAt d L I qi 8 = FreeIn (F := F) d L I (qi 0) 0 := if_neg (by decide)
theorem OutAt_zero : OutAt d L X I 0 = FreeRow (F := F) d L 1 := if_neg (by decide)
theorem OutAt_end : OutAt d L X I 8 = FlyRow (F := F) d L X I 1 (base L + 7) := if_pos (by decide)
theorem OutAt_pos {t : ℕ} (h : 0 < t) : OutAt d L X I t = FlyRow (F := F) d L X I (sl (t + 1)) (base L + (t - 1)) := if_pos h
theorem OutAt_neg {t : ℕ} (h : ¬ 0 < t) : OutAt d L X I t = FreeRow (F := F) d L (sl (t + 1)) := if_neg h

/-- What the tile holds before trip `t`. -/
def Held (t : ℕ) : sProp 𝕄 :=
  iprop(Transfers.MayWaits (thr d L) (default : HIx 1) O ∗ (xLoc d ↦{q} X) ∗ semVal (thr d L, SemLoc.dma gS) 0
    ∗ OW (F := F) d L O W ∗ InAt d L I qi t ∗ FreeIn (F := F) d L I (qi (sl (t + 1))) (sl (t + 1)) ∗ FreeRow (F := F) d L (sl t) ∗ OutAt d L X I t
    ∗ (oLoc d ↦[oRange (base L + t) (base L + 8)]{fullShare} f0) ∗ oLoc d ↦[oRange (base L) (base L + (t - 1))]{fullShare} rowsOf X I)

/-- What the tile holds before trip `t`, with the words that the loop hands on. -/
def Inv (t : ℕ) (acc : BitVec 32 × BitVec 32 × BitVec 32 × BitVec 32 × BitVec 32) : sProp 𝕄 :=
  iprop(⌜acc = carry t⌝ ∗ Held d L X I f0 q qi O W t)

variable [FloatOps F]

local notation "WP" => wp frame (wpE (defs₀ (F := F)) 𝒱₀ (thr d L) none) Set.univ

/-- A trip's first part: the copy-in of the next block starts, if there is one. -/
theorem part1 (k : Fin k1_t1_loop.trips) (Φ : _ → sProp (MT nD τ sig (HIx 1) (Elt F) ℕ UU ℕ)) :
    FreeIn (F := F) d L I (qi (sl (k.val + 1))) (sl (k.val + 1))
      ⊢ iprop((InAt d L I qi (k.val + 1) -∗ Φ ⟨chk3 k, chk2 k, chk1 L k, ivW k, Scalar.cmpi .eq (ivW k) 0#32, Scalar.cmpi .eq (ivW k) 7#32,
            curW L k, prevW L k, nextW L k, nextIn L k, Scalar.cmpi .ne (curW L k) (prevW L k)⟩)
        -∗ WP (k1_part1 (F := F) L xM (Memref.isWhole_whole _) gM (Memref.isWhole_whole _) oM (Memref.isWhole_whole _)
            iM (Memref.isWhole_whole _) cc1_scoped1 rM (Memref.isWhole_whole _) cc1_scoped3 cc1_scoped4 (firstW L) 0#32 1#32 k
            (W6 k.val) (W7 k.val) (W7 k.val) (W9 k.val) (W10 k.val)) Φ) := by
  have hk : k.val < 8 := trips_eq ▸ k.isLt
  have hbase := base_lt L
  simp only [k1_part1_eq_skeleton]
  unfold k1_part1_skel nextIn curW prevW nextW ivW
  simp only [Prog.lift, Prog.bind_op, Prog.bind_ret, Prog.pure_eq_ret, Prog.bind_assoc]
  iintro HfI HΦ
  iapply (wp_assume 𝒱₀ (thr d L) none Set.univ (chk3 k))
  iapply (wp_assume 𝒱₀ (thr d L) none Set.univ (chk2 k))
  iapply (wp_assume 𝒱₀ (thr d L) none Set.univ (chk1 L k))
  by_cases h1 : k1_cond1 L k (W10 k.val) = 1#1
  · have hk7 := (cond1 L k).mp h1
    rw [dif_pos h1]
    iapply (step_issueIn d L I (qi (sl (k.val + 1))) (sl (k.val + 1)) (base L + (k.val + 1)) (by omega)
      (off4 k hk7) _ (off5 L k hk7) _ (off6 k hk7) _) $$ [HfI]
    · iexact HfI
    iintro Hfly
    simp only [Prog.bind, Prog.pure_eq_ret, Prog.bind_ret]; rw [wp_ret]; imodintro
    iapply HΦ
    unfold InAt
    rw [if_pos (by omega)]
    iexact Hfly
  · have hk7 : ¬ k.val < 7 := fun h => h1 ((cond1 L k).mpr h)
    rw [dif_neg h1]
    rw [wp_ret]; imodintro
    iapply HΦ
    unfold InAt
    rw [if_neg (by omega)]
    iexact HfI

/-- A trip's second part: the block's row numbers land, its rows are gathered. -/
theorem part2 (hI : ∀ j, BitVec.toNat (w := 32) (I j) < 65536) (k : Fin k1_t1_loop.trips) (hk3 : k1_chk3 (W7 k.val)) (hk2 : k1_chk2 (W7 k.val))
    (hk1 : k1_chk1 L k (W6 k.val) (W7 k.val) (W7 k.val) (W9 k.val) (W10 k.val)) (a : BitVec 32) (b c : BitVec 1) (e f g : BitVec 32) (h : BitVec 1)
    (Φ : PUnit → sProp (MT nD τ sig (HIx 1) (Elt F) ℕ UU ℕ)) :
    iprop(InAt (F := F) d L I qi k.val ∗ FreeRow (F := F) d L (sl k.val) ∗ (xLoc d ↦{q} X) ∗ semVal (thr d L, SemLoc.dma gS) 0
        ∗ OW (F := F) d L O W ∗ Transfers.MayWaits (thr d L) (default : HIx 1) O)
      ⊢ iprop((iprop(FullRow (F := F) d L X I (sl k.val) (base L + k.val) ∗ FreeIn (F := F) d L I (qi (sl k.val)) (sl k.val) ∗ (xLoc d ↦{q} X)
            ∗ semVal (thr d L, SemLoc.dma gS) 0 ∗ OW (F := F) d L O W) -∗ Φ ⟨⟩)
        -∗ WP (k1_part2 (F := F) L xM (Memref.isWhole_whole _) gM (Memref.isWhole_whole _) oM (Memref.isWhole_whole _)
            iM (Memref.isWhole_whole _) cc1_scoped1 rM (Memref.isWhole_whole _) cc1_scoped3 cc1_scoped4 k
            (W6 k.val) (W7 k.val) (W7 k.val) (W9 k.val) (W10 k.val) hk3 hk2 hk1 a b c e f g h) Φ) := by
  have hk : k.val < 8 := trips_eq ▸ k.isLt
  simp only [k1_part2_eq_skeleton]
  unfold k1_part2_skel InAt
  rw [if_pos hk, dif_pos (cond2 L k)]
  simp only [SparseCore.waitIndirectGather, Prog.lift, Prog.bind_op, Prog.bind_ret, Prog.pure_eq_ret, Prog.bind_assoc, ite_self]
  iintro ⟨Hin, HfR, Hx, Hg, HO, #Hmw⟩ HΦ
  iapply (step_waitIn d L I (qi (sl k.val)) (sl k.val) (base L + k.val) _ _ (off9 k) _ O W) $$ [Hin HO]
  · isplitl [Hin]; · iexact Hin
    isplitl [HO]; · iexact HO
    iexact Hmw
  iintro ⟨Hfull, HO⟩
  iapply (step_gather d L X I hI q (qi (sl k.val)) (sl k.val) (base L + k.val) (off10 k) _ (off11 k) _) $$ [Hfull HfR Hx Hg]
  · isplitl [Hfull]; · iexact Hfull
    isplitl [HfR]; · iexact HfR
    isplitl [Hx]; · iexact Hx
    iexact Hg
  iintro Hfl
  iapply (step_waitGather d L X I q (qi (sl k.val)) (sl k.val) (base L + k.val) _ O W) $$ [Hfl HO]
  · isplitl [Hfl]; · iexact Hfl
    isplitl [HO]; · iexact HO
    iexact Hmw
  iintro H
  rw [wp_ret]; imodintro
  iapply HΦ
  iexact H

/-- A trip keeps what the tile holds. -/
theorem trip (hI : ∀ j, BitVec.toNat (w := 32) (I j) < 65536) (k : Fin k1_t1_loop.trips) :
    Held d L X I f0 q qi O W k.val ⊢ WP (k1_t1_body (F := F) L xM (Memref.isWhole_whole _) gM (Memref.isWhole_whole _) oM (Memref.isWhole_whole _)
      iM (Memref.isWhole_whole _) cc1_scoped1 rM (Memref.isWhole_whole _) cc1_scoped3 cc1_scoped4 (firstW L) k (carry k.val))
      (Inv d L X I f0 q qi O W (k.val + 1)) := by
  have hk : k.val < 8 := trips_eq ▸ k.isLt
  have hbase := base_lt L
  unfold Held k1_t1_body
  show _ ⊢ WP (k1_part1 (F := F) L xM (Memref.isWhole_whole _) gM (Memref.isWhole_whole _) oM (Memref.isWhole_whole _)
      iM (Memref.isWhole_whole _) cc1_scoped1 rM (Memref.isWhole_whole _) cc1_scoped3 cc1_scoped4 (firstW L) 0#32 1#32 k
      (W6 k.val) (W7 k.val) (W7 k.val) (W9 k.val) (W10 k.val) >>= _) _
  rw [wp_bind]
  iintro ⟨#Hmw, Hx, Hg, HO, Hin, HfI, HfR, Hout, Htodo, Hdone⟩
  iapply (part1 d L I qi k) $$ [HfI]
  · iexact HfI
  iintro Hin'
  dsimp only
  rw [wp_bind]
  iapply (part2 d L X I q qi O W hI k _ _ _ _ _ _ _ _ _ _) $$ [Hin HfR Hx Hg HO]
  · isplitl [Hin]; · iexact Hin
    isplitl [HfR]; · iexact HfR
    isplitl [Hx]; · iexact Hx
    isplitl [Hg]; · iexact Hg
    isplitl [HO]; · iexact HO
    iexact Hmw
  iintro ⟨HR, HfI, Hx, Hg, HO⟩
  rw [dif_pos (cond5 L k), ite_self]
  simp only [Prog.lift, Prog.bind_op, Prog.bind_ret, Prog.pure_eq_ret, Prog.bind_assoc]
  ihave Htodo := (oRange_split (F := F) d (a := base L + k.val) (b := base L + k.val + 1) (c := base L + 8) (by omega) (by omega) f0).1 $$ Htodo
  icases Htodo with ⟨Hblk, Htodo⟩
  rw [oRange_one]
  iapply (step_issueOut d L X I (sl k.val) (base L + k.val) (by omega) (off12 k) _ (off13 L k) _ (off14 k) _ f0) $$ [HR Hblk]
  · isplitl [HR]; · iexact HR
    iexact Hblk
  iintro Hfly
  by_cases h7 : k1_cond7 L k (W10 k.val) = 1#1
  · have hk0 := (cond7 L k).mp h7
    rw [dif_pos h7]
    ihave Hout := (Entails.of_eq (OutAt_pos d L X I hk0)) $$ Hout
    iapply (step_waitOut d L X I (sl (k.val + 1)) (base L + (k.val - 1)) _ _
      ((off17 k).trans (congrArg (fun b : Fin 2 => ![b.val]) (sl_pred k.val hk0))) _ O W) $$ [Hout HO]
    · isplitl [Hout]; · iexact Hout
      isplitl [HO]; · iexact HO
      iexact Hmw
    iintro ⟨Hblk, HfR, HO⟩
    rw [wp_ret]; imodintro
    unfold Inv
    isplitl []
    · ipureintro
      exact carry_next L k
    unfold Held
    isplitl []; · iexact Hmw
    isplitl [Hx]; · iexact Hx
    isplitl [Hg]; · iexact Hg
    isplitl [HO]; · iexact HO
    isplitl [Hin']; · iexact Hin'
    isplitl [HfI]
    · rw [sl_add_two]
      iexact HfI
    isplitl [HfR]; · iexact HfR
    isplitl [Hfly]
    · unfold OutAt
      rw [if_pos (by omega), sl_add_two, Nat.add_sub_cancel]
      iexact Hfly
    isplitl [Htodo]; · iexact Htodo
    · iapply ((oRange_split (F := F) d (a := base L) (b := base L + (k.val - 1)) (c := base L + (k.val + 1 - 1)) (by omega) (by omega) (rowsOf X I)).2)
      isplitl [Hdone]; · iexact Hdone
      rw [show base L + (k.val + 1 - 1) = base L + (k.val - 1) + 1 by omega, oRange_one]
      iexact Hblk
  · have hk0 : ¬ 0 < k.val := fun h => h7 ((cond7 L k).mpr h)
    rw [dif_neg h7]
    ihave Hout := (Entails.of_eq (OutAt_neg d L X I hk0)) $$ Hout
    rw [wp_ret]; imodintro
    unfold Inv
    isplitl []
    · ipureintro
      exact carry_next L k
    unfold Held
    isplitl []; · iexact Hmw
    isplitl [Hx]; · iexact Hx
    isplitl [Hg]; · iexact Hg
    isplitl [HO]; · iexact HO
    isplitl [Hin']; · iexact Hin'
    isplitl [HfI]
    · rw [sl_add_two]
      iexact HfI
    isplitl [Hout]; · iexact Hout
    isplitl [Hfly]
    · unfold OutAt
      rw [if_pos (by omega), sl_add_two, Nat.add_sub_cancel]
      iexact Hfly
    isplitl [Htodo]; · iexact Htodo
    · rw [show k.val + 1 - 1 = k.val - 1 by omega]
      iexact Hdone

/-- The tile's whole run: the eight blocks of its output hold the table's rows, everything lent is back. -/
theorem tile_run (hI : ∀ j, BitVec.toNat (w := 32) (I j) < 65536) (Φ : PUnit → sProp (MT nD τ sig (HIx 1) (Elt F) ℕ UU ℕ)) :
    iprop(Transfers.MayWaits (thr d L) (default : HIx 1) O ∗ (xLoc d ↦{q} X) ∗ semVal (thr d L, SemLoc.dma gS) 0
        ∗ OW (F := F) d L O W ∗ FreeIn (F := F) d L I (qi 0) 0 ∗ FreeIn (F := F) d L I (qi 1) 1 ∗ FreeRow (F := F) d L 0 ∗ FreeRow (F := F) d L 1
        ∗ (oLoc d ↦[oRange (base L) (base L + 8)]{fullShare} f0))
      ⊢ iprop((iprop((xLoc d ↦{q} X) ∗ semVal (thr d L, SemLoc.dma gS) 0
        ∗ OW (F := F) d L O W ∗ FreeIn (F := F) d L I (qi 0) 0 ∗ FreeIn (F := F) d L I (qi 1) 1 ∗ FreeRow (F := F) d L 0 ∗ FreeRow (F := F) d L 1
        ∗ (oLoc d ↦[oRange (base L) (base L + 8)]{fullShare} rowsOf X I)) -∗ Φ ⟨⟩)
        -∗ WP (cc1_kern (F := F) L xM (Memref.isWhole_whole _) gM (Memref.isWhole_whole _) oM (Memref.isWhole_whole _)
            iM (Memref.isWhole_whole _) cc1_scoped1 rM (Memref.isWhole_whole _) cc1_scoped3 cc1_scoped4) Φ) := by
  have hbase := base_lt L
  simp only [cc1_kern_eq_skeleton]
  unfold cc1_kern_skel
  simp only [k1_part3_eq_skeleton, k1_part4_eq_skeleton]
  unfold k1_part3_skel k1_part4_skel
  simp only [Prog.lift, Prog.bind_op, Prog.bind_ret, Prog.pure_eq_ret, Prog.bind_assoc]
  iintro ⟨#Hmw, Hx, Hg, HO, HI0, HI1, HR0, HR1, Ho⟩ HΦ
  iapply (step_issueIn d L I (qi 0) 0 (base L + 0) (by omega) off1 _ (off2 L) _ off3 _) $$ [HI0]
  · iexact HI0
  iintro Hin
  sl_for (Inv d L X I f0 q qi O W) $$ [Hx Hg HO Hin HI1 HR0 HR1 Ho]
  · intro k acc
    unfold Inv
    iintro ⟨%hacc, H⟩
    subst hacc
    iapply (trip d L X I f0 q qi O W hI k) $$ H
  · unfold Inv
    isplitl []
    · ipureintro; rfl
    unfold Held
    isplitl []; · iexact Hmw
    isplitl [Hx]; · iexact Hx
    isplitl [Hg]; · iexact Hg
    isplitl [HO]; · iexact HO
    isplitl [Hin]
    · iapply (Entails.of_eq (InAt_zero (F := F) d L I qi).symm) $$ Hin
    isplitl [HI1]; · iexact HI1
    isplitl [HR0]; · iexact HR0
    isplitl [HR1]
    · iapply (Entails.of_eq (OutAt_zero (F := F) d L X I).symm) $$ HR1
    isplitl [Ho]; · iexact Ho
    iapply (oRange_empty (F := F) d (base L) (rowsOf X I))
    itrivial
  iintro %acc H
  ihave H := (Entails.of_eq (congrArg (fun t => Inv (F := F) d L X I f0 q qi O W t acc) trips_eq)) $$ H
  unfold Inv Held
  icases H with ⟨%hacc, -, Hx, Hg, HO, Hin, HfI, HfR, Hout, -, Hdone⟩
  subst hacc
  unfold tile_run.sl.prog.cont_1
  iapply (wp_assume 𝒱₀ (thr d L) none Set.univ (chk5 L))
  iapply (wp_assume 𝒱₀ (thr d L) none Set.univ chk4)
  ihave Hout := (Entails.of_eq (OutAt_end (F := F) d L X I)) $$ Hout
  iapply (step_waitOut d L X I 1 (base L + 7) _ _ off20 _ O W) $$ [Hout HO]
  · isplitl [Hout]; · iexact Hout
    isplitl [HO]; · iexact HO
    iexact Hmw
  iintro ⟨Hblk, HR1, HO⟩
  rw [wp_ret]; imodintro
  iapply HΦ
  isplitl [Hx]; · iexact Hx
  isplitl [Hg]; · iexact Hg
  isplitl [HO]; · iexact HO
  isplitl [Hin]
  · iapply (Entails.of_eq (InAt_end (F := F) d L I qi)) $$ Hin
  isplitl [HfI]
  · iapply (Entails.of_eq (show FreeIn (F := F) d L I (qi (sl (8 + 1))) (sl (8 + 1)) = FreeIn d L I (qi 1) 1 from rfl)) $$ HfI
  isplitl [HfR]
  · iapply (Entails.of_eq (show FreeRow (F := F) d L (sl 8) = FreeRow d L 0 from rfl)) $$ HfR
  isplitl [HR1]; · iexact HR1
  iapply ((oRange_split (F := F) d (a := base L) (b := base L + 7) (c := base L + 8) (by omega) (by omega) (rowsOf X I)).2)
  isplitl [Hdone]; · iexact Hdone
  rw [show base L + 8 = base L + 7 + 1 by omega, oRange_one]
  iexact Hblk

end Tile

end Cert.Whole.Rows.Tile

end
-- ==== Proof.Whole.Body.lean ====
/- The sampler's kernel, written over again as loops over its slabs of points: one slab of 128 points, the slabs of one
   group of eight clouds, one selection step, the steps of one chunk of 128 selections, and the chunks one after another.
   `body_eq` says that this is the printed kernel. -/
module

public import proofs.«01_k».proof.WholeIdeal.P01
public import proofs.«01_k».proof.Proof.Whole.Ghost

@[expose] public section

noncomputable section

namespace Cert.WholeIdeal.Fps

open Facts₀ Idealize.ShloMosaic Idealize.ShloMosaic.TcCoe Idealize.SL.Sem

variable {F : FTy → Type} [FloatOps F] [Facts]

/-- One word per cloud of a group and lane. -/
abbrev V (F : FTy → Type) := FVec F S8x128 .f32
/-- The same of integers. -/
abbrev W := IVec S8x128 32
/-- The kernel's programs. -/
abbrev Pg (F : FTy → Type) [FloatOps F] (α : Type) := Prog (TpuEff nD τ sig (Elt F) Λ₀ .tc) α

/-- What one group carries from step to step: the last point's coordinates, and of the chunk the row numbers and the
    coordinates selected so far. -/
abbrev Grp (F : FTy → Type) := V F × V F × V F × W × V F × V F × V F
/-- The running maximum of each lane, its slab's number, and the point's coordinates. -/
abbrev Best (F : FTy → Type) := V F × V F × V F × V F × V F

theorem inb3 (a g k : ℕ) (ha : a < 3) (hg : g < 2) (hk : k < 32) :
    ∀ i, (![a, 8 * g, 128 * k] : Fin 3 → Nat) i + S1x8x128.size i ≤ S3x16x4096.size i := by
  intro i; fin_cases i <;> simp <;> omega

theorem inb2 (g k : ℕ) (hg : g < 2) (hk : k < 32) :
    ∀ i, (![8 * g, 128 * k] : Fin 2 → Nat) i + S8x128.size i ≤ S16x4096.size i := by
  intro i; fin_cases i <;> simp <;> omega

theorem inbO (g j : ℕ) (hg : g < 2) (hj : j < 16) :
    ∀ i, (![8 * g, 128 * j] : Fin 2 → Nat) i + S8x128.size i ≤ S16x2048.size i := by
  intro i; fin_cases i <;> simp <;> omega

/-- The float that is a slab's number. -/
def slabBits : Fin 32 → BitVec 32 :=
  ![0x00000000#32, 0x3F800000#32, 0x40000000#32, 0x40400000#32, 0x40800000#32, 0x40A00000#32,
    0x40C00000#32, 0x40E00000#32, 0x41000000#32, 0x41100000#32, 0x41200000#32, 0x41300000#32,
    0x41400000#32, 0x41500000#32, 0x41600000#32, 0x41700000#32, 0x41800000#32, 0x41880000#32,
    0x41900000#32, 0x41980000#32, 0x41A00000#32, 0x41A80000#32, 0x41B00000#32, 0x41B80000#32,
    0x41C00000#32, 0x41C80000#32, 0x41D00000#32, 0x41D80000#32, 0x41E00000#32, 0x41E80000#32,
    0x41F00000#32, 0x41F80000#32]

variable (arg0 : Memref sig .tc .vmem S3x16x4096 .f32) (arg1 : Memref sig .tc .vmem S16x2048 .i32)
  (arg2 arg3 arg4 : Memref sig .tc .vmem S16x2048 .f32) (arg5 : Memref sig .tc .vmem S16x4096 .f32)

/-- The squared distance as the kernel adds it up. -/
def dist (px py pz lx ly lz : V F) : V F :=
  addf (addf (mulf (subf px lx) (subf px lx)) (mulf (subf pz lz) (subf pz lz))) (mulf (subf py ly) (subf py ly))

/-- Slab `k` of group `g`: its points, and its distances brought up to date. -/
def slab (g : Fin 2) (k : Fin 32) (lx ly lz : V F) : Pg F (V F × V F × V F × V F) := do
  let px : Vec F S1x8x128 .f32 ← Prog.lift (.load arg0 (Rect.unit (s := S3x16x4096) ![(0 : Fin 3).val, 8 * g.val, 128 * k.val] S1x8x128.size (inb3 (0 : Fin 3) g k (0 : Fin 3).2 g.2 k.2)).toLoadRect (View.loadsAt_vmem h_S1x8x128))
  let py : Vec F S1x8x128 .f32 ← Prog.lift (.load arg0 (Rect.unit (s := S3x16x4096) ![(1 : Fin 3).val, 8 * g.val, 128 * k.val] S1x8x128.size (inb3 (1 : Fin 3) g k (1 : Fin 3).2 g.2 k.2)).toLoadRect (View.loadsAt_vmem h_S1x8x128))
  let pz : Vec F S1x8x128 .f32 ← Prog.lift (.load arg0 (Rect.unit (s := S3x16x4096) ![(2 : Fin 3).val, 8 * g.val, 128 * k.val] S1x8x128.size (inb3 (2 : Fin 3) g k (2 : Fin 3).2 g.2 k.2)).toLoadRect (View.loadsAt_vmem h_S1x8x128))
  let old : Vec F S8x128 .f32 ← Prog.lift (.load arg5 (Rect.unit (s := S16x4096) ![8 * g.val, 128 * k.val] S8x128.size (inb2 g k g.2 k.2)).toLoadRect (View.loadsAt_vmem h_S8x128))
  let _ : Vec F S8x128 .f32 ← Prog.lift (.load arg5 (Rect.unit (s := S16x4096) ![8 * g.val, 128 * k.val] S8x128.size (inb2 g k g.2 k.2)).toLoadRect (View.loadsAt_vmem h_S8x128))
  Prog.lift (.store arg5 (Rect.unit (s := S16x4096) ![8 * g.val, 128 * k.val] S8x128.size (inb2 g k g.2 k.2)) (shapeCast S8x128 (minimumf old (dist (shapeCast S8x128 px shapeCasts_S1x8x128_S8x128) (shapeCast S8x128 py shapeCasts_S1x8x128_S8x128) (shapeCast S8x128 pz shapeCasts_S1x8x128_S8x128) lx ly lz)) shapeCasts_S8x128_S8x128) Finset.univ (View.stores_vmem_bits_univ h_S8x128 rfl) (.inl rfl))
  pure (minimumf old (dist (shapeCast S8x128 px shapeCasts_S1x8x128_S8x128) (shapeCast S8x128 py shapeCasts_S1x8x128_S8x128) (shapeCast S8x128 pz shapeCasts_S1x8x128_S8x128) lx ly lz), shapeCast S8x128 px shapeCasts_S1x8x128_S8x128, shapeCast S8x128 py shapeCasts_S1x8x128_S8x128, shapeCast S8x128 pz shapeCasts_S1x8x128_S8x128)

/-- The number of slab `k`, in every lane. -/
def num (k : Fin 32) : V F := broadcast S8x128 (Scalar.ofBits .f32 (slabBits k))

/-- Lane by lane the second where `t`, else the first. -/
def pick (t : IVec S8x128 1) (b c : Best F) : Best F :=
  (select t c.1 b.1, select t c.2.1 b.2.1, select t c.2.2.1 b.2.2.1, select t c.2.2.2.1 b.2.2.2.1, select t c.2.2.2.2 b.2.2.2.2)

/-- The better of two, lane by lane; on a tie the first. -/
def better (b c : Best F) : Best F := pick (cmpf .ogt c.1 b.1) b c

/-- The slabs of a list, one after another, into the running maximum. -/
def slabs (g : Fin 2) (lx ly lz : V F) : List (Fin 32) → Best F → Pg F (Best F)
  | [], b => pure b
  | k :: ks, b => do
    let s ← slab arg0 arg5 g k lx ly lz
    slabs g lx ly lz ks (better b (s.1, num k, s.2))

/-- Sixteen slabs, the first of which starts the running maximum. -/
def part (g : Fin 2) (lx ly lz : V F) (k : Fin 32) (ks : List (Fin 32)) : Pg F (Best F) := do
  let s ← slab arg0 arg5 g k lx ly lz
  slabs arg0 arg5 g lx ly lz ks (s.1, num k, s.2)

/-- The lanes' numbers, and the same as floats. -/
def lane : W := iota .tc S8x128 32 [1] iota_S8x128_d1_w32
def laneF : V F := sitofp .f32 lane

/-- The number of each lane's candidate where the lane has the maximum, else 4096. -/
def cand (b : Best F) : V F :=
  select (cmpf .oeq b.1 (broadcastTo S8x128 (shapeCast S8x1 (multiReduction .maximumf [1] S8 b.1 0xFF800000#32 reduces_S8x128_S8 (.inl rfl) rfl) shapeCasts_S8_S8x1) broadcasts_S8x1_S8x128))
    (addf (mulf b.2.1 (broadcast S8x128 (Scalar.ofBits .f32 0x43000000#32))) laneF) (broadcast S8x128 (Scalar.ofBits .f32 0x45800000#32))

/-- The least candidate. -/
def least (c : V F) : FVec F S8x1 .f32 :=
  shapeCast S8x1 (multiReduction .minimumf [1] S8 c 0x7F800000#32 reduces_S8x128_S8 (.inl rfl) rfl) shapeCasts_S8_S8x1

/-- The lane that has it. -/
def hot (c : V F) : IVec S8x128 1 := cmpf .oeq c (broadcastTo S8x128 (least c) broadcasts_S8x1_S8x128)

/-- What that lane has, in every lane. -/
def spread (h : IVec S8x128 1) (x : V F) : V F :=
  broadcastTo S8x128 (shapeCast S8x1 (shapeCast S8x1 (multiReduction .add [1] S8 (select h x (broadcast S8x128 (Scalar.ofBits .f32 0x00000000#32))) 0x00000000#32 reduces_S8x128_S8 (.inl rfl) rfl) shapeCasts_S8_S8x1) shapeCasts_S8x1_S8x1) broadcasts_S8x1_S8x128

/-- The first row of each cloud of group `g`. -/
def offs (g : Fin 2) : IVec S8x1 32 :=
  muli (addi (iota .tc S8x1 32 [0] iota_S8x1_d0_w32) (broadcast S8x1 (BitVec.ofNat 32 (8 * g.val)))) (broadcast S8x1 4096#32)

/-- What a step records at lane `i` of the chunk. -/
def record (g : Fin 2) (i : BitVec 32) (b : Best F) (a : Grp F) : Grp F :=
  let c := cand b
  let h := hot c
  (spread h b.2.2.1, spread h b.2.2.2.1, spread h b.2.2.2.2,
   select (cmpi .eq lane (broadcast S8x128 i)) (broadcastTo S8x128 (shapeCast S8x1 (addi (fptosi 32 (least c)) (offs g)) shapeCasts_S8x1_S8x1) broadcasts_S8x1_S8x128) a.2.2.2.1,
   select (cmpi .eq lane (broadcast S8x128 i)) (spread h b.2.2.1) a.2.2.2.2.1,
   select (cmpi .eq lane (broadcast S8x128 i)) (spread h b.2.2.2.1) a.2.2.2.2.2.1,
   select (cmpi .eq lane (broadcast S8x128 i)) (spread h b.2.2.2.2) a.2.2.2.2.2.2)

/-- One selection in each cloud of group `g`. -/
def group (g : Fin 2) (i : BitVec 32) (a : Grp F) : Pg F (Grp F) := do
  let b ← part arg0 arg5 g a.1 a.2.1 a.2.2.1 0 [1, 2, 3, 4, 5, 6, 7, 8, 9, 10, 11, 12, 13, 14, 15]
  let c ← part arg0 arg5 g a.1 a.2.1 a.2.2.1 16 [17, 18, 19, 20, 21, 22, 23, 24, 25, 26, 27, 28, 29, 30, 31]
  pure (record g i (better b c) a)

/-- What both groups carry. -/
abbrev Carry (F : FTy → Type) := V F × V F × V F × W × V F × V F × V F × V F × V F × V F × W × V F × V F × V F

/-- The two halves of the carried tuple, and back. -/
def lo (a : Carry F) : Grp F := (a.1, a.2.1, a.2.2.1, a.2.2.2.1, a.2.2.2.2.1, a.2.2.2.2.2.1, a.2.2.2.2.2.2.1)
def hi (a : Carry F) : Grp F := a.2.2.2.2.2.2.2
def both (a b : Grp F) : Carry F := (a.1, a.2.1, a.2.2.1, a.2.2.2.1, a.2.2.2.2.1, a.2.2.2.2.2.1, a.2.2.2.2.2.2, b)

/-- One selection in every cloud. -/
def step (i : BitVec 32) (a : Carry F) : Pg F (Carry F) := do
  let p ← group arg0 arg5 0 i (lo a)
  let q ← group arg0 arg5 1 i (hi a)
  pure (both p q)

/-- The loop of a chunk, from `s`, of `n` steps. -/
abbrev loopOf (s n : BitVec 32) : Scf.Loop 32 := ⟨s, Scalar.addi s n, 1#32⟩

/-- A chunk's steps. -/
def steps (s n : BitVec 32) (ok : (loopOf s n).OK) (a : Carry F) : Pg F (Carry F) :=
  Scf.Loop.for (loopOf s n) ok a fun k a => step arg0 arg5 (Scf.iv s 1#32 k) a

/-- The stores of one group's recorded selections into columns `128 j` on. -/
def emit (g : Fin 2) (j : Fin 16) (a : Grp F) : Pg F PUnit := do
  let _ : Vec F S8x128 .i32 ← Prog.lift (.load arg1 (Rect.unit (s := S16x2048) ![8 * g.val, 128 * j.val] S8x128.size (inbO g j g.2 j.2)).toLoadRect (View.loadsAt_vmem h_S8x128))
  Prog.lift (.store arg1 (Rect.unit (s := S16x2048) ![8 * g.val, 128 * j.val] S8x128.size (inbO g j g.2 j.2)) a.2.2.2.1 Finset.univ (View.stores_vmem_bits_univ h_S8x128 rfl) (.inl rfl))
  let _ : Vec F S8x128 .f32 ← Prog.lift (.load arg2 (Rect.unit (s := S16x2048) ![8 * g.val, 128 * j.val] S8x128.size (inbO g j g.2 j.2)).toLoadRect (View.loadsAt_vmem h_S8x128))
  Prog.lift (.store arg2 (Rect.unit (s := S16x2048) ![8 * g.val, 128 * j.val] S8x128.size (inbO g j g.2 j.2)) a.2.2.2.2.1 Finset.univ (View.stores_vmem_bits_univ h_S8x128 rfl) (.inl rfl))
  let _ : Vec F S8x128 .f32 ← Prog.lift (.load arg3 (Rect.unit (s := S16x2048) ![8 * g.val, 128 * j.val] S8x128.size (inbO g j g.2 j.2)).toLoadRect (View.loadsAt_vmem h_S8x128))
  Prog.lift (.store arg3 (Rect.unit (s := S16x2048) ![8 * g.val, 128 * j.val] S8x128.size (inbO g j g.2 j.2)) a.2.2.2.2.2.1 Finset.univ (View.stores_vmem_bits_univ h_S8x128 rfl) (.inl rfl))
  let _ : Vec F S8x128 .f32 ← Prog.lift (.load arg4 (Rect.unit (s := S16x2048) ![8 * g.val, 128 * j.val] S8x128.size (inbO g j g.2 j.2)).toLoadRect (View.loadsAt_vmem h_S8x128))
  Prog.lift (.store arg4 (Rect.unit (s := S16x2048) ![8 * g.val, 128 * j.val] S8x128.size (inbO g j g.2 j.2)) a.2.2.2.2.2.2 Finset.univ (View.stores_vmem_bits_univ h_S8x128 rfl) (.inl rfl))

/-- Zeros. -/
def zeroF : V F := broadcast S8x128 (Scalar.ofBits .f32 0x00000000#32)
def zeroI : W := broadcast S8x128 0#32

/-- The last point kept, nothing recorded. -/
def clear (a : Grp F) : Grp F := (a.1, a.2.1, a.2.2.1, zeroI, zeroF, zeroF, zeroF)

/-- The chunks of a list, each from lane 0. -/
def chunks (ok : (loopOf 0#32 128#32).OK) : List (Fin 16) → Carry F → Pg F PUnit
  | [], _ => pure ⟨⟩
  | j :: js, a => do
    let a ← steps arg0 arg5 0#32 128#32 ok (both (clear (lo a)) (clear (hi a)))
    emit arg1 arg2 arg3 arg4 0 j (lo a)
    emit arg1 arg2 arg3 arg4 1 j (hi a)
    chunks ok js a

theorem inb1 (a g : ℕ) (ha : a < 3) (hg : g < 2) :
    ∀ i, (![a, 8 * g, 0] : Fin 3 → Nat) i + S1x8x1.size i ≤ S3x16x4096.size i := by
  intro i; fin_cases i <;> simp <;> omega

/-- One word per cloud, in every lane. -/
def wide (u : Vec F S1x8x1 .f32) : V F := broadcastTo S8x128 (shapeCast S8x1 (shapeCast S8x1 u shapeCasts_S1x8x1_S8x1) shapeCasts_S8x1_S8x1) broadcasts_S8x1_S8x128

/-- Lane 0. -/
def lane0 : IVec S8x128 1 := cmpi .eq lane (broadcast S8x128 0#32)

/-- The point of coordinates `x`, `y`, `z`, the first of its cloud, recorded at lane 0. -/
def start (g : Fin 2) (x y z : Vec F S1x8x1 .f32) : Grp F :=
  (wide x, wide y, wide z, select lane0 (broadcastTo S8x128 (shapeCast S8x1 (offs g) shapeCasts_S8x1_S8x1) broadcasts_S8x1_S8x128) zeroI,
    select lane0 (wide x) zeroF, select lane0 (wide y) zeroF, select lane0 (wide z) zeroF)

/-- Group `g` before its first step: point 0 of each cloud is selected. -/
def first (g : Fin 2) : Pg F (Grp F) := do
  let x : Vec F S1x8x1 .f32 ← Prog.lift (.load arg0 (Rect.unit (s := S3x16x4096) ![0, 8 * g.val, 0] S1x8x1.size (inb1 0 g (by decide) g.2)).toLoadRect (View.loadsAt_vmem h_S1x8x1))
  let y : Vec F S1x8x1 .f32 ← Prog.lift (.load arg0 (Rect.unit (s := S3x16x4096) ![1, 8 * g.val, 0] S1x8x1.size (inb1 1 g (by decide) g.2)).toLoadRect (View.loadsAt_vmem h_S1x8x1))
  let z : Vec F S1x8x1 .f32 ← Prog.lift (.load arg0 (Rect.unit (s := S3x16x4096) ![2, 8 * g.val, 0] S1x8x1.size (inb1 2 g (by decide) g.2)).toLoadRect (View.loadsAt_vmem h_S1x8x1))
  pure (start g x y z)

/-- No distance yet. -/
def far : Vec F S16x4096 .f32 := shapeCast S16x4096 (broadcast S16x4096 (Scalar.ofBits .f32 0x7F800000#32)) shapeCasts_S16x4096_S16x4096

/-- The kernel. -/
def fps (ok1 : (loopOf 1#32 127#32).OK) (ok : (loopOf 0#32 128#32).OK) : Pg F PUnit := do
  let _ : Vec F S16x4096 .f32 ← Prog.lift (.load arg5 (Rect.unit (s := S16x4096) ![0, 0] S16x4096.size inb_S16x4096_S16x4096_0_0).toLoadRect (View.loadsAt_vmem h_S16x4096))
  Prog.lift (.store arg5 (Rect.unit (s := S16x4096) ![0, 0] S16x4096.size inb_S16x4096_S16x4096_0_0) far Finset.univ (View.stores_vmem_bits_univ h_S16x4096 rfl) (.inl rfl))
  let a ← first arg0 0
  let b ← first arg0 1
  let a ← steps arg0 arg5 1#32 127#32 ok1 (both a b)
  emit arg1 arg2 arg3 arg4 0 0 (lo a)
  emit arg1 arg2 arg3 arg4 1 0 (hi a)
  chunks arg0 arg1 arg2 arg3 arg4 arg5 ok [1, 2, 3, 4, 5, 6, 7, 8, 9, 10, 11, 12, 13, 14, 15] a

end Cert.WholeIdeal.Fps

end
-- ==== Proof.Whole.Walk.lean ====
/- What the sampler's program does, piece by piece: a slab, the slabs of a list, a part, a group, a step, the steps of a
   chunk, the chunks. Every piece has a pure counterpart on the contents of its buffers (names ending in `V`), and a
   theorem that the piece, run on buffers of those contents, leaves and returns what the counterpart says. -/
module

public import proofs.«01_k».proof.Proof.Whole.Body
public import Idealize.ShloMosaic.Lib.VecWindow

@[expose] public section

noncomputable section

namespace Cert.WholeIdeal.Fps

open Facts₀ Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

open Idealize.ShloMosaic.SparseCore.Cfg (HIx)

variable {F : FTy → Type} [FloatOps F] [Facts]

local notation "𝕄" => MT nD τ sig (HIx 1) (Elt F) ℕ UU ℕ

variable {defs : Defs nD τ sig (Elt F) Λ₀} (c : Dev nD)

local notation "WP" => wp frame (wpE defs Variants.none (c : Thread nD τ) Option.none) Set.univ

/-! ## One operation -/

section Op

variable {α : Type} {Q : α → sProp (MT nD τ sig (HIx 1) (Elt F) ℕ UU ℕ)} {S : Shape} {e : EltTy} (M : Memref sig .tc .vmem S e)

theorem load_at (q : PosShare TreeShare) (x : S.Idx → Elt F e) {off size : Fin S.rank → ℕ} (inb : ∀ a, off a + size a ≤ S.size a)
    {hl : M.view.LoadsAt (Rect.unit off size inb).toLoadRect} (k : ((Rect.unit off size inb).toLoadRect.shape.Idx → Elt F e) → Pg F α) :
    (owns (c : Thread nD τ) M q x : sProp 𝕄)
      ⊢ iprop((owns (c : Thread nD τ) M q x -∗ WP (k (window x off size inb)) Q)
        -∗ WP (Prog.lift (.load M (Rect.unit off size inb).toLoadRect hl) >>= k) Q) := by
  unfold owns
  iintro ⟨%f, %hf, H⟩ Hk
  iapply (wp_load Variants.none (c : Thread nD τ) none Set.univ (m := M) (r := (Rect.unit off size inb).toLoadRect) (hl := hl)
    (k := k) (S := M.view.set) (q := q) (f := f) (View.setOn_subset_set M.view _)) $$ H
  iintro H
  rw [View.readAt_unit M.view f inb rfl inb, hf]
  iapply Hk
  iexists f; isplitr; · ipureintro; exact hf
  iexact H

theorem store_at (x : S.Idx → Elt F e) {off size : Fin S.rank → ℕ} (inb : ∀ a, off a + size a ≤ S.size a)
    (w : (Rect.unit off size inb).shape.Idx → Elt F e)
    {hx : (M.access (Rect.unit off size inb)).Stores Finset.univ} {hm : Finset.univ = Finset.univ ∨ ∀ a, (Rect.unit off size inb).stride a = 1}
    (k : PUnit → Pg F α) :
    (owns (c : Thread nD τ) M fullShare x : sProp 𝕄)
      ⊢ iprop((owns (c : Thread nD τ) M fullShare (put x off size w) -∗ WP (k ⟨⟩) Q)
        -∗ WP (Prog.lift (.store M (Rect.unit off size inb) w Finset.univ hx hm) >>= k) Q) := by
  unfold owns
  iintro ⟨%f, %hf, H⟩ Hk
  iapply (wp_store_writes₀ Variants.none (c : Thread nD τ) none Set.univ (m := M) (r := Rect.unit off size inb) (w := w) (hx := hx) (hm := hm)
    (k := k) (S := M.view.set) (f := f) (View.set_slice_subset M.view _)) $$ H
  iintro H
  iapply Hk
  iexists _; isplitr; swap; · iexact H
  ipureintro
  rw [View.read_writes_cons_put M.view f inb w [] rfl, View.writes_nil, hf]

end Op

/-- A program that only returns. -/
theorem ret_at {α : Type} {Q : α → sProp (MT nD τ sig (HIx 1) (Elt F) ℕ UU ℕ)} (a : α) : Q a ⊢ WP (pure a : Pg F α) Q :=
  le_wp_ret _ _ _ _ _

/-! ## The pure counterparts -/

/-- The contents of the points' array, of the distances, of the results. -/
abbrev Pts (F : FTy → Type) := S3x16x4096.Idx → Elt F .f32
abbrev Dst (F : FTy → Type) := S16x4096.Idx → Elt F .f32
abbrev Out (F : FTy → Type) := S16x2048.Idx → Elt F .f32
abbrev OutI (F : FTy → Type) := S16x2048.Idx → Elt F .i32

variable (P : Pts F)

/-- Coordinate `a` of the points of slab `k`. -/
def ptsV (a : Fin 3) (g : Fin 2) (k : Fin 32) : V F :=
  shapeCast S8x128 (window P ![a.val, 8 * g.val, 128 * k.val] S1x8x128.size (inb3 a g k a.2 g.2 k.2) : Vec F S1x8x128 .f32) shapeCasts_S1x8x128_S8x128

/-- The slab's new distances. -/
def nearV (D : Dst F) (g : Fin 2) (k : Fin 32) (lx ly lz : V F) : V F :=
  minimumf (window D ![8 * g.val, 128 * k.val] S8x128.size (inb2 g k g.2 k.2) : Vec F S8x128 .f32) (dist (ptsV P 0 g k) (ptsV P 1 g k) (ptsV P 2 g k) lx ly lz)

/-- The distances once slab `k` is brought up to date. -/
def slabD (D : Dst F) (g : Fin 2) (k : Fin 32) (lx ly lz : V F) : Dst F :=
  put D ![8 * g.val, 128 * k.val] S8x128.size (shapeCast S8x128 (nearV P D g k lx ly lz) shapeCasts_S8x128_S8x128)

/-- What a slab offers to the maximum. -/
def offerV (D : Dst F) (g : Fin 2) (k : Fin 32) (lx ly lz : V F) : Best F :=
  (nearV P D g k lx ly lz, num k, ptsV P 0 g k, ptsV P 1 g k, ptsV P 2 g k)

def slabsV (g : Fin 2) (lx ly lz : V F) : List (Fin 32) → Dst F → Best F → Dst F × Best F
  | [], D, b => (D, b)
  | k :: ks, D, b => slabsV g lx ly lz ks (slabD P D g k lx ly lz) (better b (offerV P D g k lx ly lz))

def partV (g : Fin 2) (lx ly lz : V F) (k : Fin 32) (ks : List (Fin 32)) (D : Dst F) : Dst F × Best F :=
  slabsV P g lx ly lz ks (slabD P D g k lx ly lz) (offerV P D g k lx ly lz)

/-- The slabs of the two parts, but for the first of each. -/
def low : List (Fin 32) := [1, 2, 3, 4, 5, 6, 7, 8, 9, 10, 11, 12, 13, 14, 15]
def high : List (Fin 32) := [17, 18, 19, 20, 21, 22, 23, 24, 25, 26, 27, 28, 29, 30, 31]

def groupV (g : Fin 2) (i : BitVec 32) (D : Dst F) (a : Grp F) : Dst F × Grp F :=
  let r := partV P g a.1 a.2.1 a.2.2.1 0 low D
  let r' := partV P g a.1 a.2.1 a.2.2.1 16 high r.1
  (r'.1, record g i (better r.2 r'.2) a)

def stepV (i : BitVec 32) (s : Dst F × Carry F) : Dst F × Carry F :=
  let p := groupV P 0 i s.1 (lo s.2)
  let q := groupV P 1 i p.1 (hi s.2)
  (q.1, both p.2 q.2)

def stepsV (s : BitVec 32) (x : Dst F × Carry F) : ℕ → Dst F × Carry F
  | 0 => x
  | n + 1 => stepV P (Scf.iv s 1#32 n) (stepsV s x n)

/-! ## The pieces -/

section Pieces

variable {α : Type} (arg0 : Memref sig .tc .vmem S3x16x4096 .f32) (arg1 : Memref sig .tc .vmem S16x2048 .i32)
  (arg2 arg3 arg4 : Memref sig .tc .vmem S16x2048 .f32) (arg5 : Memref sig .tc .vmem S16x4096 .f32)

/-- The points and the distances held. -/
def held (D : Dst F) : sProp (MT nD τ sig (HIx 1) (Elt F) ℕ UU ℕ) :=
  iprop(owns (c : Thread nD τ) arg0 fullShare P ∗ owns (c : Thread nD τ) arg5 fullShare D)

theorem slab_walk (D : Dst F) (g : Fin 2) (k : Fin 32) (lx ly lz : V F) {Q : V F × V F × V F × V F → sProp 𝕄} :
    held c P arg0 arg5 D ⊢ iprop((held c P arg0 arg5 (slabD P D g k lx ly lz)
        -∗ Q (nearV P D g k lx ly lz, ptsV P 0 g k, ptsV P 1 g k, ptsV P 2 g k))
      -∗ WP (slab arg0 arg5 g k lx ly lz) Q) := by
  unfold slab held
  iintro ⟨HP, HD⟩ Hk
  iapply (load_at c arg0 fullShare P _ _) $$ HP; iintro HP
  iapply (load_at c arg0 fullShare P _ _) $$ HP; iintro HP
  iapply (load_at c arg0 fullShare P _ _) $$ HP; iintro HP
  iapply (load_at c arg5 fullShare D _ _) $$ HD; iintro HD
  iapply (load_at c arg5 fullShare D _ _) $$ HD; iintro HD
  iapply (store_at c arg5 D _ _ _) $$ HD; iintro HD
  iapply (ret_at c _)
  unfold slabD nearV ptsV
  ihave Hk := Hk $$ [HP HD]
  · isplitl [HP]; · iexact HP
    iexact HD
  iexact Hk

theorem slabs_walk (g : Fin 2) (lx ly lz : V F) (ks : List (Fin 32)) {Q : Best F → sProp 𝕄} (D : Dst F) (b : Best F) :
    held c P arg0 arg5 D ⊢ iprop((held c P arg0 arg5 (slabsV P g lx ly lz ks D b).1 -∗ Q (slabsV P g lx ly lz ks D b).2)
      -∗ WP (slabs arg0 arg5 g lx ly lz ks b) Q) := by
  induction ks generalizing D b with
  | nil =>
    unfold slabs slabsV
    iintro H Hk
    iapply (ret_at c _)
    iapply Hk
    iexact H
  | cons k ks ih =>
    unfold slabs slabsV
    rw [wp_bind]
    iintro H Hk
    iapply (slab_walk c P arg0 arg5 D g k lx ly lz) $$ H
    iintro H
    iapply (ih (slabD P D g k lx ly lz) (better b (offerV P D g k lx ly lz))) $$ H
    iexact Hk

theorem part_walk (g : Fin 2) (lx ly lz : V F) (k : Fin 32) (ks : List (Fin 32)) {Q : Best F → sProp 𝕄} (D : Dst F) :
    held c P arg0 arg5 D ⊢ iprop((held c P arg0 arg5 (partV P g lx ly lz k ks D).1 -∗ Q (partV P g lx ly lz k ks D).2)
      -∗ WP (part arg0 arg5 g lx ly lz k ks) Q) := by
  unfold part partV
  rw [wp_bind]
  iintro H Hk
  iapply (slab_walk c P arg0 arg5 D g k lx ly lz) $$ H
  iintro H
  iapply (slabs_walk c P arg0 arg5 g lx ly lz ks _ (offerV P D g k lx ly lz)) $$ H
  iexact Hk

theorem group_walk (g : Fin 2) (i : BitVec 32) (a : Grp F) {Q : Grp F → sProp 𝕄} (D : Dst F) :
    held c P arg0 arg5 D ⊢ iprop((held c P arg0 arg5 (groupV P g i D a).1 -∗ Q (groupV P g i D a).2)
      -∗ WP (group arg0 arg5 g i a) Q) := by
  unfold group groupV
  rw [wp_bind]
  iintro H Hk
  iapply (part_walk c P arg0 arg5 g a.1 a.2.1 a.2.2.1 0 low D) $$ H
  iintro H
  rw [wp_bind]
  iapply (part_walk c P arg0 arg5 g a.1 a.2.1 a.2.2.1 16 high _) $$ H
  iintro H
  iapply (ret_at c _)
  iapply Hk
  iexact H

theorem step_walk (i : BitVec 32) (D : Dst F) (a : Carry F) {Q : Carry F → sProp 𝕄} :
    held c P arg0 arg5 D ⊢ iprop((held c P arg0 arg5 (stepV P i (D, a)).1 -∗ Q (stepV P i (D, a)).2)
      -∗ WP (step arg0 arg5 i a) Q) := by
  unfold step stepV
  rw [wp_bind]
  iintro H Hk
  iapply (group_walk c P arg0 arg5 0 i (lo a) D) $$ H
  iintro H
  rw [wp_bind]
  iapply (group_walk c P arg0 arg5 1 i (hi a) _) $$ H
  iintro H
  iapply (ret_at c _)
  iapply Hk
  iexact H

theorem steps_walk (s n : BitVec 32) (ok : (loopOf s n).OK) (x : Dst F × Carry F) {Q : Carry F → sProp 𝕄} :
    held c P arg0 arg5 x.1 ⊢ iprop((held c P arg0 arg5 (stepsV P s x (loopOf s n).trips).1 -∗ Q (stepsV P s x (loopOf s n).trips).2)
      -∗ WP (steps arg0 arg5 s n ok x.2) Q) := by
  unfold steps
  iintro H Hk
  iapply (Scf.wp_for frame (wpE defs Variants.none (c : Thread nD τ) Option.none) Set.univ _ _ _ ok _ _
    (fun t a => iprop(held c P arg0 arg5 (stepsV P s x t).1 ∗ ⌜a = (stepsV P s x t).2⌝)) (fun t a => by
      iintro ⟨H, %e⟩
      subst e
      iapply (step_walk c P arg0 arg5 (Scf.iv s 1#32 t) (stepsV P s x t).1 (stepsV P s x t).2) $$ H
      iintro H
      isplitl [H]; · iexact H
      ipureintro; rfl))
  isplitl [H]
  · isplitl [H]; · iexact H
    ipureintro; rfl
  iintro %a ⟨H, %e⟩
  subst e
  iapply Hk
  iexact H

end Pieces

end Cert.WholeIdeal.Fps

end
-- ==== Proof.Whole.Chunks.lean ====
/- The sampler's program on its buffers, from the pieces of a step up: the records of a chunk put into the results, the
   chunks one after another, and the whole. Whatever the results held before, they end at `outV`. -/
module

public import proofs.«01_k».proof.Proof.Whole.Walk

@[expose] public section

noncomputable section

namespace Cert.WholeIdeal.Fps

open Facts₀ Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

open Idealize.ShloMosaic.SparseCore.Cfg (HIx)

variable {F : FTy → Type} [FloatOps F] [Facts]

local notation "𝕄" => MT nD τ sig (HIx 1) (Elt F) ℕ UU ℕ

variable {defs : Defs nD τ sig (Elt F) Λ₀} (c : Dev nD)

local notation "WP" => wp frame (wpE defs Variants.none (c : Thread nD τ) Option.none) Set.univ

/-! ## The pure counterparts -/

/-- What a group has recorded: the row numbers and the coordinates. -/
def rI (a : Grp F) : W := a.2.2.2.1
def rX (a : Grp F) : V F := a.2.2.2.2.1
def rY (a : Grp F) : V F := a.2.2.2.2.2.1
def rZ (a : Grp F) : V F := a.2.2.2.2.2.2

section Pure

variable {α : Type} (P : Pts F) (f : Grp F → S8x128.Idx → α)

/-- Group `g`'s records over columns `128 j` on of a result. -/
def emitV (g : Fin 2) (j : Fin 16) (O : S16x2048.Idx → α) (a : Grp F) : S16x2048.Idx → α :=
  put O ![8 * g.val, 128 * j.val] S8x128.size (f a)

/-- Both groups'. -/
def emitsV (j : Fin 16) (O : S16x2048.Idx → α) (a : Carry F) : S16x2048.Idx → α :=
  emitV f 1 j (emitV f 0 j O (lo a)) (hi a)

/-- One chunk. -/
def chunkV (x : Dst F × Carry F) : Dst F × Carry F :=
  stepsV P 0#32 (x.1, both (clear (lo x.2)) (clear (hi x.2))) (loopOf 0#32 128#32).trips

/-- The chunks of a list: the distances left, and a result. -/
def chunksD : List (Fin 16) → Dst F × Carry F → Dst F
  | [], x => x.1
  | _ :: js, x => chunksD js (chunkV P x)

def chunksV : List (Fin 16) → (S16x2048.Idx → α) → Dst F × Carry F → S16x2048.Idx → α
  | [], O, _ => O
  | j :: js, O, x => chunksV js (emitsV f j O (chunkV P x).2) (chunkV P x)

/-- Group `g` with point 0 of each cloud selected. -/
def startV (g : Fin 2) : Grp F :=
  start g (window P ![0, 8 * g.val, 0] S1x8x1.size (inb1 0 g (by decide) g.2)) (window P ![1, 8 * g.val, 0] S1x8x1.size (inb1 1 g (by decide) g.2))
    (window P ![2, 8 * g.val, 0] S1x8x1.size (inb1 2 g (by decide) g.2))

/-- The first chunk, which starts with point 0 selected. -/
def openV : Dst F × Carry F :=
  stepsV P 1#32 (far, both (startV P 0) (startV P 1)) (loopOf 1#32 127#32).trips

/-- The chunks after the first. -/
def later : List (Fin 16) := [1, 2, 3, 4, 5, 6, 7, 8, 9, 10, 11, 12, 13, 14, 15]

/-- A result, of what it held before. -/
def outV (O : S16x2048.Idx → α) : S16x2048.Idx → α :=
  chunksV P f later (emitsV f 0 O (openV P).2) (openV P)

end Pure

/-! ## The program -/

section Pieces

variable (P : Pts F) (arg0 : Memref sig .tc .vmem S3x16x4096 .f32) (arg1 : Memref sig .tc .vmem S16x2048 .i32)
  (arg2 arg3 arg4 : Memref sig .tc .vmem S16x2048 .f32) (arg5 : Memref sig .tc .vmem S16x4096 .f32)

/-- A store that ends its program. -/
theorem store_last {S : Shape} {e : EltTy} (M : Memref sig .tc .vmem S e) {Q : PUnit → sProp (MT nD τ sig (HIx 1) (Elt F) ℕ UU ℕ)}
    (x : S.Idx → Elt F e) {off size : Fin S.rank → ℕ} (inb : ∀ a, off a + size a ≤ S.size a)
    (w : (Rect.unit off size inb).shape.Idx → Elt F e)
    {hx : (M.access (Rect.unit off size inb)).Stores Finset.univ} {hm : Finset.univ = Finset.univ ∨ ∀ a, (Rect.unit off size inb).stride a = 1} :
    (owns (c : Thread nD τ) M fullShare x : sProp 𝕄)
      ⊢ iprop((owns (c : Thread nD τ) M fullShare (put x off size w) -∗ Q ⟨⟩)
        -∗ WP (Prog.lift (.store M (Rect.unit off size inb) w Finset.univ hx hm)) Q) := by
  iintro H Hk
  iapply (store_at (defs := defs) (Q := Q) c M x inb w (hx := hx) (hm := hm) (fun _ => (.ret ⟨⟩ : Pg F PUnit))) $$ H
  iintro H
  iapply (le_wp_ret _ _ _ _ _)
  iapply Hk
  iexact H

/-- The results held. -/
def outs (O1 : OutI F) (O2 O3 O4 : Out F) : sProp (MT nD τ sig (HIx 1) (Elt F) ℕ UU ℕ) :=
  iprop(owns (c : Thread nD τ) arg1 fullShare O1 ∗ owns (c : Thread nD τ) arg2 fullShare O2 ∗ owns (c : Thread nD τ) arg3 fullShare O3
    ∗ owns (c : Thread nD τ) arg4 fullShare O4)

theorem emit_walk (g : Fin 2) (j : Fin 16) (a : Grp F) (O1 : OutI F) (O2 O3 O4 : Out F) {Q : PUnit → sProp 𝕄} :
    outs c arg1 arg2 arg3 arg4 O1 O2 O3 O4 ⊢ iprop((outs c arg1 arg2 arg3 arg4 (emitV rI g j O1 a) (emitV rX g j O2 a) (emitV rY g j O3 a) (emitV rZ g j O4 a) -∗ Q ⟨⟩)
      -∗ WP (emit arg1 arg2 arg3 arg4 g j a) Q) := by
  unfold emit outs emitV rI rX rY rZ
  iintro ⟨H1, H2, H3, H4⟩ Hk
  iapply (load_at c arg1 fullShare O1 _ _) $$ H1; iintro H1
  iapply (store_at c arg1 O1 _ _ _) $$ H1; iintro H1
  iapply (load_at c arg2 fullShare O2 _ _) $$ H2; iintro H2
  iapply (store_at c arg2 O2 _ _ _) $$ H2; iintro H2
  iapply (load_at c arg3 fullShare O3 _ _) $$ H3; iintro H3
  iapply (store_at c arg3 O3 _ _ _) $$ H3; iintro H3
  iapply (load_at c arg4 fullShare O4 _ _) $$ H4; iintro H4
  iapply (store_last c arg4 O4 _ _) $$ H4; iintro H4
  iapply Hk
  isplitl [H1]; · iexact H1
  isplitl [H2]; · iexact H2
  isplitl [H3]; · iexact H3
  iexact H4

theorem first_walk (D : Dst F) (g : Fin 2) {Q : Grp F → sProp 𝕄} :
    held c P arg0 arg5 D ⊢ iprop((held c P arg0 arg5 D -∗ Q (startV P g)) -∗ WP (first arg0 g) Q) := by
  unfold first held startV
  iintro ⟨HP, HD⟩ Hk
  iapply (load_at c arg0 fullShare P _ _) $$ HP; iintro HP
  iapply (load_at c arg0 fullShare P _ _) $$ HP; iintro HP
  iapply (load_at c arg0 fullShare P _ _) $$ HP; iintro HP
  iapply (ret_at c _)
  iapply Hk
  isplitl [HP]; · iexact HP
  iexact HD

theorem chunks_walk (ok : (loopOf 0#32 128#32).OK) (js : List (Fin 16)) (x : Dst F × Carry F) (O1 : OutI F) (O2 O3 O4 : Out F) {Q : PUnit → sProp 𝕄} :
    iprop(held c P arg0 arg5 x.1 ∗ outs c arg1 arg2 arg3 arg4 O1 O2 O3 O4)
      ⊢ iprop((held c P arg0 arg5 (chunksD P js x) -∗ outs c arg1 arg2 arg3 arg4 (chunksV P rI js O1 x) (chunksV P rX js O2 x) (chunksV P rY js O3 x) (chunksV P rZ js O4 x) -∗ Q ⟨⟩)
      -∗ WP (chunks arg0 arg1 arg2 arg3 arg4 arg5 ok js x.2) Q) := by
  induction js generalizing x O1 O2 O3 O4 with
  | nil =>
    unfold chunks chunksD chunksV
    iintro ⟨H, HO⟩ Hk
    iapply (ret_at c _)
    iapply Hk $$ H HO
  | cons j js ih =>
    unfold chunks chunksD chunksV
    rw [wp_bind]
    iintro ⟨H, HO⟩ Hk
    iapply (steps_walk c P arg0 arg5 0#32 128#32 ok (x.1, both (clear (lo x.2)) (clear (hi x.2)))) $$ H
    iintro H
    rw [wp_bind]
    iapply (emit_walk c arg1 arg2 arg3 arg4 0 j _ O1 O2 O3 O4) $$ HO
    iintro HO
    rw [wp_bind]
    iapply (emit_walk c arg1 arg2 arg3 arg4 1 j _ _ _ _ _) $$ HO
    iintro HO
    iapply (ih (chunkV P x) _ _ _ _) $$ [H HO]
    · isplitl [H]; · iexact H
      iexact HO
    iexact Hk

/-- A store of the whole. -/
theorem put_all {S : Shape} {α : Type} {off : Fin S.rank → ℕ} (h : ∀ a, off a = 0) (x : S.Idx → α) (w : S.Idx → α) : put x off S.size w = w := by
  funext y
  unfold put
  rw [dif_pos (fun a => ⟨by rw [h a]; exact Nat.zero_le _, by rw [h a, Nat.zero_add]; exact (y a).2⟩)]
  exact congrArg w (funext fun a => Fin.ext (by show (y a).val - off a = _; rw [h a, Nat.sub_zero]))

theorem fps_walk (ok1 : (loopOf 1#32 127#32).OK) (ok : (loopOf 0#32 128#32).OK) (D : Dst F) (O1 : OutI F) (O2 O3 O4 : Out F) {Q : PUnit → sProp 𝕄} :
    iprop(held c P arg0 arg5 D ∗ outs c arg1 arg2 arg3 arg4 O1 O2 O3 O4)
      ⊢ iprop((held c P arg0 arg5 (chunksD P later (openV P)) -∗ outs c arg1 arg2 arg3 arg4 (outV P rI O1) (outV P rX O2) (outV P rY O3) (outV P rZ O4) -∗ Q ⟨⟩)
      -∗ WP (fps arg0 arg1 arg2 arg3 arg4 arg5 ok1 ok) Q) := by
  unfold fps
  iintro ⟨H, HO⟩ Hk
  unfold held
  icases H with ⟨HP, HD⟩
  iapply (load_at c arg5 fullShare D _ _) $$ HD; iintro HD
  iapply (store_at c arg5 D _ _ _) $$ HD; iintro HD
  rw [put_all (S := S16x4096) (by intro a; fin_cases a <;> rfl)]
  rw [wp_bind]
  iapply (first_walk c P arg0 arg5 far 0) $$ [HP HD]
  · unfold held; isplitl [HP]; · iexact HP
    iexact HD
  iintro H
  rw [wp_bind]
  iapply (first_walk c P arg0 arg5 far 1) $$ H
  iintro H
  rw [wp_bind]
  iapply (steps_walk c P arg0 arg5 1#32 127#32 ok1 (far, both (startV P 0) (startV P 1))) $$ H
  iintro H
  rw [wp_bind]
  iapply (emit_walk c arg1 arg2 arg3 arg4 0 0 _ O1 O2 O3 O4) $$ HO
  iintro HO
  rw [wp_bind]
  iapply (emit_walk c arg1 arg2 arg3 arg4 1 0 _ _ _ _ _) $$ HO
  iintro HO
  iapply (chunks_walk c P arg0 arg1 arg2 arg3 arg4 arg5 ok later (openV P) _ _ _ _) $$ [H HO]
  · isplitl [H]; · iexact H
    iexact HO
  iexact Hk

end Pieces

end Cert.WholeIdeal.Fps

end
-- ==== Proof.Whole.Result.lean ====
/- What the sampler's program leaves in a result, at an index: chunk `j` of the columns is what the two groups have
   recorded when the `j`th chunk of steps ends, whatever the result held before. -/
module

public import proofs.«01_k».proof.Proof.Whole.Chunks

@[expose] public section

noncomputable section

namespace Cert.WholeIdeal.Fps

open Facts₀ Idealize.ShloMosaic Idealize.ShloMosaic.TcCoe
open VecWindow (window put)

variable {F : FTy → Type} [FloatOps F] [Facts]

variable {α : Type} (P : Pts F) (f : Grp F → S8x128.Idx → α)

/-- A result's index is in one group's rows and one chunk's columns, at this place of theirs. -/
def grp (y : S16x2048.Idx) : Fin 2 := ⟨(y 0).val / 8, by have : (y 0).val < 16 := (y 0).2; omega⟩
def loc (y : S16x2048.Idx) : S8x128.Idx
  | 0 => ⟨(y 0).val % 8, Nat.mod_lt _ (by decide)⟩
  | 1 => ⟨(y 1).val % 128, Nat.mod_lt _ (by decide)⟩

/-- A group's half of what is carried. -/
def half (g : Fin 2) (a : Carry F) : Grp F := if g = 0 then lo a else hi a

/-- After chunk `j`. -/
def endOf : ℕ → Dst F × Carry F
  | 0 => openV P
  | j + 1 => chunkV P (endOf j)

/-- The result. -/
def resV (y : S16x2048.Idx) : α := f (half (grp y) (endOf P ((y 1).val / 128)).2) (loc y)

theorem emitV_at (g : Fin 2) (j : Fin 16) (O : S16x2048.Idx → α) (a : Grp F) (y : S16x2048.Idx) :
    emitV f g j O a y = if grp y = g ∧ (y 1).val / 128 = j.val then f a (loc y) else O y := by
  have h0 : (y 0).val < 16 := (y 0).2
  have h1 : (y 1).val < 2048 := (y 1).2
  unfold emitV put
  by_cases h : grp y = g ∧ (y 1).val / 128 = j.val
  · obtain ⟨hg, hj⟩ := h
    have hg : (y 0).val / 8 = g.val := congrArg Fin.val hg
    have hin : ∀ a : Fin 2, (![8 * g.val, 128 * j.val] : Fin 2 → ℕ) a ≤ (y a).val ∧ (y a).val < (![8 * g.val, 128 * j.val] : Fin 2 → ℕ) a + S8x128.size a := by
      intro a; fin_cases a
      · exact ⟨by show 8 * g.val ≤ _; simp only [Fin.zero_eta]; omega, by show _ < 8 * g.val + 8; simp only [Fin.zero_eta]; omega⟩
      · exact ⟨by show 128 * j.val ≤ _; simp only [Fin.mk_one]; omega, by show _ < 128 * j.val + 128; simp only [Fin.mk_one]; omega⟩
    rw [dif_pos hin, if_pos ⟨Fin.ext hg, hj⟩]
    refine congrArg (f a) (funext fun b => Fin.ext ?_)
    fin_cases b
    · show (y 0).val - 8 * g.val = (y 0).val % 8; omega
    · show (y 1).val - 128 * j.val = (y 1).val % 128; omega
  · rw [if_neg h, dif_neg]
    intro hin
    have e0 : 8 * g.val ≤ (y 0).val ∧ (y 0).val < 8 * g.val + 8 := hin 0
    have e1 : 128 * j.val ≤ (y 1).val ∧ (y 1).val < 128 * j.val + 128 := hin 1
    exact h ⟨Fin.ext (by show (y 0).val / 8 = _; omega), by omega⟩

theorem emitsV_at (j : Fin 16) (O : S16x2048.Idx → α) (a : Carry F) (y : S16x2048.Idx) :
    emitsV f j O a y = if (y 1).val / 128 = j.val then f (half (grp y) a) (loc y) else O y := by
  unfold emitsV
  rw [emitV_at, emitV_at]
  by_cases hj : (y 1).val / 128 = j.val
  · have hg : grp y = 0 ∨ grp y = 1 := by
      generalize grp y = g; fin_cases g <;> simp
    rcases hg with hg | hg <;> rw [hg] <;> simp [hj, half]
  · simp [hj]

theorem chunksV_at (js : List (Fin 16)) (k : ℕ) (hjs : ∀ i (h : i < js.length), (js[i]).val = k + 1 + i) (O : S16x2048.Idx → α) (y : S16x2048.Idx) :
    chunksV P f js O (endOf P k) y = if k < (y 1).val / 128 ∧ (y 1).val / 128 ≤ k + js.length then resV P f y else O y := by
  induction js generalizing k O with
  | nil =>
    unfold chunksV
    rw [if_neg]
    rintro ⟨h1, h2⟩
    simp only [List.length_nil] at h2
    omega
  | cons j js ih =>
    have hj : j.val = k + 1 := hjs 0 (by simp)
    unfold chunksV
    have h := ih (k + 1) (fun i h => by
      have := hjs (i + 1) (by simpa using h)
      simp only [List.getElem_cons_succ] at this
      omega) (emitsV f j O (chunkV P (endOf P k)).2)
    refine h.trans ?_
    rw [emitsV_at, hj]
    simp only [List.length_cons]
    by_cases h1 : (y 1).val / 128 = k + 1
    · rw [if_neg (by omega), if_pos h1, if_pos (by omega)]
      unfold resV
      rw [h1]
      rfl
    · by_cases h2 : k + 1 < (y 1).val / 128 ∧ (y 1).val / 128 ≤ k + 1 + js.length
      · rw [if_pos h2, if_pos (by omega)]
      · rw [if_neg h2, if_neg h1, if_neg (by omega)]

theorem outV_eq (O : S16x2048.Idx → α) : outV P f O = resV P f := by
  funext y
  have h1 : (y 1).val < 2048 := (y 1).2
  unfold outV
  refine (chunksV_at P f later 0 (by decide) _ y).trans ?_
  have hl : later.length = 15 := rfl
  by_cases h : (y 1).val / 128 = 0
  · rw [if_neg (by omega), emitsV_at]; refine (if_pos (h.trans rfl)).trans ?_
    unfold resV
    rw [h]
    rfl
  · rw [if_pos (by omega)]

end Cert.WholeIdeal.Fps

end
-- ==== Proof.Whole.Sound.lean ====
/- The printed body is the program of Body.lean, and so: run on whole buffers, with the points held, it leaves the
   results at `resV` of the points. -/
module

public import proofs.«01_k».proof.WholeIdeal
public import proofs.«01_k».proof.Proof.Whole.Result
public import Idealize.ShloMosaic.Lib.Tactic

@[expose] public section

noncomputable section

namespace Cert.WholeIdeal.Fps

open Facts₀ Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.SparseCore.Cfg (HIx)

variable {F : FTy → Type} [FloatOps F] [Facts]

local notation "𝕄" => MT nD τ sig (HIx 1) (Elt F) ℕ UU ℕ

variable (arg0 : Memref sig .tc .vmem S3x16x4096 .f32) (h0 : arg0.IsWhole) (arg1 : Memref sig .tc .vmem S16x2048 .i32) (h1 : arg1.IsWhole)
  (arg2 : Memref sig .tc .vmem S16x2048 .f32) (h2 : arg2.IsWhole) (arg3 : Memref sig .tc .vmem S16x2048 .f32) (h3 : arg3.IsWhole)
  (arg4 : Memref sig .tc .vmem S16x2048 .f32) (h4 : arg4.IsWhole) (arg5 : Memref sig .tc .vmem S16x4096 .f32) (h5 : arg5.IsWhole)

/-- The parts are joined across the loops by associativity; the rest is unfolding. -/
theorem body_eq : cc0__fps_body (F := F) arg0 h0 arg1 h1 arg2 h2 arg3 h3 arg4 h4 arg5 h5 = fps arg0 arg1 arg2 arg3 arg4 arg5 k0_t1_ok k0_t2_ok := by
  simp only [cc0__fps_body, k0_part739, k0_part740, k0_part741, k0_part742, k0_part743, k0_part744, k0_part745, k0_part746, k0_part747, k0_part748, bind_assoc]
  sl_kernel_rfl

theorem body_walk {defs : Defs nD τ sig (Elt F) Λ₀} (c : Dev nD) (P : Pts F) (D : Dst F) (O1 : OutI F) (O2 O3 O4 : Out F) {Q : PUnit → sProp 𝕄} :
    iprop(held c P arg0 arg5 D ∗ outs c arg1 arg2 arg3 arg4 O1 O2 O3 O4)
      ⊢ iprop((held c P arg0 arg5 (chunksD P later (openV P)) -∗ outs c arg1 arg2 arg3 arg4 (resV P rI) (resV P rX) (resV P rY) (resV P rZ) -∗ Q ⟨⟩)
      -∗ wp frame (wpE defs Variants.none (c : Thread nD τ) Option.none) Set.univ (cc0__fps_body arg0 h0 arg1 h1 arg2 h2 arg3 h3 arg4 h4 arg5 h5) Q) := by
  rw [body_eq]
  have h := fps_walk (defs := defs) c P arg0 arg1 arg2 arg3 arg4 arg5 k0_t1_ok k0_t2_ok D O1 O2 O3 O4 (Q := Q)
  rw [outV_eq, outV_eq, outV_eq, outV_eq] at h
  exact h

end Cert.WholeIdeal.Fps

end
-- ==== Proof.Whole.Region.lean ====
/- The sampler's call inside the whole program: the pipeline's proof data over what the body leaves, as in the call by
   itself, with the handshakes the TensorCore still owes the tiles carried through it, and the call as a region: from the
   points in their array to the four results in theirs. -/
module

public import proofs.«01_k».proof.Proof.Whole.Sound
public import proofs.«01_k».proof.Proof.Gen.WholeIdeal.Launch
public import proofs.«01_k».proof.Proof.Gen.WholeIdeal.Points
public import Idealize.ShloMosaic.Lib.Pipeline.Frame
public import Idealize.ShloMosaic.Lib.Pipeline.FrameBody
public import Idealize.ShloMosaic.Lib.Pipeline.Value
public import Idealize.ShloMosaic.Lib.Pipeline.ValueKit.Geometry
public import Idealize.ShloMosaic.Lib.Pipeline.RegionArrays
public import Idealize.ShloMosaic.Lib.Claim

@[expose] public section

noncomputable section

namespace Cert.WholeIdeal.Fps

open Cert.WholeIdeal.Gen
open Idealize.ShloMosaic Idealize.ShloMosaic.TcCoe Idealize.ShloMosaic.Tactic

open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

abbrev ΛP : Labels := Pipeline.Sig Λ₀ (Fin 1) fun p => (pcfgs (F := F) p).Adm
abbrev K : SparseCore.Cfg τ sig (ΛP (F := F)) 1 := sc (F := F)

/-- The two operations before the call: the points by clouds, then by coordinate. -/
abbrev opP : HloOp τ sig (Elt F) := StableHlo.reshape main_arg0 main_v0 (rfl : (.f32 : EltTy) = .f32) shapeCasts_S65536x3_S16x4096x3
abbrev opT : HloOp τ sig (Elt F) := StableHlo.unary main_v0 main_v1
  ((transpose S3x16x4096 [2, 0, 1] · transposes_S16x4096x3_S3x16x4096_2_0_1) : (⟨S16x4096x3, .f32⟩ : BufTy).Contents (Elt F) → (⟨S3x16x4096, .f32⟩ : BufTy).Contents (Elt F))

/-- The core's arrays when the call begins. -/
abbrev atCall (c : Dev nD) (b : Ref sig .tc) : Buf (Elt F) ((c : Thread nD τ).loc b) :=
  (opT (F := F)).result ((opP (F := F)).result fun b => m (c, b)) (Proc.devRef .tc b)

/-- The waits recorded before the call stand no higher than the first handshake. -/
def early (c : Dev nD) : Set (SemLoc sig × HIx 1) :=
  {p | (K (F := F)).lev ((SparseCore.T c : Thread nD τ), p.1) p.2 ≤ 8 * SparseCore.Cfg.Blocks.fst (Q := 1) (N := 1) 0}

/-- The points as the body finds them. -/
def points (c : Dev nD) (t : Fin cfg0.N) : Pts F := ((cfg0.win 0).blk t).view.read (Elt F) (atCall m c (Pipeline.arrRef spec0 0))

/-- What the call keeps between the steps: the scratch buffer and the generator's register. -/
def keeps (c : Dev nD) : sProp 𝕄 := iprop(Pipeline.scopedRest (Val := Elt F) spec0 c ∗ ∃ r, prngReg c r)

/-- The proof data. -/
def dats (_ : Fin 1) (c : Dev nD) : Dat τ (Elt F) (HIx 1) ℕ UU ℕ cfg0 c where
  A w := atCall m c (Pipeline.arrRef spec0 w)
  after w t := match w with
    | ⟨0, _⟩ => points m c t
    | ⟨1, _⟩ => resV (points m c t) rI
    | ⟨2, _⟩ => resV (points m c t) rX
    | ⟨3, _⟩ => resV (points m c t) rY
    | ⟨4, _⟩ => resV (points m c t) rZ
  Φ _ := keeps c
  q _ := fullShare
  owed _ := (K (F := F)).Otc c 0
  recorded _ := early (F := F) c

theorem dats_A (c : Dev nD) (w : Fin cfg0.W) : (dats m 0 c).A w = atCall m c (Pipeline.arrRef spec0 w) := by
  dsimp only [dats]

theorem after_0 (c : Dev nD) (t : Fin cfg0.N) : (dats m 0 c).after 0 t = points m c t := by dsimp only [dats]
theorem after_1 (c : Dev nD) (t : Fin cfg0.N) : (dats m 0 c).after 1 t = resV (points m c t) rI := by dsimp only [dats]
theorem after_2 (c : Dev nD) (t : Fin cfg0.N) : (dats m 0 c).after 2 t = resV (points m c t) rX := by dsimp only [dats]
theorem after_3 (c : Dev nD) (t : Fin cfg0.N) : (dats m 0 c).after 3 t = resV (points m c t) rY := by dsimp only [dats]
theorem after_4 (c : Dev nD) (t : Fin cfg0.N) : (dats m 0 c).after 4 t = resV (points m c t) rZ := by dsimp only [dats]

/-- The points are in their buffer when the body starts. -/
theorem before_0 (c : Dev nD) (t : Fin cfg0.N) (d) : (dats m 0 c).before 0 t d = points m c t :=
  ((dats m 0 c).before_in_eq_fetched 0 rfl (fun _ => rfl) (fun _ _ _ => rfl)
    (fun t => by rw [after_0]; unfold Dat.blockOf points; rw [dats_A]; try rfl) t d).trans
    (by unfold Dat.fetched Dat.blockOf points; rw [dats_A]; try rfl)

/-- The distances' buffer. -/
abbrev scratch : Memref sig .tc .vmem S16x4096 .f32 := Memref.whole cc0_scratch0

theorem inv_eq (c : Dev nD) :
    (keeps c : sProp 𝕄) = iprop((∃ d, owns (c : Thread nD τ) scratch fullShare d) ∗ (∃ r, prngReg c r)) := by
  unfold keeps; rw [scopedRest0_eq]; simp only [scratch, owns_whole]; try rfl

/-- What the body is called with, and what it gives back. -/
def given (c : Dev nD) (t : Fin cfg0.N) : sProp 𝕄 :=
  iprop((dats m 0 c).Φ t.castSucc ∗ (dats m 0 c).owesAt none t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def yields (c : Dev nD) (t : Fin cfg0.N) : sProp 𝕄 :=
  iprop((dats m 0 c).Φ t.succ ∗ (dats m 0 c).owesAt none t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem body_sound (c : Dev nD) (t : Fin cfg0.N) :
    given m c t ⊢ wp frame (wpE (defs₀ (F := F)) Variants.none (c : Thread nD τ) Option.none) Set.univ (bodyAt0 t) (fun _ => yields m c t) := by
  unfold given yields bodyAt0
  simp only [before_0]
  rw [show (dats m 0 c).Φ t.succ = (dats m 0 c).Φ t.castSucc from rfl,
    show (dats m 0 c).owesAt none t.succ = (dats m 0 c).owesAt none t.castSucc from rfl,
    after_0, after_1, after_2, after_3, after_4]
  rw [show (dats m 0 c).Φ t.castSucc = keeps c from rfl, inv_eq]
  iintro ⟨⟨⟨%ds, HS⟩, Hg⟩, Ho, ⟨%d0, H0⟩, ⟨%d1, H1⟩, ⟨%d2, H2⟩, ⟨%d3, H3⟩, ⟨%d4, H4⟩⟩
  iapply (body_walk _ _ _ _ _ _ _ _ _ _ _ _ c (points m c t) ds _ _ _ _) $$ [H0 H1 H2 H3 H4 HS]
  · unfold held outs
    isplitl [H0 HS]
    · isplitl [H0]; · iexact H0
      iexact HS
    isplitl [H1]; · iexact H1
    isplitl [H2]; · iexact H2
    isplitl [H3]; · iexact H3
    iexact H4
  unfold held outs
  iintro ⟨H0, HS⟩ ⟨H1, H2, H3, H4⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]; · iexact H3
  iexact H4

theorem row_eq (t : Fin cfg0.N) : defs₀ (F := F) .tc cfg0.body (cfg0.bodyArgs t (cfg0.slots t)) = bodyAt0 t := rfl

theorem obligation (c : Dev nD) : BodyObligation (dats (F := F) m 0 c) (defs₀ (F := F)) Variants.none none Set.univ := fun t => by
  rw [bigSep_W0, bigSep_W0, row_eq]
  exact triple_restated (body_sound m c t) rfl .rfl fun _ => .rfl

/-- The points by coordinate, cloud and number in the cloud. -/
def byAxis (c : Dev nD) : Pts F :=
  transpose S3x16x4096 [2, 0, 1] (shapeCast S16x4096x3 (m ((c.tc : Thread nD τ).loc main_arg0) : Vec F S65536x3 .f32) shapeCasts_S65536x3_S16x4096x3) transposes_S16x4096x3_S3x16x4096_2_0_1

theorem points_eq (c : Dev nD) (t : Fin cfg0.N) : points m c t = byAxis m c := by
  funext x
  unfold points byAxis
  rw [View.read_apply]
  show atCall m c main_v1 _ = _
  have h : atCall m c main_v1 = byAxis m c := by
    have e0 : (opP (F := F)).result (fun b => m (c, b)) (Proc.devRef .tc main_v0)
        = fun i => shapeCast S16x4096x3 (m ((c.tc : Thread nD τ).loc main_arg0) : Vec F S65536x3 .f32) shapeCasts_S65536x3_S16x4096x3 i :=
      StableHlo.reshape_result _ _ _ _ _ _ _
    have e1 : (opT (F := F)).result ((opP (F := F)).result fun b => m (c, b)) (Proc.devRef .tc main_v1)
        = transpose S3x16x4096 [2, 0, 1] ((opP (F := F)).result (fun b => m (c, b)) (Proc.devRef .tc main_v0)) transposes_S16x4096x3_S3x16x4096_2_0_1 :=
      StableHlo.unary_result _ _ _ _ _ _
    rw [e0] at e1
    exact e1
  rw [h]
  refine congrArg (byAxis m c) (funext fun a => Fin.ext ?_)
  show 0 * _ + 1 * (x a).val = (x a).val
  omega

/-- The results' arrays at the end: the one block is the array. -/
theorem ends (c : Dev nD) : (dats m 0 c).arrAt 1 cfg0.N = resV (byAxis m c) rI ∧ (dats m 0 c).arrAt 2 cfg0.N = resV (byAxis m c) rX
    ∧ (dats m 0 c).arrAt 3 cfg0.N = resV (byAxis m c) rY ∧ (dats m 0 c).arrAt 4 cfg0.N = resV (byAxis m c) rZ := by
  have hz : ∀ n k : ℕ, n = 0 * k + 1 * n := by intros; omega
  refine ⟨(dats m 0 c).arrAt_eq_of_cover 1 (resV (byAxis m c) rI) (fun t _ => ?_) (fun i => ⟨t0_0, flush0_1 _, ?_⟩),
    (dats m 0 c).arrAt_eq_of_cover 2 (resV (byAxis m c) rX) (fun t _ => ?_) (fun i => ⟨t0_0, flush0_2 _, ?_⟩),
    (dats m 0 c).arrAt_eq_of_cover 3 (resV (byAxis m c) rY) (fun t _ => ?_) (fun i => ⟨t0_0, flush0_3 _, ?_⟩),
    (dats m 0 c).arrAt_eq_of_cover 4 (resV (byAxis m c) rZ) (fun t _ => ?_) (fun i => ⟨t0_0, flush0_4 _, ?_⟩)⟩
  all_goals first
    | (rename_i i; exact (congrArg (· ∈ _) (funext fun a => Fin.ext (hz (i a).val _).symm)).mp (View.emb_mem_set _ i))
    | (rename_i t _
       rw [← points_eq m c t]
       funext x
       rw [Pipeline.Dat.flushed_apply, View.read_apply]
       first | rw [after_1] | rw [after_2] | rw [after_3] | rw [after_4]
       exact congrArg (resV (points m c t) _) (funext fun a => Fin.ext (hz (x a).val _)))

/-! ## The region -/

abbrev pLoc (c : Dev nD) : Loc nD τ sig := (SparseCore.T c).loc main_v1
abbrev rILoc (c : Dev nD) : Loc nD τ sig := (SparseCore.T c).loc main_v2_0
abbrev rXLoc (c : Dev nD) : Loc nD τ sig := (SparseCore.T c).loc main_v2_1
abbrev rYLoc (c : Dev nD) : Loc nD τ sig := (SparseCore.T c).loc main_v2_2
abbrev rZLoc (c : Dev nD) : Loc nD τ sig := (SparseCore.T c).loc main_v2_3

/-- What the TensorCore owes the tiles, its waits so far early. -/
def debt (c : Dev nD) : sProp 𝕄 :=
  iprop(∃ W, ⌜(K (F := F)).WBelow (SparseCore.T c) W (8 * SparseCore.Cfg.Blocks.fst (Q := 1) (N := 1) 0)⌝ ∗ owes (SparseCore.T c) ((K (F := F)).Otc c 0) W)

/-- The five arrays at these contents. -/
def five (c : Dev nD) (f0 : Buf (Elt F) (pLoc c)) (f1 : Buf (Elt F) (rILoc c)) (f2 : Buf (Elt F) (rXLoc c)) (f3 : Buf (Elt F) (rYLoc c)) (f4 : Buf (Elt F) (rZLoc c)) : sProp 𝕄 :=
  iprop((pLoc c ↦{fullShare} f0) ∗ (rILoc c ↦{fullShare} f1) ∗ (rXLoc c ↦{fullShare} f2) ∗ (rYLoc c ↦{fullShare} f3) ∗ rZLoc c ↦{fullShare} f4)

theorem arrays_five (c : Dev nD) (G : (w : Fin cfg0.W) → Buf (Elt F) ((cfg0.win w).arr.view.loc (c : Thread nD τ))) :
    ((dats m 0 c).arrays G : sProp 𝕄) = five c (G 0) (G 1) (G 2) (G 3) (G 4) := by
  rw [Pipeline.arrays_eq cfgs (dats m) 0 c launch0.arr_whole ((dats m 0 c).share_full fun _ => rfl) G, bigSep_W0]
  rfl

/-- The results' arrays before the call. -/
abbrev begun (c : Dev nD) : sProp 𝕄 :=
  five c (atCall m c main_v1) (atCall m c main_v2_0) (atCall m c main_v2_1) (atCall m c main_v2_2) (atCall m c main_v2_3)
/-- And after it. -/
abbrev ended (c : Dev nD) : sProp 𝕄 :=
  five c ((dats m 0 c).arrAt 0 cfg0.N) (resV (byAxis m c) rI) (resV (byAxis m c) rX) (resV (byAxis m c) rY) (resV (byAxis m c) rZ)

def region : Pipeline.RegionSeg (pcfgs (F := F)) (fun q => (cfgs q).toPCfg_adm) (dats m) none (defs₀ (F := F)) Variants.none
    ((K (F := F)).L (N := 1)) ((K (F := F)).lev (N := 1)) (0 : Fin 1) where
  win := (launch0.toP (Val := Elt F)).to₀.win
  block_pos := (launch0.toP (Val := Elt F)).to₀.block_pos
  stage_whole := (launch0.toP (Val := Elt F)).to₀.stage_whole
  K := PEmpty
  osem k := k.elim
  ho := Pipeline.OwnSemFacts.none _
  hbody c := (obligation m c).loose
  hwaits c := Pipeline.cellsWaits_of_cut cfgs (dats m) none 0 c (8 * SparseCore.Cfg.Blocks.fst (Q := 1) (N := 1) 0) ((K (F := F)).Otc c 0) (fun _ => rfl)
    (fun _ _ => Finset.mem_univ _) (fun _ _ => Nat.zero_le _)
    (fun g i hg => ⟨Finset.mem_univ _, SparseCore.Cfg.lev_of_Otc_pos hg⟩)
  pre c := iprop(begun m c ∗ (∃ r, prngReg c r) ∗ debt c)
  post c := iprop(ended m c ∗ (∃ r, prngReg c r) ∗ debt c)
  X c := iprop(∃ r, prngReg c r)
  Y c := iprop(∃ r, prngReg c r)
  Z _ := iprop(emp)
  hentry c := by
    rw [Pipeline.ownSems0_none, Pipeline.prefHeld_of_none _ rfl]
    rw [show (dats m 0 c).arrays ((dats m 0 c).arrAt · 0) = begun m c from arrays_five m c _]
    unfold debt
    iintro ⟨⟨Ha, HX, %W, %hW, HO⟩, -, -⟩
    imodintro
    isplitl [Ha]; · iexact Ha
    isplitr; · iempintro
    isplitl [HO]
    · iexists W
      isplitr; · ipureintro; exact fun p hp => Or.inl (hW p hp)
      iexact HO
    isplitl [HX]; · iexact HX
    iempintro
  hin c := by
    rw [Pipeline.prefHeld_of_none _ rfl]
    show _ ⊢ keeps c
    unfold keeps
    iintro ⟨HX, -, Hr⟩
    isplitl [Hr]; · iexact Hr
    iexact HX
  hout c := by
    rw [Pipeline.ownSems0_none]
    show keeps c ⊢ _
    unfold keeps
    iintro ⟨Hr, HX⟩
    isplitl [HX]; · iexact HX
    isplitr; · iempintro
    iexact Hr
  hexit c := by
    rw [show (dats m 0 c).arrays ((dats m 0 c).arrAt · cfg0.N) = ended m c from
      (arrays_five m c _).trans (by rw [(ends m c).1, (ends m c).2.1, (ends m c).2.2.1, (ends m c).2.2.2])]
    unfold debt
    iintro ⟨Ha, ⟨%W, %hW, HO⟩, HY, -⟩
    imodintro
    isplitl [Ha]; · iexact Ha
    isplitl [HY]; · iexact HY
    iexists W
    isplitr
    · ipureintro
      rintro p hp
      rcases hW hp with h | ⟨w, s, rfl⟩
      · exact h
      · exact Nat.zero_le _
    iexact HO

end Cert.WholeIdeal.Fps

end
-- ==== Proof.Whole.Launch.lean ====
/- The launch of the whole program: the sampler's call as a region of the TensorCore's program, the row numbers it
   leaves laid in one line, the gather's call on the two SparseCores, and the operations on the results after it. The
   gather's operands are split over the cores and their sixteen tiles as in the call by itself: read shares of the table
   and of the row numbers, blocks of the output. `run_main` says what the program leaves when every row number the
   sampler leaves names a row of the table. -/
module

public import proofs.«01_k».proof.Proof.Whole.Tile
public import proofs.«01_k».proof.Proof.Whole.Region

@[expose] public section

noncomputable section

namespace Cert.Whole.Rows.Launch

open Cert.WholeIdeal Cert.WholeIdeal.Gen
open Cert.WholeIdeal.Fps (UH UU ΛP K resV rI rX rY rZ byAxis opP opT atCall dats region begun ended five pLoc rILoc rXLoc rYLoc rZLoc)
open Cert.Whole.Rows.Words Cert.Whole.Rows.Views Cert.Whole.Rows.Steps Cert.Whole.Rows.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split wp_hlo_within)

variable {F : FTy → Type}

local notation "𝕄" => MT nD τ sig (HIx 1) (Elt F) ℕ UU ℕ

/-! ## The program as the launch theorem sees it -/

theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL
/-- The staging transfers' rounds in the ghost state. -/
abbrev EP : Emb (UR sig nD τ) (MT nD τ sig (HIx 1) (Elt F) ℕ UU ℕ) := (Emb.inl : Emb (UR sig nD τ) (UR sig nD τ × Counters)).trans embR
/-- The sampler's pipeline, as the region's rule takes it. -/
abbrev one (F : FTy → Type) [FloatOps F] : (p : Fin 1) → (pcfgs (F := F) p).Adm := fun q => (cfgs q).toPCfg_adm

/-! ## The launch memory, the shares, the output's parts -/

variable [FloatOps F] (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg2
abbrev b1Loc (d : Dev nD) : Loc nD τ sig := (SparseCore.T d).loc main_v10
abbrev b2Loc (d : Dev nD) : Loc nD τ sig := (SparseCore.T d).loc main_v11
abbrev nLoc (d : Dev nD) : Loc nD τ sig := (SparseCore.T d).loc main_v12
abbrev a0Loc (d : Dev nD) : Loc nD τ sig := (SparseCore.T d).loc main_v0
abbrev x1Loc (d : Dev nD) : Loc nD τ sig := (SparseCore.T d).loc main_v5
abbrev y1Loc (d : Dev nD) : Loc nD τ sig := (SparseCore.T d).loc main_v6
abbrev z1Loc (d : Dev nD) : Loc nD τ sig := (SparseCore.T d).loc main_v7
abbrev c1Loc (d : Dev nD) : Loc nD τ sig := (SparseCore.T d).loc main_v8
abbrev cLoc (d : Dev nD) : Loc nD τ sig := (SparseCore.T d).loc main_v9

/-- The table, the row numbers as the call takes them, the output at launch. -/
abbrev Xv (d : Dev nD) : S65536x128.Idx → Elt F .f32 := m (xLoc d)
def Gv (d : Dev nD) : S1x32768.Idx → Elt F .i32 := fun j => shapeCast S1x32768 (resV (byAxis m d) rI) shapeCasts_S16x2048_S1x32768 j
/-- The output that the call leaves. -/
def Ov (d : Dev nD) : S32768x128.Idx → Elt F .f32 := rowsOf (Xv m d) (Gv m d)
/-- The batch numbers that @main leaves: those of each cloud's first 2048 points. -/
def Nv (d : Dev nD) : S32768.Idx → Elt F .i32 := fun j =>
  shapeCast S32768 (extractStridedSlice S16x2048 ![0, 0] (fun i => shapeCast S16x4096 (m (bLoc d)) shapeCasts_S65536_S16x4096 i)
    slices_S16x4096_S16x2048_0_0) shapeCasts_S16x2048_S32768 j

/-- The positions that @main leaves: the three coordinates side by side. -/
def Cv (d : Dev nD) : S32768x3.Idx → Elt F .f32 := fun j =>
  shapeCast S32768x3 (concatenate S16x2048x3 2
    [⟨S16x2048x1, broadcastInDim S16x2048x1 ![0, 1] bcast_S16x2048_S16x2048x1_0_1 (resV (byAxis m d) rX)⟩,
     ⟨S16x2048x1, broadcastInDim S16x2048x1 ![0, 1] bcast_S16x2048_S16x2048x1_0_1 (resV (byAxis m d) rY)⟩,
     ⟨S16x2048x1, broadcastInDim S16x2048x1 ![0, 1] bcast_S16x2048_S16x2048x1_0_1 (resV (byAxis m d) rZ)⟩]
    concatenates_S16x2048x1_S16x2048x1_S16x2048x1_S16x2048x3_d2) shapeCasts_S16x2048x3_S32768x3 j

def qCore (c : Fin 2) : PosShare TreeShare := pieceOf fullShare 2 (by decide) c
def qTile (c : Fin 2) (i : Fin 16) : PosShare TreeShare := pieceOf (qCore c) 16 (by decide) i

def oCore (c : Fin 2) : Finset S32768x128.Idx := oRange (128 * c.val) (128 * c.val + 128)
def oTile (c : Fin 2) (i : Fin 16) : Finset S32768x128.Idx := oRange (128 * c.val + 8 * i.val) (128 * c.val + 8 * i.val + 8)

theorem oCore_disjoint : ∀ c ∈ (Finset.univ : Finset (Fin 2)), ∀ c' ∈ (Finset.univ : Finset (Fin 2)), c ≠ c' → Disjoint (oCore c) (oCore c') := by
  intro c _ c' _ h
  rw [Finset.disjoint_left]
  intro j h1 h2
  simp only [oCore, oRange, Finset.mem_filter, Finset.mem_univ, true_and] at h1 h2
  exact h (Fin.ext (by omega))
theorem oCore_cover : (Finset.univ : Finset (Fin 2)).biUnion oCore = Finset.univ := by
  ext j
  have hj : (j 0).val < 32768 := (j 0).isLt
  simp only [Finset.mem_biUnion, Finset.mem_univ, true_and, iff_true, oCore, oRange, Finset.mem_filter]
  exact ⟨⟨(j 0).val / 16384, by omega⟩, by show 128 * ((j 0).val / 16384) ≤ _ ∧ _ < 128 * ((j 0).val / 16384) + 128; omega⟩
theorem oTile_disjoint (c : Fin 2) : ∀ i ∈ (Finset.univ : Finset (Fin 16)), ∀ i' ∈ (Finset.univ : Finset (Fin 16)), i ≠ i' → Disjoint (oTile c i) (oTile c i') := by
  intro i _ i' _ h
  rw [Finset.disjoint_left]
  intro j h1 h2
  simp only [oTile, oRange, Finset.mem_filter, Finset.mem_univ, true_and] at h1 h2
  exact h (Fin.ext (by omega))
theorem oTile_cover (c : Fin 2) : (Finset.univ : Finset (Fin 16)).biUnion (oTile c) = oCore c := by
  ext j
  simp only [Finset.mem_biUnion, Finset.mem_univ, true_and, oTile, oCore, oRange, Finset.mem_filter]
  constructor
  · rintro ⟨i, h⟩
    have := i.isLt
    omega
  · intro h
    exact ⟨⟨((j 0).val / 128 - 128 * c.val) / 8, by omega⟩, by
      show 128 * c.val + 8 * (((j 0).val / 128 - 128 * c.val) / 8) ≤ _ ∧ _ < 128 * c.val + 8 * (((j 0).val / 128 - 128 * c.val) / 8) + 8
      omega⟩

/-! ## What the handshakes carry -/

/-- What a core is handed and brings back. -/
abbrev corePts (d : Dev nD) (c : Fin 2) (f : S32768x128.Idx → Elt F .f32) : sProp 𝕄 :=
  iprop((xLoc d ↦{qCore c} Xv m d) ∗ (gLoc d ↦{qCore c} Gv m d) ∗ oLoc d ↦[oCore c]{fullShare} f)
/-- What a tile is handed and brings back. -/
abbrev tilePts (d : Dev nD) (c : Fin 2) (i : Fin 16) (f : S32768x128.Idx → Elt F .f32) : sProp 𝕄 :=
  iprop((xLoc d ↦{qTile c i} Xv m d) ∗ (gLoc d ↦{qTile c i} Gv m d) ∗ oLoc d ↦[oTile c i]{fullShare} f)

/-- A core's part is its tiles' parts. -/
theorem core_tiles (d : Dev nD) (c : Fin 2) (f : S32768x128.Idx → Elt F .f32) :
    (corePts m d c f : sProp 𝕄) = bigSep Finset.univ fun i : Fin 16 => tilePts m d c i f := by
  rw [bigSep_sep', bigSep_sep']
  unfold corePts
  rw [pointsTo_piecesOf (Val := Elt F) (ℓ := xLoc d) Finset.univ (Xv m d) (by decide : 0 < 16) (qCore c),
    pointsTo_piecesOf (Val := Elt F) (ℓ := gLoc d) Finset.univ (Gv m d) (by decide : 0 < 16) (qCore c),
    ← oTile_cover c, pointsTo_biUnion (ℓ := oLoc d) Finset.univ (oTile c) (oTile_disjoint c)]
  rfl

/-- The whole operands are the cores' parts. -/
theorem whole_cores (d : Dev nD) (f : S32768x128.Idx → Elt F .f32) :
    (iprop((xLoc d ↦{fullShare} Xv m d) ∗ (gLoc d ↦{fullShare} Gv m d) ∗ oLoc d ↦{fullShare} f) : sProp 𝕄)
      = bigSep Finset.univ fun c : Fin 2 => corePts m d c f := by
  rw [bigSep_sep', bigSep_sep',
    pointsTo_piecesOf (Val := Elt F) (ℓ := xLoc d) Finset.univ (Xv m d) (by decide : 0 < 2) fullShare,
    pointsTo_piecesOf (Val := Elt F) (ℓ := gLoc d) Finset.univ (Gv m d) (by decide : 0 < 2) fullShare,
    ← pointsTo_biUnion (ℓ := oLoc d) Finset.univ oCore oCore_disjoint, oCore_cover]
  rfl

/-- The call: each core its part, each tile its part; the output comes back at the table's rows. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (Ov m d)
  go := fun q d c i => match q with | 0 => tilePts m d (Fin.cast nCore_zero c) (Fin.cast nSub_zero i) (m (oLoc d))
  td := fun q d c i => match q with | 0 => tilePts m d (Fin.cast nCore_zero c) (Fin.cast nSub_zero i) (Ov m d)
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (Ov m d)))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (Ov m d)))

/-- What the proof asks of the launch memory: every row number that the sampler leaves names a row of the table. -/
def PreOK : Prop := ∀ (d : Dev nD) (j : S16x2048.Idx), BitVec.toNat (w := 32) (resV (byAxis m d) rI j) < 65536

theorem Gv_lt (hpre : PreOK m) (d : Dev nD) (j : S1x32768.Idx) : BitVec.toNat (w := 32) (Gv m d j) < 65536 := hpre d _

/-! ## The task -/

section Tile

variable (d : Dev nD) (L : grid1.Coords)

theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

theorem oTile_base : oTile (cL L) (jL L) = oRange (base L) (base L + 8) := by
  have h : 128 * (cL L).val + 8 * (jL L).val = base L := by
    show 128 * (L 0).val + 8 * (L 1).val = ((L 1).val + 16 * (L 0).val) * 8
    omega
  unfold oTile
  rw [h]

abbrev cell (s : DmaSem sig) : GSem nD τ sig := (thr d L, SemLoc.dma s)

theorem mem_cells (s : DmaSem sig) (h : (SemLoc.dma s : SemLoc sig).isScoped .scVector = true) : cell d L s ∈ ownCells (thr d L) :=
  (mem_ownCells (g := cell d L s)).mpr ⟨rfl, h⟩
theorem cell_ne {s s' : DmaSem sig} (h : s ≠ s') : cell d L s ≠ cell d L s' := fun e => h (SemLoc.dma.inj (congrArg Prod.snd e))

/-- The tile's other semaphores. -/
def restCells : Finset (GSem nD τ sig) :=
  (((((ownCells (thr d L)).erase (cell d L (iS 0))).erase (cell d L (iS 1))).erase (cell d L (rS 0))).erase (cell d L (rS 1))).erase (cell d L gS)

theorem ownSems0_V :
    (ownSems0 (thr d L) : sProp 𝕄)
      = iprop(semVal (cell d L (iS 0)) 0 ∗ semVal (cell d L (iS 1)) 0 ∗ semVal (cell d L (rS 0)) 0 ∗ semVal (cell d L (rS 1)) 0 ∗ semVal (cell d L gS) 0
          ∗ bigSep (restCells d L) fun g => semVal g 0) := by
  have n01 : iS 1 ≠ iS 0 := by decide
  have n20 : rS 0 ≠ iS 0 := by decide
  have n21 : rS 0 ≠ iS 1 := by decide
  have n30 : rS 1 ≠ iS 0 := by decide
  have n31 : rS 1 ≠ iS 1 := by decide
  have n32 : rS 1 ≠ rS 0 := by decide
  have n40 : gS ≠ iS 0 := by decide
  have n41 : gS ≠ iS 1 := by decide
  have n42 : gS ≠ rS 0 := by decide
  have n43 : gS ≠ rS 1 := by decide
  unfold SparseCore.Cfg.ownSems0 restCells
  rw [SparseCore.bigSep_erase' (mem_cells d L (iS 0) (by decide)),
    SparseCore.bigSep_erase' (Finset.mem_erase.mpr ⟨cell_ne d L n01, mem_cells d L (iS 1) (by decide)⟩),
    SparseCore.bigSep_erase' (Finset.mem_erase.mpr ⟨cell_ne d L n21, Finset.mem_erase.mpr ⟨cell_ne d L n20, mem_cells d L (rS 0) (by decide)⟩⟩),
    SparseCore.bigSep_erase' (Finset.mem_erase.mpr ⟨cell_ne d L n32, Finset.mem_erase.mpr ⟨cell_ne d L n31, Finset.mem_erase.mpr ⟨cell_ne d L n30,
      mem_cells d L (rS 1) (by decide)⟩⟩⟩),
    SparseCore.bigSep_erase' (Finset.mem_erase.mpr ⟨cell_ne d L n43, Finset.mem_erase.mpr ⟨cell_ne d L n42, Finset.mem_erase.mpr ⟨cell_ne d L n41,
      Finset.mem_erase.mpr ⟨cell_ne d L n40, mem_cells d L gS (by decide)⟩⟩⟩⟩)]

/-- The tile's other buffers. -/
def restRefs : Finset (DevRef τ sig) :=
  ((ownRefs (τ := τ) (.scVector (cV L) (jV L))).erase ((Proc.scVector (cV L) (jV L)).devRef cc1_scoped0)).erase
    ((Proc.scVector (cV L) (jV L)).devRef cc1_scoped2)

theorem ownBufs_V :
    (ownBufs (thr d L) : sProp 𝕄)
      = iprop((∃ f, iLoc d L ↦{fullShare} f) ∗ (∃ f, rLoc d L ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

theorem iSet_disjoint : Disjoint (iSet 0) (iSet 1) := by
  rw [Finset.disjoint_left]
  intro j h1 h2
  simp only [iSet, Finset.mem_filter, Finset.mem_univ, true_and] at h1 h2
  rw [h1] at h2
  exact absurd h2 (by decide)
theorem iSet_cover : iSet 0 ∪ iSet 1 = Finset.univ := by
  ext j
  have hj : (j 0).val < 2 := (j 0).isLt
  simp only [iSet, Finset.mem_union, Finset.mem_filter, Finset.mem_univ, true_and, iff_true]
  show (j 0).val = 0 ∨ (j 0).val = 1
  omega
theorem rSet_disjoint : Disjoint (rSet 0) (rSet 1) := by
  rw [Finset.disjoint_left]
  intro j h1 h2
  simp only [rSet, Finset.mem_filter, Finset.mem_univ, true_and] at h1 h2
  rw [h1] at h2
  exact absurd h2 (by decide)
theorem rSet_cover : rSet 0 ∪ rSet 1 = Finset.univ := by
  ext j
  have hj : (j 0).val < 2 := (j 0).isLt
  simp only [rSet, Finset.mem_union, Finset.mem_filter, Finset.mem_univ, true_and, iff_true]
  show (j 0).val = 0 ∨ (j 0).val = 1
  omega

theorem i_split (f : S2x1x128.Idx → Elt F .i32) :
    (iLoc d L ↦{fullShare} f : sProp 𝕄) ⊢ iprop((iLoc d L ↦[iSet 0]{fullShare} f) ∗ iLoc d L ↦[iSet 1]{fullShare} f) := by
  rw [← iSet_cover]
  exact (pointsTo_union (ℓ := iLoc d L) iSet_disjoint).1
theorem i_join (f g : S2x1x128.Idx → Elt F .i32) :
    iprop((iLoc d L ↦[iSet 0]{fullShare} f) ∗ iLoc d L ↦[iSet 1]{fullShare} g) ⊢ (iprop(∃ h, iLoc d L ↦{fullShare} h) : sProp 𝕄) := by
  have h := pointsTo_join (Val := Elt F) (ℓ := iLoc d L) (q := fullShare) (f := f) (g := g) iSet_disjoint (Ix := HIx 1) (Name := ℕ) (U := UU) (Lvl := ℕ)
  rw [iSet_cover] at h
  refine h.trans ?_
  iintro H
  iexists _
  iexact H
theorem r_split (f : S2x128x128.Idx → Elt F .f32) :
    (rLoc d L ↦{fullShare} f : sProp 𝕄) ⊢ iprop((rLoc d L ↦[rSet 0]{fullShare} f) ∗ rLoc d L ↦[rSet 1]{fullShare} f) := by
  rw [← rSet_cover]
  exact (pointsTo_union (ℓ := rLoc d L) rSet_disjoint).1
theorem r_join (f g : S2x128x128.Idx → Elt F .f32) :
    iprop((rLoc d L ↦[rSet 0]{fullShare} f) ∗ rLoc d L ↦[rSet 1]{fullShare} g) ⊢ (iprop(∃ h, rLoc d L ↦{fullShare} h) : sProp 𝕄) := by
  have h := pointsTo_join (Val := Elt F) (ℓ := rLoc d L) (q := fullShare) (f := f) (g := g) rSet_disjoint (Ix := HIx 1) (Name := ℕ) (U := UU) (Lvl := ℕ)
  rw [rSet_cover] at h
  refine h.trans ?_
  iintro H
  iexists _
  iexact H

/-- The tile's two shares of the row numbers, one per slot. -/
def qi (q : PosShare TreeShare) (b : Fin 2) : PosShare TreeShare := if b = 0 then q.left else q.right

/-- The task on tile `(L 0, L 1)`: from its part to its part, the output at the table's rows. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tilePts m d (cL L) (jL L) (m (oLoc d))
        ∗ scopedBufs (thr d L) ∗ scopedSems0 (thr d L) ∗ owes (thr d L) O W)
      ⊢ wp frame (wpE (defs₀ (F := F)) 𝒱₀ (thr d L) none) Set.univ
          (cc1_kern (F := F) L xM (Memref.isWhole_whole _) gM (Memref.isWhole_whole _) oM (Memref.isWhole_whole _)
            iM (Memref.isWhole_whole _) cc1_scoped1 rM (Memref.isWhole_whole _) cc1_scoped3 cc1_scoped4)
          fun _ => iprop(tilePts m d (cL L) (jL L) (Ov m d)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold tilePts
  rw [oTile_base]
  iintro ⟨#Hlv, -, ⟨Hx, Hi, Ho⟩, ⟨⟨%fs, Hs⟩, ⟨%fr, Hr⟩, Hbufs⟩, ⟨Hs0, Hs1, Hr0, Hr1, Hg, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (pointsTo_share (PosShare.mem_left_op_right (qTile (cL L) (jL L)))).1 $$ Hi
  icases Hi' with ⟨Hil, Hir⟩
  ihave Hs' := (i_split (F := F) d L fs) $$ Hs
  icases Hs' with ⟨Hb0, Hb1⟩
  ihave Hr' := (r_split (F := F) d L fr) $$ Hr
  icases Hr' with ⟨Hc0, Hc1⟩
  iapply (tile_run d L (Xv m d) (Gv m d) (m (oLoc d)) (qTile (cL L) (jL L)) (qi (qTile (cL L) (jL L))) O W (Gv_lt m hpre d)) $$ [Hmw Hx Hg HO Hil Hir Hb0 Hb1 Hc0 Hc1 Hs0 Hs1 Hr0 Hr1 Ho]
  · isplitl [Hmw]; · iexact Hmw
    isplitl [Hx]; · iexact Hx
    isplitl [Hg]; · iexact Hg
    isplitl [HO]
    · unfold OW
      iexists W
      isplitl []
      · ipureintro; exact fun p hp => .inl hp
      iexact HO
    isplitl [Hb0 Hs0 Hil]
    · unfold FreeIn
      isplitl [Hb0]; · iexists fs; iexact Hb0
      isplitl [Hs0]; · iexact Hs0
      iexact Hil
    isplitl [Hb1 Hs1 Hir]
    · unfold FreeIn
      isplitl [Hb1]; · iexists fs; iexact Hb1
      isplitl [Hs1]; · iexact Hs1
      iexact Hir
    isplitl [Hc0 Hr0]
    · unfold FreeRow
      isplitl [Hc0]; · iexists fr; iexact Hc0
      iexact Hr0
    isplitl [Hc1 Hr1]
    · unfold FreeRow
      isplitl [Hc1]; · iexists fr; iexact Hc1
      iexact Hr1
    iexact Ho
  unfold FreeIn FreeRow OW
  iintro ⟨Hx, Hg, HO, ⟨⟨%f0, Hb0⟩, Hs0, Hil⟩, ⟨⟨%f1, Hb1⟩, Hs1, Hir⟩, ⟨⟨%g0, Hc0⟩, Hr0⟩, ⟨⟨%g1, Hc1⟩, Hr1⟩, Ho⟩
  isplitl [Hx Hil Hir Ho]
  · isplitl [Hx]; · iexact Hx
    isplitl [Hil Hir]
    · iapply (pointsTo_share (PosShare.mem_left_op_right (qTile (cL L) (jL L)))).2
      isplitl [Hil]; · iexact Hil
      iexact Hir
    iexact Ho
  isplitl [Hb0 Hb1 Hc0 Hc1 Hbufs]
  · isplitl [Hb0 Hb1]
    · iapply (i_join (F := F) d L f0 f1)
      isplitl [Hb0]; · iexact Hb0
      iexact Hb1
    isplitl [Hc0 Hc1]
    · iapply (r_join (F := F) d L g0 g1)
      isplitl [Hc0]; · iexact Hc0
      iexact Hc1
    iexact Hbufs
  isplitl [Hs0 Hs1 Hr0 Hr1 Hg Hsems]
  · isplitl [Hs0]; · iexact Hs0
    isplitl [Hs1]; · iexact Hs1
    isplitl [Hr0]; · iexact Hr0
    isplitl [Hr1]; · iexact Hr1
    isplitl [Hg]; · iexact Hg
    iexact Hsems
  iexact HO

/-! ### The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_kern (F := F) (coordsV c s) xM (Memref.isWhole_whole _) gM (Memref.isWhole_whole _)
          oM (Memref.isWhole_whole _) iM (Memref.isWhole_whole _) cc1_scoped1 rM (Memref.isWhole_whole _) cc1_scoped3 cc1_scoped4) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task does what its part says. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

/-! ## A core's part split over its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show iprop(corePts m d (Fin.cast nCore_zero c) (m (oLoc d))) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (Ov m d))
          -∗ corePts m d (Fin.cast nCore_zero c) (Ov m d)))
  rw [bigSep_tasks (F := F) (fun i => tilePts m d (Fin.cast nCore_zero c) i (m (oLoc d))),
    bigSep_tasks (F := F) (fun i => tilePts m d (Fin.cast nCore_zero c) i (Ov m d)), ← core_tiles, ← core_tiles]
  iintro H; imodintro
  isplitl [H]; · iexact H
  iintro H
  iexact H

/-! ## The launch element of the certificate's ghost state -/

def u₀ : UU := (initOf (K (F := F)).hsCells (K (F := F)).hsToks, (initOf (Pipeline.cells cfgs cellOf_inj) (Pipeline.launchToks cfgs cellOf_inj), 1))

/-- What @main has of it: the staging transfers' cells and tokens. -/
abbrev G (d : Dev nD) : sProp 𝕄 := iprop(Pipeline.cellsGhost cfgs EP 0 d ∗ Pipeline.toksInit cfgs EP 0 d)

theorem bigSep_nothing {I : Type} (s : Finset I) : (bigSep s fun _ => iprop(emp)) = (iprop(emp) : sProp 𝕄) := bigSep_emp_const s

theorem bigSep_one (Φ : Fin 1 → Dev nD → sProp 𝕄) :
    (bigSep Finset.univ fun c : Dev nD => bigSep Finset.univ fun p => Φ p c) = bigSep Finset.univ fun c : Dev nD => Φ 0 c :=
  bigSep_congr fun _ _ => bigSep_univ_of_subsingleton (0 : Fin 1)

/-- Every core's cells and tokens, from the launch element. -/
theorem staging_ghost : (BI.own ((EP (F := F)) (initOf (Pipeline.cells cfgs cellOf_inj) (Pipeline.launchToks cfgs cellOf_inj))) : sProp 𝕄)
    ⊢ |==> bigSep Finset.univ fun d : Dev nD => G d := by
  refine (Pipeline.fund_ghost cfgs (EP (F := F)) cellOf_inj).trans (bupd_mono ?_)
  rw [bigSep_one, bigSep_one]
  exact Entails.of_eq (bigSep_sep' ..).symm

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun t : Thread nD τ => bigSep Finset.univ fun q : Fin 1 => (P m).x q t) := by
  unfold u₀
  iintro Hu
  ihave H := (ownU_pair (initOf (K (F := F)).hsCells (K (F := F)).hsToks)
    ((initOf (Pipeline.cells cfgs cellOf_inj) (Pipeline.launchToks cfgs cellOf_inj), 1) : UR sig nD τ × Counters)) $$ Hu
  icases H with ⟨HH, HP⟩
  ihave H := (own_pair_emb embR (initOf (Pipeline.cells cfgs cellOf_inj) (Pipeline.launchToks cfgs cellOf_inj)) (1 : Counters)) $$ HP
  icases H with ⟨HP, -⟩
  imod (staging_ghost (F := F)) $$ HP with Hg
  imodintro
  isplitl [HH]; · iexact HH
  isplitl [Hg]; · iexact Hg
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_nothing]
  iempintro

/-! ## @main on the TensorCore -/

abbrev a' : DevRef τ sig := Proc.devRef .tc (main_arg0 : Ref sig .tc)
abbrev a0' : DevRef τ sig := Proc.devRef .tc (main_v0 : Ref sig .tc)
abbrev p' : DevRef τ sig := Proc.devRef .tc (main_v1 : Ref sig .tc)
abbrev rI' : DevRef τ sig := Proc.devRef .tc (main_v2_0 : Ref sig .tc)
abbrev rX' : DevRef τ sig := Proc.devRef .tc (main_v2_1 : Ref sig .tc)
abbrev rY' : DevRef τ sig := Proc.devRef .tc (main_v2_2 : Ref sig .tc)
abbrev rZ' : DevRef τ sig := Proc.devRef .tc (main_v2_3 : Ref sig .tc)
abbrev x' : DevRef τ sig := Proc.devRef .tc (main_arg1 : Ref sig .tc)
abbrev g' : DevRef τ sig := Proc.devRef .tc (main_v3 : Ref sig .tc)
abbrev o' : DevRef τ sig := Proc.devRef .tc (main_v4 : Ref sig .tc)
abbrev x1' : DevRef τ sig := Proc.devRef .tc (main_v5 : Ref sig .tc)
abbrev y1' : DevRef τ sig := Proc.devRef .tc (main_v6 : Ref sig .tc)
abbrev z1' : DevRef τ sig := Proc.devRef .tc (main_v7 : Ref sig .tc)
abbrev c1' : DevRef τ sig := Proc.devRef .tc (main_v8 : Ref sig .tc)
abbrev c' : DevRef τ sig := Proc.devRef .tc (main_v9 : Ref sig .tc)
abbrev b' : DevRef τ sig := Proc.devRef .tc (main_arg2 : Ref sig .tc)
abbrev b1' : DevRef τ sig := Proc.devRef .tc (main_v10 : Ref sig .tc)
abbrev b2' : DevRef τ sig := Proc.devRef .tc (main_v11 : Ref sig .tc)
abbrev n' : DevRef τ sig := Proc.devRef .tc (main_v12 : Ref sig .tc)
abbrev opR : HloOp τ sig (Elt F) := StableHlo.reshape main_v2_0 main_v3 (rfl : (.i32 : EltTy) = .i32) shapeCasts_S16x2048_S1x32768
abbrev opX : HloOp τ sig (Elt F) := StableHlo.unary main_v2_1 main_v5
  (broadcastInDim S16x2048x1 ![0, 1] bcast_S16x2048_S16x2048x1_0_1 : (⟨S16x2048, .f32⟩ : BufTy).Contents (Elt F) → (⟨S16x2048x1, .f32⟩ : BufTy).Contents (Elt F))
abbrev opY : HloOp τ sig (Elt F) := StableHlo.unary main_v2_2 main_v6
  (broadcastInDim S16x2048x1 ![0, 1] bcast_S16x2048_S16x2048x1_0_1 : (⟨S16x2048, .f32⟩ : BufTy).Contents (Elt F) → (⟨S16x2048x1, .f32⟩ : BufTy).Contents (Elt F))
abbrev opZ : HloOp τ sig (Elt F) := StableHlo.unary main_v2_3 main_v7
  (broadcastInDim S16x2048x1 ![0, 1] bcast_S16x2048_S16x2048x1_0_1 : (⟨S16x2048, .f32⟩ : BufTy).Contents (Elt F) → (⟨S16x2048x1, .f32⟩ : BufTy).Contents (Elt F))
abbrev opS : HloOp τ sig (Elt F) := StableHlo.nary ![main_v5, main_v6, main_v7] main_v8 fun u =>
  (concatenate S16x2048x3 2 [⟨S16x2048x1, (u 0 : (⟨S16x2048x1, .f32⟩ : BufTy).Contents (Elt F))⟩, ⟨S16x2048x1, (u 1 : (⟨S16x2048x1, .f32⟩ : BufTy).Contents (Elt F))⟩,
    ⟨S16x2048x1, (u 2 : (⟨S16x2048x1, .f32⟩ : BufTy).Contents (Elt F))⟩] concatenates_S16x2048x1_S16x2048x1_S16x2048x1_S16x2048x3_d2 : (⟨S16x2048x3, .f32⟩ : BufTy).Contents (Elt F))
abbrev opF : HloOp τ sig (Elt F) := StableHlo.reshape main_v8 main_v9 (rfl : (.f32 : EltTy) = .f32) shapeCasts_S16x2048x3_S32768x3
abbrev opB : HloOp τ sig (Elt F) := StableHlo.reshape main_arg2 main_v10 (rfl : (.i32 : EltTy) = .i32) shapeCasts_S65536_S16x4096
abbrev opC : HloOp τ sig (Elt F) := StableHlo.unary main_v10 main_v11
  ((extractStridedSlice S16x2048 ![0, 0] · slices_S16x4096_S16x2048_0_0) : (⟨S16x4096, .i32⟩ : BufTy).Contents (Elt F) → (⟨S16x2048, .i32⟩ : BufTy).Contents (Elt F))
abbrev opN : HloOp τ sig (Elt F) := StableHlo.reshape main_v11 main_v12 (rfl : (.i32 : EltTy) = .i32) shapeCasts_S16x2048_S32768

/-- The arrays up to the sampler's call: the positions, the same by clouds and by coordinate, the four results. -/
abbrev SP : Finset (DevRef τ sig) := {a', a0', p', rI', rX', rY', rZ'}
/-- The row numbers, and the same in one line. -/
abbrev SR : Finset (DevRef τ sig) := {rI', g'}
/-- The arrays of the positions' results: the coordinates, each as a column, the columns side by side, the result. -/
abbrev SC : Finset (DevRef τ sig) := {rX', rY', rZ', x1', y1', z1', c1', c'}
/-- The arrays of the batch numbers: the argument, by clouds, the first halves of the clouds, the result. -/
abbrev SB : Finset (DevRef τ sig) := {b', b1', b2', n'}

theorem held_SP (d : Dev nD) (W : Valuation τ sig (Elt F)) :
    (held (T d) SP W : sProp 𝕄) = iprop((aLoc d ↦{fullShare} W a') ∗ (a0Loc d ↦{fullShare} W a0') ∗ (pLoc d ↦{fullShare} W p') ∗ (rILoc d ↦{fullShare} W rI') ∗ (rXLoc d ↦{fullShare} W rX') ∗ (rYLoc d ↦{fullShare} W rY') ∗ rZLoc d ↦{fullShare} W rZ') := by
  unfold held SP
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem held_SR (d : Dev nD) (W : Valuation τ sig (Elt F)) :
    (held (T d) SR W : sProp 𝕄) = iprop((rILoc d ↦{fullShare} W rI') ∗ gLoc d ↦{fullShare} W g') := by
  unfold held SR
  rw [SparseCore.bigSep_insert' (by decide), bigSep_singleton]

theorem held_SC (d : Dev nD) (W : Valuation τ sig (Elt F)) :
    (held (T d) SC W : sProp 𝕄) = iprop((rXLoc d ↦{fullShare} W rX') ∗ (rYLoc d ↦{fullShare} W rY') ∗ (rZLoc d ↦{fullShare} W rZ') ∗ (x1Loc d ↦{fullShare} W x1') ∗ (y1Loc d ↦{fullShare} W y1') ∗ (z1Loc d ↦{fullShare} W z1') ∗ (c1Loc d ↦{fullShare} W c1') ∗ cLoc d ↦{fullShare} W c') := by
  unfold held SC
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem held_SB (d : Dev nD) (W : Valuation τ sig (Elt F)) :
    (held (T d) SB W : sProp 𝕄) = iprop((bLoc d ↦{fullShare} W b') ∗ (b1Loc d ↦{fullShare} W b1') ∗ (b2Loc d ↦{fullShare} W b2') ∗ nLoc d ↦{fullShare} W n') := by
  unfold held SB
  rw [SparseCore.bigSep_insert' (by decide), SparseCore.bigSep_insert' (by decide), SparseCore.bigSep_insert' (by decide), bigSep_singleton]

set_option maxRecDepth 16384 in
theorem unscopedBufs_eq (d : Dev nD) (W : (b : Ref sig .tc) → Buf (Elt F) ((d.tc : Thread nD τ).loc b)) :
    (unscopedBufs d W : sProp 𝕄) = iprop((aLoc d ↦{fullShare} W main_arg0) ∗ (a0Loc d ↦{fullShare} W main_v0) ∗ (pLoc d ↦{fullShare} W main_v1) ∗ (rILoc d ↦{fullShare} W main_v2_0) ∗ (rXLoc d ↦{fullShare} W main_v2_1) ∗ (rYLoc d ↦{fullShare} W main_v2_2) ∗ (rZLoc d ↦{fullShare} W main_v2_3) ∗ (xLoc d ↦{fullShare} W main_arg1) ∗ (oLoc d ↦{fullShare} W main_v4) ∗ (gLoc d ↦{fullShare} W main_v3) ∗ (x1Loc d ↦{fullShare} W main_v5) ∗ (y1Loc d ↦{fullShare} W main_v6) ∗ (z1Loc d ↦{fullShare} W main_v7) ∗ (c1Loc d ↦{fullShare} W main_v8) ∗ (cLoc d ↦{fullShare} W main_v9) ∗ (bLoc d ↦{fullShare} W main_arg2) ∗ (b1Loc d ↦{fullShare} W main_v10) ∗ (b2Loc d ↦{fullShare} W main_v11) ∗ nLoc d ↦{fullShare} W main_v12) := by
  unfold unscopedBufs
  rw [show (Finset.univ.filter fun b : Ref sig .tc => ¬ b.isScoped) = {main_arg0, main_v0, main_v1, main_v2_0, main_v2_1, main_v2_2, main_v2_3, main_arg1, main_v4, main_v3, main_v5, main_v6, main_v7, main_v8, main_v9, main_arg2, main_v10, main_v11, main_v12} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation. -/
def V0 (d : Dev nD) : Valuation τ sig (Elt F) := fun b => m (d, b)
/-- The valuation when the sampler is called. -/
abbrev VP (d : Dev nD) : Valuation τ sig (Elt F) := (opT (F := F)).result ((opP (F := F)).result (V0 m d))
/-- A valuation of the arrays after the call: the four results what the body leaves. -/
def VR (d : Dev nD) : Valuation τ sig (Elt F) :=
  Function.update (Function.update (Function.update (Function.update (V0 m d) rI' (resV (byAxis m d) rI)) rX' (resV (byAxis m d) rX))
    rY' (resV (byAxis m d) rY)) rZ' (resV (byAxis m d) rZ)

theorem VR_rZ (d : Dev nD) : VR m d rZ' = resV (byAxis m d) rZ := Function.update_self ..
theorem VR_rY (d : Dev nD) : VR m d rY' = resV (byAxis m d) rY :=
  (Function.update_of_ne (show rY' ≠ rZ' by decide) _ _).trans (Function.update_self ..)
theorem VR_rX (d : Dev nD) : VR m d rX' = resV (byAxis m d) rX :=
  (Function.update_of_ne (show rX' ≠ rZ' by decide) _ _).trans ((Function.update_of_ne (show rX' ≠ rY' by decide) _ _).trans (Function.update_self ..))
theorem VR_rI (d : Dev nD) : VR m d rI' = resV (byAxis m d) rI :=
  (Function.update_of_ne (show rI' ≠ rZ' by decide) _ _).trans ((Function.update_of_ne (show rI' ≠ rY' by decide) _ _).trans
    ((Function.update_of_ne (show rI' ≠ rX' by decide) _ _).trans (Function.update_self ..)))
theorem VR_other (d : Dev nD) (b : DevRef τ sig) (hb : b ∉ ({rI', rX', rY', rZ'} : Finset (DevRef τ sig))) : VR m d b = m (d, b) := by
  simp only [Finset.mem_insert, Finset.mem_singleton, not_or] at hb
  unfold VR
  rw [Function.update_of_ne hb.2.2.2, Function.update_of_ne hb.2.2.1, Function.update_of_ne hb.2.1, Function.update_of_ne hb.1]
  rfl

/-- The positions' argument is unchanged. -/
theorem VP_a (d : Dev nD) : VP m d a' = m (aLoc d) :=
  ((opT (F := F)).result_of_not_mem _ (show a' ∉ ({p'} : Finset (DevRef τ sig)) by decide)).trans
    ((opP (F := F)).result_of_not_mem _ (show a' ∉ ({a0'} : Finset (DevRef τ sig)) by decide))

/-- The row numbers laid in one line. -/
theorem VR_g (d : Dev nD) : (opR (F := F)).result (VR m d) g' = Gv m d := by
  have e : (opR (F := F)).result (VR m d) g' = fun j => shapeCast S1x32768 (VR m d rI') shapeCasts_S16x2048_S1x32768 j :=
    StableHlo.reshape_result _ _ _ _ _ _ _
  rw [VR_rI] at e
  exact e

/-- The valuation after the operations on the coordinates. -/
abbrev VC (d : Dev nD) : Valuation τ sig (Elt F) :=
  (opF (F := F)).result ((opS (F := F)).result ((opZ (F := F)).result ((opY (F := F)).result ((opX (F := F)).result (VR m d)))))

/-- The positions' result: the coordinates side by side. -/
theorem VC_c (d : Dev nD) : VC m d c' = Cv m d := by
  let V1 := (opX (F := F)).result (VR m d)
  let V2 := (opY (F := F)).result V1
  let V3 := (opZ (F := F)).result V2
  have ex : V3 x1' = broadcastInDim S16x2048x1 ![0, 1] bcast_S16x2048_S16x2048x1_0_1 (resV (byAxis m d) rX) :=
    ((opZ (F := F)).result_of_not_mem _ (show x1' ∉ ({z1'} : Finset (DevRef τ sig)) by decide)).trans
      (((opY (F := F)).result_of_not_mem _ (show x1' ∉ ({y1'} : Finset (DevRef τ sig)) by decide)).trans
        ((StableHlo.unary_result _ _ _ _ _ _).trans (congrArg _ (VR_rX m d))))
  have ey : V3 y1' = broadcastInDim S16x2048x1 ![0, 1] bcast_S16x2048_S16x2048x1_0_1 (resV (byAxis m d) rY) :=
    ((opZ (F := F)).result_of_not_mem _ (show y1' ∉ ({z1'} : Finset (DevRef τ sig)) by decide)).trans
      ((StableHlo.unary_result _ _ _ _ _ _).trans (congrArg _
        (((opX (F := F)).result_of_not_mem _ (show rY' ∉ ({x1'} : Finset (DevRef τ sig)) by decide)).trans (VR_rY m d))))
  have ez : V3 z1' = broadcastInDim S16x2048x1 ![0, 1] bcast_S16x2048_S16x2048x1_0_1 (resV (byAxis m d) rZ) :=
    (StableHlo.unary_result _ _ _ _ _ _).trans (congrArg _
      (((opY (F := F)).result_of_not_mem _ (show rZ' ∉ ({y1'} : Finset (DevRef τ sig)) by decide)).trans
        (((opX (F := F)).result_of_not_mem _ (show rZ' ∉ ({x1'} : Finset (DevRef τ sig)) by decide)).trans (VR_rZ m d))))
  have es : (opS (F := F)).result V3 c1' = concatenate S16x2048x3 2 [⟨S16x2048x1, V3 x1'⟩, ⟨S16x2048x1, V3 y1'⟩, ⟨S16x2048x1, V3 z1'⟩]
      concatenates_S16x2048x1_S16x2048x1_S16x2048x1_S16x2048x3_d2 := StableHlo.nary_result _ _ _ _ _ _
  have ec : VC m d c' = fun j => shapeCast S32768x3 ((opS (F := F)).result V3 c1') shapeCasts_S16x2048x3_S32768x3 j :=
    StableHlo.reshape_result _ _ _ _ _ _ _
  rw [es, ex, ey, ez] at ec
  exact ec

/-- The valuation after the operations on the batch numbers. -/
abbrev VB (d : Dev nD) : Valuation τ sig (Elt F) := (opN (F := F)).result ((opC (F := F)).result ((opB (F := F)).result (V0 m d)))

/-- The arrays of the batch numbers at the end: the argument as launched, the result the first halves of the clouds. -/
theorem held_ids (d : Dev nD) :
    (held (T d) SB (VB m d) : sProp 𝕄) ⊢ iprop((bLoc d ↦{fullShare} m (bLoc d)) ∗ nLoc d ↦{fullShare} Nv m d) := by
  have eb : VB m d b' = m (bLoc d) := by
    refine ((opN (F := F)).result_of_not_mem _ (show b' ∉ ({n'} : Finset (DevRef τ sig)) by decide)).trans ?_
    refine ((opC (F := F)).result_of_not_mem _ (show b' ∉ ({b2'} : Finset (DevRef τ sig)) by decide)).trans ?_
    exact (opB (F := F)).result_of_not_mem _ (show b' ∉ ({b1'} : Finset (DevRef τ sig)) by decide)
  have e1 : (opB (F := F)).result (V0 m d) b1' = fun i => shapeCast S16x4096 (m (bLoc d)) shapeCasts_S65536_S16x4096 i :=
    StableHlo.reshape_result _ _ _ _ _ _ _
  have e2 : (opC (F := F)).result ((opB (F := F)).result (V0 m d)) b2'
      = extractStridedSlice S16x2048 ![0, 0] ((opB (F := F)).result (V0 m d) b1') slices_S16x4096_S16x2048_0_0 :=
    StableHlo.unary_result _ _ _ _ _ _
  have en : VB m d n' = fun j => shapeCast S32768 ((opC (F := F)).result ((opB (F := F)).result (V0 m d)) b2') shapeCasts_S16x2048_S32768 j :=
    StableHlo.reshape_result _ _ _ _ _ _ _
  rw [e2, e1] at en
  rw [held_SB, eb, show VB m d n' = Nv m d from en]
  iintro ⟨Hb, -, -, Hn⟩
  isplitl [Hb]; · iexact Hb
  iexact Hn

theorem hB : (opB (F := F)).bufs ⊆ SB := show ({b', b1'} : Finset (DevRef τ sig)) ⊆ SB by decide
theorem hC : (opC (F := F)).bufs ⊆ SB := show ({b1', b2'} : Finset (DevRef τ sig)) ⊆ SB by decide
theorem hN : (opN (F := F)).bufs ⊆ SB := show ({b2', n'} : Finset (DevRef τ sig)) ⊆ SB by decide
theorem hP : (opP (F := F)).bufs ⊆ SP := show ({a', a0'} : Finset (DevRef τ sig)) ⊆ SP by decide
theorem hT : (opT (F := F)).bufs ⊆ SP := show ({a0', p'} : Finset (DevRef τ sig)) ⊆ SP by decide
theorem hR : (opR (F := F)).bufs ⊆ SR := show ({rI', g'} : Finset (DevRef τ sig)) ⊆ SR by decide
theorem hX : (opX (F := F)).bufs ⊆ SC := show ({rX', x1'} : Finset (DevRef τ sig)) ⊆ SC by decide
theorem hY : (opY (F := F)).bufs ⊆ SC := show ({rY', y1'} : Finset (DevRef τ sig)) ⊆ SC by decide
theorem hZ : (opZ (F := F)).bufs ⊆ SC := show ({rZ', z1'} : Finset (DevRef τ sig)) ⊆ SC by decide
theorem hS : (opS (F := F)).bufs ⊆ SC := by
  intro b hb
  rcases Finset.mem_insert.mp hb with rfl | hb
  · decide
  obtain ⟨k, -, rfl⟩ := Finset.mem_image.mp hb
  fin_cases k <;> decide
theorem hF : (opF (F := F)).bufs ⊆ SC := show ({c1', c'} : Finset (DevRef τ sig)) ⊆ SC by decide

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) : (bigSep Finset.univ fun c : Fin ((K (F := F)).nCore 0) => (P m).st 0 d c)
    = iprop((xLoc d ↦{fullShare} Xv m d) ∗ (gLoc d ↦{fullShare} Gv m d) ∗ oLoc d ↦{fullShare} m (oLoc d)) :=
  (bigSep_cores (F := F) fun c => corePts m d c (m (oLoc d))).trans (whole_cores m d _).symm
theorem dn0_eq (d : Dev nD) : (bigSep Finset.univ fun c : Fin ((K (F := F)).nCore 0) => (P m).dn 0 d c)
    = iprop((xLoc d ↦{fullShare} Xv m d) ∗ (gLoc d ↦{fullShare} Gv m d) ∗ oLoc d ↦{fullShare} Ov m d) :=
  (bigSep_cores (F := F) fun c => corePts m d c (Ov m d)).trans (whole_cores m d _).symm

/-- What @main leaves the claims: the arguments as launched, the output at the table's rows, the positions of those
    rows, the batch numbers of the clouds' first halves. -/
abbrev FIN (d : Dev nD) : sProp 𝕄 :=
  iprop((xLoc d ↦{fullShare} Xv m d) ∗ (aLoc d ↦{fullShare} m (aLoc d)) ∗ (oLoc d ↦{fullShare} Ov m d)
    ∗ (cLoc d ↦{fullShare} Cv m d) ∗ (bLoc d ↦{fullShare} m (bLoc d)) ∗ nLoc d ↦{fullShare} Nv m d)

/-- The sampler's call on the TensorCore, from its arrays and the thread's state to its arrays and the same state. -/
theorem sampler_call [∀ e, Nonempty (Elt F e)] (κ : GSem nD τ sig → ℕ) (d : Dev nD) (k : PUnit → sProp 𝕄) :
    iprop((K (F := F)).ctx EH (P m) κ ∗ (K (F := F)).tcSt EH d 0 ∗ boundary (T d) ∗ begun m d ∗ (∃ r, prngReg d r) ∗ G (F := F) d
        ∗ (iprop((K (F := F)).tcSt EH d 0 ∗ boundary (T d) ∗ ended m d ∗ ∃ r, prngReg d r) -∗ k ⟨⟩))
      ⊢ wp frame (wpE ((K (F := F)).defs (D (F := F))) 𝒱 (SparseCore.T d) none) Set.univ
          (Prog.lift (.customCall (SparseCore.inner (Pipeline.entry 0)) ())) k := by
  unfold SparseCore.Cfg.tcSt
  iintro ⟨#Hctx, ⟨HO, Hst⟩, Hb, Ha, Hr, ⟨Hg, Ht⟩, Hk⟩
  ihave #Hlv := ((K (F := F)).ctx_levAts (EH := EH) (P := P m) κ) $$ Hctx
  iapply (show _ ⊢ _ from (K (F := F)).wp_liftProg (D (F := F)) 𝒱 (T d) Set.univ none (.op (.customCall (Pipeline.entry 0) ()) fun r => .ret r) k)
  iapply (Pipeline.RegionSeg.wp pcfgs (one F) (dats m) none cellOf_inj (EP (F := F)) defs₀ Variants.none (K (F := F)).L (K (F := F)).lev (region m) d none
    (fun u hu => by cases hu) (fun r => .ret r) k) $$ [HO Hst Hb Ha Hr Hg Ht Hk]
  isplitl [Hst Hk]
  · iintro ⟨Hb, Hp⟩
    ihave Hp' := (show (region m).post d ⊢ iprop(ended m d ∗ (∃ r, prngReg d r) ∗ (∃ W, ⌜(K (F := F)).WBelow (SparseCore.T d) W (8 * SparseCore.Cfg.Blocks.fst (Q := 1) (N := 1) 0)⌝ ∗ owes (SparseCore.T d) ((K (F := F)).Otc d 0) W)) from Entails.refl _) $$ Hp
    icases Hp' with ⟨Ha, Hr, HO⟩
    rw [wp_ret]; imodintro
    iapply Hk
    isplitl [HO Hst]
    · isplitl [HO]; · iexact HO
      iexact Hst
    isplitl [Hb]; · iexact Hb
    isplitl [Ha]; · iexact Ha
    iexact Hr
  isplitl [Hb]; · iexact Hb
  isplitl [Ha Hr HO]
  · iapply (show iprop(begun m d ∗ (∃ r, prngReg d r) ∗ (∃ W, ⌜(K (F := F)).WBelow (SparseCore.T d) W (8 * SparseCore.Cfg.Blocks.fst (Q := 1) (N := 1) 0)⌝ ∗ owes (SparseCore.T d) ((K (F := F)).Otc d 0) W)) ⊢ (region m).pre d from Entails.refl _)
    isplitl [Ha]; · iexact Ha
    isplitl [Hr]; · iexact Hr
    iexact HO
  isplitr; · iexact Hlv
  isplitl [Hg]; · iexact Hg
  iexact Ht

/-- @main on the TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Ha0, Hp, HI, HX, HY, HZ, Hx, Ho, Hg, Hx1, Hy1, Hz1, Hc1, Hc, HB⟩, Hts, Hr⟩, HG⟩
  ihave Hheld := (Entails.of_eq (held_SP d (V0 m d)).symm) $$ [Ha Ha0 Hp HI HX HY HZ]
  · isplitl [Ha]; · iexact Ha
    isplitl [Ha0]; · iexact Ha0
    isplitl [Hp]; · iexact Hp
    isplitl [HI]; · iexact HI
    isplitl [HX]; · iexact HX
    isplitl [HY]; · iexact HY
    iexact HZ
  ihave HB := (Entails.of_eq (held_SB d (V0 m d)).symm) $$ [HB]
  · iexact HB
  iapply (wp_hlo_within 𝒱 (SparseCore.T d) none Set.univ (op := opP) (S := SP) hP (V := V0 m d)) $$ [Hb Hheld]
  · isplitl [Hb] <;> iassumption
  iintro ⟨Hb, Hheld⟩
  rw [wp_ret]; imodintro
  iapply (wp_hlo_within 𝒱 (SparseCore.T d) none Set.univ (op := opT) (S := SP) hT (V := (opP (F := F)).result (V0 m d))) $$ [Hb Hheld]
  · isplitl [Hb] <;> iassumption
  iintro ⟨Hb, Hheld⟩
  rw [wp_ret]; imodintro
  ihave Hh := (Entails.of_eq (held_SP d (VP m d))) $$ Hheld
  icases Hh with ⟨Ha, -, Hp, HI, HX, HY, HZ⟩
  iapply (sampler_call m κ d _) $$ [Hst Hb Ha Hp HI HX HY HZ Hr HG Hx Ho Hg Hx1 Hy1 Hz1 Hc1 Hc HB Hts]
  isplitr; · iexact Hctx
  isplitl [Hst]; · iexact Hst
  isplitl [Hb]; · iexact Hb
  isplitl [Hp HI HX HY HZ]
  · unfold begun five
    isplitl [Hp]; · iexact Hp
    isplitl [HI]; · iexact HI
    isplitl [HX]; · iexact HX
    isplitl [HY]; · iexact HY
    iexact HZ
  isplitl [Hr]; · iexists _; iexact Hr
  isplitl [HG]; · iexact HG
  iintro ⟨Hst, Hb, He, -⟩
  unfold ended five
  icases He with ⟨-, HI, HX, HY, HZ⟩
  ihave Hheld := (Entails.of_eq (held_SR d (VR m d)).symm) $$ [HI Hg]
  · rw [VR_rI, VR_other m d g' (by decide)]
    isplitl [HI]; · iexact HI
    iexact Hg
  iapply (wp_hlo_within 𝒱 (SparseCore.T d) none Set.univ (op := opR) (S := SR) hR (V := VR m d)) $$ [Hb Hheld]
  · isplitl [Hb] <;> iassumption
  iintro ⟨Hb, Hheld⟩
  rw [wp_ret]; imodintro
  ihave Hh := (Entails.of_eq (held_SR d ((opR (F := F)).result (VR m d)))) $$ Hheld
  rw [VR_g]
  icases Hh with ⟨-, Hg⟩
  iapply ((K (F := F)).wp_run (D (F := F)) 𝒱 (EH := EH) (P := P m) κ d 0) $$ [Hst Hx Hg Ho Hb Ha Hts HB HX HY HZ Hx1 Hy1 Hz1 Hc1 Hc]
  isplitr; · iexact Hctx
  isplitl [Hst]; · iexact Hst
  isplitl [Hx Hg Ho]
  · rw [st0_eq]
    isplitl [Hx]; · iexact Hx
    isplitl [Hg]; · iexact Hg
    iexact Ho
  iintro ⟨Hst, Hdn⟩
  ihave Hdn' := (Entails.of_eq (dn0_eq m d)) $$ Hdn
  icases Hdn' with ⟨Hx, -, Ho⟩
  ihave HC := (Entails.of_eq (held_SC d (VR m d)).symm) $$ [HX HY HZ Hx1 Hy1 Hz1 Hc1 Hc]
  · rw [VR_rX, VR_rY, VR_rZ, VR_other m d x1' (by decide), VR_other m d y1' (by decide), VR_other m d z1' (by decide), VR_other m d c1' (by decide), VR_other m d c' (by decide)]
    isplitl [HX]; · iexact HX
    isplitl [HY]; · iexact HY
    isplitl [HZ]; · iexact HZ
    isplitl [Hx1]; · iexact Hx1
    isplitl [Hy1]; · iexact Hy1
    isplitl [Hz1]; · iexact Hz1
    isplitl [Hc1]; · iexact Hc1
    iexact Hc
  iapply (wp_hlo_within 𝒱 (SparseCore.T d) none Set.univ (op := opX) (S := SC) hX (V := VR m d)) $$ [Hb HC]
  · isplitl [Hb] <;> iassumption
  iintro ⟨Hb, HC⟩
  rw [wp_ret]; imodintro
  iapply (wp_hlo_within 𝒱 (SparseCore.T d) none Set.univ (op := opY) (S := SC) hY (V := (opX (F := F)).result (VR m d))) $$ [Hb HC]
  · isplitl [Hb] <;> iassumption
  iintro ⟨Hb, HC⟩
  rw [wp_ret]; imodintro
  iapply (wp_hlo_within 𝒱 (SparseCore.T d) none Set.univ (op := opZ) (S := SC) hZ (V := (opY (F := F)).result ((opX (F := F)).result (VR m d)))) $$ [Hb HC]
  · isplitl [Hb] <;> iassumption
  iintro ⟨Hb, HC⟩
  rw [wp_ret]; imodintro
  iapply (wp_hlo_within 𝒱 (SparseCore.T d) none Set.univ (op := opS) (S := SC) hS (V := (opZ (F := F)).result ((opY (F := F)).result ((opX (F := F)).result (VR m d))))) $$ [Hb HC]
  · isplitl [Hb] <;> iassumption
  iintro ⟨Hb, HC⟩
  rw [wp_ret]; imodintro
  iapply (wp_hlo_within 𝒱 (SparseCore.T d) none Set.univ (op := opF) (S := SC) hF (V := (opS (F := F)).result ((opZ (F := F)).result ((opY (F := F)).result ((opX (F := F)).result (VR m d)))))) $$ [Hb HC]
  · isplitl [Hb] <;> iassumption
  iintro ⟨Hb, HC⟩
  rw [wp_ret]; imodintro
  ihave HC' := (Entails.of_eq (held_SC d (VC m d))) $$ HC
  rw [VC_c]
  icases HC' with ⟨-, -, -, -, -, -, -, Hc⟩
  iapply (wp_hlo_within 𝒱 (SparseCore.T d) none Set.univ (op := opB) (S := SB) hB (V := V0 m d)) $$ [Hb HB]
  · isplitl [Hb] <;> iassumption
  iintro ⟨Hb, HB⟩
  rw [wp_ret]; imodintro
  iapply (wp_hlo_within 𝒱 (SparseCore.T d) none Set.univ (op := opC) (S := SB) hC (V := (opB (F := F)).result (V0 m d))) $$ [Hb HB]
  · isplitl [Hb] <;> iassumption
  iintro ⟨Hb, HB⟩
  rw [wp_ret]; imodintro
  iapply (wp_hlo_within 𝒱 (SparseCore.T d) none Set.univ (op := opN) (S := SB) hN (V := (opC (F := F)).result ((opB (F := F)).result (V0 m d)))) $$ [Hb HB]
  · isplitl [Hb] <;> iassumption
  iintro ⟨Hb, HB⟩
  rw [wp_ret]; imodintro
  ihave HB' := (held_ids m d) $$ HB
  icases HB' with ⟨Hi, Hn⟩
  rw [VP_a]
  imodintro
  isplitl [Hst]; · iexact Hst
  isplitr [Hb Hts]
  · isplitl [Hx]; · iexact Hx
    isplitl [Ha]; · iexact Ha
    isplitl [Ho]; · iexact Ho
    isplitl [Hc]; · iexact Hc
    isplitl [Hi]; · iexact Hi
    iexact Hn
  isplitl [Hb] <;> iassumption

/-- What the claims read of the final state. -/
def fq (d : Dev nD) (s' : Phys nD τ sig (Elt F)) : Prop :=
  s'.mem.mem (oLoc d) = Ov m d ∧ s'.mem.mem (cLoc d) = Cv m d ∧ s'.mem.mem (nLoc d) = Nv m d
    ∧ s'.mem.mem (xLoc d) = m (xLoc d) ∧ s'.mem.mem (bLoc d) = m (bLoc d) ∧ s'.mem.mem (aLoc d) = m (aLoc d)

set_option maxRecDepth 16384 in
theorem hfin (d : Dev nD) (s' : Phys nD τ sig (Elt F)) : iprop(FIN m d ∗ SI s') ⊢ (⌜fq m d s'⌝ : sProp 𝕄) := by
  iintro ⟨⟨Hx, Ha, Ho, Hc, Hi, Hn⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := bLoc d) (I := Finset.univ) (q := fullShare) (f := m (bLoc d)))) $$ [HSI Hi]
  · isplitl [HSI] <;> iassumption
  icases H with ⟨%hb, HSI, -⟩
  ihave H := (persistent_entails_right (SI_pointsTo_agree (st := s') (ℓ := nLoc d) (I := Finset.univ) (q := fullShare) (f := Nv m d))) $$ [HSI Hn]
  · isplitl [HSI] <;> iassumption
  icases H with ⟨%hn, HSI, -⟩
  ihave H := (persistent_entails_right (SI_pointsTo_agree (st := s') (ℓ := cLoc d) (I := Finset.univ) (q := fullShare) (f := Cv m d))) $$ [HSI Hc]
  · isplitl [HSI] <;> iassumption
  icases H with ⟨%hc, HSI, -⟩
  ihave H := (SI_pointsTo_agree (st := s') (ℓ := oLoc d) (I := Finset.univ) (q := fullShare) (f := Ov m d)) $$ [HSI Ho]
  · isplitl [HSI] <;> iassumption
  icases H with %ho
  ipureintro
  exact ⟨funext fun i => ho i (Finset.mem_univ i), funext fun i => hc i (Finset.mem_univ i), funext fun i => hn i (Finset.mem_univ i),
    funext fun i => hx i (Finset.mem_univ i), funext fun i => hb i (Finset.mem_univ i), funext fun i => ha i (Finset.mem_univ i)⟩

/-! ## The program's run -/

def QC : PUnit × MemSt nD τ sig (Elt F) → Prop := fun r =>
  (∀ c : Dev nD, (r.2.mem (oLoc c) = Ov m c ∧ r.2.mem (cLoc c) = Cv m c ∧ r.2.mem (nLoc c) = Nv m c)
    ∧ r.2.mem (xLoc c) = m (xLoc c) ∧ r.2.mem (bLoc c) = m (bLoc c) ∧ r.2.mem (aLoc c) = m (aLoc c)) ∧ r.2.sem = fun _ => 0

/-- The whole program: it runs, its outputs are the table's rows at the sampler's numbers, the positions the sampler
    leaves and the batch numbers of the clouds' first halves, its arguments are unchanged, its semaphores are at zero. -/
theorem run_main [∀ e, Nonempty (Elt F e)] (hpre : PreOK m) :
    θ_run (Cert.WholeIdeal.defs (F := F)) (Cert.WholeIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G d) (FIN m) (u₀ (F := F)) (sep_elim_left.trans (hu₀ m)) (hmain m ρ) (fq m) (hfin m) (QC m)
    (fun _ h hz => ⟨fun c => ⟨⟨(h c).1, (h c).2.1, (h c).2.2.1⟩, (h c).2.2.2⟩, hz⟩)

end Cert.Whole.Rows.Launch

end
-- ==== Proof.Whole.Trips.lean ====
/- The reference's selection loop, one trip of it: what the trip leaves in the buffers that the loop carries, as functions of
   what it found there. -/
module

public import proofs.«01_k».proof.Proof.Gen.SampledIdeal.Run

@[expose] public section

noncomputable section

namespace Cert.SampledIdeal.Trips

open Cert.SampledIdeal Cert.SampledIdeal.Gen Cert.SampledIdeal.Value
open Idealize.ShloMosaic Idealize.ShloMosaic.StableHlo

variable {F : FTy → Type} [FloatOps F]

/-- What a valuation holds in a buffer of the TensorCore. -/
abbrev rd (X : Valuation τ sig (Elt F)) (b : Ref sig .tc) : (Proc.devRef (τ := τ) .tc b).ty.Contents (Elt F) := X (Proc.devRef .tc b)

/-- The row numbers as the trip gathers at them. -/
abbrev wrapped (I : IVec S16 32) : IVec S16x1 32 :=
  broadcastInDim S16x1 ![0] bcast_S16_S16x1_0 (select (cmpi .slt I (broadcastInDim S16 ![] bcast_S_S16 (constantI S_ 32 0#32))) (addi I (broadcastInDim S16 ![] bcast_S_S16 (constantI S_ 32 65536#32))) I)

/-- The gathered points. -/
abbrev taken (p : FVec F S65536x3 .f32) (I : IVec S16 32) : FVec F S16x3 .f32 :=
  select (broadcastInDim S16x3 ![0] bcast_S16_S16x3_0 (Host.reduce IntOp.andi (andi (cmpi .sge (wrapped I) (broadcastInDim S16x1 ![] bcast_S_S16x1 (constantI S_ 32 0#32))) (cmpi .sle (wrapped I) (broadcastInDim S16x1 ![0, 1] bcast_S1x1_S16x1_0_1 (broadcastInDim S1x1 ![1] bcast_S1_S1x1_1 (constantI S1 32 65535#32))))) (constantI S_ 1 1#1) reducesTo_S16x1_S16_d1 h_S_))
    (Host.gather gather_S65536x3_S16x1_S16x3_1_0_n_n_0_1_13 p (wrapped I)) (broadcastInDim S16x3 ![] bcast_S_S16x3 (constant S_ .f32 0x7FC00000#32))

/-- The distances with those to the gathered points. -/
abbrev closer (P : FVec F S16x4096x3 .f32) (D : FVec F S16x4096 .f32) (u : FVec F S16x3 .f32) : FVec F S16x4096 .f32 :=
  let x := subf P (broadcastInDim S16x4096x3 ![0, 1, 2] bcast_S16x1x3_S16x4096x3_0_1_2 (broadcastInDim S16x1x3 ![0, 2] bcast_S16x3_S16x1x3_0_2 u))
  minimumf D (Host.reduceAdd (mulf x x) (constant S_ .f32 0x00000000#32) reducesTo_S16x4096x3_S16x4096_d2 h_S_)

/-- The first place of the greatest. -/
abbrev greatest (D : FVec F S16x4096 .f32) : IVec S16 32 := fun j =>
  (Host.argReduce reducer_argmax_f32_i32 D (iotaInDim S16x4096 32 1) (constant S_ .f32 0xFF800000#32) (constantI S_ 32 0#32) reducesTo_S16x4096_S16_d1 h_S_ j).2

/-- The selections with those of place `i`. -/
abbrev noted (S : IVec S16x2048 32) (u : IVec S16 32) (i : IVec S_ 32) : IVec S16x2048 32 :=
  Host.dynamicUpdateSlice S (broadcastInDim S16x1 ![0] bcast_S16_S16x1_0 u)
    (fun k => ((![constantI S_ 32 0#32, select (cmpi .slt i (constantI S_ 32 0#32)) (addi i (constantI S_ 32 2048#32)) i] : Fin 2 → IVec S_ 32) k (Shape.Idx.first h_S_)).toInt) updateFits_S16x2048_S16x1

variable (X : Valuation τ sig (Elt F))

/-! ## The stretches -/

theorem next_eq : rd (after while0Ops0 X) main_while0b_v12 = addi (rd X main_v7_4 : IVec S_ 32) (constantI S_ 32 1#32) := by
  after_results
  try rfl

set_option maxRecDepth 100000 in
set_option maxHeartbeats 2000000 in
theorem taken_eq : rd (after while0Ops0_1 X) main_while0b_v13 = taken (rd X main_v7_0 : FVec F S65536x3 .f32) (rd X main_v7_6 : IVec S16 32) := by
  after_results_simp_entrywise
  try rfl

theorem closer_eq : rd (after while0Ops0_2 X) main_while0b_v19
    = closer (rd X main_v7_1 : FVec F S16x4096x3 .f32) (rd X main_v7_5 : FVec F S16x4096 .f32) (rd X main_while0b_v13 : FVec F S16x3 .f32) := by
  after_results
  try rfl

set_option maxRecDepth 100000 in
theorem greatest_eq : rd (after while0Ops0_3 X) main_while0b_v20 = greatest (rd X main_while0b_v19 : FVec F S16x4096 .f32) := by
  after_results
  try rfl

set_option maxRecDepth 100000 in
theorem place_eq : rd (after while0Ops0_4 X) main_v7_4 = rd X main_while0b_v12 := by
  after_results
  try rfl

set_option maxRecDepth 100000 in
theorem dists_eq : rd (after while0Ops0_4 X) main_v7_5 = rd X main_while0b_v19 := by
  after_results
  try rfl

set_option maxRecDepth 100000 in
theorem last_eq : rd (after while0Ops0_4 X) main_v7_6 = addi (rd X main_while0b_v20 : IVec S16 32) (rd X main_v7_2 : IVec S16 32) := by
  after_results
  try rfl

set_option maxRecDepth 100000 in
theorem noted_eq : rd (after while0Ops0_4 X) main_v7_7
    = noted (rd X main_v7_7 : IVec S16x2048 32) (addi (rd X main_while0b_v20 : IVec S16 32) (rd X main_v7_2 : IVec S16 32)) (rd X main_v7_4 : IVec S_ 32) := by
  after_results_simp_entrywise
  rfl

end Cert.SampledIdeal.Trips

end
-- ==== Proof.Whole.Greatest.lean ====
/- What one trip of the reference's selection loop computes, read at an index over the extended reals: the gathered points, the
   distances, the first place of the greatest, and the selections. -/
module

public import proofs.«01_k».proof.Proof.Whole.Trips
public import proofs.«01_k».proof.Proof.Farthest
public import Idealize.ShloMosaic.Lib.Pointwise
public import Idealize.ShloMosaic.Lib.ReduceAll
public import Idealize.ShloMosaic.Lib.WordCmp
public import Idealize.ShloMosaic.Lib.Routing.Ops
public import Idealize.ShloMosaic.PureOps.Ideal.Laws

@[expose] public section

noncomputable section

namespace Cert.SampledIdeal.Trips

open Cert.SampledIdeal Cert.SampledIdeal.Gen Cert.Farthest
open Idealize.ShloMosaic

/-! ## Words -/

theorem toInt_small (n : ℕ) (hn : n < 2 ^ 31) : (BitVec.ofNat 32 n).toInt = (n : ℤ) := by
  rw [BitVec.toInt_eq_toNat_cond, BitVec.toNat_ofNat]; omega

theorem slt_small (a b : ℕ) (ha : a < 2 ^ 31) (hb : b < 2 ^ 31) : IntOp.cmpi .slt (BitVec.ofNat 32 a) (BitVec.ofNat 32 b) = 1#1 ↔ a < b := by
  show BitVec.ofBool (BitVec.slt _ _) = 1#1 ↔ _
  rw [BitVec.slt_eq_decide, toInt_small a ha, toInt_small b hb]
  by_cases h : a < b
  · simp [h]
  · have : ¬ (a : ℤ) < b := by omega
    simp [h]

theorem row_inside (n : ℕ) (hn : n < 65536) : IntOp.andi (IntOp.cmpi .sge (BitVec.ofNat 32 n) 0#32) (IntOp.cmpi .sle (BitVec.ofNat 32 n) 65535#32) = 1#1 := by
  have h1 : IntOp.cmpi .sge (BitVec.ofNat 32 n) 0#32 = 1#1 := by
    show BitVec.ofBool (BitVec.sle 0#32 (BitVec.ofNat 32 n)) = 1#1
    rw [BitVec.sle_eq_decide, toInt_small n (by omega)]
    simp
  have h2 : IntOp.cmpi .sle (BitVec.ofNat 32 n) 65535#32 = 1#1 := by
    show BitVec.ofBool (BitVec.sle (BitVec.ofNat 32 n) (BitVec.ofNat 32 65535)) = 1#1
    rw [BitVec.sle_eq_decide, toInt_small n (by omega), toInt_small 65535 (by norm_num)]
    have : (n : ℤ) ≤ (65535 : ℕ) := by omega
    simp only [this, decide_true]
    rfl
  rw [h1, h2]
  rfl

theorem row_kept (n : ℕ) (hn : n < 65536) : ¬ IntOp.cmpi .slt (BitVec.ofNat 32 n) 0#32 = 1#1 := fun h => by
  have := (slt_small n 0 (by omega) (by norm_num)).1 h
  omega

/-! ## The greatest -/

/-- The reducer keeps the greater, of equals the one with the lesser number. -/
theorem reducer_eq (v w : EReal) (i n : ℕ) (hi : i < 4096) (hn : n < 4096) :
    reducer_argmax_f32_i32 (F := Ideal) (v, BitVec.ofNat 32 i) (w, BitVec.ofNat 32 n)
      = if w < v ∨ (v = w ∧ i < n) then (v, BitVec.ofNat 32 i) else (w, BitVec.ofNat 32 n) := by
  have hs := slt_small i n (by omega) (by omega)
  unfold reducer_argmax_f32_i32
  simp only [Ideal.cmpf_def, Ideal.cmp, Scalar.select]
  by_cases h1 : w < v
  · have h2 : v ≠ w := h1.ne'
    simp [h1, h2, IntOp.ori, IntOp.andi]
  · by_cases h2 : v = w
    · subst h2
      by_cases h3 : i < n
      · have h4 := hs.2 h3
        simp [h3, h4, IntOp.ori, IntOp.andi]
      · have h4 : IntOp.cmpi .slt (BitVec.ofNat 32 i) (BitVec.ofNat 32 n) = 0#1 := by
          have := fun h => h3 (hs.1 h)
          generalize IntOp.cmpi .slt (BitVec.ofNat 32 i) (BitVec.ofNat 32 n) = x at this
          revert x; decide
        simp [h3, h4, IntOp.ori, IntOp.andi]
    · simp [h1, h2, IntOp.ori, IntOp.andi]

/-- What the fold over a list of places holds. -/
def Folded (E : Fin 4096 → EReal) (ns : List (Fin 4096)) (r : EReal × BitVec 32) : Prop :=
  ∃ i : Fin 4096, r.2 = BitVec.ofNat 32 i.val ∧ (r.1 = E i ∨ (r.1 = ⊥ ∧ i = 0)) ∧ ∀ n ∈ ns, E n ≤ r.1 ∧ (E n = r.1 → i ≤ n)

theorem Folded.step {E : Fin 4096 → EReal} {ns : List (Fin 4096)} {r : EReal × BitVec 32} (h : Folded E ns r) (n : Fin 4096) :
    Folded E (ns ++ [n]) (reducer_argmax_f32_i32 (F := Ideal) r (E n, BitVec.ofNat 32 n.val)) := by
  obtain ⟨v, w⟩ := r
  obtain ⟨i, hi, hv, hm⟩ := h
  simp only at hi hv hm
  subst hi
  rw [reducer_eq _ _ _ _ i.2 n.2]
  by_cases hc : E n < v ∨ (v = E n ∧ i.val < n.val)
  · rw [if_pos hc]
    refine ⟨i, rfl, hv, fun k hk => ?_⟩
    rcases List.mem_append.1 hk with hk | hk
    · exact hm k hk
    · rw [List.mem_singleton.1 hk]
      rcases hc with hc | ⟨hc, hl⟩
      · exact ⟨hc.le, fun e => absurd e hc.ne⟩
      · exact ⟨hc.ge, fun _ => hl.le⟩
  · rw [if_neg hc]
    rw [not_or, not_and, not_lt] at hc
    refine ⟨n, rfl, .inl rfl, fun k hk => ?_⟩
    rcases List.mem_append.1 hk with hk | hk
    · refine ⟨(hm k hk).1.trans hc.1, fun e => ?_⟩
      have e : E k = E n := e
      have hvn : v = E n := le_antisymm hc.1 (e ▸ (hm k hk).1)
      exact (not_lt.1 (hc.2 hvn)).trans ((hm k hk).2 (e.trans hvn.symm))
    · rw [List.mem_singleton.1 hk]
      exact ⟨le_rfl, fun _ => le_rfl⟩

theorem Folded.foldl {E : Fin 4096 → EReal} (ms ns : List (Fin 4096)) (r : EReal × BitVec 32) (h : Folded E ns r) :
    Folded E (ns ++ ms) (ms.foldl (fun r n => reducer_argmax_f32_i32 (F := Ideal) r (E n, BitVec.ofNat 32 n.val)) r) := by
  induction ms generalizing ns r with
  | nil => simpa using h
  | cons m ms ih => simpa using ih _ _ (h.step m)

theorem Folded.first {E : Fin 4096 → EReal} {ns : List (Fin 4096)} {r : EReal × BitVec 32} (h : Folded E ns r) (hw : ∀ n, n ∈ ns) :
    r.2 = BitVec.ofNat 32 (Farthest.first E).val := by
  obtain ⟨i, hi, hv, hm⟩ := h
  have he : r.1 = E i := by
    rcases hv with hv | ⟨hv, hz⟩
    · exact hv
    · have := (hm i (hw i)).1
      rw [hv] at this
      rw [hv, le_bot_iff.1 this]
  rw [he] at hm
  rw [hi, IsFirst.eq ⟨fun m => (hm m (hw m)).1, fun m => (hm m (hw m)).2⟩]

/-- A place's point. -/
def place (n : Fin S16x4096.numel) : Fin 4096 := S16x4096.rowMajor.symm n 1

theorem greatest_at (D : FVec Ideal S16x4096 .f32) (c : Fin 16) :
    greatest D (ix1 c) = BitVec.ofNat 32 (Farthest.first fun n => D (ix2 c n)).val := by
  unfold greatest
  rw [Ideal.argReduce_eq_reduce2, Host.reduce2]
  set L := (List.finRange S16x4096.numel).filter fun n => reducesTo_S16x4096_S16_d1.drop (S16x4096.rowMajor.symm n) = ix1 c with hL
  have hidx : ∀ n ∈ L, S16x4096.rowMajor.symm n = ix2 c (place n) := fun n hn => by
    have hd := of_decide_eq_true (List.mem_filter.1 hn).2
    obtain ⟨k, hk⟩ := (Shape.ReducesTo.fiber_r2_a1 reducesTo_S16x4096_S16_d1 (ix1 c) _).1 hd
    unfold place
    rw [← hk]
    rfl
  have hf : L.foldl (fun r n => reducer_argmax_f32_i32 (F := Ideal) r (D (S16x4096.rowMajor.symm n), iotaInDim S16x4096 32 1 (S16x4096.rowMajor.symm n))) (⊥, 0#32)
      = (L.map place).foldl (fun r n => reducer_argmax_f32_i32 (F := Ideal) r (D (ix2 c n), BitVec.ofNat 32 n.val)) (⊥, 0#32) := by
    rw [List.foldl_map]
    refine List.foldl_ext _ _ _ fun r n hn => ?_
    refine congrArg (reducer_argmax_f32_i32 (F := Ideal) r) (Prod.ext (congrArg D (hidx n hn)) rfl)
  have h0 : Folded (fun n => D (ix2 c n)) [] ((⊥ : EReal), 0#32) := ⟨0, rfl, .inr ⟨rfl, rfl⟩, fun n hn => absurd hn (by simp)⟩
  have key := (Folded.foldl (L.map place) [] _ h0).first fun n => ?_
  · rw [← hf] at key
    refine Eq.trans ?_ key
    have hb : constant (F := Ideal) S_ .f32 0xFF800000#32 (Shape.Idx.first h_S_) = (⊥ : EReal) := by
      show Ideal.ofBits .f32 0xFF800000#32 = ⊥
      simp [Ideal.ofBits, Ideal.ieee]
    rw [hb]
    rfl
  · rw [List.nil_append]
    refine List.mem_map.2 ⟨S16x4096.rowMajor (ix2 c n), List.mem_filter.2 ⟨List.mem_finRange _, decide_eq_true ?_⟩, ?_⟩
    · rw [Equiv.symm_apply_apply]
      exact (Shape.ReducesTo.fiber_r2_a1 reducesTo_S16x4096_S16_d1 (ix1 c) _).2 ⟨n, rfl⟩
    · unfold place
      rw [Equiv.symm_apply_apply]
      rfl

/-! ## The rest of a trip -/

theorem wrapped_at (I : IVec S16 32) (r : Fin 16 → Fin 65536) (hI : ∀ c, I (ix1 c) = BitVec.ofNat 32 (r c).val) (c : Fin 16) :
    wrapped I (ix2 c 0) = BitVec.ofNat 32 (r c).val := by
  unfold wrapped
  have e (x : IVec S16 32) : broadcastInDim S16x1 ![0] bcast_S16_S16x1_0 x (ix2 c 0) = x (ix1 c) := by pointwise
  rw [e]
  show Scalar.select (IntOp.cmpi .slt (I (ix1 c)) 0#32) _ (I (ix1 c)) = _
  rw [hI]
  exact if_neg (row_kept _ (r c).2)

theorem taken_at (p : FVec Ideal S65536x3 .f32) (I : IVec S16 32) (r : Fin 16 → Fin 65536) (hI : ∀ c, I (ix1 c) = BitVec.ofNat 32 (r c).val)
    (c : Fin 16) (a : Fin 3) : taken p I (ix2 c a) = p (ix2 (r c) a) := by
  have hin (i : S16.Idx) : Host.reduce IntOp.andi (andi (cmpi .sge (wrapped I) (broadcastInDim S16x1 ![] bcast_S_S16x1 (constantI S_ 32 0#32))) (cmpi .sle (wrapped I) (broadcastInDim S16x1 ![0, 1] bcast_S1x1_S16x1_0_1 (broadcastInDim S1x1 ![1] bcast_S1_S1x1_1 (constantI S1 32 65535#32))))) (constantI S_ 1 1#1) reducesTo_S16x1_S16_d1 h_S_ i = 1#1 := by
    refine Host.reduce_andi_one _ _ _ _ i rfl fun k => ?_
    obtain ⟨c, z, rfl⟩ : ∃ (c : Fin 16) (z : Fin 1), k = ix2 c z := ⟨_, _, eq_ix2 k⟩
    obtain rfl : z = 0 := Subsingleton.elim _ _
    show IntOp.andi (IntOp.cmpi .sge (wrapped I (ix2 c 0)) 0#32) (IntOp.cmpi .sle (wrapped I (ix2 c 0)) 65535#32) = 1#1
    rw [wrapped_at I r hI]
    exact row_inside _ (r c).2
  have hg := Routing.gather_row gather_S65536x3_S16x1_S16x3_1_0_n_n_0_1_13 rfl rfl rfl rfl rfl p (wrapped I) c a (r c) (wrapped_at I r hI c) (by decide)
  refine Eq.trans ?_ hg
  show Scalar.select (Host.reduce IntOp.andi _ _ _ _ _) _ _ = _
  rw [hin]
  rfl

theorem closer_at (P : FVec Ideal S16x4096x3 .f32) (D : FVec Ideal S16x4096 .f32) (u : FVec Ideal S16x3 .f32) (p : Fin 3 → Fin 4096 → EReal) (q : Fin 4096)
    (c : Fin 16) (n : Fin 4096) (hP : ∀ a n, P (ix3 c n a) = p a n) (hu : ∀ a, u (ix2 c a) = p a q) :
    closer P D u (ix2 c n) = min (D (ix2 c n)) (dsq p n q) := by
  have e : closer P D u (ix2 c n) = min (D (ix2 c n)) (∑ a : Fin 3, (P (ix3 c n a) - u (ix2 c a)) * (P (ix3 c n a) - u (ix2 c a))) := by
    unfold closer
    pointwise
  rw [e, Fin.sum_univ_three]
  simp only [hP, hu]
  rfl

theorem noted_at (S : IVec S16x2048 32) (u : IVec S16 32) (i : IVec S_ 32) (k : ℕ) (hk : k < 2048) (hi : i = fun _ => BitVec.ofNat 32 k) (c : Fin 16) (s : Fin 2048) :
    noted S u i (ix2 c s) = if s.val = k then u (ix1 c) else S (ix2 c s) := by
  subst hi
  unfold noted
  have hst : ∀ a : Fin 2, (![constantI S_ 32 0#32, select (cmpi .slt (fun _ => BitVec.ofNat 32 k : IVec S_ 32) (constantI S_ 32 0#32)) (addi (fun _ => BitVec.ofNat 32 k) (constantI S_ 32 2048#32)) fun _ => BitVec.ofNat 32 k] : Fin 2 → IVec S_ 32) a (Shape.Idx.first h_S_)
      = BitVec.ofNat 32 ((![0, k] : Fin 2 → ℕ) a) := fun a => by
    fin_cases a
    · rfl
    · exact if_neg (row_kept k (by omega))
  have hlt : ∀ a : Fin 2, (![0, k] : Fin 2 → ℕ) a < 2 ^ 31 := fun a => by fin_cases a <;> simp <;> omega
  have hfit : S16x2048.Slices (![0, k] : Fin 2 → ℕ) S16x1 := ⟨rfl, fun a => by
    fin_cases a
    · show 0 + 16 ≤ 16
      omega
    · show k + 1 ≤ 2048
      omega⟩
  refine (congrFun (WordCmp.dynamicUpdateSlice_eq_update S (broadcastInDim S16x1 ![0] bcast_S16_S16x1_0 u) _ updateFits_S16x2048_S16x1 (![0, k] : Fin 2 → ℕ) hfit fun a => ?_) (ix2 c s)).trans ?_
  · exact (congrArg BitVec.toInt (hst a)).trans (toInt_small _ (hlt a))
  unfold updateSlice
  by_cases hs : s.val = k
  · rw [dif_pos, if_pos hs]
    · pointwise
    · intro a; fin_cases a
      · exact ⟨Nat.zero_le _, by show c.val < 0 + 16; omega⟩
      · exact ⟨hs.ge, by show s.val < k + 1; omega⟩
  · rw [dif_neg, if_neg hs]
    intro hin
    have h1 : k ≤ s.val ∧ s.val < k + 1 := hin 1
    omega

end Cert.SampledIdeal.Trips

end
-- ==== Proof.Whole.Chosen.lean ====
/- The reference's selection loop from its entry to its end: after `t` trips the buffers that the loop carries hold the least
   distances to the first `t` selections of farthest point first, the last selection, and all of them so far. -/
module

public import proofs.«01_k».proof.Proof.Whole.Greatest

@[expose] public section

noncomputable section

namespace Cert.SampledIdeal.Trips

open Cert.SampledIdeal Cert.SampledIdeal.Gen Cert.SampledIdeal.Value
open Idealize.ShloMosaic Idealize.ShloMosaic.StableHlo
open Cert.Farthest (near last dsq)

section Trip

variable {F : FTy → Type} [FloatOps F] (X : Valuation τ sig (Elt F))

/-- A trip: the condition, then the body's stretches. -/
abbrev trip : Valuation τ sig (Elt F) := afterL bodyI (after condOps X)

theorem keep_cond {r : Ref sig .tc} (h : r ∉ condOps_W) : rd (after condOps X) r = rd X r :=
  after_of_writes_sub condOps X condOps_writes h
theorem keep_0 {r : Ref sig .tc} (h : r ∉ while0Ops0_W) : rd (after while0Ops0 X) r = rd X r :=
  after_of_writes_sub while0Ops0 X while0Ops0_writes h
theorem keep_1 {r : Ref sig .tc} (h : r ∉ while0Ops0_1_W) : rd (after while0Ops0_1 X) r = rd X r :=
  after_of_writes_sub while0Ops0_1 X while0Ops0_1_writes h
theorem keep_2 {r : Ref sig .tc} (h : r ∉ while0Ops0_2_W) : rd (after while0Ops0_2 X) r = rd X r :=
  after_of_writes_sub while0Ops0_2 X while0Ops0_2_writes h
theorem keep_3 {r : Ref sig .tc} (h : r ∉ while0Ops0_3_W) : rd (after while0Ops0_3 X) r = rd X r :=
  after_of_writes_sub while0Ops0_3 X while0Ops0_3_writes h
theorem keep_4 {r : Ref sig .tc} (h : r ∉ while0Ops0_4_W) : rd (after while0Ops0_4 X) r = rd X r :=
  after_of_writes_sub while0Ops0_4 X while0Ops0_4_writes h

/-- Before the distances are taken, a buffer that neither the condition nor the gather writes is as it was. -/
theorem keep_taken {r : Ref sig .tc} (h : r ∉ condOps_W ++ while0Ops0_W ++ while0Ops0_1_W) :
    rd (after while0Ops0_1 (after while0Ops0 (after condOps X))) r = rd X r := by
  simp only [List.mem_append, not_or] at h
  rw [keep_1 _ h.2, keep_0 _ h.1.2, keep_cond _ h.1.1]

/-- Nor do the distances and their greatest change the others. -/
theorem keep_picked {r : Ref sig .tc} (h : r ∉ (condOps_W ++ while0Ops0_W ++ while0Ops0_1_W) ++ (while0Ops0_2_W ++ while0Ops0_3_W)) :
    rd (after while0Ops0_3 (after while0Ops0_2 (after while0Ops0_1 (after while0Ops0 (after condOps X))))) r = rd X r := by
  rw [List.mem_append, not_or] at h
  have h' := h.2
  rw [List.mem_append, not_or] at h'
  rw [keep_3 _ h'.2, keep_2 _ h'.1, keep_taken X h.1]

theorem trip_kept {r : Ref sig .tc} (h : r ∉ (condOps_W ++ while0Ops0_W ++ while0Ops0_1_W) ++ (while0Ops0_2_W ++ while0Ops0_3_W)) (h4 : r ∉ while0Ops0_4_W) :
    rd (trip X) r = rd X r :=
  (keep_4 _ h4).trans (keep_picked X h)

theorem trip_place : rd (trip X) main_v7_4 = addi (rd X main_v7_4 : IVec S_ 32) (constantI S_ 32 1#32) := by
  refine (place_eq _).trans ?_
  rw [keep_3 _ (by decide +kernel), keep_2 _ (by decide +kernel), keep_1 _ (by decide +kernel), next_eq, keep_cond _ (by decide +kernel)]

/-- The distances that a trip leaves. -/
abbrev nearer : FVec F S16x4096 .f32 :=
  closer (rd X main_v7_1 : FVec F S16x4096x3 .f32) (rd X main_v7_5 : FVec F S16x4096 .f32) (taken (rd X main_v7_0 : FVec F S65536x3 .f32) (rd X main_v7_6 : IVec S16 32))

/-- The rows that a trip selects. -/
abbrev chosen : IVec S16 32 := addi (greatest (nearer X)) (rd X main_v7_2 : IVec S16 32)

theorem nearer_eq : rd (after while0Ops0_2 (after while0Ops0_1 (after while0Ops0 (after condOps X)))) main_while0b_v19 = nearer X := by
  rw [closer_eq, taken_eq, keep_taken X (by decide +kernel), keep_taken X (by decide +kernel)]
  rw [keep_0 _ (by decide +kernel), keep_0 _ (by decide +kernel), keep_cond _ (by decide +kernel), keep_cond _ (by decide +kernel)]

theorem chosen_eq :
    addi (rd (after while0Ops0_3 (after while0Ops0_2 (after while0Ops0_1 (after while0Ops0 (after condOps X))))) main_while0b_v20 : IVec S16 32)
      (rd (after while0Ops0_3 (after while0Ops0_2 (after while0Ops0_1 (after while0Ops0 (after condOps X))))) main_v7_2 : IVec S16 32) = chosen X := by
  rw [greatest_eq, nearer_eq, keep_picked X (by decide +kernel)]

theorem trip_dists : rd (trip X) main_v7_5 = nearer X := by
  refine (dists_eq _).trans ?_
  rw [keep_3 _ (by decide +kernel), nearer_eq]

theorem trip_last : rd (trip X) main_v7_6 = chosen X := (last_eq _).trans (chosen_eq X)

theorem trip_noted : rd (trip X) main_v7_7 = noted (rd X main_v7_7 : IVec S16x2048 32) (chosen X) (rd X main_v7_4 : IVec S_ 32) := by
  refine (noted_eq _).trans ?_
  rw [chosen_eq, keep_picked X (by decide +kernel), keep_picked X (by decide +kernel)]

end Trip

/-- The row of point `n` of cloud `c`. -/
def row (c : Fin 16) (n : Fin 4096) : Fin 65536 := ⟨4096 * c.val + n.val, by omega⟩

/-- The coordinates of cloud `c`'s points. -/
abbrev pt (A : FVec Ideal S65536x3 .f32) (c : Fin 16) (a : Fin 3) (n : Fin 4096) : EReal := A (ix2 (row c n) a)

/-- What the loop carries after `t` trips. -/
structure Holds (A : FVec Ideal S65536x3 .f32) (t : ℕ) (X : Valuation τ sig (Elt Ideal)) : Prop where
  table : (rd X main_v7_0 : FVec Ideal S65536x3 .f32) = A
  clouds (c : Fin 16) (n : Fin 4096) (a : Fin 3) : (rd X main_v7_1 : FVec Ideal S16x4096x3 .f32) (ix3 c n a) = pt A c a n
  offs (c : Fin 16) : (rd X main_v7_2 : IVec S16 32) (ix1 c) = BitVec.ofNat 32 (4096 * c.val)
  place : (rd X main_v7_4 : IVec S_ 32) = fun _ => BitVec.ofNat 32 (t + 1)
  dists (c : Fin 16) (n : Fin 4096) : (rd X main_v7_5 : FVec Ideal S16x4096 .f32) (ix2 c n) = near (dsq (pt A c)) t n
  last (c : Fin 16) : (rd X main_v7_6 : IVec S16 32) (ix1 c) = BitVec.ofNat 32 (row c (last (dsq (pt A c)) t)).val
  noted (c : Fin 16) (s : Fin 2048) (h : s.val ≤ t) : (rd X main_v7_7 : IVec S16x2048 32) (ix2 c s) = BitVec.ofNat 32 (row c (Farthest.last (dsq (pt A c)) s.val)).val

variable {A : FVec Ideal S65536x3 .f32} {t : ℕ} {X : Valuation τ sig (Elt Ideal)}

theorem Holds.nearer_at (h : Holds A t X) (c : Fin 16) (n : Fin 4096) : nearer X (ix2 c n) = near (dsq (pt A c)) (t + 1) n := by
  have hu (a : Fin 3) : taken (F := Ideal) (rd X main_v7_0 : FVec Ideal S65536x3 .f32) (rd X main_v7_6 : IVec S16 32) (ix2 c a) = pt A c a (Farthest.last (dsq (pt A c)) t) :=
    (taken_at _ _ (fun c => row c (Farthest.last (dsq (pt A c)) t)) h.last c a).trans (congrFun h.table _)
  refine (closer_at _ _ _ (pt A c) (Farthest.last (dsq (pt A c)) t) c n (fun a n => h.clouds c n a) hu).trans ?_
  rw [Farthest.near_succ]
  exact congrArg (min · _) (h.dists c n)

theorem Holds.chosen_at (h : Holds A t X) (c : Fin 16) : chosen X (ix1 c) = BitVec.ofNat 32 (row c (Farthest.last (dsq (pt A c)) (t + 1))).val := by
  show IntOp.addi (greatest (nearer X) (ix1 c)) ((rd X main_v7_2 : IVec S16 32) (ix1 c)) = _
  rw [greatest_at, h.offs, funext (h.nearer_at c), Farthest.last_succ]
  show BitVec.ofNat 32 _ + BitVec.ofNat 32 _ = _
  rw [← BitVec.ofNat_add, Nat.add_comm]
  rfl

theorem Holds.place_at (h : Holds A t X) : (rd (trip X) main_v7_4 : IVec S_ 32) = fun _ => BitVec.ofNat 32 (t + 1 + 1) := by
  refine (trip_place X).trans (funext fun i => ?_)
  refine (congrArg (fun x : IVec S_ 32 => addi x (constantI S_ 32 1#32) i) h.place).trans ?_
  show BitVec.ofNat 32 (t + 1) + BitVec.ofNat 32 1 = _
  rw [← BitVec.ofNat_add]

theorem Holds.noted_at (h : Holds A t X) (ht : t < 2047) (c : Fin 16) (s : Fin 2048) (hs : s.val ≤ t + 1) :
    (rd (trip X) main_v7_7 : IVec S16x2048 32) (ix2 c s) = BitVec.ofNat 32 (row c (Farthest.last (dsq (pt A c)) s.val)).val := by
  refine (congrFun (trip_noted X) (ix2 c s)).trans ((Trips.noted_at _ _ _ (t + 1) (by omega) h.place c s).trans ?_)
  split
  · rename_i e
    rw [h.chosen_at, e]
  · exact h.noted c s (by omega)

theorem Holds.trip (h : Holds A t X) (ht : t < 2047) : Holds A (t + 1) (trip X) where
  table := (trip_kept (r := main_v7_0) X (by decide +kernel) (by decide +kernel)).trans h.table
  clouds c n a := (congrFun (trip_kept (r := main_v7_1) X (by decide +kernel) (by decide +kernel)) (ix3 c n a)).trans (h.clouds c n a)
  offs c := (congrFun (trip_kept (r := main_v7_2) X (by decide +kernel) (by decide +kernel)) (ix1 c)).trans (h.offs c)
  place := h.place_at
  dists c n := (congrFun (trip_dists X) (ix2 c n)).trans (h.nearer_at c n)
  last c := (congrFun (trip_last X) (ix1 c)).trans (h.chosen_at c)
  noted c s hs := h.noted_at ht c s hs

variable (m : (ℓ : Loc nD τ sig) → Buf (Elt Ideal) ℓ) (d : Dev nD)

/-- The points as the program is given them. -/
abbrev given : FVec Ideal S65536x3 .f32 := m ((d.tc : Thread nD τ).loc main_arg0)

theorem holds_entry : Holds (given m d) 0 (entryContents preI m d) := by
  have e0 : (rd (entryContents preI m d) main_v7_0 : FVec Ideal S65536x3 .f32) = given m d := by
    simp only [rd, entryContents, afterL_cons, afterL_nil]
    after_reads_simp
    rfl
  have e1 : (rd (entryContents preI m d) main_v7_1 : FVec Ideal S16x4096x3 .f32) = shapeCast S16x4096x3 (given m d) shapeCasts_S65536x3_S16x4096x3 := by
    simp only [rd, entryContents, afterL_cons, afterL_nil]
    after_reads_simp
    rfl
  have e2 : (rd (entryContents preI m d) main_v7_2 : IVec S16 32) = muli (broadcastInDim S16 ![] bcast_S_S16 (constantI S_ 32 4096#32)) (iotaInDim S16 32 0) := by
    simp only [rd, entryContents, afterL_cons, afterL_nil]
    after_reads_simp
    rfl
  have e4 : (rd (entryContents preI m d) main_v7_4 : IVec S_ 32) = constantI S_ 32 1#32 := by
    simp only [rd, entryContents, afterL_cons, afterL_nil]
    after_reads_simp
    rfl
  have e5 : (rd (entryContents preI m d) main_v7_5 : FVec Ideal S16x4096 .f32) = broadcastInDim S16x4096 ![] bcast_S_S16x4096 (constant (F := Ideal) S_ .f32 0x7F800000#32) := by
    simp only [rd, entryContents, afterL_cons, afterL_nil]
    after_reads_simp
    rfl
  have e6 : (rd (entryContents preI m d) main_v7_6 : IVec S16 32) = muli (broadcastInDim S16 ![] bcast_S_S16 (constantI S_ 32 4096#32)) (iotaInDim S16 32 0) := by
    simp only [rd, entryContents, afterL_cons, afterL_nil]
    after_reads_simp
    rfl
  have e7 : (rd (entryContents preI m d) main_v7_7 : IVec S16x2048 32) = broadcastInDim S16x2048 ![0, 1] bcast_S16x1_S16x2048_0_1 (broadcastInDim S16x1 ![0] bcast_S16_S16x1_0 (muli (broadcastInDim S16 ![] bcast_S_S16 (constantI S_ 32 4096#32)) (iotaInDim S16 32 0))) := by
    simp only [rd, entryContents, afterL_cons, afterL_nil]
    after_reads_simp
    rfl
  have ho (c : Fin 16) : (muli (broadcastInDim S16 ![] bcast_S_S16 (constantI S_ 32 4096#32)) (iotaInDim S16 32 0) : IVec S16 32) (ix1 c) = BitVec.ofNat 32 (4096 * c.val) := by
    show BitVec.ofNat 32 4096 * BitVec.ofNat 32 c.val = _
    rw [← BitVec.ofNat_mul]
  have hr (c : Fin 16) : (row c 0).val = 4096 * c.val := rfl
  refine ⟨e0, fun c n a => ?_, fun c => ?_, ?_, fun c n => ?_, fun c => ?_, fun c s hs => ?_⟩
  · rw [e1]
    refine congrArg (given m d) (Shape.reshapeEquiv_eq_of_rowMajor _ ?_)
    refine (Shape.rowMajor_val_two _).trans (Eq.trans ?_ (Shape.rowMajor_val_three _).symm)
    show (4096 * c.val + n.val) * 3 + a.val = (c.val * 4096 + n.val) * 3 + a.val
    omega
  · rw [e2, ho]
  · rw [e4]
    rfl
  · rw [e5]
    show Ideal.ofBits .f32 0x7F800000#32 = ⊤
    simp [Ideal.ofBits, Ideal.ieee]
  · rw [e6, ho, Farthest.last_zero, hr]
  · obtain rfl : s = 0 := Fin.ext (Nat.le_zero.1 hs)
    rw [e7]
    have e (x : IVec S16 32) : broadcastInDim S16x2048 ![0, 1] bcast_S16x1_S16x2048_0_1 (broadcastInDim S16x1 ![0] bcast_S16_S16x1_0 x) (ix2 c 0) = x (ix1 c) := by pointwise
    rw [e, ho]
    rfl

theorem holds_at : ∀ t, t ≤ 2047 → Holds (given m d) t (atK m t d)
  | 0, _ => holds_entry m d
  | t + 1, h => (holds_at t (by omega)).trip (by omega)

end Cert.SampledIdeal.Trips

end
-- ==== Proof.Whole.Outcome.lean ====
/- The reference of the whole call after its loop: the rows that the selections name are taken from the table of
   features, from the positions and from the batch numbers. -/
module

public import proofs.«01_k».proof.Proof.Whole.Chosen
public import proofs.«01_k».proof.Proof.Value
public import Idealize.ShloMosaic.Lib.Claim

@[expose] public section

noncomputable section

namespace Cert.SampledIdeal.Trips

open Cert.SampledIdeal Cert.SampledIdeal.Gen Cert.SampledIdeal.Value
open Idealize.ShloMosaic Idealize.ShloMosaic.StableHlo
open Idealize.SL.Sem

section Any

variable {F : FTy → Type} [FloatOps F] (X : Valuation τ sig (Elt F))

/-- The row numbers of all selections as the program gathers at them. -/
abbrev wrappedAll (I : IVec S32768 32) : IVec S32768x1 32 :=
  broadcastInDim S32768x1 ![0] bcast_S32768_S32768x1_0 (select (cmpi .slt I (broadcastInDim S32768 ![] bcast_S_S32768 (constantI S_ 32 0#32))) (addi I (broadcastInDim S32768 ![] bcast_S_S32768 (constantI S_ 32 65536#32))) I)

/-- Whether a row number is inside the table. -/
abbrev inTable (I : IVec S32768 32) : IVec S32768 1 :=
  Host.reduce IntOp.andi (andi (cmpi .sge (wrappedAll I) (broadcastInDim S32768x1 ![] bcast_S_S32768x1 (constantI S_ 32 0#32))) (cmpi .sle (wrappedAll I) (broadcastInDim S32768x1 ![0, 1] bcast_S1x1_S32768x1_0_1 (broadcastInDim S1x1 ![1] bcast_S1_S1x1_1 (constantI S1 32 65535#32))))) (constantI S_ 1 1#1) reducesTo_S32768x1_S32768_d1 h_S_

/-- The points of all selections. -/
abbrev takenAll (p : FVec F S65536x3 .f32) (I : IVec S32768 32) : FVec F S32768x3 .f32 :=
  select (broadcastInDim S32768x3 ![0] bcast_S32768_S32768x3_0 (inTable I))
    (Host.gather gather_S65536x3_S32768x1_S32768x3_1_0_n_n_0_1_13 p (wrappedAll I)) (broadcastInDim S32768x3 ![] bcast_S_S32768x3 (constant S_ .f32 0x7FC00000#32))

/-- Their features. -/
abbrev takenRows (x : FVec F S65536x128 .f32) (I : IVec S32768 32) : FVec F S32768x128 .f32 :=
  select (broadcastInDim S32768x128 ![0] bcast_S32768_S32768x128_0 (inTable I))
    (Host.gather gather_S65536x128_S32768x1_S32768x128_1_0_n_n_0_1_1128 x (wrappedAll I)) (broadcastInDim S32768x128 ![] bcast_S_S32768x128 (constant S_ .f32 0x7FC00000#32))

/-- Their batch numbers. -/
abbrev takenIds (b : IVec S65536 32) (I : IVec S32768 32) : IVec S32768 32 :=
  select (inTable I) (Host.gather gather_S65536_S32768x1_S32768_n_0_n_n_0_1_1 b (wrappedAll I)) (broadcastInDim S32768 ![] bcast_S_S32768 (constantI S_ 32 2147483648#32))

theorem flat_eq : rd (after hostOps0_1 X) main_v8 = shapeCast S32768 (rd X main_v7_7 : IVec S16x2048 32) shapeCasts_S16x2048_S32768 := by
  after_results
  try rfl

set_option maxRecDepth 100000 in
set_option maxHeartbeats 2000000 in
theorem takenRows_eq : rd (after hostOps0_2 X) main_v9 = takenRows (rd X main_arg1 : FVec F S65536x128 .f32) (rd X main_v8 : IVec S32768 32) := by
  after_results_simp_entrywise
  try rfl

set_option maxRecDepth 100000 in
set_option maxHeartbeats 2000000 in
theorem takenAll_eq : rd (after hostOps0_3 X) main_v10 = takenAll (rd X main_arg0 : FVec F S65536x3 .f32) (rd X main_v8 : IVec S32768 32) := by
  after_results_simp_entrywise
  try rfl

set_option maxRecDepth 100000 in
set_option maxHeartbeats 2000000 in
theorem takenIds_eq : rd (after hostOps0_4 X) main_v11 = takenIds (rd X main_arg2 : IVec S65536 32) (rd X main_v8 : IVec S32768 32) := by
  after_results_simp_entrywise
  try rfl

/-- What the operations after the loop write. -/
abbrev flatW : List (Ref sig .tc) := [main_v8]
abbrev rowsW : List (Ref sig .tc) :=
  [main_call2_c, main_call2_v0, main_call2_v1, main_call2_c_0, main_call2_v2, main_call2_v3, main_call2_v4, main_call2_v5, main_call2_c_1, main_call2_c_2,
    main_call2_v6, main_call2_v7, main_call2_v8, main_call2_v9, main_call2_v10, main_call2_v11, main_call2_c_3, main_call2_v12, main_call2_v13, main_call2_v14, main_call2_cst, main_call2_v15, main_v9]
abbrev posW : List (Ref sig .tc) :=
  [main_call3_c, main_call3_v0, main_call3_v1, main_call3_c_0, main_call3_v2, main_call3_v3, main_call3_v4, main_call3_v5, main_call3_c_1, main_call3_c_2,
    main_call3_v6, main_call3_v7, main_call3_v8, main_call3_v9, main_call3_v10, main_call3_v11, main_call3_c_3, main_call3_v12, main_call3_v13, main_call3_v14, main_call3_cst, main_call3_v15, main_v10]
abbrev idsW : List (Ref sig .tc) :=
  [main_call4_c, main_call4_v0, main_call4_v1, main_call4_c_0, main_call4_v2, main_call4_v3, main_call4_v4, main_call4_v5, main_call4_c_1, main_call4_c_2,
    main_call4_v6, main_call4_v7, main_call4_v8, main_call4_v9, main_call4_v10, main_call4_v11, main_call4_c_3, main_call4_v12, main_call4_v13, main_call4_c_4, main_call4_v14, main_v11]

theorem keep_flat {r : Ref sig .tc} (h : r ∉ flatW) : rd (after hostOps0_1 X) r = rd X r :=
  after_of_writes_sub hostOps0_1 X (forall_writes_sub_of_map rfl) h
theorem keep_rows {r : Ref sig .tc} (h : r ∉ rowsW) : rd (after hostOps0_2 X) r = rd X r :=
  after_of_writes_sub hostOps0_2 X (forall_writes_sub_of_map rfl) h
theorem keep_pos {r : Ref sig .tc} (h : r ∉ posW) : rd (after hostOps0_3 X) r = rd X r :=
  after_of_writes_sub hostOps0_3 X (forall_writes_sub_of_map rfl) h
theorem keep_ids {r : Ref sig .tc} (h : r ∉ idsW) : rd (after hostOps0_4 X) r = rd X r :=
  after_of_writes_sub hostOps0_4 X (forall_writes_sub_of_map rfl) h

/-- A buffer that none of them writes is left. -/
theorem post_kept {r : Ref sig .tc} (h : r ∉ flatW ++ rowsW ++ posW ++ idsW) : rd (afterL postI X) r = rd X r := by
  simp only [List.mem_append, not_or] at h
  exact (keep_ids _ h.2).trans ((keep_pos _ h.1.2).trans ((keep_rows _ h.1.1.2).trans (keep_flat _ h.1.1.1)))

/-- The row numbers of the selections, in one line. -/
abbrev numbers : IVec S32768 32 := shapeCast S32768 (rd X main_v7_7 : IVec S16x2048 32) shapeCasts_S16x2048_S32768

theorem rows_end : rd (afterL postI X) main_v9 = takenRows (rd X main_arg1 : FVec F S65536x128 .f32) (numbers X) := by
  refine (keep_ids (r := main_v9) (after hostOps0_3 (after hostOps0_2 (after hostOps0_1 X))) (by decide +kernel)).trans
    ((keep_pos (r := main_v9) _ (by decide +kernel)).trans ?_)
  rw [takenRows_eq, flat_eq, keep_flat _ (by decide +kernel)]

theorem pos_end : rd (afterL postI X) main_v10 = takenAll (rd X main_arg0 : FVec F S65536x3 .f32) (numbers X) := by
  refine (keep_ids (r := main_v10) (after hostOps0_3 (after hostOps0_2 (after hostOps0_1 X))) (by decide +kernel)).trans ?_
  rw [takenAll_eq, keep_rows _ (by decide +kernel), keep_rows _ (by decide +kernel), flat_eq, keep_flat _ (by decide +kernel)]

theorem ids_end : rd (afterL postI X) main_v11 = takenIds (rd X main_arg2 : IVec S65536 32) (numbers X) := by
  refine (takenIds_eq (after hostOps0_3 (after hostOps0_2 (after hostOps0_1 X)))).trans ?_
  rw [keep_pos _ (by decide +kernel), keep_pos _ (by decide +kernel), keep_rows _ (by decide +kernel), keep_rows _ (by decide +kernel), flat_eq, keep_flat _ (by decide +kernel)]

/-! ## The arguments are left -/

variable (m : (ℓ : Loc nD τ sig) → Buf (Elt F) ℓ) (ρ : Dev nD → PrngReg) (d : Dev nD)

/-- Buffers that neither the operations before the loop nor a trip of it writes. -/
abbrev Left (r : Ref sig .tc) : Prop :=
  r ∉ hostOps0_W ∧ r ∉ (condOps_W ++ while0Ops0_W ++ while0Ops0_1_W) ++ (while0Ops0_2_W ++ while0Ops0_3_W) ∧ r ∉ while0Ops0_4_W

theorem left_at {r : Ref sig .tc} (h : Left r) : ∀ t, rd (atK m t d) r = m ((d.tc : Thread nD τ).loc r)
  | 0 => (after_of_writes_sub (r := r) hostOps0 (launchContents m d) hostOps0_writes h.1 :
      after hostOps0 (launchContents m d) (Proc.devRef .tc r) = launchContents m d (Proc.devRef .tc r))
  | t + 1 => (trip_kept (r := r) (atK m t d) h.2.1 h.2.2).trans (left_at h t)

theorem left_cond {r : Ref sig .tc} (h : Left r) : rd (after condOps (atK m 2047 d)) r = m ((d.tc : Thread nD τ).loc r) :=
  (keep_cond (r := r) _ fun k => h.2.1 (by simp only [List.mem_append]; exact .inl (.inl (.inl k)))).trans (left_at m d h 2047)

theorem left_pos : Left main_arg0 := by decide +kernel
theorem left_rows : Left main_arg1 := by decide +kernel
theorem left_ids : Left main_arg2 := by decide +kernel

theorem left_end {r : Ref sig .tc} (h : Left r) (h' : r ∉ flatW ++ rowsW ++ posW ++ idsW) :
    rd (finalContents condOps preI bodyI postI 2047 m d) r = m ((d.tc : Thread nD τ).loc r) :=
  (post_kept (r := r) _ h').trans (left_cond m d h)

theorem pos_left : rd (finalContents condOps preI bodyI postI 2047 m d) main_arg0 = m ((d.tc : Thread nD τ).loc main_arg0) :=
  left_end m d left_pos (by decide +kernel)
theorem rows_left : rd (finalContents condOps preI bodyI postI 2047 m d) main_arg1 = m ((d.tc : Thread nD τ).loc main_arg1) :=
  left_end m d left_rows (by decide +kernel)
theorem ids_left : rd (finalContents condOps preI bodyI postI 2047 m d) main_arg2 = m ((d.tc : Thread nD τ).loc main_arg2) :=
  left_end m d left_ids (by decide +kernel)

theorem run_frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(h c main_arg0 rfl).trans (pos_left m c), (h c main_arg1 rfl).trans (rows_left m c), (h c main_arg2 rfl).trans (ids_left m c)⟩,
    sem_eq_zero_of_no_sems rfl r.2⟩) (run_fold m ρ)

end Any

/-! ## The positions -/

theorem wrappedAll_at (I : IVec S32768 32) (r : Fin 32768 → Fin 65536) (hI : ∀ n, I (ix1 n) = BitVec.ofNat 32 (r n).val) (n : Fin 32768) :
    wrappedAll I (ix2 n 0) = BitVec.ofNat 32 (r n).val := by
  unfold wrappedAll
  have e (x : IVec S32768 32) : broadcastInDim S32768x1 ![0] bcast_S32768_S32768x1_0 x (ix2 n 0) = x (ix1 n) := by pointwise
  rw [e]
  show Scalar.select (IntOp.cmpi .slt (I (ix1 n)) 0#32) _ (I (ix1 n)) = _
  rw [hI]
  exact if_neg (row_kept _ (r n).2)

theorem takenAll_at (p : FVec Ideal S65536x3 .f32) (I : IVec S32768 32) (r : Fin 32768 → Fin 65536) (hI : ∀ n, I (ix1 n) = BitVec.ofNat 32 (r n).val)
    (n : Fin 32768) (a : Fin 3) : takenAll p I (ix2 n a) = p (ix2 (r n) a) := by
  have hin (i : S32768.Idx) : Host.reduce IntOp.andi (andi (cmpi .sge (wrappedAll I) (broadcastInDim S32768x1 ![] bcast_S_S32768x1 (constantI S_ 32 0#32))) (cmpi .sle (wrappedAll I) (broadcastInDim S32768x1 ![0, 1] bcast_S1x1_S32768x1_0_1 (broadcastInDim S1x1 ![1] bcast_S1_S1x1_1 (constantI S1 32 65535#32))))) (constantI S_ 1 1#1) reducesTo_S32768x1_S32768_d1 h_S_ i = 1#1 := by
    refine Host.reduce_andi_one _ _ _ _ i rfl fun k => ?_
    obtain ⟨n, z, rfl⟩ : ∃ (n : Fin 32768) (z : Fin 1), k = ix2 n z := ⟨_, _, eq_ix2 k⟩
    obtain rfl : z = 0 := Subsingleton.elim _ _
    show IntOp.andi (IntOp.cmpi .sge (wrappedAll I (ix2 n 0)) 0#32) (IntOp.cmpi .sle (wrappedAll I (ix2 n 0)) 65535#32) = 1#1
    rw [wrappedAll_at I r hI]
    exact row_inside _ (r n).2
  have hg := Routing.gather_row gather_S65536x3_S32768x1_S32768x3_1_0_n_n_0_1_13 rfl rfl rfl rfl rfl p (wrappedAll I) n a (r n) (wrappedAll_at I r hI n) (by decide)
  refine Eq.trans ?_ hg
  show Scalar.select (Host.reduce IntOp.andi _ _ _ _ _) _ _ = _
  rw [hin]
  rfl

/-- The selections. -/
abbrev picks (A : FVec Ideal S65536x3 .f32) (c : Fin 16) (s : Fin 2048) : Fin 4096 := Farthest.last (Farthest.dsq (pt A c)) s.val

/-- Their row numbers. -/
def nums (A : FVec Ideal S65536x3 .f32) : IVec S16x2048 32 := fun y => BitVec.ofNat 32 (row (y 0) (picks A (y 0) (y 1))).val

variable (m : (ℓ : Loc nD τ sig) → Buf (Elt Ideal) ℓ) (ρ : Dev nD → PrngReg) (d : Dev nD)

theorem noted_cond : (rd (after condOps (atK m 2047 d)) main_v7_7 : IVec S16x2048 32) = nums (given m d) := by
  refine (keep_cond (r := main_v7_7) _ (by decide +kernel)).trans (funext fun y => ?_)
  obtain ⟨c, s, rfl⟩ : ∃ (c : Fin 16) (s : Fin 2048), y = ix2 c s := ⟨_, _, eq_ix2 y⟩
  exact (holds_at m d 2047 le_rfl).noted c s (by omega)

/-- The positions taken after the loop are those of the selections. -/
theorem takenAll_nums (A : FVec Ideal S65536x3 .f32) (n : Fin 32768) (a : Fin 3) :
    takenAll A (shapeCast S32768 (nums A) shapeCasts_S16x2048_S32768) (ix2 n a)
      = pt A ⟨n.val / 2048, by omega⟩ a (picks A ⟨n.val / 2048, by omega⟩ ⟨n.val % 2048, by omega⟩) := by
  have hc (n : Fin 32768) : n.val / 2048 < 16 := by omega
  have hs (n : Fin 32768) : n.val % 2048 < 2048 := by omega
  refine takenAll_at _ _ (fun n => row ⟨_, hc n⟩ (picks A ⟨_, hc n⟩ ⟨_, hs n⟩)) (fun n => ?_) n a
  refine congrArg (nums A) (Shape.reshapeEquiv_eq_of_rowMajor (y := ix2 (⟨_, hc n⟩ : Fin 16) (⟨_, hs n⟩ : Fin 2048)) _ ?_)
  refine (Shape.rowMajor_val_two _).trans (Eq.trans ?_ (Shape.rowMajor_val_one _).symm)
  show n.val / 2048 * 2048 + n.val % 2048 = n.val
  omega

/-- The run: the features, the positions and the batch numbers of the selections. -/
theorem run_values : θ_run (defs (F := Ideal)) (onTc (τ := τ) (main (F := Ideal))) ⟨m, fun _ => 0, ρ⟩
    (fun r => ∀ e : Dev nD,
      r.2.mem ((e.tc : Thread nD τ).loc main_v9) = Cert.Proof.Value.taken (F := Ideal) (m ((e.tc : Thread nD τ).loc main_arg1)) (nums (given m e))
      ∧ r.2.mem ((e.tc : Thread nD τ).loc main_v10) = takenAll (given m e) (shapeCast S32768 (nums (given m e)) shapeCasts_S16x2048_S32768)
      ∧ r.2.mem ((e.tc : Thread nD τ).loc main_v11) = Cert.Proof.Value.ids (m ((e.tc : Thread nD τ).loc main_arg2)) (nums (given m e))
      ∧ r.2.mem ((e.tc : Thread nD τ).loc main_arg0) = m ((e.tc : Thread nD τ).loc main_arg0)
      ∧ r.2.mem ((e.tc : Thread nD τ).loc main_arg1) = m ((e.tc : Thread nD τ).loc main_arg1)
      ∧ r.2.mem ((e.tc : Thread nD τ).loc main_arg2) = m ((e.tc : Thread nD τ).loc main_arg2)) := by
  refine (θ_run defs _ _).mono (fun r h e => ⟨?_, ?_, ?_, (h e main_arg0 rfl).trans (pos_left m e), (h e main_arg1 rfl).trans (rows_left m e), (h e main_arg2 rfl).trans (ids_left m e)⟩) (run_fold m ρ)
  · refine ((h e main_v9 rfl).trans (rows_end (after condOps (atK m 2047 e)))).trans ?_
    rw [numbers, noted_cond, left_cond m e left_rows]
    rfl
  · refine ((h e main_v10 rfl).trans (pos_end (after condOps (atK m 2047 e)))).trans ?_
    rw [numbers, noted_cond, left_cond m e left_pos]
  · refine ((h e main_v11 rfl).trans (ids_end (after condOps (atK m 2047 e)))).trans ?_
    rw [numbers, noted_cond, left_cond m e left_ids]
    rfl

end Cert.SampledIdeal.Trips

end
-- ==== Proof.Whole.Stack.lean ====
/- Three planes side by side along a last axis, laid in lines, read at an index. -/
module

public import proofs.«01_k».proof.Proof.Gen.WholeIdeal
public import Idealize.ShloMosaic.Lib.Pipeline.Value
public import Idealize.ShloMosaic.Lib.Pointwise

@[expose] public section

noncomputable section

namespace Cert.Whole.Stack

open Cert.WholeIdeal Cert.WholeIdeal.Gen
open Idealize.ShloMosaic

variable {α : Type} (u v w : S16x2048.Idx → α)

/-- A plane as a column. -/
abbrev column : S16x2048x1.Idx → α := broadcastInDim S16x2048x1 ![0, 1] bcast_S16x2048_S16x2048x1_0_1 u

theorem column_at (c : Fin 16) (s : Fin 2048) : column u (ix3 c s (0 : Fin 1)) = u (ix2 c s) := by
  pointwise

/-- The three planes side by side. -/
abbrev stack : S16x2048x3.Idx → α :=
  concatenate S16x2048x3 2 [⟨S16x2048x1, column u⟩, ⟨S16x2048x1, column v⟩, ⟨S16x2048x1, column w⟩] concatenates_S16x2048x1_S16x2048x1_S16x2048x1_S16x2048x3_d2

/-- Column `a` of them is plane `a`. -/
theorem stack_at (c : Fin 16) (s : Fin 2048) (a : Fin 3) : stack u v w (ix3 c s a) = (match a with | 0 => u | 1 => v | 2 => w) (ix2 c s) := by
  have off (a : Fin 3) : ∀ b : Fin S16x2048x1.rank, b.cast rfl ≠ (2 : Fin S16x2048x3.rank) →
      ((ix3 c s (0 : Fin 1) : S16x2048x1.Idx) b).val = ((ix3 c s a : S16x2048x3.Idx) (b.cast rfl)).val := fun b hb => by
    match b, hb with
    | 0, _ => rfl
    | 1, _ => rfl
    | 2, h => exact absurd rfl h
  match a with
  | 0 => exact (concatenate_apply_piece (2 : Fin S16x2048x3.rank) _ _ (ix3 c s 0) 0 (Nat.lt_of_sub_eq_succ rfl) S16x2048x1 (column u) rfl rfl 0 rfl (ix3 c s (0 : Fin 1)) (off 0) rfl).trans (column_at u c s)
  | 1 => exact (concatenate_apply_piece (2 : Fin S16x2048x3.rank) _ _ (ix3 c s 1) 1 (Nat.lt_of_sub_eq_succ rfl) S16x2048x1 (column v) rfl rfl 1 rfl (ix3 c s (0 : Fin 1)) (off 1) rfl).trans (column_at v c s)
  | 2 => exact (concatenate_apply_piece (2 : Fin S16x2048x3.rank) _ _ (ix3 c s 2) 2 (Nat.lt_of_sub_eq_succ rfl) S16x2048x1 (column w) rfl rfl 2 rfl (ix3 c s (0 : Fin 1)) (off 2) rfl).trans (column_at w c s)

/-- Laid in lines, line `n` is place `n % 2048` of line `n / 2048` of the planes. -/
theorem lines_at (z : S16x2048x3.Idx → α) (n : Fin 32768) (a : Fin 3) :
    shapeCast S32768x3 z shapeCasts_S16x2048x3_S32768x3 (ix2 n a) = z (ix3 (⟨n.val / 2048, by omega⟩ : Fin 16) (⟨n.val % 2048, by omega⟩ : Fin 2048) a) := by
  refine congrArg z (Shape.reshapeEquiv_eq_of_rowMajor _ ?_)
  refine (Shape.rowMajor_val_three _).trans (Eq.trans ?_ (Shape.rowMajor_val_two _).symm)
  show (n.val / 2048 * 2048 + n.val % 2048) * 3 + a.val = n.val * 3 + a.val
  omega

end Cert.Whole.Stack

end
-- ==== Proof.Whole.Sampling.lean ====
/- The whole call: the frames of its program and of its reference, and the value claim. The sampler leaves the row numbers
   of farthest point first, all in the table; at them the gather leaves the table's rows, as the reference takes them. -/
module

public import proofs.«01_k».proof.Defs
public import proofs.«01_k».proof.Proof.Gen.Pre_one_batch
public import proofs.«01_k».proof.Proof.Sampling
public import proofs.«01_k».proof.Proof.Value
public import proofs.«01_k».proof.Proof.Whole.Launch
public import proofs.«01_k».proof.Proof.Whole.Outcome
public import proofs.«01_k».proof.Proof.Whole.Stack

@[expose] public section

noncomputable section

namespace Cert.Proof.Whole

open Idealize.ShloMosaic Idealize.SL.Sem
open Cert.Whole.Rows.Launch (PreOK Gv Ov Nv Cv run_main)
open Cert.SampledIdeal.Trips (nums picks pt row given)

/-- The reference runs and leaves its arguments; it has no semaphores. -/
theorem frame_reference : Cert.quiescent_SampledIdeal := fun m ρ _ =>
  Cert.SampledIdeal.Trips.run_frame (F := Ideal) m ρ

/-! ## The row numbers -/

/-- The four results of the sampler's body in this program are those in the sampler's program by itself. -/
theorem same_I : (fun P : Cert.SamplerIdeal.Fps.Pts Ideal => Cert.WholeIdeal.Fps.resV P Cert.WholeIdeal.Fps.rI)
    = fun P => Cert.SamplerIdeal.Fps.resV P Cert.SamplerIdeal.Fps.rI := by sl_kernel_rfl
theorem same_X : (fun P : Cert.SamplerIdeal.Fps.Pts Ideal => Cert.WholeIdeal.Fps.resV P Cert.WholeIdeal.Fps.rX)
    = fun P => Cert.SamplerIdeal.Fps.resV P Cert.SamplerIdeal.Fps.rX := by sl_kernel_rfl
theorem same_Y : (fun P : Cert.SamplerIdeal.Fps.Pts Ideal => Cert.WholeIdeal.Fps.resV P Cert.WholeIdeal.Fps.rY)
    = fun P => Cert.SamplerIdeal.Fps.resV P Cert.SamplerIdeal.Fps.rY := by sl_kernel_rfl
theorem same_Z : (fun P : Cert.SamplerIdeal.Fps.Pts Ideal => Cert.WholeIdeal.Fps.resV P Cert.WholeIdeal.Fps.rZ)
    = fun P => Cert.SamplerIdeal.Fps.resV P Cert.SamplerIdeal.Fps.rZ := by sl_kernel_rfl

section Kernel

variable (m : (ℓ : Loc Cert.WholeIdeal.nD Cert.WholeIdeal.τ Cert.WholeIdeal.sig) → Buf (Elt Ideal) ℓ) (d : Dev Cert.WholeIdeal.nD)

/-- The positions, as the program is given them. -/
abbrev places : FVec Ideal Cert.SampledIdeal.S65536x3 .f32 := m ((d.tc : Thread Cert.WholeIdeal.nD Cert.WholeIdeal.τ).loc Cert.WholeIdeal.main_arg0)

/-- The points as the program lays them out are the rows of the positions. -/
theorem points_at (c : Fin 16) : Cert.SamplerIdeal.Fps.pts (Cert.WholeIdeal.Fps.byAxis m d) c = pt (places m d) c := by
  funext a n
  have e : Shape.reshapeEquiv Cert.WholeIdeal.Gen.shapeCasts_S65536x3_S16x4096x3 (ix3 c n a) = (ix2 (row c n) a : Cert.WholeIdeal.S65536x3.Idx) := by
    refine Shape.reshapeEquiv_eq_of_rowMajor _ ?_
    refine (Shape.rowMajor_val_two _).trans (Eq.trans ?_ (Shape.rowMajor_val_three _).symm)
    show (4096 * c.val + n.val) * 3 + a.val = (c.val * 4096 + n.val) * 3 + a.val
    omega
  refine Eq.trans ?_ (congrArg (places m d) e)
  refine congrArg (fun i => places m d (Shape.reshapeEquiv Cert.WholeIdeal.Gen.shapeCasts_S65536x3_S16x4096x3 i)) (funext fun k => Fin.ext ?_)
  match k with
  | 0 => rfl
  | 1 => rfl
  | 2 => rfl

/-- What the sampler leaves. -/
theorem left_at (c : Fin 16) (s : Fin 2048) :
    Cert.WholeIdeal.Fps.resV (Cert.WholeIdeal.Fps.byAxis m d) Cert.WholeIdeal.Fps.rI (ix2 c s) = nums (places m d) (ix2 c s)
      ∧ Cert.WholeIdeal.Fps.resV (Cert.WholeIdeal.Fps.byAxis m d) Cert.WholeIdeal.Fps.rX (ix2 c s) = pt (places m d) c 0 (picks (places m d) c s)
      ∧ Cert.WholeIdeal.Fps.resV (Cert.WholeIdeal.Fps.byAxis m d) Cert.WholeIdeal.Fps.rY (ix2 c s) = pt (places m d) c 1 (picks (places m d) c s)
      ∧ Cert.WholeIdeal.Fps.resV (Cert.WholeIdeal.Fps.byAxis m d) Cert.WholeIdeal.Fps.rZ (ix2 c s) = pt (places m d) c 2 (picks (places m d) c s) := by
  have h := Cert.SamplerIdeal.Fps.res_at (P := Cert.WholeIdeal.Fps.byAxis m d) c s
  simp only [Cert.SamplerIdeal.Fps.sel, points_at m d] at h
  exact ⟨(congrFun (congrFun same_I (Cert.WholeIdeal.Fps.byAxis m d)) (ix2 c s)).trans h.1,
    (congrFun (congrFun same_X (Cert.WholeIdeal.Fps.byAxis m d)) (ix2 c s)).trans h.2.1,
    (congrFun (congrFun same_Y (Cert.WholeIdeal.Fps.byAxis m d)) (ix2 c s)).trans h.2.2.1,
    (congrFun (congrFun same_Z (Cert.WholeIdeal.Fps.byAxis m d)) (ix2 c s)).trans h.2.2.2⟩

theorem left_nums : Cert.WholeIdeal.Fps.resV (Cert.WholeIdeal.Fps.byAxis m d) Cert.WholeIdeal.Fps.rI = nums (places m d) := by
  funext y
  obtain ⟨c, s, rfl⟩ : ∃ (c : Fin 16) (s : Fin 2048), y = ix2 c s := ⟨_, _, eq_ix2 y⟩
  exact (left_at m d c s).1

/-- They name rows of their own cloud. -/
theorem nums_cloud (A : FVec Ideal Cert.SampledIdeal.S65536x3 .f32) (c : Fin 16) (s : Fin 2048) :
    4096 * c.val ≤ (nums A (ix2 c s)).toNat ∧ (nums A (ix2 c s)).toNat < 4096 * c.val + 4096 := by
  have e : (nums A (ix2 c s)).toNat = 4096 * c.val + (picks A c s).val := by
    show (4096 * c.val + (picks A c s).val) % 2 ^ 32 = _
    have := c.isLt
    have := (picks A c s).isLt
    omega
  rw [e]
  have := (picks A c s).isLt
  omega

/-- So they name rows of the table. -/
theorem nums_lt (A : FVec Ideal Cert.SampledIdeal.S65536x3 .f32) (y : Cert.SampledIdeal.S16x2048.Idx) : (nums A y).toNat < 65536 := by
  obtain ⟨c, s, rfl⟩ : ∃ (c : Fin 16) (s : Fin 2048), y = ix2 c s := ⟨_, _, eq_ix2 y⟩
  have := (nums_cloud A c s).2
  have := c.isLt
  omega

theorem ok : PreOK m := fun d j => by
  rw [left_nums]
  exact nums_lt _ j

/-! ## The results -/

/-- The table's rows. -/
theorem rows_same : Ov m d = Cert.Proof.Value.taken (F := Ideal) (m ((d.tc : Thread Cert.WholeIdeal.nD Cert.WholeIdeal.τ).loc Cert.WholeIdeal.main_arg1)) (nums (places m d)) := by
  rw [Cert.Proof.Value.taken_eq _ _ (nums_lt (places m d))]
  unfold Ov Gv
  rw [left_nums]
  rfl

/-- The positions. -/
theorem places_same : Cv m d = Cert.SampledIdeal.Trips.takenAll (F := Ideal) (places m d)
    (shapeCast Cert.SampledIdeal.S32768 (nums (places m d)) Cert.SampledIdeal.Gen.shapeCasts_S16x2048_S32768) := by
  funext j
  obtain ⟨n, a, rfl⟩ : ∃ (n : Fin 32768) (a : Fin 3), j = ix2 n a := ⟨_, _, eq_ix2 j⟩
  refine Eq.trans ?_ (Cert.SampledIdeal.Trips.takenAll_nums (places m d) n a).symm
  have h := left_at m d ⟨n.val / 2048, by omega⟩ ⟨n.val % 2048, by omega⟩
  refine (Cert.Whole.Stack.lines_at _ n a).trans ((Cert.Whole.Stack.stack_at (Cert.WholeIdeal.Fps.resV (Cert.WholeIdeal.Fps.byAxis m d) Cert.WholeIdeal.Fps.rX)
    (Cert.WholeIdeal.Fps.resV (Cert.WholeIdeal.Fps.byAxis m d) Cert.WholeIdeal.Fps.rY) (Cert.WholeIdeal.Fps.resV (Cert.WholeIdeal.Fps.byAxis m d) Cert.WholeIdeal.Fps.rZ) _ _ a).trans ?_)
  match a with
  | 0 => exact h.2.1
  | 1 => exact h.2.2.1
  | 2 => exact h.2.2.2

/-- The precondition says that a cloud has one batch number. -/
theorem one_batch (p : FVec Ideal Cert.Pre_one_batch.S65536x3 .f32) (x : FVec Ideal Cert.Pre_one_batch.S65536x128 .f32) (B : IVec Cert.Pre_one_batch.S65536 32)
    (h : Cert.Pre_one_batch.fn (F := Ideal) p x B = fun _ => 1#1) (c : Fin 16) (k : Fin 4096) :
    Cert.Proof.Value.byCloud B (ix2 c k) = Cert.Proof.Value.byCloud B (ix2 c 0) := by
  haveI : Subsingleton Cert.Pre_one_batch.S_.Idx := ⟨fun a b => funext fun i => i.elim0⟩
  refine (Cert.Proof.Value.cmpi_eq _ _ (Host.reduce_andi_all _ _ _ _ (fun i => i.elim0) (congrFun h (fun i => i.elim0)) (ix2 c k))).trans ?_
  refine congrArg (Cert.Proof.Value.byCloud B) (funext fun a => Fin.ext ?_)
  match a with
  | 0 => exact Nat.zero_add _
  | 1 => rfl

/-- The batch numbers. -/
theorem ids_same (h : Cert.Pre_WholeIdeal m) :
    Nv m d = Cert.Proof.Value.ids (m ((d.tc : Thread Cert.WholeIdeal.nD Cert.WholeIdeal.τ).loc Cert.WholeIdeal.main_arg2)) (nums (places m d)) := by
  rw [Cert.Proof.Value.ids_eq _ _ (nums_cloud (places m d)) (one_batch _ _ _ (h d))]
  rfl

end Kernel

/-! ## The claims -/

/-- The whole program runs, leaves its arguments, and leaves every semaphore at zero. -/
theorem frame_whole : Cert.quiescent_WholeIdeal := fun m ρ _ =>
  (θ_run Cert.WholeIdeal.defs _ _).mono (fun _ h => ⟨fun c => ⟨(h.1 c).2.2.2, (h.1 c).2.1, (h.1 c).2.2.1⟩, h.2⟩)
    (run_main (F := Ideal) m ρ (ok m))

/-- At the reals, the rows, the positions and the batch numbers that the whole program leaves are the reference's. -/
theorem algebraic_whole : Cert.algebraic_WholeIdeal_SampledIdeal := by
  intro m ρ m' ρ' hp hm
  refine ⟨fun d => Ov m d, fun d => Cv m d, fun d => Nv m d, ?_, ?_⟩
  · exact (θ_run Cert.WholeIdeal.defs _ _).mono (fun _ h c =>
      ⟨(h.1 c).1.1, (h.1 c).1.2.1, (h.1 c).1.2.2, (h.1 c).2.2.2, (h.1 c).2.1, (h.1 c).2.2.1⟩) (run_main (F := Ideal) m ρ (ok m))
  · refine (θ_run Cert.SampledIdeal.defs _ _).mono (fun r h d => ?_) (Cert.SampledIdeal.Trips.run_values m' ρ')
    obtain ⟨h1, h2, h3, h4⟩ := h d
    have e0 : given m' d = places m d := (hm d).1
    refine ⟨?_, ?_, ?_, h4⟩
    · rw [h1, e0, (hm d).2.1]
      exact (rows_same m d).symm
    · rw [h2, e0]
      exact (places_same m d).symm
    · rw [h3, e0, (hm d).2.2]
      exact (ids_same m d hp).symm

end Cert.Proof.Whole

end
-- ==== Proof.lean ====
/-
  The certificate: the frames of all programs and of their references, and the value claims. Those of the sampler's call are
  in Proof/Sampling.lean, those of the whole program in Proof/Whole/Sampling.lean; the others are here.

  There is one run of the gather's program, `Launch.run_main`, over any float values: the output holds the table's rows that the
  row numbers name, and the batch numbers are those of the clouds' first halves. The kernel's program and its
  idealization are the same text, so the run at `Bits` is the kernel's and the run at `Ideal` is the idealization's. The
  reference's results are the same arrays (`Value.taken_eq`, `Value.ids_eq`).
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.Reference.Run
public import proofs.«01_k».proof.Proof.Gen.ReferenceIdeal.Run
public import proofs.«01_k».proof.Proof.Gen.Pre_sampled_clouds
public import proofs.«01_k».proof.Proof.Launch
public import proofs.«01_k».proof.Proof.Value
public import proofs.«01_k».proof.Proof.Gen.Sampler
public import proofs.«01_k».proof.Proof.Gen.SamplerIdeal.Launch
public import proofs.«01_k».proof.Proof.Gen.SamplerIdeal.Points
public import proofs.«01_k».proof.Proof.Gen.Selection.Run
public import proofs.«01_k».proof.Proof.Gen.SelectionIdeal.Run
public import proofs.«01_k».proof.Proof.Sampling
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Gen.SampledIdeal.Run
public import proofs.«01_k».proof.Proof.Gen.Pre_one_batch
public import proofs.«01_k».proof.Proof.Whole.Sampling
public import Idealize.ShloMosaic.Adequacy
public import Idealize.ShloMosaic.Init

@[expose] public section

noncomputable section

namespace Cert.Proof

open Idealize.ShloMosaic Idealize.SL.Sem

/-- The precondition at the kernel's arguments gives what the run asks of the launch memory. -/
theorem kernel_rows (m : (ℓ : Loc Cert.Kernel.nD Cert.Kernel.τ Cert.Kernel.sig) → Buf (Elt Bits) ℓ) (h : Cert.Pre_Kernel m) :
    Launch.PreOK (F := Bits) m := fun d j => Value.rows_ok (F := Bits) _ _ _ (h d) j

/-- The same of the idealization's arguments. -/
theorem ideal_rows (m : (ℓ : Loc Cert.KernelIdeal.nD Cert.KernelIdeal.τ Cert.KernelIdeal.sig) → Buf (Elt Ideal) ℓ) (h : Cert.Pre_KernelIdeal m) :
    Launch.PreOK (F := Ideal) m := fun d j => Value.rows_ok (F := Ideal) _ _ _ (h d) j

/-- The kernel runs, leaves its arguments, and leaves every semaphore at zero. -/
theorem frame_kernel : Cert.quiescent_Kernel := fun m ρ hpre =>
  (θ_run Cert.KernelIdeal.defs _ _).mono (fun _ h => ⟨fun c => (h.1 c).2, h.2⟩)
    (Launch.run_main (F := Bits) m ρ (kernel_rows m hpre))

/-- The idealization runs, leaves its arguments, and leaves every semaphore at zero. -/
theorem frame_ideal : Cert.quiescent_KernelIdeal := fun m ρ hpre =>
  (θ_run Cert.KernelIdeal.defs _ _).mono (fun _ h => ⟨fun c => (h.1 c).2, h.2⟩)
    (Launch.run_main (F := Ideal) m ρ (ideal_rows m hpre))

/-- The reference runs and leaves its arguments; it has no semaphores. -/
theorem frame_reference : Cert.quiescent_Reference := fun m ρ _ =>
  (θ_run Cert.Reference.defs _ _).mono (fun r h => ⟨fun c => (h c).2.2, sem_eq_zero_of_no_sems rfl r.2⟩)
    (Cert.Reference.Value.run (F := Bits) m ρ)

/-- The reference read at the reals runs and leaves its arguments; it has no semaphores. -/
theorem frame_reference_ideal : Cert.quiescent_ReferenceIdeal := fun m ρ _ =>
  (θ_run Cert.ReferenceIdeal.defs _ _).mono (fun r h => ⟨fun c => (h c).2.2, sem_eq_zero_of_no_sems rfl r.2⟩)
    (Cert.ReferenceIdeal.Value.run (F := Ideal) m ρ)

/-- At the reals, the kernel's rows and batch numbers are the reference's. -/
theorem algebraic : Cert.algebraic_KernelIdeal_ReferenceIdeal := by
  intro m ρ m' ρ' hpre hm
  refine ⟨fun c => Launch.Ov (F := Ideal) m c, fun c => Launch.Nv (F := Ideal) m c, ?_, ?_⟩
  · exact (θ_run Cert.KernelIdeal.defs _ _).mono (fun _ h c => ⟨(h.1 c).1.1, (h.1 c).1.2, (h.1 c).2⟩) (Launch.run_main (F := Ideal) m ρ (ideal_rows m hpre))
  · refine (θ_run Cert.ReferenceIdeal.defs _ _).mono (fun r h c => ⟨(h c).1.trans ?_, (h c).2.1.trans ?_, (h c).2.2⟩) (Cert.ReferenceIdeal.Value.run (F := Ideal) m' ρ')
    · rw [(hm c).1, (hm c).2.2]
      exact Value.taken_eq (F := Ideal) _ _ (ideal_rows m hpre c)
    · rw [(hm c).2.1, (hm c).2.2]
      exact Value.ids_eq _ _ (Value.clouds_ok (F := Ideal) _ _ _ (hpre c)).1 (Value.clouds_ok (F := Ideal) _ _ _ (hpre c)).2

/-- On the machine's own words, the kernel's rows and batch numbers are the reference's, bit for bit. -/
theorem bitexact : Cert.bitexact_Kernel_Reference := by
  intro m ρ m' ρ' hpre hm
  refine ⟨fun c => Launch.Ov (F := Bits) m c, fun c => Launch.Nv (F := Bits) m c, ?_, ?_⟩
  · exact (θ_run Cert.KernelIdeal.defs _ _).mono (fun _ h c => ⟨(h.1 c).1.1, (h.1 c).1.2, (h.1 c).2⟩) (Launch.run_main (F := Bits) m ρ (kernel_rows m hpre))
  · refine (θ_run Cert.Reference.defs _ _).mono (fun r h c => ⟨(h c).1.trans ?_, (h c).2.1.trans ?_, (h c).2.2⟩) (Cert.Reference.Value.run (F := Bits) m' ρ')
    · rw [(hm c).1, (hm c).2.2]
      exact Value.taken_eq (F := Bits) _ _ (kernel_rows m hpre c)
    · rw [(hm c).2.1, (hm c).2.2]
      exact Value.ids_eq _ _ (Value.clouds_ok (F := Bits) _ _ _ (hpre c)).1 (Value.clouds_ok (F := Bits) _ _ _ (hpre c)).2

/-- The certificate's claims. -/
theorem claim : Cert.Claim :=
  ⟨Cert.Kernel.Gen.facts, Cert.KernelIdeal.Gen.facts, Cert.Reference.Gen.facts, Cert.ReferenceIdeal.Gen.facts,
    Cert.Sampler.Gen.facts, Cert.SamplerIdeal.Gen.facts, Cert.Selection.Gen.facts, Cert.SelectionIdeal.Gen.facts,
    Cert.WholeIdeal.Gen.facts, Cert.SampledIdeal.Gen.facts, Cert.Pre_sampled_clouds.Gen.facts, Cert.Pre_one_batch.Gen.facts,
    frame_kernel, frame_ideal, frame_reference, frame_reference_ideal, frame_sampler, frame_sampler_ideal, frame_selection, frame_selection_ideal,
    Whole.frame_whole, Whole.frame_reference,
    trivial, algebraic, bitexact, trivial, algebraic_sampler, Whole.algebraic_whole⟩

end Cert.Proof

end
